-- ==== Defs.lean ====
def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_bwd_finite [hPre_norm_bwd_finite : Cert.Pre_norm_bwd_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).1 = (fun _ => 1#1)
    ∧ (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.1 = (fun _ => 1#1)
    ∧ (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.1 = (fun _ => 1#1)
    ∧ (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))).2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_bwd_finite [hPre_norm_bwd_finite : Cert.Pre_norm_bwd_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).1 = (fun _ => 1#1)
    ∧ (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.1 = (fun _ => 1#1)
    ∧ (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.1 = (fun _ => 1#1)
    ∧ (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_bwd_finite [hPre_sgu_bwd_finite : Cert.Pre_sgu_bwd_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4))).1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4))).2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4))).2.2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4))).2.2.2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4))).2.2.2.2 = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_sgu_bwd_finite [hPre_sgu_bwd_finite : Cert.Pre_sgu_bwd_finite.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4))).1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4))).2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4))).2.2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4))).2.2.2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4))).2.2.2.2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_sgu_fwd_finite [hPre_sgu_fwd_finite : Cert.Pre_sgu_fwd_finite.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3))).1 = (fun _ => 1#1)
    ∧ (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3))).2.1 = (fun _ => 1#1)
    ∧ (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3))).2.2.1 = (fun _ => 1#1)
    ∧ (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3))).2.2.2 = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_sgu_fwd_finite [hPre_sgu_fwd_finite : Cert.Pre_sgu_fwd_finite.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3))).1 = (fun _ => 1#1)
    ∧ (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3))).2.1 = (fun _ => 1#1)
    ∧ (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3))).2.2.1 = (fun _ => 1#1)
    ∧ (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3))).2.2.2 = (fun _ => 1#1)

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdIdeal_lru_fwd_finite [hPre_lru_fwd_finite : Cert.Pre_lru_fwd_finite.Facts] (m : (ℓ : Loc Cert.LruFwdIdeal.nD Cert.LruFwdIdeal.τ Cert.LruFwdIdeal.sig) → Buf (Elt Ideal) ℓ) : Prop :=
  ∀ c : Dev Cert.LruFwdIdeal.nD,
    (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.2.2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.2.2.2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.2.2.2.2.1 = (fun _ => 1#1)
    ∧ (Cert.Pre_lru_fwd_finite.fn (F := Ideal) (m ((c.tc : Thread Cert.LruFwdIdeal.nD Cert.LruFwdIdeal.τ).loc Cert.LruFwdIdeal.main_arg0)) (m ((c.tc : Thread Cert.LruFwdIdeal.nD Cert.LruFwdIdeal.τ).loc Cert.LruFwdIdeal.main_arg1)) (m ((c.tc : Thread Cert.LruFwdIdeal.nD Cert.LruFwdIdeal.τ).loc Cert.LruFwdIdeal.main_arg2)) (m ((c.tc : Thread Cert.LruFwdIdeal.nD Cert.LruFwdIdeal.τ).loc Cert.LruFwdIdeal.main_arg3)) (m ((c.tc : Thread Cert.LruFwdIdeal.nD Cert.LruFwdIdeal.τ).loc Cert.LruFwdIdeal.main_arg4)) (m ((c.tc : Thread Cert.LruFwdIdeal.nD Cert.LruFwdIdeal.τ).loc Cert.LruFwdIdeal.main_arg5)) (m ((c.tc : Thread Cert.LruFwdIdeal.nD Cert.LruFwdIdeal.τ).loc Cert.LruFwdIdeal.main_arg6)) (m ((c.tc : Thread Cert.LruFwdIdeal.nD Cert.LruFwdIdeal.τ).loc Cert.LruFwdIdeal.main_arg7))).2.2.2.2.2.2.2 = (fun _ => 1#1)

def Pre_LruFwdRefIdeal (m : (ℓ : Loc Cert.LruFwdRefIdeal.nD Cert.LruFwdRefIdeal.τ Cert.LruFwdRefIdeal.sig) → Buf (Elt Ideal) ℓ) : Prop :=
  True

def Pre_LruFwdRefIdeal_lru_fwd_finite [hPre_lru_fwd_finite : Cert.Pre_lru_fwd_finite.Facts] (m : (ℓ : Loc Cert.LruFwdRefIdeal.nD Cert.LruFwdRefIdeal.τ Cert.LruFwdRefIdeal.sig) → Buf (Elt Ideal) ℓ) : Prop :=
  ∀ c : Dev Cert.LruFwdRefIdeal.nD,
    (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.2.2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.2.2.2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.2.2.2.2.1 = (fun _ => 1#1)
    ∧ (Cert.Pre_lru_fwd_finite.fn (F := Ideal) (m ((c.tc : Thread Cert.LruFwdRefIdeal.nD Cert.LruFwdRefIdeal.τ).loc Cert.LruFwdRefIdeal.main_arg0)) (m ((c.tc : Thread Cert.LruFwdRefIdeal.nD Cert.LruFwdRefIdeal.τ).loc Cert.LruFwdRefIdeal.main_arg1)) (m ((c.tc : Thread Cert.LruFwdRefIdeal.nD Cert.LruFwdRefIdeal.τ).loc Cert.LruFwdRefIdeal.main_arg2)) (m ((c.tc : Thread Cert.LruFwdRefIdeal.nD Cert.LruFwdRefIdeal.τ).loc Cert.LruFwdRefIdeal.main_arg3)) (m ((c.tc : Thread Cert.LruFwdRefIdeal.nD Cert.LruFwdRefIdeal.τ).loc Cert.LruFwdRefIdeal.main_arg4)) (m ((c.tc : Thread Cert.LruFwdRefIdeal.nD Cert.LruFwdRefIdeal.τ).loc Cert.LruFwdRefIdeal.main_arg5)) (m ((c.tc : Thread Cert.LruFwdRefIdeal.nD Cert.LruFwdRefIdeal.τ).loc Cert.LruFwdRefIdeal.main_arg6)) (m ((c.tc : Thread Cert.LruFwdRefIdeal.nD Cert.LruFwdRefIdeal.τ).loc Cert.LruFwdRefIdeal.main_arg7))).2.2.2.2.2.2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_FinalSum [hPre_final_sum_placed : Cert.Pre_final_sum_placed.Facts] (m : (ℓ : Loc Cert.FinalSum.nD Cert.FinalSum.τ Cert.FinalSum.sig) → Buf (Elt Bits) ℓ) : Prop :=
  ∀ c : Dev Cert.FinalSum.nD,
    (Cert.Pre_final_sum_placed.fn (F := Bits) (m ((c.tc : Thread Cert.FinalSum.nD Cert.FinalSum.τ).loc Cert.FinalSum.main_arg0)) (m ((c.tc : Thread Cert.FinalSum.nD Cert.FinalSum.τ).loc Cert.FinalSum.main_arg1)) (m ((c.tc : Thread Cert.FinalSum.nD Cert.FinalSum.τ).loc Cert.FinalSum.main_arg2)) (m ((c.tc : Thread Cert.FinalSum.nD Cert.FinalSum.τ).loc Cert.FinalSum.main_arg3))) = (fun _ => 1#1)

def Pre_FinalSumIdeal [hPre_final_sum_placed : Cert.Pre_final_sum_placed.Facts] (m : (ℓ : Loc Cert.FinalSumIdeal.nD Cert.FinalSumIdeal.τ Cert.FinalSumIdeal.sig) → Buf (Elt Ideal) ℓ) : Prop :=
  ∀ c : Dev Cert.FinalSumIdeal.nD,
    (Cert.Pre_final_sum_placed.fn (F := Ideal) (m ((c.tc : Thread Cert.FinalSumIdeal.nD Cert.FinalSumIdeal.τ).loc Cert.FinalSumIdeal.main_arg0)) (m ((c.tc : Thread Cert.FinalSumIdeal.nD Cert.FinalSumIdeal.τ).loc Cert.FinalSumIdeal.main_arg1)) (m ((c.tc : Thread Cert.FinalSumIdeal.nD Cert.FinalSumIdeal.τ).loc Cert.FinalSumIdeal.main_arg2)) (m ((c.tc : Thread Cert.FinalSumIdeal.nD Cert.FinalSumIdeal.τ).loc Cert.FinalSumIdeal.main_arg3))) = (fun _ => 1#1)

def Pre_FinalSumRefIdeal (m : (ℓ : Loc Cert.FinalSumRefIdeal.nD Cert.FinalSumRefIdeal.τ Cert.FinalSumRefIdeal.sig) → Buf (Elt Ideal) ℓ) : Prop :=
  True

def Pre_FinalSumRefIdeal_final_sum_placed [hPre_final_sum_placed : Cert.Pre_final_sum_placed.Facts] (m : (ℓ : Loc Cert.FinalSumRefIdeal.nD Cert.FinalSumRefIdeal.τ Cert.FinalSumRefIdeal.sig) → Buf (Elt Ideal) ℓ) : Prop :=
  ∀ c : Dev Cert.FinalSumRefIdeal.nD,
    (Cert.Pre_final_sum_placed.fn (F := Ideal) (m ((c.tc : Thread Cert.FinalSumRefIdeal.nD Cert.FinalSumRefIdeal.τ).loc Cert.FinalSumRefIdeal.main_arg0)) (m ((c.tc : Thread Cert.FinalSumRefIdeal.nD Cert.FinalSumRefIdeal.τ).loc Cert.FinalSumRefIdeal.main_arg1)) (m ((c.tc : Thread Cert.FinalSumRefIdeal.nD Cert.FinalSumRefIdeal.τ).loc Cert.FinalSumRefIdeal.main_arg2)) (m ((c.tc : Thread Cert.FinalSumRefIdeal.nD Cert.FinalSumRefIdeal.τ).loc Cert.FinalSumRefIdeal.main_arg3))) = (fun _ => 1#1)

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastRefIdeal (m : (ℓ : Loc Cert.MlpLastRefIdeal.nD Cert.MlpLastRefIdeal.τ Cert.MlpLastRefIdeal.sig) → Buf (Elt Ideal) ℓ) : Prop :=
  True

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_norm_bwd_finite [hNormBwdIdeal : Cert.NormBwdIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_bwd_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_norm_bwd_finite [hNormBwdRefIdeal : Cert.NormBwdRefIdeal.Facts] [hPre_norm_bwd_finite : Cert.Pre_norm_bwd_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_bwd_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4))
      ∧ r.2.sem = fun _ => 0)

def quiescent_SguBwdIdeal_pre_sgu_bwd_finite [hSguBwdIdeal : Cert.SguBwdIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_bwd_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4))
      ∧ r.2.sem = fun _ => 0)

def quiescent_SguBwdRefIdeal_pre_sgu_bwd_finite [hSguBwdRefIdeal : Cert.SguBwdRefIdeal.Facts] [hPre_sgu_bwd_finite : Cert.Pre_sgu_bwd_finite.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_sgu_bwd_finite m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdIdeal_pre_sgu_fwd_finite [hSguFwdIdeal : Cert.SguFwdIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_sgu_fwd_finite m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def quiescent_SguFwdRefIdeal_pre_sgu_fwd_finite [hSguFwdRefIdeal : Cert.SguFwdRefIdeal.Facts] [hPre_sgu_fwd_finite : Cert.Pre_sgu_fwd_finite.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_sgu_fwd_finite m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdIdeal_pre_lru_fwd_finite [hLruFwdIdeal : Cert.LruFwdIdeal.Facts] [hPre_lru_fwd_finite : Cert.Pre_lru_fwd_finite.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal_lru_fwd_finite m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def quiescent_LruFwdRefIdeal_pre_lru_fwd_finite [hLruFwdRefIdeal : Cert.LruFwdRefIdeal.Facts] [hPre_lru_fwd_finite : Cert.Pre_lru_fwd_finite.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal_lru_fwd_finite m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_FinalSum [hFinalSum : Cert.FinalSum.Facts] [hPre_final_sum_placed : Cert.Pre_final_sum_placed.Facts] : Prop :=
  ∀ (m : (ℓ : Loc Cert.FinalSum.nD Cert.FinalSum.τ Cert.FinalSum.sig) → Buf (Elt Bits) ℓ) (g : Dev Cert.FinalSum.nD → PrngReg), Pre_FinalSum m →
    θ_run (Cert.FinalSum.defs (F := Bits)) (onTc (τ := Cert.FinalSum.τ) (Cert.FinalSum.main (F := Bits))) ⟨m, fun _ => 0, g⟩ (fun r => (∀ c : Dev Cert.FinalSum.nD,
      r.2.mem ((c.tc : Thread Cert.FinalSum.nD Cert.FinalSum.τ).loc Cert.FinalSum.main_arg0) = m ((c.tc : Thread Cert.FinalSum.nD Cert.FinalSum.τ).loc Cert.FinalSum.main_arg0)
      ∧ r.2.mem ((c.tc : Thread Cert.FinalSum.nD Cert.FinalSum.τ).loc Cert.FinalSum.main_arg1) = m ((c.tc : Thread Cert.FinalSum.nD Cert.FinalSum.τ).loc Cert.FinalSum.main_arg1)
      ∧ r.2.mem ((c.tc : Thread Cert.FinalSum.nD Cert.FinalSum.τ).loc Cert.FinalSum.main_arg2) = m ((c.tc : Thread Cert.FinalSum.nD Cert.FinalSum.τ).loc Cert.FinalSum.main_arg2)
      ∧ r.2.mem ((c.tc : Thread Cert.FinalSum.nD Cert.FinalSum.τ).loc Cert.FinalSum.main_arg3) = m ((c.tc : Thread Cert.FinalSum.nD Cert.FinalSum.τ).loc Cert.FinalSum.main_arg3))
      ∧ r.2.sem = fun _ => 0)

def quiescent_FinalSumIdeal [hFinalSumIdeal : Cert.FinalSumIdeal.Facts] [hPre_final_sum_placed : Cert.Pre_final_sum_placed.Facts] : Prop :=
  ∀ (m : (ℓ : Loc Cert.FinalSumIdeal.nD Cert.FinalSumIdeal.τ Cert.FinalSumIdeal.sig) → Buf (Elt Ideal) ℓ) (g : Dev Cert.FinalSumIdeal.nD → PrngReg), Pre_FinalSumIdeal m →
    θ_run (Cert.FinalSumIdeal.defs (F := Ideal)) (onTc (τ := Cert.FinalSumIdeal.τ) (Cert.FinalSumIdeal.main (F := Ideal))) ⟨m, fun _ => 0, g⟩ (fun r => (∀ c : Dev Cert.FinalSumIdeal.nD,
      r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
      ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1)
      ∧ r.2.mem ((c.tc : Thread Cert.FinalSumIdeal.nD Cert.FinalSumIdeal.τ).loc Cert.FinalSumIdeal.main_arg2) = m ((c.tc : Thread Cert.FinalSumIdeal.nD Cert.FinalSumIdeal.τ).loc Cert.FinalSumIdeal.main_arg2)
      ∧ r.2.mem ((c.tc : Thread Cert.FinalSumIdeal.nD Cert.FinalSumIdeal.τ).loc Cert.FinalSumIdeal.main_arg3) = m ((c.tc : Thread Cert.FinalSumIdeal.nD Cert.FinalSumIdeal.τ).loc Cert.FinalSumIdeal.main_arg3))
      ∧ r.2.sem = fun _ => 0)

def quiescent_FinalSumRefIdeal [hFinalSumRefIdeal : Cert.FinalSumRefIdeal.Facts] : Prop :=
  ∀ (m : (ℓ : Loc Cert.FinalSumRefIdeal.nD Cert.FinalSumRefIdeal.τ Cert.FinalSumRefIdeal.sig) → Buf (Elt Ideal) ℓ) (g : Dev Cert.FinalSumRefIdeal.nD → PrngReg), Pre_FinalSumRefIdeal m →
    θ_run (Cert.FinalSumRefIdeal.defs (F := Ideal)) (onTc (τ := Cert.FinalSumRefIdeal.τ) (Cert.FinalSumRefIdeal.main (F := Ideal))) ⟨m, fun _ => 0, g⟩ (fun r => (∀ c : Dev Cert.FinalSumRefIdeal.nD,
      r.2.mem ((c.tc : Thread Cert.FinalSumRefIdeal.nD Cert.FinalSumRefIdeal.τ).loc Cert.FinalSumRefIdeal.main_arg0) = m ((c.tc : Thread Cert.FinalSumRefIdeal.nD Cert.FinalSumRefIdeal.τ).loc Cert.FinalSumRefIdeal.main_arg0)
      ∧ r.2.mem ((c.tc : Thread Cert.FinalSumRefIdeal.nD Cert.FinalSumRefIdeal.τ).loc Cert.FinalSumRefIdeal.main_arg1) = m ((c.tc : Thread Cert.FinalSumRefIdeal.nD Cert.FinalSumRefIdeal.τ).loc Cert.FinalSumRefIdeal.main_arg1)
      ∧ r.2.mem ((c.tc : Thread Cert.FinalSumRefIdeal.nD Cert.FinalSumRefIdeal.τ).loc Cert.FinalSumRefIdeal.main_arg2) = m ((c.tc : Thread Cert.FinalSumRefIdeal.nD Cert.FinalSumRefIdeal.τ).loc Cert.FinalSumRefIdeal.main_arg2)
      ∧ r.2.mem ((c.tc : Thread Cert.FinalSumRefIdeal.nD Cert.FinalSumRefIdeal.τ).loc Cert.FinalSumRefIdeal.main_arg3) = m ((c.tc : Thread Cert.FinalSumRefIdeal.nD Cert.FinalSumRefIdeal.τ).loc Cert.FinalSumRefIdeal.main_arg3))
      ∧ r.2.sem = fun _ => 0)

def quiescent_FinalSumRefIdeal_pre_final_sum_placed [hFinalSumRefIdeal : Cert.FinalSumRefIdeal.Facts] [hPre_final_sum_placed : Cert.Pre_final_sum_placed.Facts] : Prop :=
  ∀ (m : (ℓ : Loc Cert.FinalSumRefIdeal.nD Cert.FinalSumRefIdeal.τ Cert.FinalSumRefIdeal.sig) → Buf (Elt Ideal) ℓ) (g : Dev Cert.FinalSumRefIdeal.nD → PrngReg), Pre_FinalSumRefIdeal_final_sum_placed m →
    θ_run (Cert.FinalSumRefIdeal.defs (F := Ideal)) (onTc (τ := Cert.FinalSumRefIdeal.τ) (Cert.FinalSumRefIdeal.main (F := Ideal))) ⟨m, fun _ => 0, g⟩ (fun r => (∀ c : Dev Cert.FinalSumRefIdeal.nD,
      r.2.mem ((c.tc : Thread Cert.FinalSumRefIdeal.nD Cert.FinalSumRefIdeal.τ).loc Cert.FinalSumRefIdeal.main_arg0) = m ((c.tc : Thread Cert.FinalSumRefIdeal.nD Cert.FinalSumRefIdeal.τ).loc Cert.FinalSumRefIdeal.main_arg0)
      ∧ r.2.mem ((c.tc : Thread Cert.FinalSumRefIdeal.nD Cert.FinalSumRefIdeal.τ).loc Cert.FinalSumRefIdeal.main_arg1) = m ((c.tc : Thread Cert.FinalSumRefIdeal.nD Cert.FinalSumRefIdeal.τ).loc Cert.FinalSumRefIdeal.main_arg1)
      ∧ r.2.mem ((c.tc : Thread Cert.FinalSumRefIdeal.nD Cert.FinalSumRefIdeal.τ).loc Cert.FinalSumRefIdeal.main_arg2) = m ((c.tc : Thread Cert.FinalSumRefIdeal.nD Cert.FinalSumRefIdeal.τ).loc Cert.FinalSumRefIdeal.main_arg2)
      ∧ r.2.mem ((c.tc : Thread Cert.FinalSumRefIdeal.nD Cert.FinalSumRefIdeal.τ).loc Cert.FinalSumRefIdeal.main_arg3) = m ((c.tc : Thread Cert.FinalSumRefIdeal.nD Cert.FinalSumRefIdeal.τ).loc Cert.FinalSumRefIdeal.main_arg3))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2))
      ∧ r.2.sem = fun _ => 0)

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v3)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v13) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_NormBwd_NormBwdIdeal : Prop :=
  True

def algebraic_NormBwdIdeal_NormBwdRefIdeal_pre_norm_bwd_finite [hNormBwdIdeal : Cert.NormBwdIdeal.Facts] [hNormBwdRefIdeal : Cert.NormBwdRefIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_bwd_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v3_0)) (v1 : (c : Dev Cert.NormBwdIdeal.nD) → Buf (Elt Ideal) ((c.tc : Thread Cert.NormBwdIdeal.nD Cert.NormBwdIdeal.τ).loc Cert.NormBwdIdeal.main_v3_1)) (v2 : (c : Dev Cert.NormBwdIdeal.nD) → Buf (Elt Ideal) ((c.tc : Thread Cert.NormBwdIdeal.nD Cert.NormBwdIdeal.τ).loc Cert.NormBwdIdeal.main_v3_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v3_0) = v0 c
          ∧ r.2.mem ((c.tc : Thread Cert.NormBwdIdeal.nD Cert.NormBwdIdeal.τ).loc Cert.NormBwdIdeal.main_v3_1) = v1 c
          ∧ r.2.mem ((c.tc : Thread Cert.NormBwdIdeal.nD Cert.NormBwdIdeal.τ).loc Cert.NormBwdIdeal.main_v3_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v39) = v0 c
          ∧ r.2.mem ((c.tc : Thread Cert.NormBwdRefIdeal.nD Cert.NormBwdRefIdeal.τ).loc Cert.NormBwdRefIdeal.main_v40) = v1 c
          ∧ r.2.mem ((c.tc : Thread Cert.NormBwdRefIdeal.nD Cert.NormBwdRefIdeal.τ).loc Cert.NormBwdRefIdeal.main_v41) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v55) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SguBwd_SguBwdIdeal : Prop :=
  IdealRules.named_const.Statement Cert.SguBwdIdeal.κ "gelu_c" .f32 0x3D372713#32 ((8943 / 200000 : ℝ) : EReal)
  ∧ IdealRules.named_const.Statement Cert.SguBwdIdeal.κ "gelu_3c" .f32 0x3E095D4F#32 ((26829 / 200000 : ℝ) : EReal)

def algebraic_SguBwdIdeal_SguBwdRefIdeal_pre_sgu_bwd_finite [hSguBwdIdeal : Cert.SguBwdIdeal.Facts] [hSguBwdRefIdeal : Cert.SguBwdRefIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_sgu_bwd_finite m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)) →
    ∃ (v0 : (c : Dev Cert.SguBwdIdeal.nD) → Buf (Elt Ideal) ((c.tc : Thread Cert.SguBwdIdeal.nD Cert.SguBwdIdeal.τ).loc Cert.SguBwdIdeal.main_v12_0)) (v1 : (c : Dev Cert.SguBwdIdeal.nD) → Buf (Elt Ideal) ((c.tc : Thread Cert.SguBwdIdeal.nD Cert.SguBwdIdeal.τ).loc Cert.SguBwdIdeal.main_v12_1)) (v2 : (c : Dev Cert.SguBwdIdeal.nD) → Buf (Elt Ideal) ((c.tc : Thread Cert.SguBwdIdeal.nD Cert.SguBwdIdeal.τ).loc Cert.SguBwdIdeal.main_v14)) (v3 : (c : Dev Cert.SguBwdIdeal.nD) → Buf (Elt Ideal) ((c.tc : Thread Cert.SguBwdIdeal.nD Cert.SguBwdIdeal.τ).loc Cert.SguBwdIdeal.main_v17)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v12_0) = v0 c
          ∧ r.2.mem ((c.tc : Thread Cert.SguBwdIdeal.nD Cert.SguBwdIdeal.τ).loc Cert.SguBwdIdeal.main_v12_1) = v1 c
          ∧ r.2.mem ((c.tc : Thread Cert.SguBwdIdeal.nD Cert.SguBwdIdeal.τ).loc Cert.SguBwdIdeal.main_v14) = v2 c
          ∧ r.2.mem ((c.tc : Thread Cert.SguBwdIdeal.nD Cert.SguBwdIdeal.τ).loc Cert.SguBwdIdeal.main_v17) = v3 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v108) = v0 c
          ∧ r.2.mem ((c.tc : Thread Cert.SguBwdRefIdeal.nD Cert.SguBwdRefIdeal.τ).loc Cert.SguBwdRefIdeal.main_v92) = v1 c
          ∧ r.2.mem ((c.tc : Thread Cert.SguBwdRefIdeal.nD Cert.SguBwdRefIdeal.τ).loc Cert.SguBwdRefIdeal.main_v109) = v2 c
          ∧ r.2.mem ((c.tc : Thread Cert.SguBwdRefIdeal.nD Cert.SguBwdRefIdeal.τ).loc Cert.SguBwdRefIdeal.main_v110) = v3 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4))

def preserves_SguFwd_SguFwdIdeal : Prop :=
  IdealRules.named_const.Statement Cert.SguFwdIdeal.κ "gelu_c" .f32 0x3D372713#32 ((8943 / 200000 : ℝ) : EReal)

def algebraic_SguFwdIdeal_SguFwdRefIdeal_pre_sgu_fwd_finite [hSguFwdIdeal : Cert.SguFwdIdeal.Facts] [hSguFwdRefIdeal : Cert.SguFwdRefIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_sgu_fwd_finite m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)) →
    ∃ (v0 : (c : Dev Cert.SguFwdIdeal.nD) → Buf (Elt Ideal) ((c.tc : Thread Cert.SguFwdIdeal.nD Cert.SguFwdIdeal.τ).loc Cert.SguFwdIdeal.main_v10)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v10) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v46) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3))

def preserves_LruFwd_LruFwdIdeal : Prop :=
  IdealRules.named_const.Statement Cert.LruFwdIdeal.κ "gelu_c" .f32 0x3D372713#32 ((8943 / 200000 : ℝ) : EReal)

def algebraic_LruFwdIdeal_LruFwdRefIdeal_pre_lru_fwd_finite [hLruFwdIdeal : Cert.LruFwdIdeal.Facts] [hLruFwdRefIdeal : Cert.LruFwdRefIdeal.Facts] [hPre_lru_fwd_finite : Cert.Pre_lru_fwd_finite.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal_lru_fwd_finite m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)) →
    ∃ (v0 : (c : Dev Cert.LruFwdIdeal.nD) → Buf (Elt Ideal) ((c.tc : Thread Cert.LruFwdIdeal.nD Cert.LruFwdIdeal.τ).loc Cert.LruFwdIdeal.main_v34_0)) (v1 : (c : Dev Cert.LruFwdIdeal.nD) → Buf (Elt Ideal) ((c.tc : Thread Cert.LruFwdIdeal.nD Cert.LruFwdIdeal.τ).loc Cert.LruFwdIdeal.main_v34_1)) (v2 : (c : Dev Cert.LruFwdIdeal.nD) → Buf (Elt Ideal) ((c.tc : Thread Cert.LruFwdIdeal.nD Cert.LruFwdIdeal.τ).loc Cert.LruFwdIdeal.main_v34_2)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v34_0) = v0 c
          ∧ r.2.mem ((c.tc : Thread Cert.LruFwdIdeal.nD Cert.LruFwdIdeal.τ).loc Cert.LruFwdIdeal.main_v34_1) = v1 c
          ∧ r.2.mem ((c.tc : Thread Cert.LruFwdIdeal.nD Cert.LruFwdIdeal.τ).loc Cert.LruFwdIdeal.main_v34_2) = v2 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v209) = v0 c
          ∧ r.2.mem ((c.tc : Thread Cert.LruFwdRefIdeal.nD Cert.LruFwdRefIdeal.τ).loc Cert.LruFwdRefIdeal.main_v207) = v1 c
          ∧ r.2.mem ((c.tc : Thread Cert.LruFwdRefIdeal.nD Cert.LruFwdRefIdeal.τ).loc Cert.LruFwdRefIdeal.main_v50) = v2 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v68) = v0 c
          ∧ r.2.mem ((c.tc : Thread Cert.ConvBwdRefIdeal.nD Cert.ConvBwdRefIdeal.τ).loc Cert.ConvBwdRefIdeal.main_v70) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v29) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v5) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)) →
    ∃ (v0 : (c : Dev Cert.MlpOutIdeal.nD) → Buf (Elt Ideal) ((c.tc : Thread Cert.MlpOutIdeal.nD Cert.MlpOutIdeal.τ).loc Cert.MlpOutIdeal.main_v3_0)) (v1 : (c : Dev Cert.MlpOutIdeal.nD) → Buf (Elt Ideal) ((c.tc : Thread Cert.MlpOutIdeal.nD Cert.MlpOutIdeal.τ).loc Cert.MlpOutIdeal.main_v3_1)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v3_0) = v0 c
          ∧ r.2.mem ((c.tc : Thread Cert.MlpOutIdeal.nD Cert.MlpOutIdeal.τ).loc Cert.MlpOutIdeal.main_v3_1) = v1 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v2) = v0 c
          ∧ r.2.mem ((c.tc : Thread Cert.MlpOutRefIdeal.nD Cert.MlpOutRefIdeal.τ).loc Cert.MlpOutRefIdeal.main_v16) = v1 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v2_0)) (v1 : (c : Dev Cert.WGradIdeal.nD) → Buf (Elt Ideal) ((c.tc : Thread Cert.WGradIdeal.nD Cert.WGradIdeal.τ).loc Cert.WGradIdeal.main_v2_1)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v2_0) = v0 c
          ∧ r.2.mem ((c.tc : Thread Cert.WGradIdeal.nD Cert.WGradIdeal.τ).loc Cert.WGradIdeal.main_v2_1) = v1 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v5) = v0 c
          ∧ r.2.mem ((c.tc : Thread Cert.WGradRefIdeal.nD Cert.WGradRefIdeal.τ).loc Cert.WGradRefIdeal.main_v6) = v1 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_Adam_AdamIdeal : Prop :=
  IdealRules.named_const.Statement Cert.AdamIdeal.κ "adam_c1" .f32 0x3FC48605#32 ((8388608 / 5463681 : ℝ) : EReal)
  ∧ IdealRules.named_const.Statement Cert.AdamIdeal.κ "adam_c2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_FinalSum_FinalSumIdeal : Prop :=
  True

def algebraic_FinalSumIdeal_FinalSumRefIdeal [hFinalSumIdeal : Cert.FinalSumIdeal.Facts] [hFinalSumRefIdeal : Cert.FinalSumRefIdeal.Facts] [hPre_final_sum_placed : Cert.Pre_final_sum_placed.Facts] : Prop :=
  ∀ (m : (ℓ : Loc Cert.FinalSumIdeal.nD Cert.FinalSumIdeal.τ Cert.FinalSumIdeal.sig) → Buf (Elt Ideal) ℓ) (g : Dev Cert.FinalSumIdeal.nD → PrngReg)
    (m' : (ℓ : Loc Cert.FinalSumRefIdeal.nD Cert.FinalSumRefIdeal.τ Cert.FinalSumRefIdeal.sig) → Buf (Elt Ideal) ℓ) (g' : Dev Cert.FinalSumRefIdeal.nD → PrngReg), Pre_FinalSumIdeal m →
    (∀ c : Dev Cert.FinalSumIdeal.nD,
      m' ((c.tc : Thread Cert.FinalSumRefIdeal.nD Cert.FinalSumRefIdeal.τ).loc Cert.FinalSumRefIdeal.main_arg0) = m ((c.tc : Thread Cert.FinalSumIdeal.nD Cert.FinalSumIdeal.τ).loc Cert.FinalSumIdeal.main_arg0)
      ∧ m' ((c.tc : Thread Cert.FinalSumRefIdeal.nD Cert.FinalSumRefIdeal.τ).loc Cert.FinalSumRefIdeal.main_arg1) = m ((c.tc : Thread Cert.FinalSumIdeal.nD Cert.FinalSumIdeal.τ).loc Cert.FinalSumIdeal.main_arg1)
      ∧ m' ((c.tc : Thread Cert.FinalSumRefIdeal.nD Cert.FinalSumRefIdeal.τ).loc Cert.FinalSumRefIdeal.main_arg2) = m ((c.tc : Thread Cert.FinalSumIdeal.nD Cert.FinalSumIdeal.τ).loc Cert.FinalSumIdeal.main_arg2)
      ∧ m' ((c.tc : Thread Cert.FinalSumRefIdeal.nD Cert.FinalSumRefIdeal.τ).loc Cert.FinalSumRefIdeal.main_arg3) = m ((c.tc : Thread Cert.FinalSumIdeal.nD Cert.FinalSumIdeal.τ).loc Cert.FinalSumIdeal.main_arg3)) →
    ∃ (v0 : (c : Dev Cert.FinalSumIdeal.nD) → Buf (Elt Ideal) ((c.tc : Thread Cert.FinalSumIdeal.nD Cert.FinalSumIdeal.τ).loc Cert.FinalSumIdeal.main_v0)),
      θ_run (Cert.FinalSumIdeal.defs (F := Ideal)) (onTc (τ := Cert.FinalSumIdeal.τ) (Cert.FinalSumIdeal.main (F := Ideal))) ⟨m, fun _ => 0, g⟩ (fun r => ∀ c : Dev Cert.FinalSumIdeal.nD,
          r.2.mem ((c.tc : Thread Cert.FinalSumIdeal.nD Cert.FinalSumIdeal.τ).loc Cert.FinalSumIdeal.main_v0) = v0 c
          ∧ r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
          ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1)
          ∧ r.2.mem ((c.tc : Thread Cert.FinalSumIdeal.nD Cert.FinalSumIdeal.τ).loc Cert.FinalSumIdeal.main_arg2) = m ((c.tc : Thread Cert.FinalSumIdeal.nD Cert.FinalSumIdeal.τ).loc Cert.FinalSumIdeal.main_arg2)
          ∧ r.2.mem ((c.tc : Thread Cert.FinalSumIdeal.nD Cert.FinalSumIdeal.τ).loc Cert.FinalSumIdeal.main_arg3) = m ((c.tc : Thread Cert.FinalSumIdeal.nD Cert.FinalSumIdeal.τ).loc Cert.FinalSumIdeal.main_arg3))
      ∧ θ_run (Cert.FinalSumRefIdeal.defs (F := Ideal)) (onTc (τ := Cert.FinalSumRefIdeal.τ) (Cert.FinalSumRefIdeal.main (F := Ideal))) ⟨m', fun _ => 0, g'⟩ (fun r => ∀ c : Dev Cert.FinalSumRefIdeal.nD,
          r.2.mem ((c.tc : Thread Cert.FinalSumRefIdeal.nD Cert.FinalSumRefIdeal.τ).loc Cert.FinalSumRefIdeal.main_v37) = v0 c
          ∧ r.2.mem ((c.tc : Thread Cert.FinalSumRefIdeal.nD Cert.FinalSumRefIdeal.τ).loc Cert.FinalSumRefIdeal.main_arg0) = m' ((c.tc : Thread Cert.FinalSumRefIdeal.nD Cert.FinalSumRefIdeal.τ).loc Cert.FinalSumRefIdeal.main_arg0)
          ∧ r.2.mem ((c.tc : Thread Cert.FinalSumRefIdeal.nD Cert.FinalSumRefIdeal.τ).loc Cert.FinalSumRefIdeal.main_arg1) = m' ((c.tc : Thread Cert.FinalSumRefIdeal.nD Cert.FinalSumRefIdeal.τ).loc Cert.FinalSumRefIdeal.main_arg1)
          ∧ r.2.mem ((c.tc : Thread Cert.FinalSumRefIdeal.nD Cert.FinalSumRefIdeal.τ).loc Cert.FinalSumRefIdeal.main_arg2) = m' ((c.tc : Thread Cert.FinalSumRefIdeal.nD Cert.FinalSumRefIdeal.τ).loc Cert.FinalSumRefIdeal.main_arg2)
          ∧ r.2.mem ((c.tc : Thread Cert.FinalSumRefIdeal.nD Cert.FinalSumRefIdeal.τ).loc Cert.FinalSumRefIdeal.main_arg3) = m' ((c.tc : Thread Cert.FinalSumRefIdeal.nD Cert.FinalSumRefIdeal.τ).loc Cert.FinalSumRefIdeal.main_arg3))

def preserves_MlpLast_MlpLastIdeal : Prop :=
  True

def algebraic_MlpLastIdeal_MlpLastRefIdeal [hMlpLastIdeal : Cert.MlpLastIdeal.Facts] [hMlpLastRefIdeal : Cert.MlpLastRefIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)) →
    ∃ (v0 : (c : Dev Cert.MlpLastIdeal.nD) → Buf (Elt Ideal) ((c.tc : Thread Cert.MlpLastIdeal.nD Cert.MlpLastIdeal.τ).loc Cert.MlpLastIdeal.main_v2)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v2) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v2) = v0 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2))

def Claim : Prop :=
  ∃ (hMlpDown : Cert.MlpDown.Facts) (hMlpDownIdeal : Cert.MlpDownIdeal.Facts) (hMlpDownRefIdeal : Cert.MlpDownRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hSguBwd : Cert.SguBwd.Facts) (hSguBwdIdeal : Cert.SguBwdIdeal.Facts) (hSguBwdRefIdeal : Cert.SguBwdRefIdeal.Facts) (hSguFwd : Cert.SguFwd.Facts) (hSguFwdIdeal : Cert.SguFwdIdeal.Facts) (hSguFwdRefIdeal : Cert.SguFwdRefIdeal.Facts) (hLruFwd : Cert.LruFwd.Facts) (hLruFwdIdeal : Cert.LruFwdIdeal.Facts) (hLruFwdRefIdeal : Cert.LruFwdRefIdeal.Facts) (hConvBwd : Cert.ConvBwd.Facts) (hConvBwdIdeal : Cert.ConvBwdIdeal.Facts) (hConvBwdRefIdeal : Cert.ConvBwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hMlpUp : Cert.MlpUp.Facts) (hMlpUpIdeal : Cert.MlpUpIdeal.Facts) (hMlpUpRefIdeal : Cert.MlpUpRefIdeal.Facts) (hMlpOut : Cert.MlpOut.Facts) (hMlpOutIdeal : Cert.MlpOutIdeal.Facts) (hMlpOutRefIdeal : Cert.MlpOutRefIdeal.Facts) (hInProj : Cert.InProj.Facts) (hInProjIdeal : Cert.InProjIdeal.Facts) (hInProjRefIdeal : Cert.InProjRefIdeal.Facts) (hOutBwd : Cert.OutBwd.Facts) (hOutBwdIdeal : Cert.OutBwdIdeal.Facts) (hOutBwdRefIdeal : Cert.OutBwdRefIdeal.Facts) (hWGrad : Cert.WGrad.Facts) (hWGradIdeal : Cert.WGradIdeal.Facts) (hWGradRefIdeal : Cert.WGradRefIdeal.Facts) (hAdam : Cert.Adam.Facts) (hAdamIdeal : Cert.AdamIdeal.Facts) (hAdamRefIdeal : Cert.AdamRefIdeal.Facts) (hFinalSum : Cert.FinalSum.Facts) (hFinalSumIdeal : Cert.FinalSumIdeal.Facts) (hFinalSumRefIdeal : Cert.FinalSumRefIdeal.Facts) (hMlpLast : Cert.MlpLast.Facts) (hMlpLastIdeal : Cert.MlpLastIdeal.Facts) (hMlpLastRefIdeal : Cert.MlpLastRefIdeal.Facts) (hPre_norm_bwd_finite : Cert.Pre_norm_bwd_finite.Facts) (hPre_loss_head_finite : Cert.Pre_loss_head_finite.Facts) (hPre_sgu_bwd_finite : Cert.Pre_sgu_bwd_finite.Facts) (hPre_sgu_fwd_finite : Cert.Pre_sgu_fwd_finite.Facts) (hPre_lru_fwd_finite : Cert.Pre_lru_fwd_finite.Facts) (hPre_final_sum_placed : Cert.Pre_final_sum_placed.Facts),
    quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_NormBwd (hNormBwd := hNormBwd)
    ∧ quiescent_NormBwdIdeal (hNormBwdIdeal := hNormBwdIdeal)
    ∧ quiescent_NormBwdIdeal_pre_norm_bwd_finite (hNormBwdIdeal := hNormBwdIdeal) (hPre_norm_bwd_finite := hPre_norm_bwd_finite)
    ∧ quiescent_NormBwdRefIdeal (hNormBwdRefIdeal := hNormBwdRefIdeal)
    ∧ quiescent_NormBwdRefIdeal_pre_norm_bwd_finite (hNormBwdRefIdeal := hNormBwdRefIdeal) (hPre_norm_bwd_finite := hPre_norm_bwd_finite)
    ∧ quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_SguBwd (hSguBwd := hSguBwd)
    ∧ quiescent_SguBwdIdeal (hSguBwdIdeal := hSguBwdIdeal)
    ∧ quiescent_SguBwdIdeal_pre_sgu_bwd_finite (hSguBwdIdeal := hSguBwdIdeal) (hPre_sgu_bwd_finite := hPre_sgu_bwd_finite)
    ∧ quiescent_SguBwdRefIdeal (hSguBwdRefIdeal := hSguBwdRefIdeal)
    ∧ quiescent_SguBwdRefIdeal_pre_sgu_bwd_finite (hSguBwdRefIdeal := hSguBwdRefIdeal) (hPre_sgu_bwd_finite := hPre_sgu_bwd_finite)
    ∧ quiescent_SguFwd (hSguFwd := hSguFwd)
    ∧ quiescent_SguFwdIdeal (hSguFwdIdeal := hSguFwdIdeal)
    ∧ quiescent_SguFwdIdeal_pre_sgu_fwd_finite (hSguFwdIdeal := hSguFwdIdeal) (hPre_sgu_fwd_finite := hPre_sgu_fwd_finite)
    ∧ quiescent_SguFwdRefIdeal (hSguFwdRefIdeal := hSguFwdRefIdeal)
    ∧ quiescent_SguFwdRefIdeal_pre_sgu_fwd_finite (hSguFwdRefIdeal := hSguFwdRefIdeal) (hPre_sgu_fwd_finite := hPre_sgu_fwd_finite)
    ∧ quiescent_LruFwd (hLruFwd := hLruFwd)
    ∧ quiescent_LruFwdIdeal (hLruFwdIdeal := hLruFwdIdeal)
    ∧ quiescent_LruFwdIdeal_pre_lru_fwd_finite (hLruFwdIdeal := hLruFwdIdeal) (hPre_lru_fwd_finite := hPre_lru_fwd_finite)
    ∧ quiescent_LruFwdRefIdeal (hLruFwdRefIdeal := hLruFwdRefIdeal)
    ∧ quiescent_LruFwdRefIdeal_pre_lru_fwd_finite (hLruFwdRefIdeal := hLruFwdRefIdeal) (hPre_lru_fwd_finite := hPre_lru_fwd_finite)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_Adam (hAdam := hAdam)
    ∧ quiescent_AdamIdeal (hAdamIdeal := hAdamIdeal)
    ∧ quiescent_AdamRefIdeal (hAdamRefIdeal := hAdamRefIdeal)
    ∧ quiescent_FinalSum (hFinalSum := hFinalSum) (hPre_final_sum_placed := hPre_final_sum_placed)
    ∧ quiescent_FinalSumIdeal (hFinalSumIdeal := hFinalSumIdeal) (hPre_final_sum_placed := hPre_final_sum_placed)
    ∧ quiescent_FinalSumRefIdeal (hFinalSumRefIdeal := hFinalSumRefIdeal)
    ∧ quiescent_FinalSumRefIdeal_pre_final_sum_placed (hFinalSumRefIdeal := hFinalSumRefIdeal) (hPre_final_sum_placed := hPre_final_sum_placed)
    ∧ quiescent_MlpLast (hMlpLast := hMlpLast)
    ∧ quiescent_MlpLastIdeal (hMlpLastIdeal := hMlpLastIdeal)
    ∧ quiescent_MlpLastRefIdeal (hMlpLastRefIdeal := hMlpLastRefIdeal)
    ∧ preserves_MlpDown_MlpDownIdeal
    ∧ algebraic_MlpDownIdeal_MlpDownRefIdeal (hMlpDownIdeal := hMlpDownIdeal) (hMlpDownRefIdeal := hMlpDownRefIdeal)
    ∧ preserves_NormBwd_NormBwdIdeal
    ∧ algebraic_NormBwdIdeal_NormBwdRefIdeal_pre_norm_bwd_finite (hNormBwdIdeal := hNormBwdIdeal) (hNormBwdRefIdeal := hNormBwdRefIdeal) (hPre_norm_bwd_finite := hPre_norm_bwd_finite)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_SguBwd_SguBwdIdeal
    ∧ algebraic_SguBwdIdeal_SguBwdRefIdeal_pre_sgu_bwd_finite (hSguBwdIdeal := hSguBwdIdeal) (hSguBwdRefIdeal := hSguBwdRefIdeal) (hPre_sgu_bwd_finite := hPre_sgu_bwd_finite)
    ∧ preserves_SguFwd_SguFwdIdeal
    ∧ algebraic_SguFwdIdeal_SguFwdRefIdeal_pre_sgu_fwd_finite (hSguFwdIdeal := hSguFwdIdeal) (hSguFwdRefIdeal := hSguFwdRefIdeal) (hPre_sgu_fwd_finite := hPre_sgu_fwd_finite)
    ∧ preserves_LruFwd_LruFwdIdeal
    ∧ algebraic_LruFwdIdeal_LruFwdRefIdeal_pre_lru_fwd_finite (hLruFwdIdeal := hLruFwdIdeal) (hLruFwdRefIdeal := hLruFwdRefIdeal) (hPre_lru_fwd_finite := hPre_lru_fwd_finite)
    ∧ preserves_ConvBwd_ConvBwdIdeal
    ∧ algebraic_ConvBwdIdeal_ConvBwdRefIdeal (hConvBwdIdeal := hConvBwdIdeal) (hConvBwdRefIdeal := hConvBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpOut_MlpOutIdeal
    ∧ algebraic_MlpOutIdeal_MlpOutRefIdeal (hMlpOutIdeal := hMlpOutIdeal) (hMlpOutRefIdeal := hMlpOutRefIdeal)
    ∧ preserves_InProj_InProjIdeal
    ∧ algebraic_InProjIdeal_InProjRefIdeal (hInProjIdeal := hInProjIdeal) (hInProjRefIdeal := hInProjRefIdeal)
    ∧ preserves_OutBwd_OutBwdIdeal
    ∧ algebraic_OutBwdIdeal_OutBwdRefIdeal (hOutBwdIdeal := hOutBwdIdeal) (hOutBwdRefIdeal := hOutBwdRefIdeal)
    ∧ preserves_WGrad_WGradIdeal
    ∧ algebraic_WGradIdeal_WGradRefIdeal (hWGradIdeal := hWGradIdeal) (hWGradRefIdeal := hWGradRefIdeal)
    ∧ preserves_Adam_AdamIdeal
    ∧ algebraic_AdamIdeal_AdamRefIdeal (hAdamIdeal := hAdamIdeal) (hAdamRefIdeal := hAdamRefIdeal)
    ∧ preserves_FinalSum_FinalSumIdeal
    ∧ algebraic_FinalSumIdeal_FinalSumRefIdeal (hFinalSumIdeal := hFinalSumIdeal) (hFinalSumRefIdeal := hFinalSumRefIdeal) (hPre_final_sum_placed := hPre_final_sum_placed)
    ∧ preserves_MlpLast_MlpLastIdeal
    ∧ algebraic_MlpLastIdeal_MlpLastRefIdeal (hMlpLastIdeal := hMlpLastIdeal) (hMlpLastRefIdeal := hMlpLastRefIdeal)
-- ==== Pre_final_sum_placed.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S1x1024x4096 .f32) (main_arg1 : FVec F S7x512x1024 .bf16) (main_arg2 : FVec F S4x2x512x1024 .f32) (main_arg3 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg3 main_v0
  let main_v2 : IVec S2 1 := cmpi .slt main_arg3 main_c
  let main_v3 : IVec S2 1 := andi main_v1 main_v2
  main_v3
-- ==== Pre_loss_head_finite.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)

variable [Facts]

def fn {F : FTy → Type} [FloatOps F] (main_arg0 : FVec F S1x8192x1024 .f32) (main_arg1 : FVec F S1024 .f32) (main_arg2 : FVec F S1x8192x1024 .f32) : IVec S1x8192x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  (main_v2, main_v5, main_v8)
-- ==== Pre_lru_fwd_finite.lean ====
abbrev S8192x2560 : Shape := ⟨2, ![8192, 2560]⟩
abbrev S4x1280 : Shape := ⟨2, ![4, 1280]⟩
abbrev S1280 : Shape := ⟨1, ![1280]⟩
abbrev S16x80x80 : Shape := ⟨3, ![16, 80, 80]⟩
abbrev S_ : Shape := ⟨0, ![]⟩

class Facts : Prop where
  bcast_S_S8192x2560 : S_.BroadcastsInDim S8192x2560 (![] : Fin 0 → Fin S8192x2560.rank)
  bcast_S_S4x1280 : S_.BroadcastsInDim S4x1280 (![] : Fin 0 → Fin S4x1280.rank)
  bcast_S_S1280 : S_.BroadcastsInDim S1280 (![] : Fin 0 → Fin S1280.rank)
  bcast_S_S16x80x80 : S_.BroadcastsInDim S16x80x80 (![] : Fin 0 → Fin S16x80x80.rank)

variable [Facts]

def fn_part1 {F : FTy → Type} [FloatOps F] (main_arg6 : FVec F S1280 .f32) (main_arg7 : FVec F S1280 .f32) (main_v2 : IVec S8192x2560 1) (main_v5 : IVec S4x1280 1) (main_v8 : IVec S1280 1) (main_v11 : IVec S16x80x80 1) (main_v14 : IVec S1280 1) (main_v17 : IVec S16x80x80 1) : IVec S8192x2560 1 × IVec S4x1280 1 × IVec S1280 1 × IVec S16x80x80 1 × IVec S1280 1 × IVec S16x80x80 1 × IVec S1280 1 × IVec S1280 1 :=
  let main_v18 : FVec F S1280 .f32 := Host.absf main_arg6
  let main_cst_5 : FVec F S_ .f32 := constant S_ .f32 0x7F800000#32
  let main_v19 : FVec F S1280 .f32 := broadcastInDim S1280 ![] bcast_S_S1280 main_cst_5
  let main_v20 : IVec S1280 1 := cmpf .olt main_v18 main_v19
  let main_v21 : FVec F S1280 .f32 := Host.absf main_arg7
  let main_cst_6 : FVec F S_ .f32 := constant S_ .f32 0x7F800000#32
  let main_v22 : FVec F S1280 .f32 := broadcastInDim S1280 ![] bcast_S_S1280 main_cst_6
  let main_v23 : IVec S1280 1 := cmpf .olt main_v21 main_v22
  (main_v2, main_v5, main_v8, main_v11, main_v14, main_v17, main_v20, main_v23)

def fn {F : FTy → Type} [FloatOps F] (main_arg0 : FVec F S8192x2560 .f32) (main_arg1 : FVec F S4x1280 .f32) (main_arg2 : FVec F S1280 .f32) (main_arg3 : FVec F S16x80x80 .f32) (main_arg4 : FVec F S1280 .f32) (main_arg5 : FVec F S16x80x80 .f32) (main_arg6 : FVec F S1280 .f32) (main_arg7 : FVec F S1280 .f32) : IVec S8192x2560 1 × IVec S4x1280 1 × IVec S1280 1 × IVec S16x80x80 1 × IVec S1280 1 × IVec S16x80x80 1 × IVec S1280 1 × IVec S1280 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_v3 : FVec F S4x1280 .f32 := Host.absf main_arg1
  let main_cst_0 : FVec F S_ .f32 := constant S_ .f32 0x7F800000#32
  let main_v4 : FVec F S4x1280 .f32 := broadcastInDim S4x1280 ![] bcast_S_S4x1280 main_cst_0
  let main_v5 : IVec S4x1280 1 := cmpf .olt main_v3 main_v4
  let main_v6 : FVec F S1280 .f32 := Host.absf main_arg2
  let main_cst_1 : FVec F S_ .f32 := constant S_ .f32 0x7F800000#32
  let main_v7 : FVec F S1280 .f32 := broadcastInDim S1280 ![] bcast_S_S1280 main_cst_1
  let main_v8 : IVec S1280 1 := cmpf .olt main_v6 main_v7
  let main_v9 : FVec F S16x80x80 .f32 := Host.absf main_arg3
  let main_cst_2 : FVec F S_ .f32 := constant S_ .f32 0x7F800000#32
  let main_v10 : FVec F S16x80x80 .f32 := broadcastInDim S16x80x80 ![] bcast_S_S16x80x80 main_cst_2
  let main_v11 : IVec S16x80x80 1 := cmpf .olt main_v9 main_v10
  let main_v12 : FVec F S1280 .f32 := Host.absf main_arg4
  let main_cst_3 : FVec F S_ .f32 := constant S_ .f32 0x7F800000#32
  let main_v13 : FVec F S1280 .f32 := broadcastInDim S1280 ![] bcast_S_S1280 main_cst_3
  let main_v14 : IVec S1280 1 := cmpf .olt main_v12 main_v13
  let main_v15 : FVec F S16x80x80 .f32 := Host.absf main_arg5
  let main_cst_4 : FVec F S_ .f32 := constant S_ .f32 0x7F800000#32
  let main_v16 : FVec F S16x80x80 .f32 := broadcastInDim S16x80x80 ![] bcast_S_S16x80x80 main_cst_4
  let main_v17 : IVec S16x80x80 1 := cmpf .olt main_v15 main_v16
  fn_part1 (F := F) main_arg6 main_arg7 main_v2 main_v5 main_v8 main_v11 main_v14 main_v17
-- ==== Pre_norm_bwd_finite.lean ====
abbrev S8192x1024 : Shape := ⟨2, ![8192, 1024]⟩
abbrev S1024 : Shape := ⟨1, ![1024]⟩
abbrev S1x1024x4096 : Shape := ⟨3, ![1, 1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1x1024x4096 : S_.BroadcastsInDim S1x1024x4096 (![] : Fin 0 → Fin S1x1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1x1024x4096 .f32) (main_arg3 : FVec F S8192x4096 .f32) (main_arg4 : FVec F S8192x1024 .f32) : IVec S8192x1024 1 × IVec S1024 1 × IVec S1x1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_sgu_bwd_finite.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S8192x1024 : S_.BroadcastsInDim S8192x1024 (![] : Fin 0 → Fin S8192x1024.rank)

variable [Facts]

def fn {F : FTy → Type} [FloatOps F] (main_arg0 : FVec F S8192x2048 .f32) (main_arg1 : FVec F S1x1024 .f32) (main_arg2 : FVec F S1x8x128x128 .f32) (main_arg3 : FVec F S1x8x128 .f32) (main_arg4 : FVec F S8192x1024 .f32) : IVec S8192x2048 1 × IVec S1x1024 1 × IVec S1x8x128x128 1 × IVec S1x8x128 1 × IVec S8192x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x8x128x128 .f32 := Host.absf main_arg2
  let main_cst_1 : FVec F S_ .f32 := constant S_ .f32 0x7F800000#32
  let main_v7 : FVec F S1x8x128x128 .f32 := broadcastInDim S1x8x128x128 ![] bcast_S_S1x8x128x128 main_cst_1
  let main_v8 : IVec S1x8x128x128 1 := cmpf .olt main_v6 main_v7
  let main_v9 : FVec F S1x8x128 .f32 := Host.absf main_arg3
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_sgu_fwd_finite.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S8192x2048 : S_.BroadcastsInDim S8192x2048 (![] : Fin 0 → Fin S8192x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S8192x2048 .f32) (main_arg1 : FVec F S1x1024 .f32) (main_arg2 : FVec F S1x8x128x128 .f32) (main_arg3 : FVec F S1x8x128 .f32) : IVec S8192x2048 1 × IVec S1x1024 1 × IVec S1x8x128x128 1 × IVec S1x8x128 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x8x128x128 .f32 := Host.absf main_arg2
  let main_cst_1 : FVec F S_ .f32 := constant S_ .f32 0x7F800000#32
  let main_v7 : FVec F S1x8x128x128 .f32 := broadcastInDim S1x8x128x128 ![] bcast_S_S1x8x128x128 main_cst_1
  let main_v8 : IVec S1x8x128x128 1 := cmpf .olt main_v6 main_v7
  let main_v9 : FVec F S1x8x128 .f32 := Host.absf main_arg3
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  (main_v2, main_v5, main_v8, main_v11)
-- ==== MlpDown.lean ====
abbrev S8192x4096 : Shape := ⟨2, ![8192, 4096]⟩
abbrev S1x4096x1024 : Shape := ⟨3, ![1, 4096, 1024]⟩
abbrev S8192x1024 : Shape := ⟨2, ![8192, 1024]⟩
abbrev S256x1024 : Shape := ⟨2, ![256, 1024]⟩
abbrev S256x4096 : Shape := ⟨2, ![256, 4096]⟩
abbrev S4096x1024 : Shape := ⟨2, ![4096, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S8192x1024, .bf16⟩
  | .hbm, ⟨4, _⟩ => ⟨S1x4096x1024, .bf16⟩
  | .hbm, ⟨5, _⟩ => ⟨S8192x4096, .bf16⟩
  | .hbm, ⟨6, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S1x4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpDownRefIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024x4096 : Shape := ⟨3, ![1, 1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1x1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S8192x1024 : Shape := ⟨2, ![8192, 1024]⟩
abbrev S1024 : Shape := ⟨1, ![1024]⟩
abbrev S1x1024x4096 : Shape := ⟨3, ![1, 1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4096 : Shape := ⟨2, ![1024, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== LossHead.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 10
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x128, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x128, .f32⟩
  | .hbm, ⟨74, _⟩ => ⟨S8192x1024, .bf16⟩
  | .hbm, ⟨75, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== SguBwd.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 44
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8192x1024, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S8x128x128, .f32⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128x128, .f32⟩
  | .hbm, ⟨25, _⟩ => ⟨S8x128x128, .bf16⟩
  | .hbm, ⟨26, _⟩ => ⟨S8x128, .f32⟩
  | .hbm, ⟨27, _⟩ => ⟨S128x8, .f32⟩
  | .hbm, ⟨28, _⟩ => ⟨S128x8x128, .f32⟩
  | .hbm, ⟨29, _⟩ => ⟨S128x1024, .f32⟩
  | .hbm, ⟨30, _⟩ => ⟨S8192x2048, .bf16⟩
  | .hbm, ⟨31, _⟩ => ⟨S1x1024, .f32⟩
  | .hbm, ⟨32, _⟩ => ⟨S8x128x128, .f32⟩
  | .hbm, ⟨33, _⟩ => ⟨S128x1024, .f32⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S8x128x128, .i1⟩
  | .hbm, ⟨38, _⟩ => ⟨S8x128x128, .f32⟩
  | .hbm, ⟨39, _⟩ => ⟨S8x128x128, .f32⟩
  | .hbm, ⟨40, _⟩ => ⟨S128x8x128, .f32⟩
  | .hbm, ⟨41, _⟩ => ⟨S_, .f32⟩
  | .hbm, ⟨42, _⟩ => ⟨S128x8, .f32⟩
  | .hbm, ⟨43, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .bf16⟩
  | .local _ .vmem, ⟨7, _⟩ => ⟨S128x1024, .f32⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S8x128x128, .f32⟩
  | .local _ .vmem, ⟨12, _⟩ => ⟨S128x1024, .f32⟩
  | .local _ .vmem, ⟨13, _⟩ => ⟨S256x1024, .f32⟩
  | .local _ .vmem, ⟨14, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v13 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SguBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguBwdRefIdeal.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 155
  | .vmem => 0
  | .smem => 0
  | _ => 0

abbrev hbmTy0_0 (i : Nat) : BufTy := match i % 128 with
  | 0 => ⟨S8192x2048, .f32⟩
  | 1 => ⟨S1x1024, .f32⟩
  | 2 => ⟨S1x8x128x128, .f32⟩
  | 3 => ⟨S1x8x128, .f32⟩
  | 4 => ⟨S8192x1024, .f32⟩
  | 5 => ⟨S8192x2048, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S_, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x2048, .f32⟩
  | 29 => ⟨S_, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S8192x1024, .f32⟩
  | 37 => ⟨S8192x1024, .f32⟩
  | 38 => ⟨S1024, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S64x128x8x128, .f32⟩
  | 60 => ⟨S_, .i1⟩
  | 61 => ⟨S128x128, .i1⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .i1⟩
  | 69 => ⟨S128x128, .i1⟩
  | 70 => ⟨S128x128, .i1⟩
  | 71 => ⟨S1x128x128, .i1⟩
  | 72 => ⟨S8x128x128, .f32⟩
  | 73 => ⟨S_, .f32⟩
  | 74 => ⟨S8x128x128, .i1⟩
  | 75 => ⟨S8x128x128, .f32⟩
  | 76 => ⟨S8x128x128, .f32⟩
  | 77 => ⟨S_, .f32⟩
  | 78 => ⟨S8x128x128, .f32⟩
  | 79 => ⟨S8x64x128x128, .f32⟩
  | 80 => ⟨S64x128x8x128, .f32⟩
  | 81 => ⟨S8x128, .f32⟩
  | 82 => ⟨S128x8, .f32⟩
  | 83 => ⟨S1x128x8x1, .f32⟩
  | 84 => ⟨S64x128x8x128, .f32⟩
  | 85 => ⟨S64x128x8x128, .f32⟩
  | 86 => ⟨S8192x1024, .f32⟩
  | 87 => ⟨S8192x1024, .f32⟩
  | 88 => ⟨S8192x1024, .f32⟩
  | 89 => ⟨S8192x1024, .f32⟩
  | 90 => ⟨S64x128x8x128, .f32⟩
  | 91 => ⟨S_, .f32⟩
  | 92 => ⟨S128x8, .f32⟩
  | 93 => ⟨S1x128x8x1, .f32⟩
  | 94 => ⟨S_, .f32⟩
  | 95 => ⟨S128x8, .f32⟩
  | 96 => ⟨S8x128, .f32⟩
  | 97 => ⟨S1x8x128, .f32⟩
  | 98 => ⟨S8x64x128x128, .f32⟩
  | 99 => ⟨S8x128x128, .f32⟩
  | 100 => ⟨S8x64x128x128, .f32⟩
  | 101 => ⟨S64x128x8x128, .f32⟩
  | 102 => ⟨S_, .f32⟩
  | 103 => ⟨S8x128x128, .f32⟩
  | 104 => ⟨S8x128x128, .f32⟩
  | 105 => ⟨S1x8x128x128, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S_, .f32⟩
  | 114 => ⟨S1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x2048, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S8192x2048, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S8192x2048, .f32⟩
  | 24 => ⟨S8192x2048, .bf16⟩
  | 25 => ⟨S8x128x128, .f32⟩
  | 26 => ⟨S8x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c : Ref sig .tc := ⟨.hbm, 60, rfl⟩
abbrev main_v43 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47_1 : Ref sig .tc := ⟨.hbm, 74, rfl⟩
abbrev main_call1_v1 : Ref sig .tc := ⟨.hbm, 75, rfl⟩
abbrev main_v47_0 : Ref sig .tc := ⟨.hbm, 76, rfl⟩
abbrev main_call1_cst : Ref sig .tc := ⟨.hbm, 77, rfl⟩
abbrev main_v47_2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_cst : Ref sig .tc := ⟨.hbm, 102, rfl⟩
abbrev main_call2_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_19 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_21 : Ref sig .tc := ⟨.hbm, 144, rfl⟩
abbrev main_v102 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩

abbrev nD : Nat := 1
abbrev τ : Topo := Topo.v7x

variable {F : FTy → Type} [FloatOps F]
-- ==== SguFwd.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8192x1024 : Shape := ⟨2, ![8192, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S8x128x128, .f32⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128, .f32⟩
  | .hbm, ⟨24, _⟩ => ⟨S128x8, .f32⟩
  | .hbm, ⟨25, _⟩ => ⟨S128x8x128, .f32⟩
  | .hbm, ⟨26, _⟩ => ⟨S128x1024, .f32⟩
  | .hbm, ⟨27, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S1x1024, .f32⟩
  | .local _ .vmem, ⟨3, _⟩ => ⟨S8x128x128, .bf16⟩
  | .local _ .vmem, ⟨4, _⟩ => ⟨S128x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SguFwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SguFwdRefIdeal.lean ====
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1024, .f32⟩
  | .hbm, ⟨25, _⟩ => ⟨S8192x1024, .f32⟩
  | .hbm, ⟨26, _⟩ => ⟨S1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S64x128x8x128, .f32⟩
  | .hbm, ⟨44, _⟩ => ⟨S_, .i1⟩
  | .hbm, ⟨45, _⟩ => ⟨S128x128, .i1⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .i1⟩
  | .hbm, ⟨53, _⟩ => ⟨S128x128, .i1⟩
  | .hbm, ⟨54, _⟩ => ⟨S128x128, .i1⟩
  | .hbm, ⟨55, _⟩ => ⟨S1x128x128, .i1⟩
  | .hbm, ⟨56, _⟩ => ⟨S8x128x128, .f32⟩
  | .hbm, ⟨57, _⟩ => ⟨S_, .f32⟩
  | .hbm, ⟨58, _⟩ => ⟨S8x128x128, .i1⟩
  | .hbm, ⟨59, _⟩ => ⟨S8x128x128, .f32⟩
  | .hbm, ⟨60, _⟩ => ⟨S8x128x128, .f32⟩
  | .hbm, ⟨61, _⟩ => ⟨S8x64x128x128, .f32⟩
  | .hbm, ⟨62, _⟩ => ⟨S64x128x8x128, .f32⟩
  | .hbm, ⟨63, _⟩ => ⟨S8x128, .f32⟩
  | .hbm, ⟨64, _⟩ => ⟨S128x8, .f32⟩
  | .hbm, ⟨65, _⟩ => ⟨S1x128x8x1, .f32⟩
  | .hbm, ⟨66, _⟩ => ⟨S64x128x8x128, .f32⟩
  | .hbm, ⟨67, _⟩ => ⟨S64x128x8x128, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_0 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== LruFwd.lean ====
abbrev S8192x2560 : Shape := ⟨2, ![8192, 2560]⟩
abbrev S4x1280 : Shape := ⟨2, ![4, 1280]⟩
abbrev S1280 : Shape := ⟨1, ![1280]⟩
abbrev S16x80x80 : Shape := ⟨3, ![16, 80, 80]⟩
abbrev S2x8x80x80 : Shape := ⟨4, ![2, 8, 80, 80]⟩
abbrev S8x8 : Shape := ⟨2, ![8, 8]⟩
abbrev S_ : Shape := ⟨0, ![]⟩
abbrev S2x8x80x1x80 : Shape := ⟨5, ![2, 8, 80, 1, 80]⟩
abbrev S1x8x1x8x1 : Shape := ⟨5, ![1, 8, 1, 8, 1]⟩
abbrev S2x8x80x8x80 : Shape := ⟨5, ![2, 8, 80, 8, 80]⟩
abbrev S2x640x640 : Shape := ⟨3, ![2, 640, 640]⟩
abbrev S1x1280 : Shape := ⟨2, ![1, 1280]⟩
abbrev S8x1280 : Shape := ⟨2, ![8, 1280]⟩
abbrev S8192x1280 : Shape := ⟨2, ![8192, 1280]⟩
abbrev S256x2560 : Shape := ⟨2, ![256, 2560]⟩
abbrev S256x1280 : Shape := ⟨2, ![256, 1280]⟩
abbrev S2x264x640 : Shape := ⟨3, ![2, 264, 640]⟩
abbrev S256x640 : Shape := ⟨2, ![256, 640]⟩
abbrev S1x256x640 : Shape := ⟨3, ![1, 256, 640]⟩
abbrev S1x640 : Shape := ⟨2, ![1, 640]⟩
abbrev S8x640 : Shape := ⟨2, ![8, 640]⟩
abbrev S1x8x640 : Shape := ⟨3, ![1, 8, 640]⟩
abbrev S1x640x640 : Shape := ⟨3, ![1, 640, 640]⟩
abbrev S640x640 : Shape := ⟨2, ![640, 640]⟩
abbrev S248x640 : Shape := ⟨2, ![248, 640]⟩
abbrev S16x640 : Shape := ⟨2, ![16, 640]⟩
abbrev S240x640 : Shape := ⟨2, ![240, 640]⟩
abbrev S32x640 : Shape := ⟨2, ![32, 640]⟩
abbrev S224x640 : Shape := ⟨2, ![224, 640]⟩
abbrev S64x640 : Shape := ⟨2, ![64, 640]⟩
abbrev S192x640 : Shape := ⟨2, ![192, 640]⟩
abbrev S128x640 : Shape := ⟨2, ![128, 640]⟩
abbrev S640 : Shape := ⟨1, ![640]⟩

abbrev nBuf : Space → Nat
  | .hbm => 48
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S4x1280, .f32⟩
  | .hbm, ⟨2, _⟩ => ⟨S1280, .f32⟩
  | .hbm, ⟨3, _⟩ => ⟨S16x80x80, .f32⟩
  | .hbm, ⟨4, _⟩ => ⟨S1280, .f32⟩
  | .hbm, ⟨5, _⟩ => ⟨S16x80x80, .f32⟩
  | .hbm, ⟨6, _⟩ => ⟨S1280, .f32⟩
  | .hbm, ⟨7, _⟩ => ⟨S1280, .f32⟩
  | .hbm, ⟨8, _⟩ => ⟨S2x8x80x80, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S2x8x80x1x80, .f32⟩
  | .hbm, ⟨17, _⟩ => ⟨S1x8x1x8x1, .f32⟩
  | .hbm, ⟨18, _⟩ => ⟨S2x8x80x8x80, .f32⟩
  | .hbm, ⟨19, _⟩ => ⟨S2x8x80x8x80, .f32⟩
  | .hbm, ⟨20, _⟩ => ⟨S2x8x80x8x80, .f32⟩
  | .hbm, ⟨21, _⟩ => ⟨S2x640x640, .f32⟩
  | .hbm, ⟨22, _⟩ => ⟨S2x640x640, .bf16⟩
  | .hbm, ⟨23, _⟩ => ⟨S2x8x80x80, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S2x8x80x1x80, .f32⟩
  | .hbm, ⟨32, _⟩ => ⟨S1x8x1x8x1, .f32⟩
  | .hbm, ⟨33, _⟩ => ⟨S2x8x80x8x80, .f32⟩
  | .hbm, ⟨34, _⟩ => ⟨S2x8x80x8x80, .f32⟩
  | .hbm, ⟨35, _⟩ => ⟨S2x8x80x8x80, .f32⟩
  | .hbm, ⟨36, _⟩ => ⟨S2x640x640, .f32⟩
  | .hbm, ⟨37, _⟩ => ⟨S2x640x640, .bf16⟩
  | .hbm, ⟨38, _⟩ => ⟨S1x1280, .f32⟩
  | .hbm, ⟨39, _⟩ => ⟨S1x1280, .f32⟩
  | .hbm, ⟨40, _⟩ => ⟨S1x1280, .f32⟩
  | .hbm, ⟨41, _⟩ => ⟨S1x1280, .f32⟩
  | .hbm, ⟨42, _⟩ => ⟨S_, .f32⟩
  | .hbm, ⟨43, _⟩ => ⟨S4x1280, .f32⟩
  | .hbm, ⟨44, _⟩ => ⟨S8x1280, .f32⟩
  | .hbm, ⟨45, _⟩ => ⟨S8192x1280, .bf16⟩
  | .hbm, ⟨46, _⟩ => ⟨S8192x1280, .f32⟩
  | .hbm, ⟨47, _⟩ => ⟨S8192x1280, .f32⟩
  | .local _ .vmem, ⟨0, _⟩ => ⟨S256x2560, .f32⟩
  | .local _ .vmem, ⟨1, _⟩ => ⟨S256x2560, .f32⟩
  | .local _ .vmem, ⟨2, _⟩ => ⟨S4x1280, .f32⟩
  | .local _ .vmem, ⟨3, _⟩ => ⟨S8x1280, .f32⟩
  | .local _ .vmem, ⟨4, _⟩ => ⟨S2x640x640, .bf16⟩
  | .local _ .vmem, ⟨5, _⟩ => ⟨S2x640x640, .bf16⟩
  | .local _ .vmem, ⟨6, _⟩ => ⟨S256x1280, .bf16⟩
  | .local _ .vmem, ⟨7, _⟩ => ⟨S256x1280, .bf16⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S2x264x640, .f32⟩
  | .local _ .vmem, ⟨13, _⟩ => ⟨S8x1280, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x640x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LruFwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== LruFwdRefIdeal.lean ====
abbrev S8192x2560 : Shape := ⟨2, ![8192, 2560]⟩
abbrev S4x1280 : Shape := ⟨2, ![4, 1280]⟩
abbrev S1280 : Shape := ⟨1, ![1280]⟩
abbrev S16x80x80 : Shape := ⟨3, ![16, 80, 80]⟩
abbrev S8192x1280 : Shape := ⟨2, ![8192, 1280]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x16x80 : Shape := ⟨3, ![8192, 16, 80]⟩
abbrev S16x80x8192 : Shape := ⟨3, ![16, 80, 8192]⟩
abbrev S8191x1280 : Shape := ⟨2, ![8191, 1280]⟩
abbrev S2x1280 : Shape := ⟨2, ![2, 1280]⟩
abbrev S8190x1280 : Shape := ⟨2, ![8190, 1280]⟩
abbrev S8188x1280 : Shape := ⟨2, ![8188, 1280]⟩
abbrev S8x1280 : Shape := ⟨2, ![8, 1280]⟩
abbrev S8184x1280 : Shape := ⟨2, ![8184, 1280]⟩
abbrev S16x1280 : Shape := ⟨2, ![16, 1280]⟩
abbrev S8176x1280 : Shape := ⟨2, ![8176, 1280]⟩
abbrev S32x1280 : Shape := ⟨2, ![32, 1280]⟩
abbrev S8160x1280 : Shape := ⟨2, ![8160, 1280]⟩
abbrev S64x1280 : Shape := ⟨2, ![64, 1280]⟩
abbrev S8128x1280 : Shape := ⟨2, ![8128, 1280]⟩
abbrev S128x1280 : Shape := ⟨2, ![128, 1280]⟩
abbrev S8064x1280 : Shape := ⟨2, ![8064, 1280]⟩
abbrev S256x1280 : Shape := ⟨2, ![256, 1280]⟩
abbrev S7936x1280 : Shape := ⟨2, ![7936, 1280]⟩
abbrev S512x1280 : Shape := ⟨2, ![512, 1280]⟩
abbrev S7680x1280 : Shape := ⟨2, ![7680, 1280]⟩
abbrev S1024x1280 : Shape := ⟨2, ![1024, 1280]⟩
abbrev S7168x1280 : Shape := ⟨2, ![7168, 1280]⟩
abbrev S2048x1280 : Shape := ⟨2, ![2048, 1280]⟩
abbrev S6144x1280 : Shape := ⟨2, ![6144, 1280]⟩
abbrev S4096x1280 : Shape := ⟨2, ![4096, 1280]⟩

abbrev nBuf : Space → Nat
  | .hbm => 270
  | .vmem => 0
  | .smem => 0
  | _ => 0

abbrev hbmTy0_0 (i : Nat) : BufTy := match i % 128 with
  | 0 => ⟨S8192x2560, .f32⟩
  | 1 => ⟨S4x1280, .f32⟩
  | 2 => ⟨S1280, .f32⟩
  | 3 => ⟨S16x80x80, .f32⟩
  | 4 => ⟨S1280, .f32⟩
  | 5 => ⟨S16x80x80, .f32⟩
  | 6 => ⟨S1280, .f32⟩
  | 7 => ⟨S1280, .f32⟩
  | 8 => ⟨S8192x1280, .f32⟩
  | 9 => ⟨S8192x1280, .f32⟩
  | 10 => ⟨S8192x1280, .f32⟩
  | 11 => ⟨S8192x1280, .f32⟩
  | 12 => ⟨S_, .f32⟩
  | 13 => ⟨S8192x1280, .f32⟩
  | 14 => ⟨S8192x1280, .f32⟩
  | 15 => ⟨S_, .f32⟩
  | 16 => ⟨S8192x1280, .f32⟩
  | 17 => ⟨S8192x1280, .f32⟩
  | 18 => ⟨S8192x1280, .f32⟩
  | 19 => ⟨S_, .f32⟩
  | 20 => ⟨S8192x1280, .f32⟩
  | 21 => ⟨S8192x1280, .f32⟩
  | 22 => ⟨S8192x1280, .f32⟩
  | 23 => ⟨S_, .f32⟩
  | 24 => ⟨S8192x1280, .f32⟩
  | 25 => ⟨S8192x1280, .f32⟩
  | 26 => ⟨S_, .f32⟩
  | 27 => ⟨S8192x1280, .f32⟩
  | 28 => ⟨S8192x1280, .f32⟩
  | 29 => ⟨S8192x1280, .f32⟩
  | 30 => ⟨S_, .f32⟩
  | 31 => ⟨S3x1280, .f32⟩
  | 32 => ⟨S8195x1280, .f32⟩
  | 33 => ⟨S1x1280, .f32⟩
  | 34 => ⟨S1280, .f32⟩
  | 35 => ⟨S8192x1280, .f32⟩
  | 36 => ⟨S1x1280, .f32⟩
  | 37 => ⟨S8192x1280, .f32⟩
  | 38 => ⟨S8192x1280, .f32⟩
  | 39 => ⟨S_, .f32⟩
  | 40 => ⟨S8192x1280, .f32⟩
  | 41 => ⟨S8192x1280, .f32⟩
  | 42 => ⟨S1x1280, .f32⟩
  | 43 => ⟨S1280, .f32⟩
  | 44 => ⟨S8192x1280, .f32⟩
  | 45 => ⟨S1x1280, .f32⟩
  | 46 => ⟨S8192x1280, .f32⟩
  | 47 => ⟨S8192x1280, .f32⟩
  | 48 => ⟨S8192x1280, .f32⟩
  | 49 => ⟨S1x1280, .f32⟩
  | 50 => ⟨S1280, .f32⟩
  | 51 => ⟨S8192x1280, .f32⟩
  | 52 => ⟨S1x1280, .f32⟩
  | 53 => ⟨S8192x1280, .f32⟩
  | 54 => ⟨S8192x1280, .f32⟩
  | 55 => ⟨S8192x1280, .f32⟩
  | 56 => ⟨S1x1280, .f32⟩
  | 57 => ⟨S1280, .f32⟩
  | 58 => ⟨S8192x1280, .f32⟩
  | 59 => ⟨S1x1280, .f32⟩
  | 60 => ⟨S8192x1280, .f32⟩
  | 61 => ⟨S8192x1280, .f32⟩
  | 62 => ⟨S8192x1280, .f32⟩
  | 63 => ⟨S1x1280, .f32⟩
  | 64 => ⟨S8192x1280, .f32⟩
  | 65 => ⟨S8192x1280, .f32⟩
  | 66 => ⟨S8192x16x80, .f32⟩
  | 67 => ⟨S16x80x8192, .f32⟩
  | 68 => ⟨S8192x16x80, .f32⟩
  | 69 => ⟨S8192x1280, .f32⟩
  | 70 => ⟨S1x1280, .f32⟩
  | 71 => ⟨S8192x1280, .f32⟩
  | 72 => ⟨S8192x1280, .f32⟩
  | 73 => ⟨S8192x1280, .f32⟩
  | 74 => ⟨S8192x1280, .f32⟩
  | 75 => ⟨S_, .f32⟩
  | 76 => ⟨S8192x1280, .f32⟩
  | 77 => ⟨S8192x1280, .f32⟩
  | 78 => ⟨S_, .f32⟩
  | 79 => ⟨S8192x1280, .f32⟩
  | 80 => ⟨S8192x1280, .f32⟩
  | 81 => ⟨S16x80x8192, .f32⟩
  | 82 => ⟨S8192x16x80, .f32⟩
  | 83 => ⟨S8192x1280, .f32⟩
  | 84 => ⟨S1x1280, .f32⟩
  | 85 => ⟨S8192x1280, .f32⟩
  | 86 => ⟨S8192x1280, .f32⟩
  | 87 => ⟨S8192x1280, .f32⟩
  | 88 => ⟨S8192x1280, .f32⟩
  | 89 => ⟨S_, .f32⟩
  | 90 => ⟨S8192x1280, .f32⟩
  | 91 => ⟨S8192x1280, .f32⟩
  | 92 => ⟨S_, .f32⟩
  | 93 => ⟨S8192x1280, .f32⟩
  | 94 => ⟨S8192x1280, .f32⟩
  | 95 => ⟨S_, .f32⟩
  | 96 => ⟨S8192x1280, .f32⟩
  | 97 => ⟨S8192x1280, .f32⟩
  | 98 => ⟨S1280, .f32⟩
  | 99 => ⟨S_, .f32⟩
  | 100 => ⟨S1280, .f32⟩
  | 101 => ⟨S1280, .f32⟩
  | 102 => ⟨S1280, .f32⟩
  | 103 => ⟨S1280, .f32⟩
  | 104 => ⟨S1280, .i1⟩
  | 105 => ⟨S1280, .f32⟩
  | 106 => ⟨S1280, .f32⟩
  | 107 => ⟨S1280, .f32⟩
  | 108 => ⟨S1280, .f32⟩
  | 109 => ⟨S1280, .f32⟩
  | 110 => ⟨S1280, .f32⟩
  | 111 => ⟨S1280, .f32⟩
  | 112 => ⟨S1280, .f32⟩
  | 113 => ⟨S1x1280, .f32⟩
  | 114 => ⟨S8192x1280, .f32⟩
  | 115 => ⟨S8192x1280, .f32⟩
  | 116 => ⟨S8192x1280, .f32⟩
  | 117 => ⟨S_, .f32⟩
  | 118 => ⟨S8192x1280, .f32⟩
  | 119 => ⟨S8192x1280, .f32⟩
  | 120 => ⟨S8192x1280, .f32⟩
  | 121 => ⟨S8192x1280, .f32⟩
  | 122 => ⟨S8192x1280, .f32⟩
  | 123 => ⟨S8192x1280, .f32⟩
  | 124 => ⟨S8192x1280, .f32⟩
  | 125 => ⟨S_, .f32⟩
  | 126 => ⟨S1x1280, .f32⟩
  | 127 => ⟨S8191x1280, .f32⟩
  | _ => ⟨S8192x2560, .f32⟩

abbrev hbmTy0_1 (i : Nat) : BufTy := match i % 128 with
  | 0 => ⟨S8192x1280, .f32⟩
  | 1 => ⟨S_, .f32⟩
  | 2 => ⟨S1x1280, .f32⟩
  | 3 => ⟨S8191x1280, .f32⟩
  | 4 => ⟨S8192x1280, .f32⟩
  | 5 => ⟨S8192x1280, .f32⟩
  | 6 => ⟨S8192x1280, .f32⟩
  | 7 => ⟨S8192x1280, .f32⟩
  | 8 => ⟨S_, .f32⟩
  | 9 => ⟨S2x1280, .f32⟩
  | 10 => ⟨S8190x1280, .f32⟩
  | 11 => ⟨S8192x1280, .f32⟩
  | 12 => ⟨S_, .f32⟩
  | 13 => ⟨S2x1280, .f32⟩
  | 14 => ⟨S8190x1280, .f32⟩
  | 15 => ⟨S8192x1280, .f32⟩
  | 16 => ⟨S8192x1280, .f32⟩
  | 17 => ⟨S8192x1280, .f32⟩
  | 18 => ⟨S8192x1280, .f32⟩
  | 19 => ⟨S_, .f32⟩
  | 20 => ⟨S4x1280, .f32⟩
  | 21 => ⟨S8188x1280, .f32⟩
  | 22 => ⟨S8192x1280, .f32⟩
  | 23 => ⟨S_, .f32⟩
  | 24 => ⟨S4x1280, .f32⟩
  | 25 => ⟨S8188x1280, .f32⟩
  | 26 => ⟨S8192x1280, .f32⟩
  | 27 => ⟨S8192x1280, .f32⟩
  | 28 => ⟨S8192x1280, .f32⟩
  | 29 => ⟨S8192x1280, .f32⟩
  | 30 => ⟨S_, .f32⟩
  | 31 => ⟨S8x1280, .f32⟩
  | 32 => ⟨S8184x1280, .f32⟩
  | 33 => ⟨S8192x1280, .f32⟩
  | 34 => ⟨S_, .f32⟩
  | 35 => ⟨S8x1280, .f32⟩
  | 36 => ⟨S8184x1280, .f32⟩
  | 37 => ⟨S8192x1280, .f32⟩
  | 38 => ⟨S8192x1280, .f32⟩
  | 39 => ⟨S8192x1280, .f32⟩
  | 40 => ⟨S8192x1280, .f32⟩
  | 41 => ⟨S_, .f32⟩
  | 42 => ⟨S16x1280, .f32⟩
  | 43 => ⟨S8176x1280, .f32⟩
  | 44 => ⟨S8192x1280, .f32⟩
  | 45 => ⟨S_, .f32⟩
  | 46 => ⟨S16x1280, .f32⟩
  | 47 => ⟨S8176x1280, .f32⟩
  | 48 => ⟨S8192x1280, .f32⟩
  | 49 => ⟨S8192x1280, .f32⟩
  | 50 => ⟨S8192x1280, .f32⟩
  | 51 => ⟨S8192x1280, .f32⟩
  | 52 => ⟨S_, .f32⟩
  | 53 => ⟨S32x1280, .f32⟩
  | 54 => ⟨S8160x1280, .f32⟩
  | 55 => ⟨S8192x1280, .f32⟩
  | 56 => ⟨S_, .f32⟩
  | 57 => ⟨S32x1280, .f32⟩
  | 58 => ⟨S8160x1280, .f32⟩
  | 59 => ⟨S8192x1280, .f32⟩
  | 60 => ⟨S8192x1280, .f32⟩
  | 61 => ⟨S8192x1280, .f32⟩
  | 62 => ⟨S8192x1280, .f32⟩
  | 63 => ⟨S_, .f32⟩
  | 64 => ⟨S64x1280, .f32⟩
  | 65 => ⟨S8128x1280, .f32⟩
  | 66 => ⟨S8192x1280, .f32⟩
  | 67 => ⟨S_, .f32⟩
  | 68 => ⟨S64x1280, .f32⟩
  | 69 => ⟨S8128x1280, .f32⟩
  | 70 => ⟨S8192x1280, .f32⟩
  | 71 => ⟨S8192x1280, .f32⟩
  | 72 => ⟨S8192x1280, .f32⟩
  | 73 => ⟨S8192x1280, .f32⟩
  | 74 => ⟨S_, .f32⟩
  | 75 => ⟨S128x1280, .f32⟩
  | 76 => ⟨S8064x1280, .f32⟩
  | 77 => ⟨S8192x1280, .f32⟩
  | 78 => ⟨S_, .f32⟩
  | 79 => ⟨S128x1280, .f32⟩
  | 80 => ⟨S8064x1280, .f32⟩
  | 81 => ⟨S8192x1280, .f32⟩
  | 82 => ⟨S8192x1280, .f32⟩
  | 83 => ⟨S8192x1280, .f32⟩
  | 84 => ⟨S8192x1280, .f32⟩
  | 85 => ⟨S_, .f32⟩
  | 86 => ⟨S256x1280, .f32⟩
  | 87 => ⟨S7936x1280, .f32⟩
  | 88 => ⟨S8192x1280, .f32⟩
  | 89 => ⟨S_, .f32⟩
  | 90 => ⟨S256x1280, .f32⟩
  | 91 => ⟨S7936x1280, .f32⟩
  | 92 => ⟨S8192x1280, .f32⟩
  | 93 => ⟨S8192x1280, .f32⟩
  | 94 => ⟨S8192x1280, .f32⟩
  | 95 => ⟨S8192x1280, .f32⟩
  | 96 => ⟨S_, .f32⟩
  | 97 => ⟨S512x1280, .f32⟩
  | 98 => ⟨S7680x1280, .f32⟩
  | 99 => ⟨S8192x1280, .f32⟩
  | 100 => ⟨S_, .f32⟩
  | 101 => ⟨S512x1280, .f32⟩
  | 102 => ⟨S7680x1280, .f32⟩
  | 103 => ⟨S8192x1280, .f32⟩
  | 104 => ⟨S8192x1280, .f32⟩
  | 105 => ⟨S8192x1280, .f32⟩
  | 106 => ⟨S8192x1280, .f32⟩
  | 107 => ⟨S_, .f32⟩
  | 108 => ⟨S1024x1280, .f32⟩
  | 109 => ⟨S7168x1280, .f32⟩
  | 110 => ⟨S8192x1280, .f32⟩
  | 111 => ⟨S_, .f32⟩
  | 112 => ⟨S1024x1280, .f32⟩
  | 113 => ⟨S7168x1280, .f32⟩
  | 114 => ⟨S8192x1280, .f32⟩
  | 115 => ⟨S8192x1280, .f32⟩
  | 116 => ⟨S8192x1280, .f32⟩
  | 117 => ⟨S8192x1280, .f32⟩
  | 118 => ⟨S_, .f32⟩
  | 119 => ⟨S2048x1280, .f32⟩
  | 120 => ⟨S6144x1280, .f32⟩
  | 121 => ⟨S8192x1280, .f32⟩
  | 122 => ⟨S_, .f32⟩
  | 123 => ⟨S2048x1280, .f32⟩
  | 124 => ⟨S6144x1280, .f32⟩
  | 125 => ⟨S8192x1280, .f32⟩
  | 126 => ⟨S8192x1280, .f32⟩
  | 127 => ⟨S8192x1280, .f32⟩
  | _ => ⟨S8192x2560, .f32⟩

abbrev hbmTy0_2 (i : Nat) : BufTy := match i % 128 with
  | 0 => ⟨S8192x1280, .f32⟩
  | 1 => ⟨S_, .f32⟩
  | 2 => ⟨S4096x1280, .f32⟩
  | 3 => ⟨S4096x1280, .f32⟩
  | 4 => ⟨S8192x1280, .f32⟩
  | 5 => ⟨S_, .f32⟩
  | 6 => ⟨S4096x1280, .f32⟩
  | 7 => ⟨S4096x1280, .f32⟩
  | 8 => ⟨S8192x1280, .f32⟩
  | 9 => ⟨S8192x1280, .f32⟩
  | 10 => ⟨S8192x1280, .f32⟩
  | 11 => ⟨S8192x1280, .f32⟩
  | 12 => ⟨S8192x1280, .f32⟩
  | 13 => ⟨S8192x1280, .bf16⟩
  | _ => ⟨S8192x2560, .f32⟩

abbrev hbmTy (i : Nat) : BufTy := match i / 128 with
  | 0 => hbmTy0_0 i
  | 1 => hbmTy0_1 i
  | 2 => hbmTy0_2 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_11 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_12 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_13 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_14 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_15 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_16 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_17 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_18 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_19 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_20 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_21 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_22 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_23 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_24 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_25 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_26 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_27 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_28 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_29 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_30 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_31 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_32 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_33 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_34 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_35 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_cst_36 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_37 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩

abbrev nD : Nat := 1
abbrev τ : Topo := Topo.v7x

variable {F : FTy → Type} [FloatOps F]
-- ==== ConvBwd.lean ====
abbrev S8192x3072 : Shape := ⟨2, ![8192, 3072]⟩
abbrev S3x1024 : Shape := ⟨2, ![3, 1024]⟩
abbrev S8192x1024 : Shape := ⟨2, ![8192, 1024]⟩
abbrev S8x1024 : Shape := ⟨2, ![8, 1024]⟩
abbrev S256x3072 : Shape := ⟨2, ![256, 3072]⟩
abbrev S8x3072 : Shape := ⟨2, ![8, 3072]⟩
abbrev S256x1024 : Shape := ⟨2, ![256, 1024]⟩
abbrev S264x1024 : Shape := ⟨2, ![264, 1024]⟩
abbrev S1x512 : Shape := ⟨2, ![1, 512]⟩
abbrev S16x512 : Shape := ⟨2, ![16, 512]⟩
abbrev S512 : Shape := ⟨1, ![512]⟩

abbrev nBuf : Space → Nat
  | .hbm => 5
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x3072, .bf16⟩
  | .hbm, ⟨4, _⟩ => ⟨S8x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S264x1024, .f32⟩
  | .local _ .vmem, ⟨15, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdRefIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S8194x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S8194x1024, .f32⟩
  | .hbm, ⟨61, _⟩ => ⟨S8194x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S8194x1024, .f32⟩
  | .hbm, ⟨76, _⟩ => ⟨S8194x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x3072, .f32⟩
  | .hbm, ⟨86, _⟩ => ⟨S8192x3072, .bf16⟩
  | .hbm, ⟨87, _⟩ => ⟨S_, .f32⟩
  | .hbm, ⟨88, _⟩ => ⟨S5x1024, .f32⟩
  | .hbm, ⟨89, _⟩ => ⟨S8x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S8192x3072 : Shape := ⟨2, ![8192, 3072]⟩
abbrev S3x1024 : Shape := ⟨2, ![3, 1024]⟩
abbrev S8192x1024 : Shape := ⟨2, ![8192, 1024]⟩
abbrev S256x3072 : Shape := ⟨2, ![256, 3072]⟩
abbrev S8x3072 : Shape := ⟨2, ![8, 3072]⟩
abbrev S256x1024 : Shape := ⟨2, ![256, 1024]⟩
abbrev S264x1024 : Shape := ⟨2, ![264, 1024]⟩
abbrev S8x1024 : Shape := ⟨2, ![8, 1024]⟩
abbrev S1x1024 : Shape := ⟨2, ![1, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .bf16⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | .local _ .vmem, ⟨7, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== MlpUp.lean ====
abbrev S8192x1024 : Shape := ⟨2, ![8192, 1024]⟩
abbrev S1x1024x4096 : Shape := ⟨3, ![1, 1024, 4096]⟩
abbrev S8192x4096 : Shape := ⟨2, ![8192, 4096]⟩
abbrev S256x1024 : Shape := ⟨2, ![256, 1024]⟩
abbrev S256x4096 : Shape := ⟨2, ![256, 4096]⟩
abbrev S1024x4096 : Shape := ⟨2, ![1024, 4096]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024x4096, .f32⟩
  | .hbm, ⟨2, _⟩ => ⟨S8192x1024, .bf16⟩
  | .hbm, ⟨3, _⟩ => ⟨S1x1024x4096, .bf16⟩
  | .hbm, ⟨4, _⟩ => ⟨S8192x4096, .bf16⟩
  | .hbm, ⟨5, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x4096, .f32⟩
  | .hbm, ⟨2, _⟩ => ⟨S1024x4096, .f32⟩
  | .hbm, ⟨3, _⟩ => ⟨S8192x4096, .f32⟩
  | .hbm, ⟨4, _⟩ => ⟨S8192x4096, .bf16⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpOut.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S4096x1024 : Shape := ⟨2, ![4096, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S1024, .f32⟩
  | .hbm, ⟨4, _⟩ => ⟨S8192x4096, .bf16⟩
  | .hbm, ⟨5, _⟩ => ⟨S1x4096x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpOutRefIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S1024, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InProj.lean ====
abbrev S8192x1024 : Shape := ⟨2, ![8192, 1024]⟩
abbrev S1x1024x3072 : Shape := ⟨3, ![1, 1024, 3072]⟩
abbrev S8192x3072 : Shape := ⟨2, ![8192, 3072]⟩
abbrev S256x1024 : Shape := ⟨2, ![256, 1024]⟩
abbrev S256x3072 : Shape := ⟨2, ![256, 3072]⟩
abbrev S1024x3072 : Shape := ⟨2, ![1024, 3072]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x3072, .f32⟩
  | .hbm, ⟨2, _⟩ => ⟨S8192x1024, .bf16⟩
  | .hbm, ⟨3, _⟩ => ⟨S1x1024x3072, .bf16⟩
  | .hbm, ⟨4, _⟩ => ⟨S8192x3072, .f32⟩
  | .local _ .vmem, ⟨0, _⟩ => ⟨S256x1024, .bf16⟩
  | .local _ .vmem, ⟨1, _⟩ => ⟨S256x1024, .bf16⟩
  | .local _ .vmem, ⟨2, _⟩ => ⟨S1x1024x3072, .bf16⟩
  | .local _ .vmem, ⟨3, _⟩ => ⟨S256x3072, .f32⟩
  | .local _ .vmem, ⟨4, _⟩ => ⟨S256x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x1024 : Shape := ⟨2, ![8192, 1024]⟩
abbrev S1x1024x3072 : Shape := ⟨3, ![1, 1024, 3072]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x3072, .f32⟩
  | .hbm, ⟨2, _⟩ => ⟨S1024x3072, .f32⟩
  | .hbm, ⟨3, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutBwd.lean ====
abbrev S8192x1024 : Shape := ⟨2, ![8192, 1024]⟩
abbrev S1x1280x1024 : Shape := ⟨3, ![1, 1280, 1024]⟩
abbrev S8192x1280 : Shape := ⟨2, ![8192, 1280]⟩
abbrev S1024x1024 : Shape := ⟨2, ![1024, 1024]⟩
abbrev S1024x1280 : Shape := ⟨2, ![1024, 1280]⟩
abbrev S1280x1024 : Shape := ⟨2, ![1280, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1280x1024, .f32⟩
  | .hbm, ⟨2, _⟩ => ⟨S8192x1024, .bf16⟩
  | .hbm, ⟨3, _⟩ => ⟨S1x1280x1024, .bf16⟩
  | .hbm, ⟨4, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1x1280x1024, .bf16⟩
  | .local _ .vmem, ⟨3, _⟩ => ⟨S1024x1280, .f32⟩
  | .local _ .vmem, ⟨4, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S8192x1024 : Shape := ⟨2, ![8192, 1024]⟩
abbrev S1x1280x1024 : Shape := ⟨3, ![1, 1280, 1024]⟩
abbrev S_ : Shape := ⟨0, ![]⟩
abbrev S8192x1280 : Shape := ⟨2, ![8192, 1280]⟩
abbrev S1280x1024 : Shape := ⟨2, ![1280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1280x1024, .f32⟩
  | .hbm, ⟨2, _⟩ => ⟨S_, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WGrad.lean ====
abbrev S8192x1024 : Shape := ⟨2, ![8192, 1024]⟩
abbrev S8192x4096 : Shape := ⟨2, ![8192, 4096]⟩
abbrev S1x1024x4096 : Shape := ⟨3, ![1, 1024, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1x1024x4096, .f32⟩
  | .hbm, ⟨5, _⟩ => ⟨S1x1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WGradRefIdeal.lean ====
abbrev S8192x1024 : Shape := ⟨2, ![8192, 1024]⟩
abbrev S8192x4096 : Shape := ⟨2, ![8192, 4096]⟩
abbrev S_ : Shape := ⟨0, ![]⟩
abbrev S1x1024x4096 : Shape := ⟨3, ![1, 1024, 4096]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1x1024x4096, .f32⟩
  | .hbm, ⟨4, _⟩ => ⟨S1024x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S1x1024x4096, .f32⟩
  | .hbm, ⟨9, _⟩ => ⟨S1x1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIdeal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== AdamRefIdeal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== FinalSum.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S1x512x1024 : Shape := ⟨3, ![1, 512, 1024]⟩
abbrev S1 : Shape := ⟨1, ![1]⟩
abbrev S1x1x512x1024 : Shape := ⟨4, ![1, 1, 512, 1024]⟩
abbrev S512x1024 : Shape := ⟨2, ![512, 1024]⟩

abbrev nBuf : Space → Nat
  | .hbm => 4
  | .vmem => 3
  | .smem => 1
  | _ => 0

abbrev bufTy : (tb : Table) → Fin (tcTables nBuf tb) → BufTy
  | .hbm, ⟨0, _⟩ => ⟨S1x1024x4096, .f32⟩
  | .hbm, ⟨1, _⟩ => ⟨S7x512x1024, .bf16⟩
  | .hbm, ⟨2, _⟩ => ⟨S4x2x512x1024, .f32⟩
  | .hbm, ⟨3, _⟩ => ⟨S4x2x512x1024, .f32⟩
  | .local _ .vmem, ⟨0, _⟩ => ⟨S1x512x1024, .f32⟩
  | .local _ .vmem, ⟨1, _⟩ => ⟨S7x512x1024, .bf16⟩
  | .local _ .vmem, ⟨2, _⟩ => ⟨S1x1x512x1024, .f32⟩
  | .local _ .smem, ⟨0, _⟩ => ⟨S2, .i32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0 : Index := 0#32
  let v3 : BitVec 32 := pf.at 0 (Rect.unit (s := S2) ![0] S1.size inb_S2_S1_0) numel1_S1
  let c1_i32_0 : BitVec 32 := 1#32
  let v4 : BitVec 32 := Scalar.muli v3 c1_i32_0
  let v5 : BitVec 32 := Scalar.addi v4 arg1
  let c0_i32 : BitVec 32 := 0#32
  let c0_i32_1 : BitVec 32 := 0#32
  ![c0_i32.toNat, v2.toNat, v5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![c0_i32.toNat, v0.toNat, arg0.toNat, arg1.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S7x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== FinalSumRefIdeal.lean ====
abbrev S1x1024x4096 : Shape := ⟨3, ![1, 1024, 4096]⟩
abbrev S7x512x1024 : Shape := ⟨3, ![7, 512, 1024]⟩
abbrev S4x2x512x1024 : Shape := ⟨4, ![4, 2, 512, 1024]⟩
abbrev S2 : Shape := ⟨1, ![2]⟩
abbrev S2x512x4x1024 : Shape := ⟨4, ![2, 512, 4, 1024]⟩
abbrev S2x1x1x1 : Shape := ⟨4, ![2, 1, 1, 1]⟩
abbrev S1 : Shape := ⟨1, ![1]⟩
abbrev S_ : Shape := ⟨0, ![]⟩
abbrev S4 : Shape := ⟨1, ![4]⟩
abbrev S1x1x4x1 : Shape := ⟨4, ![1, 1, 4, 1]⟩
abbrev S2x1x4x1 : Shape := ⟨4, ![2, 1, 4, 1]⟩
abbrev S2x512x1024 : Shape := ⟨3, ![2, 512, 1024]⟩
abbrev S512x1024 : Shape := ⟨2, ![512, 1024]⟩
abbrev S4x1x1x1 : Shape := ⟨4, ![4, 1, 1, 1]⟩
abbrev S1x2x1x1 : Shape := ⟨4, ![1, 2, 1, 1]⟩
abbrev S4x2x1x1 : Shape := ⟨4, ![4, 2, 1, 1]⟩
abbrev S1x1x512x1024 : Shape := ⟨4, ![1, 1, 512, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S7x512x1024, .bf16⟩
  | .hbm, ⟨2, _⟩ => ⟨S4x2x512x1024, .f32⟩
  | .hbm, ⟨3, _⟩ => ⟨S2, .i32⟩
  | .hbm, ⟨4, _⟩ => ⟨S2x512x4x1024, .f32⟩
  | .hbm, ⟨5, _⟩ => ⟨S2, .i32⟩
  | .hbm, ⟨6, _⟩ => ⟨S2x1x1x1, .i32⟩
  | .hbm, ⟨7, _⟩ => ⟨S1, .i32⟩
  | .hbm, ⟨8, _⟩ => ⟨S_, .i32⟩
  | .hbm, ⟨9, _⟩ => ⟨S2x1x1x1, .i32⟩
  | .hbm, ⟨10, _⟩ => ⟨S2x1x1x1, .i1⟩
  | .hbm, ⟨11, _⟩ => ⟨S4, .i32⟩
  | .hbm, ⟨12, _⟩ => ⟨S1x1x4x1, .i32⟩
  | .hbm, ⟨13, _⟩ => ⟨S1, .i32⟩
  | .hbm, ⟨14, _⟩ => ⟨S_, .i32⟩
  | .hbm, ⟨15, _⟩ => ⟨S1x1x4x1, .i32⟩
  | .hbm, ⟨16, _⟩ => ⟨S1x1x4x1, .i1⟩
  | .hbm, ⟨17, _⟩ => ⟨S2x1x4x1, .i1⟩
  | .hbm, ⟨18, _⟩ => ⟨S2x1x4x1, .i1⟩
  | .hbm, ⟨19, _⟩ => ⟨S2x1x4x1, .i1⟩
  | .hbm, ⟨20, _⟩ => ⟨S_, .f32⟩
  | .hbm, ⟨21, _⟩ => ⟨S_, .f32⟩
  | .hbm, ⟨22, _⟩ => ⟨S2x512x4x1024, .i1⟩
  | .hbm, ⟨23, _⟩ => ⟨S2x512x4x1024, .f32⟩
  | .hbm, ⟨24, _⟩ => ⟨S2x512x4x1024, .f32⟩
  | .hbm, ⟨25, _⟩ => ⟨S_, .f32⟩
  | .hbm, ⟨26, _⟩ => ⟨S2x512x1024, .f32⟩
  | .hbm, ⟨27, _⟩ => ⟨S_, .f32⟩
  | .hbm, ⟨28, _⟩ => ⟨S512x1024, .f32⟩
  | .hbm, ⟨29, _⟩ => ⟨S4, .i32⟩
  | .hbm, ⟨30, _⟩ => ⟨S4x1x1x1, .i32⟩
  | .hbm, ⟨31, _⟩ => ⟨S_, .i32⟩
  | .hbm, ⟨32, _⟩ => ⟨S4x1x1x1, .i32⟩
  | .hbm, ⟨33, _⟩ => ⟨S4x1x1x1, .i1⟩
  | .hbm, ⟨34, _⟩ => ⟨S2, .i32⟩
  | .hbm, ⟨35, _⟩ => ⟨S1x2x1x1, .i32⟩
  | .hbm, ⟨36, _⟩ => ⟨S1, .i32⟩
  | .hbm, ⟨37, _⟩ => ⟨S_, .i32⟩
  | .hbm, ⟨38, _⟩ => ⟨S1x2x1x1, .i32⟩
  | .hbm, ⟨39, _⟩ => ⟨S1x2x1x1, .i1⟩
  | .hbm, ⟨40, _⟩ => ⟨S4x2x1x1, .i1⟩
  | .hbm, ⟨41, _⟩ => ⟨S4x2x1x1, .i1⟩
  | .hbm, ⟨42, _⟩ => ⟨S4x2x1x1, .i1⟩
  | .hbm, ⟨43, _⟩ => ⟨S1x1x512x1024, .f32⟩
  | .hbm, ⟨44, _⟩ => ⟨S7x512x1024, .f32⟩
  | .hbm, ⟨45, _⟩ => ⟨S_, .f32⟩
  | .hbm, ⟨46, _⟩ => ⟨S512x1024, .f32⟩
  | .hbm, ⟨47, _⟩ => ⟨S1x1x512x1024, .f32⟩
  | .hbm, ⟨48, _⟩ => ⟨S1x1x512x1024, .f32⟩
  | .hbm, ⟨49, _⟩ => ⟨S4x2x512x1024, .i1⟩
  | .hbm, ⟨50, _⟩ => ⟨S4x2x512x1024, .f32⟩
  | .hbm, ⟨51, _⟩ => ⟨S4x2x512x1024, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== MlpLast.lean ====
abbrev S8192x4096 : Shape := ⟨2, ![8192, 4096]⟩
abbrev S1x4096x1024 : Shape := ⟨3, ![1, 4096, 1024]⟩
abbrev S8192x1024 : Shape := ⟨2, ![8192, 1024]⟩
abbrev S512x4096 : Shape := ⟨2, ![512, 4096]⟩
abbrev S512x1024 : Shape := ⟨2, ![512, 1024]⟩
abbrev S4096x1024 : Shape := ⟨2, ![4096, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S8192x4096, .bf16⟩
  | .hbm, ⟨4, _⟩ => ⟨S1x4096x1024, .bf16⟩
  | .hbm, ⟨5, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpLastRefIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S4096x1024, .f32⟩
  | .hbm, ⟨4, _⟩ => ⟨S8192x1024, .f32⟩
  | .hbm, ⟨5, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.MlpDownValue.lean ====
/- The value of the gradient through the squared rectifier of the MLP (`MlpDown`): what the kernel writes and what the
   reference computes are both `(dy · w₂ᵀ) · 2 max(act, 0)`, element by element. -/
module

public import proofs.«01_k».proof.Defs
public import proofs.«01_k».proof.Proof.Gen.MlpDown.Frame
public import proofs.«01_k».proof.Proof.Gen.MlpDownIdeal.Value
public import proofs.«01_k».proof.Proof.Gen.MlpDownRefIdeal.Run
public import proofs.«01_k».proof.Proof.Gen.MlpDownRefIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpDownIdeal.Outcome

open Cert.MlpDownIdeal Cert.MlpDownIdeal.Gen

variable (m : (ℓ : Loc nD τ sig) → Buf (Elt Ideal) ℓ) (ρ : Dev nD → PrngReg)

/-- The gradient with respect to the activations, of the three arguments. -/
def grad (act : S8192x4096.Idx → EReal) (w : S1x4096x1024.Idx → EReal) (dy : S8192x1024.Idx → EReal) : S8192x4096.Idx → EReal :=
  fun i => (∑ k : Fin 1024, dy (ix2 (i 0) k) * w (ix3 0 (i 1) k)) * (Ideal.ofBits .f32 0x40000000#32 * max (act i) 0)

/-- One tile: the payload of the body read at an index. -/
theorem pay_apply (x0 : Vec Ideal S256x1024 .bf16) (x1 : Vec Ideal S1x4096x1024 .bf16) (x2 : Vec Ideal S256x4096 .bf16) (r : Fin 256) (l : Fin 4096) :
    k0_pay1 (F := Ideal) x0 x1 x2 (ix2 r l)
      = (∑ k : Fin 1024, x0 (ix2 r k) * x1 (ix3 0 l k)) * (Ideal.ofBits .f32 0x40000000#32 * max (x2 (ix2 r l)) 0) := by
  pointwise [k0_pay1]

/-- The host's casts before the call keep every element. -/
theorem V_v0 (c : Dev nD) (i : S8192x1024.Idx) : (V m c main_v0 : S8192x1024.Idx → EReal) i = m ((c : Thread nD τ).loc main_arg2) i := by
  have : @Eq (S8192x1024.Idx → EReal) (V m c main_v0) (truncf (F := Ideal) (s := S8192x1024) (φ := .f32) .bf16 (m ((c : Thread nD τ).loc main_arg2)) bitsLt_bf16_f32) := by
    simp only [V, hostOps0]; after_results
  rw [this]; rfl
theorem V_v1 (c : Dev nD) (i : S1x4096x1024.Idx) : (V m c main_v1 : S1x4096x1024.Idx → EReal) i = m ((c : Thread nD τ).loc main_arg1) i := by
  have : @Eq (S1x4096x1024.Idx → EReal) (V m c main_v1) (truncf (F := Ideal) (s := S1x4096x1024) (φ := .f32) .bf16 (m ((c : Thread nD τ).loc main_arg1)) bitsLt_bf16_f32) := by
    simp only [V, hostOps0]; after_results
  rw [this]; rfl
theorem V_v2 (c : Dev nD) (i : S8192x4096.Idx) : (V m c main_v2 : S8192x4096.Idx → EReal) i = m ((c : Thread nD τ).loc main_arg0) i := by
  have : @Eq (S8192x4096.Idx → EReal) (V m c main_v2) (truncf (F := Ideal) (s := S8192x4096) (φ := .f32) .bf16 (m ((c : Thread nD τ).loc main_arg0)) bitsLt_bf16_f32) := by
    simp only [V, hostOps0]; after_results
  rw [this]; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Which rows of its array each window is at, at point `t`. -/
theorem index_facts : ∀ t : Fin cfg0.N, win0_0.index t 0 = t.val ∧ win0_0.index t 1 = 0
    ∧ (win0_1.index t 0 = 0 ∧ win0_1.index t 1 = 0 ∧ win0_1.index t 2 = 0)
    ∧ (win0_2.index t 0 = t.val ∧ win0_2.index t 1 = 0) ∧ win0_3.index t 0 = t.val ∧ win0_3.index t 1 = 0 :=
  (by decide +kernel : ∀ t : Fin grid0.N, win0_0.index t 0 = t.val ∧ win0_0.index t 1 = 0
    ∧ (win0_1.index t 0 = 0 ∧ win0_1.index t 1 = 0 ∧ win0_1.index t 2 = 0)
    ∧ (win0_2.index t 0 = t.val ∧ win0_2.index t 1 = 0) ∧ win0_3.index t 0 = t.val ∧ win0_3.index t 1 = 0)

theorem row_lt (t : Fin cfg0.N) (r : Fin 256) : t.val * 256 + r.val < 8192 := by
  have := t.isLt; have hN : cfg0.N = 32 := N_0; omega

/-- The blocks the body loads, in terms of the arguments. -/
theorem iblk0_apply (c : Dev nD) (t : Fin cfg0.N) (r : Fin 256) (k : Fin 1024) :
    (iblk m c 0 t : Vec Ideal S256x1024 .bf16) (ix2 r k) = m ((c : Thread nD τ).loc main_arg2) (ix2 ⟨t.val * 256 + r.val, row_lt t r⟩ k) := by
  have hi := index_facts t
  unfold iblk
  rw [View.read_apply]
  show (V m c main_v0 : S8192x1024.Idx → EReal) _ = _
  rw [V_v0]
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2.1]; omega
theorem iblk1_apply (c : Dev nD) (t : Fin cfg0.N) (l : Fin 4096) (k : Fin 1024) :
    (iblk m c 1 t : Vec Ideal S1x4096x1024 .bf16) (ix3 0 l k) = m ((c : Thread nD τ).loc main_arg1) (ix3 0 l k) := by
  have hi := (index_facts t).2.2.1
  unfold iblk
  rw [View.read_apply]
  show (V m c main_v1 : S1x4096x1024.Idx → EReal) _ = _
  rw [V_v1]
  congr 1
  funext a
  apply Fin.ext
  match a with
  | ⟨0, _⟩ => show win0_1.index t 0 * 1 + 1 * 0 = 0; rw [hi.1]
  | ⟨1, _⟩ => show win0_1.index t 1 * 4096 + 1 * l.val = l.val; rw [hi.2.1]; omega
  | ⟨2, _⟩ => show win0_1.index t 2 * 1024 + 1 * k.val = k.val; rw [hi.2.2]; omega
theorem iblk2_apply (c : Dev nD) (t : Fin cfg0.N) (r : Fin 256) (l : Fin 4096) :
    (iblk m c 2 t : Vec Ideal S256x4096 .bf16) (ix2 r l) = m ((c : Thread nD τ).loc main_arg0) (ix2 ⟨t.val * 256 + r.val, row_lt t r⟩ l) := by
  have hi := (index_facts t).2.2.2.1
  unfold iblk
  rw [View.read_apply]
  show (V m c main_v2 : S8192x4096.Idx → EReal) _ = _
  rw [V_v2]
  congr 1
  funext a
  apply Fin.ext
  match a with
  | ⟨0, _⟩ => show win0_2.index t 0 * 256 + 1 * r.val = t.val * 256 + r.val; rw [hi.1]; omega
  | ⟨1, _⟩ => show win0_2.index t 1 * 4096 + 1 * l.val = l.val; rw [hi.2]; omega

/-- What the result array is shown to hold on device `c`. -/
abbrev result (c : Dev nD) : Buf (Elt Ideal) ((c : Thread nD τ).loc main_v3) :=
  grad (m ((c : Thread nD τ).loc main_arg0)) (m ((c : Thread nD τ).loc main_arg1)) (m ((c : Thread nD τ).loc main_arg2))

/-- What point `t` writes back is its 256 rows of the gradient. -/
theorem flushed_eq (c : Dev nD) (t : Fin cfg0.N) :
    (dats m 0 c).flushed 3 t = (win0_3.blk t).view.read (Elt Ideal) (result m c) := by
  have hi := (index_facts t).2.2.2.2
  rw [Value.flushed3]
  unfold out0_3
  rw [View.canon_unit_zero hz2, View.ld_unit_zero hz2, View.ld_unit_zero hz3, View.ld_unit_zero hz2]
  show (k0_pay1 (F := Ideal) (iblk m c 0 t) (iblk m c 1 t) (iblk m c 2 t) : S256x4096.Idx → EReal) = _
  funext j
  obtain ⟨r, l, rfl⟩ : ∃ (r : Fin 256) (l : Fin 4096), j = ix2 r l := ⟨j 0, j 1, eq_ix2 j⟩
  rw [View.read_apply, pay_apply]
  simp only [iblk0_apply, iblk1_apply, iblk2_apply]
  show grad _ _ _ (ix2 ⟨t.val * 256 + r.val, row_lt t r⟩ l) = grad _ _ _ _
  congr 1
  funext a
  apply Fin.ext
  match a with
  | ⟨0, _⟩ => show t.val * 256 + r.val = win0_3.index t 0 * 256 + 1 * r.val; rw [hi.1]; omega
  | ⟨1, _⟩ => show l.val = win0_3.index t 1 * 4096 + 1 * l.val; rw [hi.2]; omega

/-- Every element of the result lies in the block of the point its row belongs to. -/
theorem cover (i : S8192x4096.Idx) : ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 32 := N_0
  let t : Fin cfg0.N := ⟨(i 0 : Nat) / 256, by omega⟩
  have ht : t.val = (i 0 : Nat) / 256 := rfl
  have hi := (index_facts t).2.2.2.2
  have hs : win0_3.xsize (grid0.coords t) 0 = 256 ∧ win0_3.xsize (grid0.coords t) 1 = 4096 :=
    (by decide +kernel : ∀ t : Fin grid0.N, win0_3.xsize (grid0.coords t) 0 = 256 ∧ win0_3.xsize (grid0.coords t) 1 = 4096) t
  refine ⟨t, flush0_3 _, ?_⟩
  show i ∈ ((View.whole main_v3).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + win0_3.xsize (grid0.coords t) 0
              rw [hi.1, hs.1]; omega
  | ⟨1, _⟩ => show win0_3.index t 1 * 4096 ≤ (i 1 : Nat) ∧ (i 1 : Nat) < win0_3.index t 1 * 4096 + win0_3.xsize (grid0.coords t) 1
              rw [hi.2, hs.2]; omega

/-- So the result array ends holding the gradient, -/
theorem final_o (c : Dev nD) : (dats m 0 c).arrAt 3 cfg0.N = result m c :=
  (dats m 0 c).arrAt_eq_of_cover 3 (result m c) (fun t _ => flushed_eq m c t) cover

/-- and the run, read. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Value.run_blocks m ρ)

end Cert.MlpDownIdeal.Outcome

namespace Cert.MlpDownRefIdeal.Outcome

open Cert.MlpDownRefIdeal Cert.MlpDownRefIdeal.Read

/-- The reference's gradient is the same function: where `act` is not positive both are zero. -/
theorem val_eq (x0 : S8192x4096.Idx → EReal) (x1 : S1x4096x1024.Idx → EReal) (x2 : S8192x1024.Idx → EReal) :
    (val_main_v13 (F := Ideal) x0 x1 x2 : S8192x4096.Idx → EReal) = Cert.MlpDownIdeal.Outcome.grad x0 x1 x2 := by
  funext i
  have e9 : (val_main_v9 (F := Ideal) x1 x2 i : EReal) = ∑ k : Fin 1024, x2 (ix2 (i 0) k) * x1 (ix3 0 (i 1) k) := by
    rw [val_main_v9_apply]
    refine Finset.sum_congr rfl fun k _ => ?_
    rw [val_main_v7_apply]
    have h1 : lidx_main_v9 i k = ix2 (i 0) k := by funext a; fin_cases a <;> rfl
    have h2 : idx_main_v7 (ridx_main_v9 i k) = ix3 0 (i 1) k := by
      have hk := k.isLt
      have hl : (i 1).val < 4096 := (i 1).isLt
      funext a; apply Fin.ext; fin_cases a
      · rfl
      · show _ = (i 1).val; dsimp only; omega
      · show _ = k.val; dsimp only; omega
    rw [h1, h2]; rfl
  simp only [val_main_v13_apply, val_main_v12_apply, val_main_v10_apply, val_main_v6_apply, val_main_v2_apply, val_main_v0_apply,
    val_main_v11_apply, val_main_v5_apply, val_main_v1_apply, val_main_v3_apply, val_main_cst_apply, val_main_cst_0_apply, val_main_cst_1_apply, val_main_cst_2_apply, val_main_call0_v0_apply, val_main_call0_cst_apply, e9]
  show Scalar.select (Ideal.cmp .ogt (x0 i) (Ideal.ofBits .f32 0#32)) (_ * (_ * max (x0 i) (Ideal.ofBits .f32 0#32))) (Ideal.ofBits .f32 0#32) = _ * (_ * max (x0 i) 0)
  rw [Ideal.ofBits_zero_f32]
  by_cases h : 0 < x0 i
  · simp [Scalar.select, Ideal.cmp, h]
  · simp [Scalar.select, Ideal.cmp, h, max_eq_right (not_lt.mp h)]

end Cert.MlpDownRefIdeal.Outcome

namespace Cert.Proof.MlpDownClaims

/-- Every execution of the kernel as compiled terminates, keeps its arguments and leaves every semaphore at zero. -/
theorem frame_k : Cert.quiescent_MlpDown := fun m ρ _ => Cert.MlpDown.Gen.frame m ρ
/-- The same of the kernel read over the extended reals, -/
theorem frame_ki : Cert.quiescent_MlpDownIdeal := fun m ρ _ => Cert.MlpDownIdeal.Gen.frame m ρ
/-- and of the reference. -/
theorem frame_ri : Cert.quiescent_MlpDownRefIdeal := fun m ρ _ =>
  (θ_run Cert.MlpDownRefIdeal.defs _ _).mono
    (fun r h => ⟨fun c => ⟨(h c).2.1, (h c).2.2.1, (h c).2.2.2⟩, Idealize.ShloMosaic.sem_eq_zero_of_no_sems (by decide) r.2⟩)
    (Cert.MlpDownRefIdeal.Value.run (F := Ideal) m ρ)
/-- Reading the kernel over the extended reals rewrote nothing. -/
theorem preserves : Cert.preserves_MlpDown_MlpDownIdeal := trivial

/-- Over the extended reals the kernel's gradient is the reference's. -/
theorem algebraic : Cert.algebraic_MlpDownIdeal_MlpDownRefIdeal := fun m ρ m' ρ' _ hag =>
  ⟨fun c => Cert.MlpDownIdeal.Outcome.result m c, Cert.MlpDownIdeal.Outcome.run m ρ,
    (θ_run Cert.MlpDownRefIdeal.defs _ _).mono
      (fun _ h c => ⟨(h c).1.trans (by
        rw [Cert.MlpDownRefIdeal.Read.val_main_v13_eq, (hag c).1, (hag c).2.1, (hag c).2.2]
        exact Cert.MlpDownRefIdeal.Outcome.val_eq _ _ _), (h c).2⟩)
      (Cert.MlpDownRefIdeal.Value.run (F := Ideal) m' ρ')⟩

end Cert.Proof.MlpDownClaims

end
-- ==== Proof.Reals.lean ====
/- Extended reals that are real numbers: the operations of the kernels on them are the real operations. -/
module

public import Idealize.ShloMosaic.PureOps.Ideal
public import Idealize.ShloMosaic.PureOps.Ideal.Laws
public import Idealize.ShloMosaic.Lib.Pointwise

@[expose] public section

noncomputable section

namespace Cert.Reals

open Idealize.ShloMosaic

/-- An extended real whose absolute value is compared less than infinity is a real. -/
theorem real_of_cmp {x : EReal} (h : Ideal.cmp .olt (max x (-x)) (Ideal.ofBits .f32 0x7F800000#32) = 1#1) : ∃ r : ℝ, x = r := by
  have ht : (Ideal.ofBits .f32 0x7F800000#32 : EReal) = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

/-- A family of reals. -/
theorem reals_of {ι : Type} {x : ι → EReal} (h : ∀ i, ∃ r : ℝ, x i = r) : ∃ f : ι → ℝ, x = fun i => (f i : EReal) :=
  ⟨fun i => (h i).choose, funext fun i => (h i).choose_spec⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real {x y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr h.le), if_neg h.ne']

/-- The constants. -/
theorem c_1024 : (Ideal.ofBits .f32 0x44800000#32 : EReal) = ((1024 : ℝ) : EReal) := by
  simp [Ideal.ofBits, Ideal.ieee]; rw [← EReal.coe_mul]; norm_num
theorem c_neg_half : (Ideal.ofBits .f32 0xBF000000#32 : EReal) = ((-1 / 2 : ℝ) : EReal) := by
  simp [Ideal.ofBits, Ideal.ieee]; rw [← EReal.coe_mul]; norm_num
/-- The norms' small constant, a positive real. -/
def eps : ℝ := (2 ^ 23 + 407485 : ℕ) * (2 : ℝ) ^ (-43 : ℤ)
theorem c_eps : (Ideal.ofBits .f32 0x358637BD#32 : EReal) = (eps : EReal) := by
  simp [Ideal.ofBits, Ideal.ieee, eps]
theorem eps_pos : 0 < eps := by unfold eps; positivity

/-- The gradient of a root-mean-square norm along one row `X` at the cotangent `C`: what differentiating the reciprocal
    root gives, and the form with one mean. -/
theorem norm_grad {ι : Type} [Fintype ι] (X C : ι → ℝ) {n e : ℝ} (hn : 0 < n) (he : 0 < e) (l : ι) {N E H : EReal} (hN : N = n) (hE : E = e)
    (hH : H = ((-1 / 2 : ℝ) : EReal)) {q v : EReal} (hv : v = Ideal.div (∑ k, (X k : EReal) * X k) N + E) (hq : q = Ideal.rsqrt v) :
    (C l : EReal) * q + (X l : EReal) * Ideal.div ((∑ k, (X k : EReal) * C k) * (H * Ideal.div q v)) N
        + Ideal.div ((∑ k, (X k : EReal) * C k) * (H * Ideal.div q v)) N * X l
      = q * (C l - X l * q * Ideal.div (∑ k, (C k : EReal) * (X k * q)) N) := by
  obtain ⟨V, hV⟩ : ∃ V : ℝ, V = (∑ k, X k * X k) / n + e := ⟨_, rfl⟩
  have hVpos : 0 < V := by
    rw [hV]; exact add_pos_of_nonneg_of_pos (div_nonneg (Finset.sum_nonneg fun k _ => mul_self_nonneg _) hn.le) he
  have ev : v = V := by
    rw [hv, hN, hE]; simp only [← EReal.coe_mul, coe_sum]; rw [div_real hn.ne', ← EReal.coe_add, hV]
  obtain ⟨Q, hQ⟩ : ∃ Q : ℝ, Q = (Real.sqrt V)⁻¹ := ⟨_, rfl⟩
  have eq : q = Q := by rw [hq, ev, rsqrt_real hVpos, hQ]
  have hQV : Q * Q * V = 1 := by
    have hs := Real.mul_self_sqrt hVpos.le
    have h0 : Real.sqrt V ≠ 0 := (Real.sqrt_pos.mpr hVpos).ne'
    rw [hQ]; nth_rewrite 3 [← hs]; field_simp
  rw [eq, ev, hN, hH]
  simp only [← EReal.coe_mul, coe_sum, div_real hVpos.ne', div_real hn.ne', ← EReal.coe_add, ← EReal.coe_sub]
  congr 1
  have e1 : ∑ k, C k * (X k * Q) = (∑ k, X k * C k) * Q := by
    rw [Finset.sum_mul]; exact Finset.sum_congr rfl fun k _ => by ring
  rw [e1]
  have e2 : Q / V = Q * Q * Q := by rw [div_eq_iff hVpos.ne']; linear_combination (-Q) * hQV
  rw [e2]
  ring

end Cert.Reals

end
-- ==== Proof.NormBwdValue.lean ====
/- The value of the gradient through the norm before the MLP (`NormBwd`), fused with the product `dy · wᵀ`. -/
module

public import proofs.«01_k».proof.Defs
public import proofs.«01_k».proof.Proof.Reals
public import proofs.«01_k».proof.Proof.Gen.NormBwd.Frame
public import proofs.«01_k».proof.Proof.Gen.Pre_norm_bwd_finite
public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Lib.Pointwise
public import Idealize.ShloMosaic.Lib.Pipeline.Value
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormBwdIdeal.Outcome

open Cert.NormBwdIdeal Cert.NormBwdIdeal.Gen

variable (m : (ℓ : Loc nD τ sig) → Buf (Elt Ideal) ℓ) (ρ : Dev nD → PrngReg)

/-- The product, read at an index. -/
theorem pay4_apply (v3 : Vec Ideal S512x4096 .bf16) (v5 : Vec Ideal S1x1024x4096 .bf16) (r : Fin 512) (k : Fin 1024) :
    k0_pay4 (F := Ideal) v3 v5 (ix2 r k) = ∑ n : Fin 4096, v3 (ix2 r n) * v5 (ix3 0 k n) := by
  pointwise [k0_pay4]

/-- The reciprocal root of a row's mean square, -/
theorem pay5_apply (v8 : Vec Ideal S512x1024 .f32) (r : Fin 512) :
    k0_pay5 (F := Ideal) v8 (ix2 r 0) = Ideal.rsqrt (Ideal.div (∑ k : Fin 1024, v8 (ix2 r k) * v8 (ix2 r k)) (Ideal.ofBits .f32 0x44800000#32) + Ideal.ofBits .f32 0x358637BD#32) := by
  pointwise [k0_pay5]

theorem pay6_apply (v8 : Vec Ideal S512x1024 .f32) (r : Fin 512) (k : Fin 1024) :
    k0_pay6 (F := Ideal) v8 (ix2 r k) = v8 (ix2 r k) * k0_pay5 (F := Ideal) v8 (ix2 r 0) := by
  unfold k0_pay6
  pointwise

theorem pay7_apply (v3 : Vec Ideal S512x4096 .bf16) (v5 : Vec Ideal S1x1024x4096 .bf16) (v8 : Vec Ideal S512x1024 .f32) (v19 : Vec Ideal S1x1024 .f32) (v23 : Vec Ideal S512x1024 .f32) (r : Fin 512) (l : Fin 1024) :
    k0_pay7 (F := Ideal) v3 v5 v8 v19 v23 (ix2 r l) = v23 (ix2 r l) + k0_pay5 (F := Ideal) v8 (ix2 r 0) *
      (k0_pay4 (F := Ideal) v3 v5 (ix2 r l) * v19 (ix2 0 l) - k0_pay6 (F := Ideal) v8 (ix2 r l) *
        Ideal.div (∑ k : Fin 1024, k0_pay4 (F := Ideal) v3 v5 (ix2 r k) * v19 (ix2 0 k) * k0_pay6 (F := Ideal) v8 (ix2 r k)) (Ideal.ofBits .f32 0x44800000#32)) := by
  unfold k0_pay7
  generalize k0_pay4 (F := Ideal) v3 v5 = a
  generalize k0_pay5 (F := Ideal) v8 = b
  generalize k0_pay6 (F := Ideal) v8 = d
  pointwise

theorem pay2_apply (v7 v18 : FVec Ideal S512x1024 .f32) (v38 : Vec Ideal S1x1024 .f32) (l : Fin 1024) :
    k0_pay2 (F := Ideal) v7 v18 v38 (ix2 0 l) = v38 (ix2 0 l) + ∑ r : Fin 512, v7 (ix2 r l) * v18 (ix2 r l) := by
  pointwise [k0_pay2]

variable (c : Dev nD) (t : Fin cfg0.N)

theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

theorem row_lt (r : Fin 512) : t.val * 512 + r.val < 8192 := by
  have := t.isLt; have hN : cfg0.N = 16 := N_0; omega

/-- The blocks the body loads, in terms of the arguments. -/
theorem iblk0_apply (r : Fin 512) (k : Fin 4096) :
    (iblk m c 0 t : Vec Ideal S512x4096 .bf16) (ix2 r k) = m ((c : Thread nD τ).loc main_arg3) (ix2 ⟨t.val * 512 + r.val, row_lt t r⟩ k) := by
  blk_ext [iblk, V, idx0 t]
theorem iblk1_apply (k : Fin 1024) (n : Fin 4096) :
    (iblk m c 1 t : Vec Ideal S1x1024x4096 .bf16) (ix3 0 k n) = m ((c : Thread nD τ).loc main_arg2) (ix3 0 k n) := by
  blk_ext [iblk, V, idx1 t]
theorem iblk2_apply (r : Fin 512) (k : Fin 1024) :
    (iblk m c 2 t : Vec Ideal S512x1024 .f32) (ix2 r k) = m ((c : Thread nD τ).loc main_arg0) (ix2 ⟨t.val * 512 + r.val, row_lt t r⟩ k) := by
  blk_ext [iblk, V, idx2 t]
theorem iblk3_apply (k : Fin 1024) :
    (iblk m c 3 t : Vec Ideal S1x1024 .f32) (ix2 0 k) = m ((c : Thread nD τ).loc main_arg1) (ix1 k) := by
  have hV : @Eq (S1x1024.Idx → EReal) (V m c main_v2) (broadcastInDim S1x1024 ![1] bcast_S1024_S1x1024_1 (m ((c : Thread nD τ).loc main_arg1))) := by
    simp only [V, hostOps0]; after_results
  have he : (win0_3.blk t).view.emb (ix2 0 k) = ix2 0 k := by blk_ext [idx3 t]
  blk_simp [iblk]
  rw [he]
  refine (congrFun hV _).trans ?_
  pointwise
theorem iblk4_apply (r : Fin 512) (k : Fin 1024) :
    (iblk m c 4 t : Vec Ideal S512x1024 .f32) (ix2 r k) = m ((c : Thread nD τ).loc main_arg4) (ix2 ⟨t.val * 512 + r.val, row_lt t r⟩ k) := by
  blk_ext [iblk, V, idx4 t]

theorem after5 (r : Fin 512) (l : Fin 1024) : (outsAt0 m c t.val t.isLt).1 (ix2 r l) = k0_pay7 (F := Ideal) (iblk m c 0 t) (iblk m c 1 t) (iblk m c 2 t) (iblk m c 3 t) (iblk m c 4 t) (ix2 r l) := by
  by_cases h : t.val % 16 = 0
  · rw [outsAt0_A m c t h]
    frame_out
  · rw [outsAt0_B m c t h]
    frame_out
theorem after6 (r : Fin 512) (l : Fin 1024) : (outsAt0 m c t.val t.isLt).2.1 (ix2 r l) = k0_pay7 (F := Ideal) (iblk m c 0 t) (iblk m c 1 t) (iblk m c 2 t) (iblk m c 3 t) (iblk m c 4 t) (ix2 r l) := by
  by_cases h : t.val % 16 = 0
  · rw [outsAt0_A m c t h]
    frame_out
    rfl
  · rw [outsAt0_B m c t h]
    frame_out
    rfl

theorem after7 (l : Fin 1024) (h15 : t.val + 1 = 16) : (outsAt0 m c t.val t.isLt).2.2 (ix2 0 l) = 0 + ∑ p : Fin cfg0.N, ∑ r : Fin 512,
    k0_pay4 (F := Ideal) (iblk m c 0 p) (iblk m c 1 p) (ix2 r l) * k0_pay6 (F := Ideal) (iblk m c 2 p) (ix2 r l) := by
  refine Pipeline.eq_sum_fin_of_reset_step_apply_last (fun n h l => (outsAt0 m c n h).2.2 (ix2 0 l)) 16 (fun _ : Fin 1024 => (0 : EReal)) (fun p l => ∑ r : Fin 512,
    k0_pay4 (F := Ideal) (iblk m c 0 p) (iblk m c 1 p) (ix2 r l) * k0_pay6 (F := Ideal) (iblk m c 2 p) (ix2 r l)) ?_ ?_ (by decide) t ?_ l
  · intro t h l
    rw [outsAt0_A m c t h]
    frame_out
    rw [pay2_apply]
    congr 1
    exact Ideal.ofBits_zero_f32
  · intro t h l
    rw [outsAt0_B m c t h]
    frame_out
    rw [pay2_apply]
  · exact h15

/-- The pieces of the gradient, of the arguments: the product, the reciprocal root, -/
def dh (w : S1x1024x4096.Idx → EReal) (dy : S8192x4096.Idx → EReal) (r : Fin 8192) (k : Fin 1024) : EReal := ∑ n : Fin 4096, dy (ix2 r n) * w (ix3 0 k n)
def inv (x : S8192x1024.Idx → EReal) (r : Fin 8192) : EReal :=
  Ideal.rsqrt (Ideal.div (∑ k : Fin 1024, x (ix2 r k) * x (ix2 r k)) (Ideal.ofBits .f32 0x44800000#32) + Ideal.ofBits .f32 0x358637BD#32)
/-- the gradient of the input -/
def dx (x : S8192x1024.Idx → EReal) (g : S1024.Idx → EReal) (w : S1x1024x4096.Idx → EReal) (dy : S8192x4096.Idx → EReal) (dres : S8192x1024.Idx → EReal) : S8192x1024.Idx → EReal := fun i =>
  dres i + inv x (i 0) * (dh w dy (i 0) (i 1) * g (ix1 (i 1)) - x i * inv x (i 0) *
    Ideal.div (∑ k : Fin 1024, dh w dy (i 0) k * g (ix1 k) * (x (ix2 (i 0) k) * inv x (i 0))) (Ideal.ofBits .f32 0x44800000#32))
/-- and the gradient of the scale. -/
def dg (x : S8192x1024.Idx → EReal) (w : S1x1024x4096.Idx → EReal) (dy : S8192x4096.Idx → EReal) : S1x1024.Idx → EReal := fun i =>
  ∑ r : Fin 8192, dh w dy r (i 1) * (x (ix2 r (i 1)) * inv x r)

abbrev dxOf : S8192x1024.Idx → EReal :=
  dx (m ((c : Thread nD τ).loc main_arg0)) (m ((c : Thread nD τ).loc main_arg1)) (m ((c : Thread nD τ).loc main_arg2)) (m ((c : Thread nD τ).loc main_arg3)) (m ((c : Thread nD τ).loc main_arg4))
abbrev dgOf : S1x1024.Idx → EReal :=
  dg (m ((c : Thread nD τ).loc main_arg0)) (m ((c : Thread nD τ).loc main_arg2)) (m ((c : Thread nD τ).loc main_arg3))

theorem tile (r : Fin 512) (l : Fin 1024) : k0_pay7 (F := Ideal) (iblk m c 0 t) (iblk m c 1 t) (iblk m c 2 t) (iblk m c 3 t) (iblk m c 4 t) (ix2 r l)
    = dxOf m c (ix2 ⟨t.val * 512 + r.val, row_lt t r⟩ l) := by
  simp only [pay7_apply, pay6_apply, pay5_apply, pay4_apply, iblk0_apply, iblk1_apply, iblk2_apply, iblk3_apply, iblk4_apply]
  rfl

theorem final5 : (dats m 0 c).arrAt 5 cfg0.N = dxOf m c := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (after5 m c t r l).trans ((tile m c t r l).trans ?_)
  congr 1
  blk_ext [idx5 t]
theorem final6 : (dats m 0 c).arrAt 6 cfg0.N = dxOf m c := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  refine (after6 m c t r l).trans ((tile m c t r l).trans ?_)
  congr 1
  blk_ext [idx6 t]
/-- The scale's gradient summed tile by tile. -/
theorem sum_tiles (x : S8192x1024.Idx → EReal) (w : S1x1024x4096.Idx → EReal) (dy : S8192x4096.Idx → EReal) (l : Fin 1024) :
    ∑ p : Fin cfg0.N, ∑ r : Fin 512, dh w dy ⟨p.val * 512 + r.val, row_lt p r⟩ l * (x (ix2 ⟨p.val * 512 + r.val, row_lt p r⟩ l) * inv x ⟨p.val * 512 + r.val, row_lt p r⟩)
      = dg x w dy (ix2 0 l) :=
  Fin.sum_mul_add_fin 16 512 (fun r : Fin 8192 => dh w dy r l * (x (ix2 r l) * inv x r)) rfl
theorem final7 : (dats m 0 c).arrAt 7 cfg0.N = dgOf m c := by
  refine (dats m 0 c).arrAt_eq_of_covers 7 _ (by decide +kernel) fun t hf y => ?_
  blk_simp
  rw [after0_7]
  obtain ⟨r, l, rfl⟩ : ∃ (r : Fin 1) (l : Fin 1024), y = ix2 r l := ⟨y 0, y 1, eq_ix2 y⟩
  obtain rfl : r = 0 := Subsingleton.elim _ _
  have h15 : t.val + 1 = 16 := (by decide +kernel : ∀ t : Fin grid0.N, win0_7.flush t = true → t.val + 1 = 16) t hf
  refine (after7 m c t l h15).trans ?_
  rw [zero_add]
  simp only [pay6_apply, pay5_apply, pay4_apply, iblk0_apply, iblk1_apply, iblk2_apply]
  have he : ((View.whole main_v3_2).slice (win0_7.rect t)).emb (ix2 0 l) = ix2 0 l := by blk_ext [(by decide +kernel : ∀ t : Fin grid0.N, win0_7.index t = ![0, 0]) t]
  rw [he]
  exact sum_tiles _ _ _ l

/-- The run, read. -/
theorem run : θ_run defs (onTc (τ := τ) (main (F := Ideal))) ⟨m, fun _ => 0, ρ⟩ fun r => ∀ c : Dev nD,
      r.2.mem ((c : Thread nD τ).loc main_v3_0) = dxOf m c
      ∧ r.2.mem ((c : Thread nD τ).loc main_v3_1) = dxOf m c
      ∧ r.2.mem ((c : Thread nD τ).loc main_v3_2) = dgOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩) (Value.run_blocks m ρ)

end Cert.NormBwdIdeal.Outcome

namespace Cert.NormBwdRefIdeal.Outcome

open Cert.NormBwdRefIdeal Cert.NormBwdRefIdeal.Read

/-- The reference's gradient of the input, when the arguments are finite. -/
theorem ref_dx (x0 : S8192x1024.Idx → EReal) (x1 : S1024.Idx → EReal) (x2 : S1x1024x4096.Idx → EReal) (x3 : S8192x4096.Idx → EReal) (x4 : S8192x1024.Idx → EReal)
    (h0 : ∀ i, ∃ r : ℝ, x0 i = r) (h1 : ∀ i, ∃ r : ℝ, x1 i = r) (h2 : ∀ i, ∃ r : ℝ, x2 i = r) (h3 : ∀ i, ∃ r : ℝ, x3 i = r) :
    (val_main_v39 (F := Ideal) x0 x1 x2 x3 x4 : S8192x1024.Idx → EReal) = Cert.NormBwdIdeal.Outcome.dx x0 x1 x2 x3 x4 := by
  obtain ⟨x0, rfl⟩ := Cert.Reals.reals_of h0
  obtain ⟨x1, rfl⟩ := Cert.Reals.reals_of h1
  obtain ⟨x2, rfl⟩ := Cert.Reals.reals_of h2
  obtain ⟨x3, rfl⟩ := Cert.Reals.reals_of h3
  funext i
  obtain ⟨r, l, rfl⟩ : ∃ (r : Fin 8192) (l : Fin 1024), i = ix2 r l := ⟨i 0, i 1, eq_ix2 i⟩
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5, val_main_cst_6, val_main_cst_7]
  have hC : ∀ k : Fin 1024, (∑ n : Fin 4096, (x3 (ix2 r n) : EReal) * x2 (ix3 0 k n)) * x1 (ix1 k) = ((((∑ n : Fin 4096, x3 (ix2 r n) * x2 (ix3 0 k n)) * x1 (ix1 k) : ℝ)) : EReal) := by
    intro k; simp only [← EReal.coe_mul, Cert.Reals.coe_sum]
  have := Cert.Reals.norm_grad (fun k : Fin 1024 => x0 (ix2 r k)) (fun k => (∑ n : Fin 4096, x3 (ix2 r n) * x2 (ix3 0 k n)) * x1 (ix1 k)) (n := 1024) (by norm_num)
    Cert.Reals.eps_pos l Cert.Reals.c_1024 Cert.Reals.c_eps Cert.Reals.c_neg_half rfl rfl
  simp only [← hC] at this
  simp only [Fin.sum_univ_one, add_assoc]
  exact congrArg (fun z => x4 (ix2 r l) + z) ((add_assoc _ _ _).symm.trans this)
/-- The reference's gradient of the scale: no finiteness is needed. -/
theorem ref_dg (x0 : S8192x1024.Idx → EReal) (x2 : S1x1024x4096.Idx → EReal) (x3 : S8192x4096.Idx → EReal) :
    (val_main_v41 (F := Ideal) x0 x2 x3 : S1x1024.Idx → EReal) = Cert.NormBwdIdeal.Outcome.dg x0 x2 x3 := by
  funext i
  obtain ⟨r, l, rfl⟩ : ∃ (r : Fin 1) (l : Fin 1024), i = ix2 r l := ⟨i 0, i 1, eq_ix2 i⟩
  pointwise [val_main_v41, val_main_v24, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5, val_main_cst_6, val_main_cst_7]
  rw [Fin.sum_univ_one]
  exact Finset.sum_congr rfl fun k _ => mul_comm _ _

end Cert.NormBwdRefIdeal.Outcome

namespace Cert.Proof.NormBwdClaims

/-- Every execution of the kernel as compiled terminates, keeps its arguments and leaves every semaphore at zero. -/
theorem frame_k : Cert.quiescent_NormBwd := fun m ρ _ => Cert.NormBwd.Gen.frame m ρ
/-- The same of the kernel read over the extended reals, -/
theorem frame_ki : Cert.quiescent_NormBwdIdeal := fun m ρ _ => Cert.NormBwdIdeal.Gen.frame m ρ
/-- and of the reference. -/
theorem frame_ri : Cert.quiescent_NormBwdRefIdeal := fun m ρ _ =>
  (θ_run Cert.NormBwdRefIdeal.defs _ _).mono
    (fun r h => ⟨fun c => (h c).2.2.2, Idealize.ShloMosaic.sem_eq_zero_of_no_sems (by decide) r.2⟩)
    (Cert.NormBwdRefIdeal.Value.run (F := Ideal) m ρ)
/-- Both frames at finite arguments, as the claim of the values restates them. -/
theorem frame_ki_pre : Cert.quiescent_NormBwdIdeal_pre_norm_bwd_finite := fun m ρ _ => Cert.NormBwdIdeal.Gen.frame m ρ
theorem frame_ri_pre : Cert.quiescent_NormBwdRefIdeal_pre_norm_bwd_finite := fun m ρ _ => frame_ri m ρ trivial
/-- Reading the kernel over the extended reals rewrote nothing. -/
theorem preserves : Cert.preserves_NormBwd_NormBwdIdeal := trivial

/-- Over the extended reals, at finite arguments, the kernel's gradients are the reference's. -/
theorem algebraic : Cert.algebraic_NormBwdIdeal_NormBwdRefIdeal_pre_norm_bwd_finite := fun m ρ m' ρ' hpre hag =>
  ⟨fun c => Cert.NormBwdIdeal.Outcome.dxOf m c, fun c => Cert.NormBwdIdeal.Outcome.dxOf m c, fun c => Cert.NormBwdIdeal.Outcome.dgOf m c, Cert.NormBwdIdeal.Outcome.run m ρ,
    (θ_run Cert.NormBwdRefIdeal.defs _ _).mono
      (fun _ h c => ⟨(h c).1.trans (by
        rw [Cert.NormBwdRefIdeal.Read.val_main_v39_eq, (hag c).1, (hag c).2.1, (hag c).2.2.1, (hag c).2.2.2.1, (hag c).2.2.2.2]
        exact Cert.NormBwdRefIdeal.Outcome.ref_dx _ _ _ _ _ (fun i => Cert.Reals.real_of_cmp (congrFun (hpre c).1 i)) (fun i => Cert.Reals.real_of_cmp (congrFun (hpre c).2.1 i)) (fun i => Cert.Reals.real_of_cmp (congrFun (hpre c).2.2.1 i)) (fun i => Cert.Reals.real_of_cmp (congrFun (hpre c).2.2.2 i))), (h c).2.1.trans (by
        rw [Cert.NormBwdRefIdeal.Read.val_main_v40_eq, (hag c).1, (hag c).2.1, (hag c).2.2.1, (hag c).2.2.2.1, (hag c).2.2.2.2]
        exact Cert.NormBwdRefIdeal.Outcome.ref_dx _ _ _ _ _ (fun i => Cert.Reals.real_of_cmp (congrFun (hpre c).1 i)) (fun i => Cert.Reals.real_of_cmp (congrFun (hpre c).2.1 i)) (fun i => Cert.Reals.real_of_cmp (congrFun (hpre c).2.2.1 i)) (fun i => Cert.Reals.real_of_cmp (congrFun (hpre c).2.2.2 i))), (h c).2.2.1.trans (by
        rw [Cert.NormBwdRefIdeal.Read.val_main_v41_eq, (hag c).1, (hag c).2.2.1, (hag c).2.2.2.1]
        exact Cert.NormBwdRefIdeal.Outcome.ref_dg _ _ _), (h c).2.2.2⟩)
      (Cert.NormBwdRefIdeal.Value.run (F := Ideal) m' ρ')⟩

end Cert.Proof.NormBwdClaims

end
-- ==== Proof.LossHeadValue.lean ====
/- The value of the loss and of its gradients (`LossHead`): the last norm, the squared error, and what flows back through both. -/
module

public import proofs.«01_k».proof.Defs
public import proofs.«01_k».proof.Proof.Reals
public import proofs.«01_k».proof.Proof.Gen.LossHead.Frame
public import proofs.«01_k».proof.Proof.Gen.Pre_loss_head_finite
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossHeadIdeal.Outcome

open Cert.LossHeadIdeal Cert.LossHeadIdeal.Gen

variable (m : (ℓ : Loc nD τ sig) → Buf (Elt Ideal) ℓ) (ρ : Dev nD → PrngReg)

/-- The reciprocal root of a row's mean square, -/
theorem pay9_apply (v3 : Vec Ideal S512x1024 .f32) (r : Fin 512) :
    k0_pay9 (F := Ideal) v3 (ix2 r 0) = Ideal.rsqrt (Ideal.div (∑ k : Fin 1024, v3 (ix2 r k) * v3 (ix2 r k)) (Ideal.ofBits .f32 0x44800000#32) + Ideal.ofBits .f32 0x358637BD#32) := by
  pointwise [k0_pay9, k0_pay7]
/-- the normed row, -/
theorem pay10_apply (v3 : Vec Ideal S512x1024 .f32) (r : Fin 512) (k : Fin 1024) :
    k0_pay10 (F := Ideal) v3 (ix2 r k) = v3 (ix2 r k) * k0_pay9 (F := Ideal) v3 (ix2 r 0) := by
  unfold k0_pay10
  generalize k0_pay9 (F := Ideal) v3 = a
  pointwise [k0_pay7]
/-- the error, -/
theorem pay11_apply (v3 : Vec Ideal S512x1024 .f32) (v5 : Vec Ideal S1x1024 .f32) (v19 : Vec Ideal S512x1024 .f32) (r : Fin 512) (k : Fin 1024) :
    k0_pay11 (F := Ideal) v3 v5 v19 (ix2 r k) = k0_pay10 (F := Ideal) v3 (ix2 r k) * v5 (ix2 0 k) - v19 (ix2 r k) := by
  unfold k0_pay11
  generalize k0_pay10 (F := Ideal) v3 = a
  pointwise [k0_pay8]
/-- one step of the sum of its squares, -/
theorem pay12_apply (v3 : Vec Ideal S512x1024 .f32) (v5 : Vec Ideal S1x1024 .f32) (v19 : Vec Ideal S512x1024 .f32) (v22 : Vec Ideal S1x1024 .f32) (l : Fin 1024) :
    k0_pay12 (F := Ideal) v3 v5 v19 v22 (ix2 0 l) = v22 (ix2 0 l) + ∑ r : Fin 512, k0_pay11 (F := Ideal) v3 v5 v19 (ix2 r l) * k0_pay11 (F := Ideal) v3 v5 v19 (ix2 r l) := by
  unfold k0_pay12
  generalize k0_pay11 (F := Ideal) v3 v5 v19 = a
  pointwise
/-- its gradient, -/
theorem pay13_apply (v3 : Vec Ideal S512x1024 .f32) (v5 : Vec Ideal S1x1024 .f32) (v19 : Vec Ideal S512x1024 .f32) (r : Fin 512) (k : Fin 1024) :
    k0_pay13 (F := Ideal) v3 v5 v19 (ix2 r k) = k0_pay11 (F := Ideal) v3 v5 v19 (ix2 r k) * Ideal.ofBits .f32 0x3A800000#32 := by
  unfold k0_pay13
  generalize k0_pay11 (F := Ideal) v3 v5 v19 = a
  pointwise
theorem pay14_apply (v3 : Vec Ideal S512x1024 .f32) (v5 : Vec Ideal S1x1024 .f32) (v19 : Vec Ideal S512x1024 .f32) (r : Fin 512) (k : Fin 1024) :
    k0_pay14 (F := Ideal) v3 v5 v19 (ix2 r k) = k0_pay13 (F := Ideal) v3 v5 v19 (ix2 r k) * v5 (ix2 0 k) := by
  unfold k0_pay14
  generalize k0_pay13 (F := Ideal) v3 v5 v19 = a
  pointwise [k0_pay8]
theorem pay15_apply (v3 : Vec Ideal S512x1024 .f32) (v5 : Vec Ideal S1x1024 .f32) (v19 : Vec Ideal S512x1024 .f32) (r : Fin 512) :
    k0_pay15 (F := Ideal) v3 v5 v19 (ix2 r 0) = ∑ k : Fin 1024, k0_pay14 (F := Ideal) v3 v5 v19 (ix2 r k) * k0_pay10 (F := Ideal) v3 (ix2 r k) := by
  unfold k0_pay15
  generalize k0_pay14 (F := Ideal) v3 v5 v19 = a
  generalize k0_pay10 (F := Ideal) v3 = b
  pointwise
/-- and the gradient through the norm. -/
theorem pay1_apply (v14 : FVec Ideal S512x1 .f32) (v16 v33 : FVec Ideal S512x1024 .f32) (v36 : FVec Ideal S512x1 .f32) (r : Fin 512) (l : Fin 1024) :
    k0_pay1 (F := Ideal) v14 v16 v33 v36 k0_pay16 (ix2 r l) = v14 (ix2 r 0) * (v33 (ix2 r l) - v16 (ix2 r l) * Ideal.div (v36 (ix2 r 0)) (Ideal.ofBits .f32 0x44800000#32)) := by
  pointwise [k0_pay1, k0_pay16]
theorem pay3_apply (v16 v31 : FVec Ideal S512x1024 .f32) (v47 : Vec Ideal S1x1024 .f32) (l : Fin 1024) :
    k0_pay3 (F := Ideal) v16 v31 v47 (ix2 0 l) = v47 (ix2 0 l) + ∑ r : Fin 512, v31 (ix2 r l) * v16 (ix2 r l) := by
  pointwise [k0_pay3]
/-- The loss from the summed squares. -/
theorem pay4_apply (v57 : Vec Ideal S1x1024 .f32) (l : Fin 128) :
    k0_pay4 (F := Ideal) v57 (ix2 0 l) = Ideal.ofBits .f32 0x3A000000#32 * ∑ k : Fin 1024, v57 (ix2 0 k) := by
  pointwise [k0_pay4]
  rw [Fin.sum_univ_one]

variable (c : Dev nD) (t : Fin cfg0.N)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

theorem row_lt (r : Fin 512) : t.val * 512 + r.val < 8192 := by
  have := t.isLt; have hN : cfg0.N = 16 := N_0; omega

/-- A leading axis of one dropped. -/
theorem drop_apply (x : S1x8192x1024.Idx → EReal) (r : Fin 8192) (k : Fin 1024) :
    (shapeCast S8192x1024 x shapeCasts_S1x8192x1024_S8192x1024 : S8192x1024.Idx → EReal) (ix2 r k) = x (ix3 0 r k) := by
  pointwise

/-- The blocks the body loads, in terms of the arguments. -/
theorem iblk0_apply (r : Fin 512) (k : Fin 1024) :
    (iblk m c 0 t : Vec Ideal S512x1024 .f32) (ix2 r k) = m ((c : Thread nD τ).loc main_arg0) (ix3 0 ⟨t.val * 512 + r.val, row_lt t r⟩ k) := by
  have hV : @Eq (S8192x1024.Idx → EReal) (V m c main_v0) (shapeCast S8192x1024 (m ((c : Thread nD τ).loc main_arg0)) shapeCasts_S1x8192x1024_S8192x1024) := by
    simp only [V, hostOps0]; after_results; rfl
  have he : (win0_0.blk t).view.emb (ix2 r k) = ix2 ⟨t.val * 512 + r.val, row_lt t r⟩ k := by blk_ext [idx0 t]
  blk_simp [iblk]
  rw [he]
  refine (congrFun hV _).trans ?_
  exact drop_apply _ _ _
theorem iblk1_apply (k : Fin 1024) :
    (iblk m c 1 t : Vec Ideal S1x1024 .f32) (ix2 0 k) = m ((c : Thread nD τ).loc main_arg1) (ix1 k) := by
  have hV : @Eq (S1x1024.Idx → EReal) (V m c main_v1) (broadcastInDim S1x1024 ![1] bcast_S1024_S1x1024_1 (m ((c : Thread nD τ).loc main_arg1))) := by
    simp only [V, hostOps0]; after_results
  have he : (win0_1.blk t).view.emb (ix2 0 k) = ix2 0 k := by blk_ext [idx1 t]
  blk_simp [iblk]
  rw [he]
  refine (congrFun hV _).trans ?_
  pointwise
theorem iblk2_apply (r : Fin 512) (k : Fin 1024) :
    (iblk m c 2 t : Vec Ideal S512x1024 .f32) (ix2 r k) = m ((c : Thread nD τ).loc main_arg2) (ix3 0 ⟨t.val * 512 + r.val, row_lt t r⟩ k) := by
  have hV : @Eq (S8192x1024.Idx → EReal) (V m c main_v2) (shapeCast S8192x1024 (m ((c : Thread nD τ).loc main_arg2)) shapeCasts_S1x8192x1024_S8192x1024) := by
    simp only [V, hostOps0]; after_results; rfl
  have he : (win0_2.blk t).view.emb (ix2 r k) = ix2 ⟨t.val * 512 + r.val, row_lt t r⟩ k := by blk_ext [idx2 t]
  blk_simp [iblk]
  rw [he]
  refine (congrFun hV _).trans ?_
  exact drop_apply _ _ _

/-- The gradient's tile, as the body computes it from its blocks. -/
abbrev dxTile : Vec Ideal S512x1024 .f32 :=
  k0_pay1 (F := Ideal) (k0_pay9 (iblk m c 0 t)) (k0_pay10 (iblk m c 0 t)) (k0_pay14 (iblk m c 0 t) (iblk m c 1 t) (iblk m c 2 t)) (k0_pay15 (iblk m c 0 t) (iblk m c 1 t) (iblk m c 2 t)) k0_pay16

theorem after4 (r : Fin 512) (l : Fin 1024) : (outsAt0 m c t.val t.isLt).2.1 (ix2 r l) = dxTile m c t (ix2 r l) := by
  by_cases h : t.val % 16 = 0
  · rw [outsAt0_A m c t h (by omega)]
    frame_out
  · by_cases h1 : t.val % 16 = 15
    · rw [outsAt0_C m c t h h1]
      frame_out
    · rw [outsAt0_B m c t h h1]
      frame_out
theorem after5 (r : Fin 512) (l : Fin 1024) : (outsAt0 m c t.val t.isLt).2.2.1 (ix2 r l) = dxTile m c t (ix2 r l) := by
  by_cases h : t.val % 16 = 0
  · rw [outsAt0_A m c t h (by omega)]
    frame_out
    rfl
  · by_cases h1 : t.val % 16 = 15
    · rw [outsAt0_C m c t h h1]
      frame_out
      rfl
    · rw [outsAt0_B m c t h h1]
      frame_out
      rfl
/-- The sum of squares carried in the scratch, at the last tile. -/
theorem afterS (l : Fin 1024) (h15 : t.val + 1 = 16) : (outsAt0 m c t.val t.isLt).2.2.2.2 (ix2 0 l) = 0 + ∑ p : Fin cfg0.N, ∑ r : Fin 512,
    k0_pay11 (F := Ideal) (iblk m c 0 p) (iblk m c 1 p) (iblk m c 2 p) (ix2 r l) * k0_pay11 (F := Ideal) (iblk m c 0 p) (iblk m c 1 p) (iblk m c 2 p) (ix2 r l) := by
  refine Pipeline.eq_sum_fin_of_reset_step_apply_last (fun n h l => (outsAt0 m c n h).2.2.2.2 (ix2 0 l)) 16 (fun _ : Fin 1024 => (0 : EReal)) (fun p l => ∑ r : Fin 512,
    k0_pay11 (F := Ideal) (iblk m c 0 p) (iblk m c 1 p) (iblk m c 2 p) (ix2 r l) * k0_pay11 (F := Ideal) (iblk m c 0 p) (iblk m c 1 p) (iblk m c 2 p) (ix2 r l)) ?_ ?_ (by decide) t ?_ l
  · intro t h l
    rw [outsAt0_A m c t h (by omega)]
    frame_out
    rw [pay12_apply]
    congr 1
    exact Ideal.ofBits_zero_f32
  · intro t h l
    by_cases h1 : t.val % 16 = 15
    · rw [outsAt0_C m c t h h1]
      frame_out
      rw [pay12_apply, read_unread_whole]
    · rw [outsAt0_B m c t h h1]
      frame_out
      rw [pay12_apply, read_unread_whole]
  · exact h15
/-- The scale's gradient at the last tile. -/
theorem after6 (l : Fin 1024) (h15 : t.val + 1 = 16) : (outsAt0 m c t.val t.isLt).2.2.2.1 (ix2 0 l) = 0 + ∑ p : Fin cfg0.N, ∑ r : Fin 512,
    k0_pay13 (F := Ideal) (iblk m c 0 p) (iblk m c 1 p) (iblk m c 2 p) (ix2 r l) * k0_pay10 (F := Ideal) (iblk m c 0 p) (ix2 r l) := by
  refine Pipeline.eq_sum_fin_of_reset_step_apply_last (fun n h l => (outsAt0 m c n h).2.2.2.1 (ix2 0 l)) 16 (fun _ : Fin 1024 => (0 : EReal)) (fun p l => ∑ r : Fin 512,
    k0_pay13 (F := Ideal) (iblk m c 0 p) (iblk m c 1 p) (iblk m c 2 p) (ix2 r l) * k0_pay10 (F := Ideal) (iblk m c 0 p) (ix2 r l)) ?_ ?_ (by decide) t ?_ l
  · intro t h l
    rw [outsAt0_A m c t h (by omega)]
    frame_out
    rw [pay3_apply]
    congr 1
    exact Ideal.ofBits_zero_f32
  · intro t h l
    by_cases h1 : t.val % 16 = 15
    · rw [outsAt0_C m c t h h1]
      frame_out
      rw [pay3_apply]
    · rw [outsAt0_B m c t h h1]
      frame_out
      rw [pay3_apply]
  · exact h15
/-- The loss, stored at the last tile, is of the scratch that tile leaves. -/
theorem after3 (l : Fin 128) (h15 : t.val % 16 = 15) : (outsAt0 m c t.val t.isLt).1 (ix2 0 l) = k0_pay4 (F := Ideal) (outsAt0 m c t.val t.isLt).2.2.2.2 (ix2 0 l) := by
  rw [outsAt0_C m c t (by omega) h15, pay4_apply]
  frame_out
  rw [pay4_apply]

/-- The pieces, of the arguments: the reciprocal root, -/
def rinv (x : S1x8192x1024.Idx → EReal) (r : Fin 8192) : EReal :=
  Ideal.rsqrt (Ideal.div (∑ k : Fin 1024, x (ix3 0 r k) * x (ix3 0 r k)) (Ideal.ofBits .f32 0x44800000#32) + Ideal.ofBits .f32 0x358637BD#32)
/-- the error, -/
def err (x : S1x8192x1024.Idx → EReal) (g : S1024.Idx → EReal) (y : S1x8192x1024.Idx → EReal) (r : Fin 8192) (k : Fin 1024) : EReal :=
  x (ix3 0 r k) * rinv x r * g (ix1 k) - y (ix3 0 r k)
/-- the loss, -/
def loss (x : S1x8192x1024.Idx → EReal) (g : S1024.Idx → EReal) (y : S1x8192x1024.Idx → EReal) : S1x128.Idx → EReal := fun _ =>
  Ideal.ofBits .f32 0x3A000000#32 * ∑ k : Fin 1024, ∑ r : Fin 8192, err x g y r k * err x g y r k
/-- the gradient of the input -/
def dx (x : S1x8192x1024.Idx → EReal) (g : S1024.Idx → EReal) (y : S1x8192x1024.Idx → EReal) : S8192x1024.Idx → EReal := fun i =>
  rinv x (i 0) * (err x g y (i 0) (i 1) * Ideal.ofBits .f32 0x3A800000#32 * g (ix1 (i 1)) - x (ix3 0 (i 0) (i 1)) * rinv x (i 0) *
    Ideal.div (∑ k : Fin 1024, err x g y (i 0) k * Ideal.ofBits .f32 0x3A800000#32 * g (ix1 k) * (x (ix3 0 (i 0) k) * rinv x (i 0))) (Ideal.ofBits .f32 0x44800000#32))
/-- and the gradient of the scale. -/
def dg (x : S1x8192x1024.Idx → EReal) (g : S1024.Idx → EReal) (y : S1x8192x1024.Idx → EReal) : S1x1024.Idx → EReal := fun i =>
  ∑ r : Fin 8192, err x g y r (i 1) * Ideal.ofBits .f32 0x3A800000#32 * (x (ix3 0 r (i 1)) * rinv x r)

abbrev lossOf : S1x128.Idx → EReal :=
  loss (m ((c : Thread nD τ).loc main_arg0)) (m ((c : Thread nD τ).loc main_arg1)) (m ((c : Thread nD τ).loc main_arg2))
abbrev dxOf : S8192x1024.Idx → EReal :=
  dx (m ((c : Thread nD τ).loc main_arg0)) (m ((c : Thread nD τ).loc main_arg1)) (m ((c : Thread nD τ).loc main_arg2))
abbrev dgOf : S1x1024.Idx → EReal :=
  dg (m ((c : Thread nD τ).loc main_arg0)) (m ((c : Thread nD τ).loc main_arg1)) (m ((c : Thread nD τ).loc main_arg2))

theorem tile (r : Fin 512) (l : Fin 1024) : dxTile m c t (ix2 r l) = dxOf m c (ix2 ⟨t.val * 512 + r.val, row_lt t r⟩ l) := by
  simp only [dxTile, pay1_apply, pay15_apply, pay14_apply, pay13_apply, pay11_apply, pay10_apply, pay9_apply, iblk0_apply, iblk1_apply, iblk2_apply]
  rfl

theorem sq_tiles (x : S1x8192x1024.Idx → EReal) (g : S1024.Idx → EReal) (y : S1x8192x1024.Idx → EReal) (l : Fin 1024) :
    ∑ p : Fin cfg0.N, ∑ r : Fin 512, err x g y ⟨p.val * 512 + r.val, row_lt p r⟩ l * err x g y ⟨p.val * 512 + r.val, row_lt p r⟩ l
      = ∑ r : Fin 8192, err x g y r l * err x g y r l :=
  Fin.sum_mul_add_fin 16 512 (fun r : Fin 8192 => err x g y r l * err x g y r l) rfl
theorem dg_tiles (x : S1x8192x1024.Idx → EReal) (g : S1024.Idx → EReal) (y : S1x8192x1024.Idx → EReal) (l : Fin 1024) :
    ∑ p : Fin cfg0.N, ∑ r : Fin 512, err x g y ⟨p.val * 512 + r.val, row_lt p r⟩ l * Ideal.ofBits .f32 0x3A800000#32 * (x (ix3 0 ⟨p.val * 512 + r.val, row_lt p r⟩ l) * rinv x ⟨p.val * 512 + r.val, row_lt p r⟩)
      = dg x g y (ix2 0 l) :=
  Fin.sum_mul_add_fin 16 512 (fun r : Fin 8192 => err x g y r l * Ideal.ofBits .f32 0x3A800000#32 * (x (ix3 0 r l) * rinv x r)) rfl

theorem scratch_last (l : Fin 1024) (h15 : t.val + 1 = 16) : (outsAt0 m c t.val t.isLt).2.2.2.2 (ix2 0 l)
    = ∑ r : Fin 8192, err (m ((c : Thread nD τ).loc main_arg0)) (m ((c : Thread nD τ).loc main_arg1)) (m ((c : Thread nD τ).loc main_arg2)) r l * err (m ((c : Thread nD τ).loc main_arg0)) (m ((c : Thread nD τ).loc main_arg1)) (m ((c : Thread nD τ).loc main_arg2)) r l := by
  rw [afterS m c t l h15, zero_add]
  simp only [pay11_apply, pay10_apply, pay9_apply, iblk0_apply, iblk1_apply, iblk2_apply]
  exact sq_tiles _ _ _ l

theorem final3 : (dats m 0 c).arrAt 3 cfg0.N = lossOf m c := by
  refine (dats m 0 c).arrAt_eq_of_covers 3 _ (by decide +kernel) fun t hf y => ?_
  blk_simp
  rw [after0_3]
  obtain ⟨r, l, rfl⟩ : ∃ (r : Fin 1) (l : Fin 128), y = ix2 r l := ⟨y 0, y 1, eq_ix2 y⟩
  obtain rfl : r = 0 := Subsingleton.elim _ _
  have h15 : t.val + 1 = 16 := (by decide +kernel : ∀ t : Fin grid0.N, win0_3.flush t = true → t.val + 1 = 16) t hf
  refine (after3 m c t l (by omega)).trans ?_
  rw [pay4_apply]
  refine (congrArg (Ideal.ofBits .f32 0x3A000000#32 * ·) (Finset.sum_congr rfl fun k _ => scratch_last m c t k h15)).trans ?_
  rfl
theorem final4 : (dats m 0 c).arrAt 4 cfg0.N = dxOf m c := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  refine (after4 m c t r l).trans ((tile m c t r l).trans ?_)
  congr 1
  blk_ext [idx4 t]
theorem final5 : (dats m 0 c).arrAt 5 cfg0.N = dxOf m c := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (after5 m c t r l).trans ((tile m c t r l).trans ?_)
  congr 1
  blk_ext [idx5 t]
theorem final6 : (dats m 0 c).arrAt 6 cfg0.N = dgOf m c := by
  refine (dats m 0 c).arrAt_eq_of_covers 6 _ (by decide +kernel) fun t hf y => ?_
  blk_simp
  rw [after0_6]
  obtain ⟨r, l, rfl⟩ : ∃ (r : Fin 1) (l : Fin 1024), y = ix2 r l := ⟨y 0, y 1, eq_ix2 y⟩
  obtain rfl : r = 0 := Subsingleton.elim _ _
  have h15 : t.val + 1 = 16 := (by decide +kernel : ∀ t : Fin grid0.N, win0_6.flush t = true → t.val + 1 = 16) t hf
  refine (after6 m c t l h15).trans ?_
  rw [zero_add]
  simp only [pay13_apply, pay11_apply, pay10_apply, pay9_apply, iblk0_apply, iblk1_apply, iblk2_apply]
  have he : ((View.whole main_v3_3).slice (win0_6.rect t)).emb (ix2 0 l) = ix2 0 l := by blk_ext [(by decide +kernel : ∀ t : Fin grid0.N, win0_6.index t = ![0, 0]) t]
  rw [he]
  exact dg_tiles _ _ _ l

/-- The run, read. -/
theorem run : θ_run defs (onTc (τ := τ) (main (F := Ideal))) ⟨m, fun _ => 0, ρ⟩ fun r => ∀ c : Dev nD,
      r.2.mem ((c : Thread nD τ).loc main_v3_0) = lossOf m c
      ∧ r.2.mem ((c : Thread nD τ).loc main_v3_1) = dxOf m c
      ∧ r.2.mem ((c : Thread nD τ).loc main_v3_2) = dxOf m c
      ∧ r.2.mem ((c : Thread nD τ).loc main_v3_3) = dgOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2.1.trans (final6 m c), (h c).2.2.2.2⟩) (Value.run_blocks m ρ)

end Cert.LossHeadIdeal.Outcome

namespace Cert.LossHeadRefIdeal.Outcome

open Cert.LossHeadRefIdeal Cert.LossHeadRefIdeal.Read
open Cert.LossHeadIdeal.Outcome (rinv err loss dx dg)

/-- The constants. -/
theorem c_half : (Ideal.ofBits .f32 0x3F000000#32 : EReal) = ((1 / 2 : ℝ) : EReal) := by
  simp [Ideal.ofBits, Ideal.ieee]; rw [← EReal.coe_mul]; norm_num
theorem c_two : (Ideal.ofBits .f32 0x40000000#32 : EReal) = ((2 : ℝ) : EReal) := by
  simp [Ideal.ofBits, Ideal.ieee]; rw [← EReal.coe_mul]; norm_num
theorem c_1024inv : (Ideal.ofBits .f32 0x3A800000#32 : EReal) = ((1 / 1024 : ℝ) : EReal) := by
  simp [Ideal.ofBits, Ideal.ieee]; rw [← EReal.coe_mul]; norm_num
theorem c_2048inv : (Ideal.ofBits .f32 0x3A000000#32 : EReal) = ((1 / 2048 : ℝ) : EReal) := by
  simp [Ideal.ofBits, Ideal.ieee]; rw [← EReal.coe_mul]; norm_num

/-- The error at finite arguments is a real. -/
theorem err_real (x0 : S1x8192x1024.Idx → ℝ) (x1 : S1024.Idx → ℝ) (x2 : S1x8192x1024.Idx → ℝ) :
    ∃ e : Fin 8192 → Fin 1024 → ℝ, ∀ r k, err (fun i => (x0 i : EReal)) (fun i => (x1 i : EReal)) (fun i => (x2 i : EReal)) r k = (e r k : EReal) := by
  refine ⟨fun r k => x0 (ix3 0 r k) * (Real.sqrt ((∑ k : Fin 1024, x0 (ix3 0 r k) * x0 (ix3 0 r k)) / 1024 + Cert.Reals.eps))⁻¹ * x1 (ix1 k) - x2 (ix3 0 r k), fun r k => ?_⟩
  have hpos : 0 < (∑ k : Fin 1024, x0 (ix3 0 r k) * x0 (ix3 0 r k)) / 1024 + Cert.Reals.eps :=
    add_pos_of_nonneg_of_pos (div_nonneg (Finset.sum_nonneg fun k _ => mul_self_nonneg _) (by norm_num)) Cert.Reals.eps_pos
  unfold err rinv
  simp only [← EReal.coe_mul, Cert.Reals.coe_sum, Cert.Reals.c_1024, Cert.Reals.c_eps]
  rw [Cert.Reals.div_real (by norm_num), ← EReal.coe_add, Cert.Reals.rsqrt_real hpos]
  simp only [← EReal.coe_mul, ← EReal.coe_sub]

/-- The derivative of half the mean of the squares. -/
theorem half_two (e : ℝ) : Ideal.div (Ideal.ofBits .f32 0x3F000000#32) (Ideal.ofBits .f32 0x44800000#32) * (Ideal.ofBits .f32 0x40000000#32 * (e : EReal)) = (e : EReal) * Ideal.ofBits .f32 0x3A800000#32 := by
  rw [c_half, c_two, c_1024inv, Cert.Reals.c_1024, Cert.Reals.div_real (by norm_num)]
  simp only [← EReal.coe_mul]
  congr 1
  ring

/-- The reference's loss, at finite arguments. -/
theorem ref_loss (x0 : S1x8192x1024.Idx → EReal) (x1 : S1024.Idx → EReal) (x2 : S1x8192x1024.Idx → EReal)
    (h0 : ∀ i, ∃ r : ℝ, x0 i = r) (h1 : ∀ i, ∃ r : ℝ, x1 i = r) (h2 : ∀ i, ∃ r : ℝ, x2 i = r) :
    (val_main_v53 (F := Ideal) x0 x1 x2 : S1x128.Idx → EReal) = loss x0 x1 x2 := by
  obtain ⟨x0, rfl⟩ := Cert.Reals.reals_of h0
  obtain ⟨x1, rfl⟩ := Cert.Reals.reals_of h1
  obtain ⟨x2, rfl⟩ := Cert.Reals.reals_of h2
  obtain ⟨e, he⟩ := err_real x0 x1 x2
  funext i
  obtain ⟨r, l, rfl⟩ : ∃ (r : Fin 1) (l : Fin 128), i = ix2 r l := ⟨i 0, i 1, eq_ix2 i⟩
  have hl : loss (fun i => (x0 i : EReal)) (fun i => (x1 i : EReal)) (fun i => (x2 i : EReal)) (ix2 r l) = ((1 / 2048 * ∑ k, ∑ r, e r k * e r k : ℝ) : EReal) := by
    unfold loss
    simp only [he, c_2048inv, ← EReal.coe_mul, Cert.Reals.coe_sum]
  rw [hl]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, val_main_v54, val_main_v55]
  refine (congrArg (Ideal.ofBits .f32 0x3F000000#32 * ·) (Finset.sum_congr rfl fun r _ => congrArg (Ideal.div · _) (Finset.sum_congr rfl fun k _ => congrArg₂ (· * ·) (he r k) (he r k)))).trans ?_
  simp only [c_half, Cert.Reals.c_1024, ← EReal.coe_mul, Cert.Reals.coe_sum, Cert.Reals.div_real (show (1024 : ℝ) ≠ 0 by norm_num)]
  congr 1
  rw [Finset.sum_comm, ← Finset.sum_div]
  ring

/-- The reference's gradient of the input, at finite arguments. -/
theorem ref_dx (x0 : S1x8192x1024.Idx → EReal) (x1 : S1024.Idx → EReal) (x2 : S1x8192x1024.Idx → EReal)
    (h0 : ∀ i, ∃ r : ℝ, x0 i = r) (h1 : ∀ i, ∃ r : ℝ, x1 i = r) (h2 : ∀ i, ∃ r : ℝ, x2 i = r) :
    (val_main_v52 (F := Ideal) x0 x1 x2 : S8192x1024.Idx → EReal) = dx x0 x1 x2 := by
  obtain ⟨x0, rfl⟩ := Cert.Reals.reals_of h0
  obtain ⟨x1, rfl⟩ := Cert.Reals.reals_of h1
  obtain ⟨x2, rfl⟩ := Cert.Reals.reals_of h2
  obtain ⟨e, he⟩ := err_real x0 x1 x2
  funext i
  obtain ⟨r, l, rfl⟩ : ∃ (r : Fin 8192) (l : Fin 1024), i = ix2 r l := ⟨i 0, i 1, eq_ix2 i⟩
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, val_main_v54, val_main_v55]
  have hC : ∀ k : Fin 1024, Ideal.div (Ideal.ofBits .f32 0x3F000000#32) (Ideal.ofBits .f32 0x44800000#32) * (Ideal.ofBits .f32 0x40000000#32 * err (fun i => (x0 i : EReal)) (fun i => (x1 i : EReal)) (fun i => (x2 i : EReal)) r k) * (x1 (ix1 k) : EReal)
      = ((e r k * (1 / 1024) * x1 (ix1 k) : ℝ) : EReal) := by
    intro k; rw [he, half_two, c_1024inv]; simp only [← EReal.coe_mul]
  have hD : ∀ k : Fin 1024, err (fun i => (x0 i : EReal)) (fun i => (x1 i : EReal)) (fun i => (x2 i : EReal)) r k * Ideal.ofBits .f32 0x3A800000#32 * (x1 (ix1 k) : EReal)
      = ((e r k * (1 / 1024) * x1 (ix1 k) : ℝ) : EReal) := by
    intro k; rw [he, c_1024inv]; simp only [← EReal.coe_mul]
  have := Cert.Reals.norm_grad (fun k : Fin 1024 => x0 (ix3 0 r k)) (fun k => e r k * (1 / 1024) * x1 (ix1 k)) (n := 1024) (by norm_num)
    Cert.Reals.eps_pos l Cert.Reals.c_1024 Cert.Reals.c_eps Cert.Reals.c_neg_half rfl rfl
  have hdx : dx (fun i => (x0 i : EReal)) (fun i => (x1 i : EReal)) (fun i => (x2 i : EReal)) (ix2 r l)
      = rinv (fun i => (x0 i : EReal)) r * (((e r l * (1 / 1024) * x1 (ix1 l) : ℝ) : EReal) - x0 (ix3 0 r l) * rinv (fun i => (x0 i : EReal)) r *
        Ideal.div (∑ k : Fin 1024, ((e r k * (1 / 1024) * x1 (ix1 k) : ℝ) : EReal) * (x0 (ix3 0 r k) * rinv (fun i => (x0 i : EReal)) r)) (Ideal.ofBits .f32 0x44800000#32)) := by
    rw [← hD l]
    simp only [← hD]
    rfl
  rw [hdx]
  refine Eq.trans ?_ this
  simp only [Fin.sum_univ_one, ← hC]
  rfl

/-- The reference's gradient of the scale. -/
theorem ref_dg (x0 : S1x8192x1024.Idx → EReal) (x1 : S1024.Idx → EReal) (x2 : S1x8192x1024.Idx → EReal)
    (h0 : ∀ i, ∃ r : ℝ, x0 i = r) (h1 : ∀ i, ∃ r : ℝ, x1 i = r) (h2 : ∀ i, ∃ r : ℝ, x2 i = r) :
    (val_main_v55 (F := Ideal) x0 x1 x2 : S1x1024.Idx → EReal) = dg x0 x1 x2 := by
  obtain ⟨x0, rfl⟩ := Cert.Reals.reals_of h0
  obtain ⟨x1, rfl⟩ := Cert.Reals.reals_of h1
  obtain ⟨x2, rfl⟩ := Cert.Reals.reals_of h2
  obtain ⟨e, he⟩ := err_real x0 x1 x2
  funext i
  obtain ⟨r, l, rfl⟩ : ∃ (r : Fin 1) (l : Fin 1024), i = ix2 r l := ⟨i 0, i 1, eq_ix2 i⟩
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, val_main_v54, val_main_v55]
  rw [Fin.sum_univ_one]
  refine Finset.sum_congr rfl fun r _ => (mul_comm _ _).trans ?_
  refine congrArg₂ (· * ·) ?_ rfl
  refine (congrArg (fun z => Ideal.div (Ideal.ofBits .f32 0x3F000000#32) (Ideal.ofBits .f32 0x44800000#32) * (Ideal.ofBits .f32 0x40000000#32 * z)) (he r l)).trans ?_
  rw [half_two]
  exact congrArg (· * Ideal.ofBits .f32 0x3A800000#32) (he r l).symm

end Cert.LossHeadRefIdeal.Outcome

namespace Cert.Proof.LossHeadClaims

/-- Every execution of the kernel as compiled terminates, keeps its arguments and leaves every semaphore at zero. -/
theorem frame_k : Cert.quiescent_LossHead := fun m ρ _ => Cert.LossHead.Gen.frame m ρ
/-- The same of the kernel read over the extended reals, -/
theorem frame_ki : Cert.quiescent_LossHeadIdeal := fun m ρ _ => Cert.LossHeadIdeal.Gen.frame m ρ
/-- and of the reference. -/
theorem frame_ri : Cert.quiescent_LossHeadRefIdeal := fun m ρ _ =>
  (θ_run Cert.LossHeadRefIdeal.defs _ _).mono
    (fun r h => ⟨fun c => (h c).2.2.2.2, Idealize.ShloMosaic.sem_eq_zero_of_no_sems (by decide) r.2⟩)
    (Cert.LossHeadRefIdeal.Value.run (F := Ideal) m ρ)
/-- Both frames at finite arguments, as the claim of the values restates them. -/
theorem frame_ki_pre : Cert.quiescent_LossHeadIdeal_pre_loss_head_finite := fun m ρ _ => Cert.LossHeadIdeal.Gen.frame m ρ
theorem frame_ri_pre : Cert.quiescent_LossHeadRefIdeal_pre_loss_head_finite := fun m ρ _ => frame_ri m ρ trivial
/-- Reading the kernel over the extended reals rewrote nothing. -/
theorem preserves : Cert.preserves_LossHead_LossHeadIdeal := trivial

/-- Over the extended reals, at finite arguments, the kernel's loss and gradients are the reference's. -/
theorem algebraic : Cert.algebraic_LossHeadIdeal_LossHeadRefIdeal_pre_loss_head_finite := fun m ρ m' ρ' hpre hag =>
  ⟨fun c => Cert.LossHeadIdeal.Outcome.lossOf m c, fun c => Cert.LossHeadIdeal.Outcome.dxOf m c, fun c => Cert.LossHeadIdeal.Outcome.dxOf m c, fun c => Cert.LossHeadIdeal.Outcome.dgOf m c, Cert.LossHeadIdeal.Outcome.run m ρ,
    (θ_run Cert.LossHeadRefIdeal.defs _ _).mono
      (fun _ h c => ⟨(h c).1.trans (by
        rw [Cert.LossHeadRefIdeal.Read.val_main_v53_eq, (hag c).1, (hag c).2.1, (hag c).2.2]
        exact Cert.LossHeadRefIdeal.Outcome.ref_loss _ _ _ (fun i => Cert.Reals.real_of_cmp (congrFun (hpre c).1 i)) (fun i => Cert.Reals.real_of_cmp (congrFun (hpre c).2.1 i)) (fun i => Cert.Reals.real_of_cmp (congrFun (hpre c).2.2 i))), (h c).2.1.trans (by
        rw [Cert.LossHeadRefIdeal.Read.val_main_v52_eq, (hag c).1, (hag c).2.1, (hag c).2.2]
        exact Cert.LossHeadRefIdeal.Outcome.ref_dx _ _ _ (fun i => Cert.Reals.real_of_cmp (congrFun (hpre c).1 i)) (fun i => Cert.Reals.real_of_cmp (congrFun (hpre c).2.1 i)) (fun i => Cert.Reals.real_of_cmp (congrFun (hpre c).2.2 i))), (h c).2.2.1.trans (by
        rw [Cert.LossHeadRefIdeal.Read.val_main_v54_eq, (hag c).1, (hag c).2.1, (hag c).2.2]
        exact Cert.LossHeadRefIdeal.Outcome.ref_dx _ _ _ (fun i => Cert.Reals.real_of_cmp (congrFun (hpre c).1 i)) (fun i => Cert.Reals.real_of_cmp (congrFun (hpre c).2.1 i)) (fun i => Cert.Reals.real_of_cmp (congrFun (hpre c).2.2 i))), (h c).2.2.2.1.trans (by
        rw [Cert.LossHeadRefIdeal.Read.val_main_v55_eq, (hag c).1, (hag c).2.1, (hag c).2.2]
        exact Cert.LossHeadRefIdeal.Outcome.ref_dg _ _ _ (fun i => Cert.Reals.real_of_cmp (congrFun (hpre c).1 i)) (fun i => Cert.Reals.real_of_cmp (congrFun (hpre c).2.1 i)) (fun i => Cert.Reals.real_of_cmp (congrFun (hpre c).2.2 i))), (h c).2.2.2.2⟩)
      (Cert.LossHeadRefIdeal.Value.run (F := Ideal) m' ρ')⟩

end Cert.Proof.LossHeadClaims

end
-- ==== Proof.SguBwdBody.lean ====
/- SguBwd: what the kernel's body computes at a point of the grid, read as sums and products of the arguments' entries. -/
module

public import proofs.«01_k».proof.Proof.Gen.SguBwdIdeal.Frame
public import Idealize.ShloMosaic.Lib.Pointwise
public import Idealize.ShloMosaic.Lib.Pipeline.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.SguBwdIdeal.Outcome
open Cert.SguBwdIdeal Cert.SguBwdIdeal.Gen
variable (m : (ℓ : Loc nD τ sig) → Buf (Elt Ideal) ℓ) (c : Dev nD) (t : Fin cfg0.N)

/-- A square tile of a block of rows, read at an index. -/
theorem tile_apply (V : S256x1024.Idx → EReal) (a b : ℕ) (h : S256x1024.Slices ![a, b] S128x128) (ha : a + 128 ≤ 256) (hb : b + 128 ≤ 1024) (i j : Fin 128) :
    extractStridedSlice S128x128 ![a, b] V h (ix2 i j) = V (ix2 ⟨a + i.val, by omega⟩ ⟨b + j.val, by omega⟩) :=
  extractStridedSlice_apply _ _ _ _ _ fun d => by fin_cases d <;> rfl

/-- A block's rows mixed, each chunk of 128 rows by the group's square. -/
def mixT (W : S8x128x128.Idx → EReal) (V : S256x1024.Idx → EReal) : S256x1024.Idx → EReal := fun y =>
  ∑ k : Fin 128, W (ix3 ⟨(y 1).val / 128, by have := (y 1).isLt; have : S256x1024.size 1 = 1024 := rfl; omega⟩ ⟨(y 0).val % 128, Nat.mod_lt _ (by norm_num)⟩ k)
    * V (ix2 ⟨(y 0).val / 128 * 128 + k.val, by have := (y 0).isLt; have : S256x1024.size 0 = 256 := rfl; omega⟩ (y 1))

theorem mm_apply (A B : FVec Ideal S128x128 .bf16) (i j : Fin 128) :
    matmul (F := Ideal) (φ₁ := .bf16) (φ₂ := .bf16) dot_S128x128_S128x128_S128x128_1_0_0_1_n_n none A B (constant S128x128 FTy.f32 0#32) (ix2 i j) = ∑ k : Fin 128, A (ix2 i k) * B (ix2 k j) := by
  pointwise
theorem mmt_apply (A B : FVec Ideal S128x128 .bf16) (i j : Fin 128) :
    matmul (F := Ideal) (φ₁ := .bf16) (φ₂ := .bf16) dot_S128x128_S128x128_S128x128_1_1_0_0_n_n none A B (constant S128x128 FTy.f32 0#32) (ix2 i j) = ∑ k : Fin 128, A (ix2 i k) * B (ix2 j k) := by
  pointwise

theorem unit_apply {φ : FTy} (A : FVec Ideal S1x128x128 φ) (i j : Fin 128) (h : S1x128x128.ShapeCasts S128x128) :
    (shapeCast S128x128 A h : S128x128.Idx → EReal) (ix2 i j) = A (ix3 0 i j) := by
  pointwise
theorem group_apply {e : EltTy} (W : Vec Ideal S8x128x128 e) (g : ℕ) (inb : ∀ a, (![g, 0, 0] : Fin 3 → ℕ) a + S1x128x128.size a ≤ S8x128x128.size a) (hg : g < 8) (i j : Fin 128) :
    View.ld W (Rect.unit (s := S8x128x128) ![g, 0, 0] S1x128x128.size inb) (ix3 0 i j) = W (ix3 ⟨g, hg⟩ i j) := by
  refine View.ld_unit_apply_of _ _ _ _ _ _ fun a => ?_
  fin_cases a <;> simp [ix3]

theorem tile_piece (W : FVec Ideal S8x128x128 .bf16) (V : FVec Ideal S256x1024 .bf16) (n g : ℕ) (hn : n < 2 := by norm_num) (hg : g < 8 := by norm_num)
    (inb : ∀ a, (![128 * n, 128 * g] : Fin 2 → ℕ) a + S128x128.size a ≤ S256x1024.size a := by decide)
    {inbW : ∀ a, (![g, 0, 0] : Fin 3 → ℕ) a + S1x128x128.size a ≤ S8x128x128.size a}
    {hs : S256x1024.Slices ![128 * n, 128 * g] S128x128} {hc : S1x128x128.ShapeCasts S128x128} {hd : S128x128.ShapeCasts S128x128} (x : S128x128.Idx) :
    shapeCast S128x128 (matmul (F := Ideal) (φ₁ := .bf16) (φ₂ := .bf16) dot_S128x128_S128x128_S128x128_1_0_0_1_n_n none
      (shapeCast S128x128 (α := Ideal .bf16) (View.ld (Val := Elt Ideal) (e' := .bf16) W (Rect.unit (s := S8x128x128) ![g, 0, 0] S1x128x128.size inbW)) hc)
      (extractStridedSlice S128x128 ![128 * n, 128 * g] V hs) (constant S128x128 FTy.f32 0#32)) hd x
      = mixT W V ((Rect.unit (s := S256x1024) ![128 * n, 128 * g] S128x128.size inb).emb x) := by
  obtain ⟨i, j, rfl⟩ : ∃ (i : Fin 128) (j : Fin 128), x = ix2 i j := ⟨x 0, x 1, eq_ix2 x⟩
  rw [shapeCast_self, mm_apply]
  unfold mixT
  refine Finset.sum_congr rfl fun k _ => ?_
  rw [unit_apply (φ := .bf16), group_apply _ g _ hg, tile_apply _ _ _ _ (by omega) (by omega)]
  congr 1
  · congr 1
    blk_ext
  · congr 1
    blk_ext

/-- A covering list of pieces that all show one function, read back. -/
theorem readCov_of_pieces {κ : Kind} {sp : Space} {S : Shape} {e : EltTy} (v : View sig κ sp S e) (L : List (View.Piece (Elt Ideal) S e)) (G : S.Idx → Elt Ideal e)
    (h : View.PiecesOf G L) (hc : ∀ y : S.Idx, ∃ p ∈ L, y ∈ p.1.set) (r : Rect S) : v.readCov L r.toLoadRect = View.ld G r := by
  rw [View.readCov_eq_canon_ld v L r hc]
  congr 1
  funext y
  exact View.canon_apply_of_pieces G L h.mem y (hc y)

/-- The same of a load of the whole, read as the function itself. -/
theorem readCov_whole {κ : Kind} {sp : Space} {S : Shape} {e : EltTy} (v : View sig κ sp S e) (L : List (View.Piece (Elt Ideal) S e)) (G : S.Idx → Elt Ideal e)
    (h : View.PiecesOf G L) (hc : ∀ y : S.Idx, ∃ p ∈ L, y ∈ p.1.set) (off : Fin S.rank → ℕ) (inb : ∀ a, off a + S.size a ≤ S.size a) (h0 : ∀ a, off a = 0) :
    v.readCov L (Rect.unit (s := S) off S.size inb).toLoadRect = G := by
  rw [readCov_of_pieces v L G h hc]
  funext x
  exact View.ld_unit_apply_of G off S.size inb x x fun a => by rw [h0 a, Nat.zero_add]

/-- Rows with the bias, which repeats every 128 rows. -/
def biased (G : S256x1024.Idx → EReal) (B : S128x1024.Idx → EReal) : S256x1024.Idx → EReal := fun y => G y + B (ix2 ⟨(y 0).val % 128, Nat.mod_lt _ (by norm_num)⟩ (y 1))
/-- A half of the rows with the bias. -/
theorem half_biased (G : S256x1024.Idx → EReal) (B : S128x1024.Idx → EReal) (n : ℕ) (hn : n < 2) (i : ∀ a, (![128 * n, 0] : Fin 2 → ℕ) a + S128x1024.size a ≤ S256x1024.size a) (hd : S128x1024.ShapeCasts S128x1024) (x : S128x1024.Idx) :
    shapeCast S128x1024 (addf (F := Ideal) (φ := .f32) (View.ld (Val := Elt Ideal) (e' := .f32) G (Rect.unit (s := S256x1024) ![128 * n, 0] S128x1024.size i)) (shapeCast S128x1024 B hd)) hd x
      = biased G B ((Rect.unit (s := S256x1024) ![128 * n, 0] S128x1024.size i).emb x) := by
  obtain ⟨r, l, rfl⟩ : ∃ (r : Fin 128) (l : Fin 1024), x = ix2 r l := ⟨x 0, x 1, eq_ix2 x⟩
  refine (congrFun (shapeCast_self _ _) _).trans (congrArg₂ (· + ·) rfl ((congrFun (shapeCast_self _ _) _).trans (congrArg B ?_)))
  blk_ext

/-- Mixed rows that the bias is added to, half by half, read back. -/
theorem mix_biased (v : View sig .tc .vmem S256x1024 .f32) (L : List (View.Piece (Elt Ideal) S256x1024 .f32)) (G : S256x1024.Idx → EReal) (B : S128x1024.Idx → EReal)
    (h : View.PiecesOf (Val := Elt Ideal) (e := .f32) G L) (hc : ∀ y : S256x1024.Idx, ∃ p ∈ L, y ∈ p.1.set)
    (i0 : ∀ a, (![0, 0] : Fin 2 → ℕ) a + S128x1024.size a ≤ S256x1024.size a) (i1 : ∀ a, (![128, 0] : Fin 2 → ℕ) a + S128x1024.size a ≤ S256x1024.size a)
    (i2 : ∀ a, (![0, 0] : Fin 2 → ℕ) a + S256x1024.size a ≤ S256x1024.size a) (hd : S128x1024.ShapeCasts S128x1024) :
    v.readCov (⟨Rect.unit (s := S256x1024) ![128, 0] S128x1024.size i1, shapeCast S128x1024 (addf (F := Ideal) (φ := .f32)
          (v.readCov (⟨Rect.unit (s := S256x1024) ![0, 0] S128x1024.size i0, shapeCast S128x1024 (addf (F := Ideal) (φ := .f32) (v.readCov L (Rect.unit (s := S256x1024) ![0, 0] S128x1024.size i0).toLoadRect) (shapeCast S128x1024 B hd)) hd⟩ :: L)
            (Rect.unit (s := S256x1024) ![128, 0] S128x1024.size i1).toLoadRect) (shapeCast S128x1024 B hd)) hd⟩
        :: ⟨Rect.unit (s := S256x1024) ![0, 0] S128x1024.size i0, shapeCast S128x1024 (addf (F := Ideal) (φ := .f32) (v.readCov L (Rect.unit (s := S256x1024) ![0, 0] S128x1024.size i0).toLoadRect) (shapeCast S128x1024 B hd)) hd⟩ :: L)
      (Rect.unit (s := S256x1024) ![0, 0] S256x1024.size i2).toLoadRect
      = biased G B := by
  have h2 : ∀ (w1 w2 : S128x1024.Idx → Elt Ideal .f32) (y : S256x1024.Idx), ∃ p ∈ ([⟨Rect.unit (s := S256x1024) ![128, 0] S128x1024.size i1, w1⟩, ⟨Rect.unit (s := S256x1024) ![0, 0] S128x1024.size i0, w2⟩] : List (View.Piece (Elt Ideal) S256x1024 .f32)), y ∈ p.1.set :=
    fun w1 w2 => View.cover_of_tiledL _ S128x1024.size (by sl_kernel_rfl)
  rw [View.readCov_skip v _ _ L (Rect.unit (s := S256x1024) ![128, 0] S128x1024.size i1).toLoadRect (by exact rfl), readCov_of_pieces v L G h hc, readCov_of_pieces v L G h hc, View.readCov_eq_canon_ld]
  · funext x
    refine (View.ld_unit_apply_of _ _ _ _ _ x fun a => by fin_cases a <;> exact (Nat.zero_add _).symm).trans ?_
    exact View.canon_append_of_piecesOf (Val := Elt Ideal) (e := .f32) (biased G B) L (_ :: _ :: []) ⟨half_biased G B 1 (by norm_num) i1 hd, half_biased G B 0 (by norm_num) i0 hd, trivial⟩ x (h2 _ _ x)
  · intro y
    obtain ⟨p, hp, hy⟩ := hc y
    exact ⟨p, List.mem_cons_of_mem _ (List.mem_cons_of_mem _ hp), hy⟩

theorem pay9_apply (v3 : Vec Ideal S256x2048 .f32) (r : Fin 256) (k : Fin 1024) :
    k0_pay9 (F := Ideal) v3 (ix2 r k) = k0_pay6 (F := Ideal) v3 (ix2 r ⟨1024 + k.val, by omega⟩) := by
  unfold k0_pay9
  generalize k0_pay6 (F := Ideal) v3 = a
  pointwise
theorem pay8_apply (v3 : Vec Ideal S256x2048 .f32) (r : Fin 256) (k : Fin 1024) :
    k0_pay8 (F := Ideal) v3 (ix2 r k) = k0_pay6 (F := Ideal) v3 (ix2 r ⟨k.val, by omega⟩) := by
  unfold k0_pay8
  generalize k0_pay6 (F := Ideal) v3 = a
  pointwise
/-- The gate's unit and its derivative at one number, as the kernel writes them. -/
def gel (x : EReal) : EReal := Ideal.ofBits .f32 0x3F000000#32 * x * (Ideal.ofBits .f32 0x3F800000#32 + Ideal.tanh (Ideal.ofBits .f32 0x3F4C422A#32 * (x + ((8943 / 200000 : ℝ) : EReal) * x * x * x)))
def dgel (x : EReal) : EReal :=
  Ideal.ofBits .f32 0x3F000000#32 * (Ideal.ofBits .f32 0x3F800000#32 + Ideal.tanh (Ideal.ofBits .f32 0x3F4C422A#32 * (x + ((8943 / 200000 : ℝ) : EReal) * x * x * x)))
    + Ideal.ofBits .f32 0x3F000000#32 * x * (Ideal.ofBits .f32 0x3F800000#32 - Ideal.tanh (Ideal.ofBits .f32 0x3F4C422A#32 * (x + ((8943 / 200000 : ℝ) : EReal) * x * x * x)) * Ideal.tanh (Ideal.ofBits .f32 0x3F4C422A#32 * (x + ((8943 / 200000 : ℝ) : EReal) * x * x * x)))
      * (Ideal.ofBits .f32 0x3F4C422A#32 * (Ideal.ofBits .f32 0x3F800000#32 + ((26829 / 200000 : ℝ) : EReal) * x * x))
theorem pay6_apply (v3 : Vec Ideal S256x2048 .f32) (r : Fin 256) (k : Fin 2048) :
    k0_pay6 (F := Ideal) v3 (ix2 r k) = gel (v3 (ix2 r k)) := by
  unfold gel
  pointwise [k0_pay6, k0_pay5]
  rfl
theorem pay7_apply (v3 : Vec Ideal S256x2048 .f32) (r : Fin 256) (k : Fin 2048) :
    k0_pay7 (F := Ideal) v3 (ix2 r k) = dgel (v3 (ix2 r k)) := by
  unfold dgel
  pointwise [k0_pay7, k0_pay5]
  rfl
theorem pay10_apply (v3 : Vec Ideal S256x2048 .f32) (r : Fin 256) :
    k0_pay10 (F := Ideal) v3 (ix2 r 0) = ∑ k : Fin 1024, k0_pay9 (F := Ideal) v3 (ix2 r k) * k0_pay9 (F := Ideal) v3 (ix2 r k) := by
  unfold k0_pay10
  generalize k0_pay9 (F := Ideal) v3 = a
  pointwise
theorem pay32_apply (v36 : FVec Ideal S256x1024 .f32) (v164 : Vec Ideal S256x1024 .f32) (r : Fin 256) (k : Fin 1024) :
    k0_pay32 (F := Ideal) v36 v164 (ix2 r k) = v164 (ix2 r k) * v36 (ix2 r k) := by
  pointwise [k0_pay32]
theorem rows_apply (a : FVec Ideal S256x1024 .f32) (v : Vec Ideal S128x1024 .f32) (r : Fin 128) (k : Fin 1024) :
    addf (F := Ideal) (φ := .f32) (shapeCast S128x1024 (addf (F := Ideal) (φ := .f32) (shapeCast S128x1024 v shapeCasts_S128x1024_S128x1024) (extractStridedSlice S128x1024 ![0, 0] a slices_S256x1024_o0_0_S128x1024)) shapeCasts_S128x1024_S128x1024)
      (extractStridedSlice S128x1024 ![128, 0] a slices_S256x1024_o128_0_S128x1024) (ix2 r k) = v (ix2 r k) + a (ix2 ⟨0 * 128 + r.val, by omega⟩ k) + a (ix2 ⟨1 * 128 + r.val, by omega⟩ k) := by
  pointwise
theorem pay75_apply (v47 : FVec Ideal S256x1024 .f32) (v449 : Vec Ideal S256x1024 .f32) (v450 : Vec Ideal S1x1024 .f32) (k : Fin 1024) :
    k0_pay75 (F := Ideal) v47 v449 v450 (ix2 0 k) = v450 (ix2 0 k) + ∑ r : Fin 256, v449 (ix2 r k) * v47 (ix2 r k) := by
  pointwise [k0_pay75]
theorem pay76_apply (v45 : FVec Ideal S256x1 .f32) (v47 : FVec Ideal S256x1024 .f32) (v48 : Vec Ideal S1x1024 .f32) (v449 : Vec Ideal S256x1024 .f32) (r : Fin 256) (l : Fin 1024) :
    k0_pay76 (F := Ideal) v45 v47 v48 v449 (ix2 r l) = v45 (ix2 r 0) * (v449 (ix2 r l) * v48 (ix2 0 l) - v47 (ix2 r l) * Ideal.div (∑ k : Fin 1024, v449 (ix2 r k) * v48 (ix2 0 k) * v47 (ix2 r k)) (Ideal.ofBits .f32 0x44800000#32)) := by
  pointwise [k0_pay76]
theorem pay77_apply (v35 : FVec Ideal S256x2048 .f32) (v164 v447 : Vec Ideal S256x1024 .f32) (r : Fin 256) (l : Fin 1024) :
    k0_pay77 (F := Ideal) v35 v164 v447 (ix2 r l) = v164 (ix2 r l) * v447 (ix2 r l) * v35 (ix2 r ⟨l.val, by omega⟩) := by
  pointwise [k0_pay77]
theorem pay1_apply (v35 : FVec Ideal S256x2048 .f32) (v468 : FVec Ideal S256x1024 .f32) (r : Fin 256) (l : Fin 1024) :
    k0_pay1 (F := Ideal) v35 v468 (ix2 r l) = v468 (ix2 r l) * v35 (ix2 r ⟨1024 + l.val, by omega⟩) := by
  pointwise [k0_pay1]

/-- The two halves of the gradient, stored side by side. -/
theorem halves_apply (A B : S256x1024.Idx → EReal) (iA : ∀ a, (![0, 1024] : Fin 2 → ℕ) a + S256x1024.size a ≤ S256x2048.size a) (iB : ∀ a, (![0, 0] : Fin 2 → ℕ) a + S256x1024.size a ≤ S256x2048.size a) (k : Fin 256) (l : Fin 1024) :
    View.canon (Val := Elt Ideal) (e := .bf16) [⟨Rect.unit (s := S256x2048) ![0, 1024] S256x1024.size iA, A⟩, ⟨Rect.unit (s := S256x2048) ![0, 0] S256x1024.size iB, B⟩] (ix2 k ⟨l.val, by omega⟩) = B (ix2 k l)
    ∧ View.canon (Val := Elt Ideal) (e := .bf16) [⟨Rect.unit (s := S256x2048) ![0, 1024] S256x1024.size iA, A⟩, ⟨Rect.unit (s := S256x2048) ![0, 0] S256x1024.size iB, B⟩] (ix2 k ⟨1024 + l.val, by omega⟩) = A (ix2 k l) := by
  constructor
  · rw [View.canon_cons_of_not_mem _ _ fun hm => by
      obtain ⟨x, hx⟩ := LoadRect.exists_idx_of_mem (Rect.unit (s := S256x2048) ![0, 1024] S256x1024.size iA).toLoadRect hm
      have := congrArg (fun y : S256x2048.Idx => (y 1).val) hx
      have h1 : ((Rect.unit (s := S256x2048) ![0, 1024] S256x1024.size iA).idx x 1).val = 1024 + (x 1).val := Rect.idx_unit_val _ _ _ _ _
      have h2 : ((ix2 k ⟨l.val, by omega⟩ : S256x2048.Idx) 1).val = l.val := rfl
      simp only [h1, h2] at this
      omega]
    have he : (ix2 k ⟨l.val, by omega⟩ : S256x2048.Idx) = (Rect.unit (s := S256x2048) ![0, 0] S256x1024.size iB).emb (ix2 k l) := by blk_ext
    rw [he]
    exact View.canon_cons_emb _ _ _ _
  · have he : (ix2 k ⟨1024 + l.val, by omega⟩ : S256x2048.Idx) = (Rect.unit (s := S256x2048) ![0, 1024] S256x1024.size iA).emb (ix2 k l) := by blk_ext
    rw [he]
    exact View.canon_cons_emb _ _ _ _

/-- The reciprocal root, the normed rows, those with the scale, and the gradient of the mixed rows, of a tile's blocks. -/
abbrev rsT : FVec Ideal S256x1 .f32 :=
  rsqrt (addf (divf (k0_pay10 (F := Ideal) (iblk m c 0 t)) (broadcast S256x1 (FloatOps.ofBits .f32 0x44800000#32))) (broadcast S256x1 (FloatOps.ofBits .f32 0x358637BD#32)))
abbrev vhT : FVec Ideal S256x1024 .f32 := mulf (k0_pay9 (F := Ideal) (iblk m c 0 t)) (broadcastTo S256x1024 (rsT m c t) broadcasts_S256x1_S256x1024)
abbrev vnT : FVec Ideal S256x1024 .bf16 := k0_pay13 (F := Ideal) (k0_pay9 (F := Ideal) (iblk m c 0 t)) (k0_pay10 (F := Ideal) (iblk m c 0 t)) (Ideal.ofBits .f32 0x44800000#32) (iblk m c 2 t)
abbrev dmT : FVec Ideal S256x1024 .bf16 := k0_pay33 (F := Ideal) (k0_pay8 (F := Ideal) (iblk m c 0 t)) (iblk m c 1 t)
abbrev dvnT : S256x1024.Idx → EReal := mixT (iblk m c 4 t) (dmT m c t)

/-- The blocks. -/
abbrev pT : S256x2048.Idx → EReal := iblk m c 0 t
abbrev dyT : S256x1024.Idx → EReal := iblk m c 1 t
abbrev ngT : S1x1024.Idx → EReal := iblk m c 2 t
abbrev mixedT : S256x1024.Idx → EReal := biased (mixT (iblk m c 3 t) (vnT m c t)) (iblk m c 5 t)

theorem after6_left (k : Fin 256) (l : Fin 1024) : (outsAt0 m c t.val t.isLt).1 (ix2 k ⟨l.val, by omega⟩)
    = dyT m c t (ix2 k l) * mixedT m c t (ix2 k l) * dgel (pT m c t (ix2 k ⟨l.val, by omega⟩)) := by
  by_cases h : t.val % 32 = 0
  on_goal 1 => rw [outsAt0_A m c t h]
  on_goal 2 => rw [outsAt0_B m c t h]
  all_goals
    frame_out
    refine (halves_apply _ _ _ _ k l).1.trans ?_
    rw [pay77_apply, pay7_apply, mix_biased _ _ (mixT (iblk m c 3 t) (vnT m c t)) (iblk m c 5 t)]
    · exact ⟨tile_piece _ _ 1 7, tile_piece _ _ 1 6, tile_piece _ _ 1 5, tile_piece _ _ 1 4, tile_piece _ _ 1 3, tile_piece _ _ 1 2, tile_piece _ _ 1 1, tile_piece _ _ 1 0, tile_piece _ _ 0 7, tile_piece _ _ 0 6, tile_piece _ _ 0 5, tile_piece _ _ 0 4, tile_piece _ _ 0 3, tile_piece _ _ 0 2, tile_piece _ _ 0 1, tile_piece _ _ 0 0, trivial⟩
    · exact View.cover_of_tiledL _ S128x128.size (by sl_kernel_rfl)
theorem after6_right (k : Fin 256) (l : Fin 1024) : (outsAt0 m c t.val t.isLt).1 (ix2 k ⟨1024 + l.val, by omega⟩)
    = rsT m c t (ix2 k 0) * (dvnT m c t (ix2 k l) * ngT m c t (ix2 0 l) - vhT m c t (ix2 k l) * Ideal.div (∑ j : Fin 1024, dvnT m c t (ix2 k j) * ngT m c t (ix2 0 j) * vhT m c t (ix2 k j)) (Ideal.ofBits .f32 0x44800000#32))
      * dgel (pT m c t (ix2 k ⟨1024 + l.val, by omega⟩)) := by
  by_cases h : t.val % 32 = 0
  on_goal 1 => rw [outsAt0_A m c t h]
  on_goal 2 => rw [outsAt0_B m c t h]
  all_goals
    frame_out
    refine (halves_apply _ _ _ _ k l).2.trans ?_
    rw [pay1_apply, pay7_apply, readCov_whole _ _ (dvnT m c t), pay76_apply]
    · exact ⟨tile_piece _ _ 1 7, tile_piece _ _ 1 6, tile_piece _ _ 1 5, tile_piece _ _ 1 4, tile_piece _ _ 1 3, tile_piece _ _ 1 2, tile_piece _ _ 1 1, tile_piece _ _ 1 0, tile_piece _ _ 0 7, tile_piece _ _ 0 6, tile_piece _ _ 0 5, tile_piece _ _ 0 4, tile_piece _ _ 0 3, tile_piece _ _ 0 2, tile_piece _ _ 0 1, tile_piece _ _ 0 0, trivial⟩
    · exact View.cover_of_tiledL _ S128x128.size (by sl_kernel_rfl)
    · intro a; fin_cases a <;> rfl
/-- One step of the scale's gradient. -/
theorem step7 (l : Fin 1024) (prev : Vec Ideal S1x1024 .f32) (hA : t.val % 32 = 0 → prev = k0_pay2 (F := Ideal)) (hB : ∀ h : t.val % 32 ≠ 0, prev = (outsAt0 m c (t.val - 1) (Nat.lt_of_le_of_lt (Nat.sub_le _ _) t.isLt)).2.1) :
    (outsAt0 m c t.val t.isLt).2.1 (ix2 0 l) = (prev (ix2 0 l) : EReal) + ∑ r : Fin 256, dvnT m c t (ix2 r l) * vhT m c t (ix2 r l) := by
  by_cases h : t.val % 32 = 0
  on_goal 1 => rw [outsAt0_A m c t h, hA h]
  on_goal 2 => rw [outsAt0_B m c t h, hB h]
  all_goals
    frame_out
    rw [readCov_whole _ _ (dvnT m c t), pay75_apply]
    · exact ⟨tile_piece _ _ 1 7, tile_piece _ _ 1 6, tile_piece _ _ 1 5, tile_piece _ _ 1 4, tile_piece _ _ 1 3, tile_piece _ _ 1 2, tile_piece _ _ 1 1, tile_piece _ _ 1 0, tile_piece _ _ 0 7, tile_piece _ _ 0 6, tile_piece _ _ 0 5, tile_piece _ _ 0 4, tile_piece _ _ 0 3, tile_piece _ _ 0 2, tile_piece _ _ 0 1, tile_piece _ _ 0 0, trivial⟩
    · exact View.cover_of_tiledL _ S128x128.size (by sl_kernel_rfl)
    · intro a; fin_cases a <;> rfl
theorem step9 (r : Fin 128) (l : Fin 1024) (prev : Vec Ideal S128x1024 .f32) (hA : t.val % 32 = 0 → prev = k0_pay4 (F := Ideal)) (hB : ∀ h : t.val % 32 ≠ 0, prev = (outsAt0 m c (t.val - 1) (Nat.lt_of_le_of_lt (Nat.sub_le _ _) t.isLt)).2.2.2) :
    (outsAt0 m c t.val t.isLt).2.2.2 (ix2 r l) = (prev (ix2 r l) : EReal) + dmT m c t (ix2 ⟨0 * 128 + r.val, by omega⟩ l) + dmT m c t (ix2 ⟨1 * 128 + r.val, by omega⟩ l) := by
  by_cases h : t.val % 32 = 0
  on_goal 1 => rw [outsAt0_A m c t h, hA h]
  on_goal 2 => rw [outsAt0_B m c t h, hB h]
  all_goals
    frame_out
    exact rows_apply _ _ _ _
theorem shell_apply (P : FVec Ideal S1x128x128 .f32) (M0 M1 : FVec Ideal S128x128 .f32) (i j : Fin 128) (hc : S1x128x128.ShapeCasts S128x128) (hd : S128x128.ShapeCasts S1x128x128) :
    (shapeCast S1x128x128 (addf (F := Ideal) (φ := .f32) (shapeCast S128x128 (shapeCast S1x128x128 (addf (F := Ideal) (φ := .f32) (shapeCast S128x128 P hc) M0) hd) hc) M1) hd : S1x128x128.Idx → EReal) (ix3 0 i j)
      = P (ix3 0 i j) + M0 (ix2 i j) + M1 (ix2 i j) := by
  pointwise
/-- What a tile of two chunks adds to the squares' gradient. -/
def dwT (A B : S256x1024.Idx → EReal) (P : S8x128x128.Idx → EReal) : S8x128x128.Idx → EReal := fun y =>
  P y + (∑ k : Fin 128, A (ix2 ⟨0 * 128 + (y 1).val, by have := (y 1).isLt; have : S8x128x128.size 1 = 128 := rfl; omega⟩ ⟨(y 0).val * 128 + k.val, by have := (y 0).isLt; have : S8x128x128.size 0 = 8 := rfl; omega⟩)
      * B (ix2 ⟨0 * 128 + (y 2).val, by have := (y 2).isLt; have : S8x128x128.size 2 = 128 := rfl; omega⟩ ⟨(y 0).val * 128 + k.val, by have := (y 0).isLt; have : S8x128x128.size 0 = 8 := rfl; omega⟩))
    + (∑ k : Fin 128, A (ix2 ⟨1 * 128 + (y 1).val, by have := (y 1).isLt; have : S8x128x128.size 1 = 128 := rfl; omega⟩ ⟨(y 0).val * 128 + k.val, by have := (y 0).isLt; have : S8x128x128.size 0 = 8 := rfl; omega⟩)
      * B (ix2 ⟨1 * 128 + (y 2).val, by have := (y 2).isLt; have : S8x128x128.size 2 = 128 := rfl; omega⟩ ⟨(y 0).val * 128 + k.val, by have := (y 0).isLt; have : S8x128x128.size 0 = 8 := rfl; omega⟩))
theorem dw_piece (A B : FVec Ideal S256x1024 .bf16) (P : FVec Ideal S8x128x128 .f32) (g : ℕ) (hg : g < 8 := by norm_num)
    (inb : ∀ a, (![g, 0, 0] : Fin 3 → ℕ) a + S1x128x128.size a ≤ S8x128x128.size a := by decide) {inb' : ∀ a, (![g, 0, 0] : Fin 3 → ℕ) a + S1x128x128.size a ≤ S8x128x128.size a}
    {h0 : S256x1024.Slices ![0, 128 * g] S128x128} {h1 : S256x1024.Slices ![128, 128 * g] S128x128} {hc : S1x128x128.ShapeCasts S128x128} {hd : S128x128.ShapeCasts S1x128x128} (x : S1x128x128.Idx) :
    shapeCast S1x128x128 (addf (F := Ideal) (φ := .f32) (shapeCast S128x128 (shapeCast S1x128x128 (addf (F := Ideal) (φ := .f32) (shapeCast S128x128 (α := Ideal .f32) (View.ld (Val := Elt Ideal) (e' := .f32) P (Rect.unit (s := S8x128x128) ![g, 0, 0] S1x128x128.size inb')) hc)
        (matmul (F := Ideal) (φ₁ := .bf16) (φ₂ := .bf16) dot_S128x128_S128x128_S128x128_1_1_0_0_n_n none (extractStridedSlice S128x128 ![0, 128 * g] A h0) (extractStridedSlice S128x128 ![0, 128 * g] B h0) (constant S128x128 FTy.f32 0#32))) hd) hc)
        (matmul (F := Ideal) (φ₁ := .bf16) (φ₂ := .bf16) dot_S128x128_S128x128_S128x128_1_1_0_0_n_n none (extractStridedSlice S128x128 ![128, 128 * g] A h1) (extractStridedSlice S128x128 ![128, 128 * g] B h1) (constant S128x128 FTy.f32 0#32))) hd x
      = dwT A B P ((Rect.unit (s := S8x128x128) ![g, 0, 0] S1x128x128.size inb).emb x) := by
  obtain ⟨z, i, j, rfl⟩ : ∃ (z : Fin 1) (i j : Fin 128), x = ix3 z i j := ⟨x 0, x 1, x 2, eq_ix3 x⟩
  obtain rfl : z = 0 := Subsingleton.elim _ _
  refine (shell_apply _ _ _ i j _ _).trans ?_
  rw [mmt_apply, mmt_apply]
  refine (congrArg (fun z => z + _ + _) (group_apply (e := .f32) P g _ hg i j)).trans ?_
  have he : (Rect.unit (s := S8x128x128) ![g, 0, 0] S1x128x128.size inb).emb (ix3 0 i j) = ix3 ⟨g, hg⟩ i j := by blk_ext
  rw [he]
  refine congrArg₂ (· + ·) (congrArg₂ (· + ·) rfl ?_) ?_ <;> refine Finset.sum_congr rfl fun k _ => ?_ <;> rw [tile_apply _ _ _ _ (by omega) (by omega), tile_apply _ _ _ _ (by omega) (by omega)] <;> congr 1 <;> congr 1 <;> blk_ext
theorem step8 (y : S8x128x128.Idx) (prev : Vec Ideal S8x128x128 .f32) (hA : t.val % 32 = 0 → prev = k0_pay3 (F := Ideal)) (hB : ∀ h : t.val % 32 ≠ 0, prev = (outsAt0 m c (t.val - 1) (Nat.lt_of_le_of_lt (Nat.sub_le _ _) t.isLt)).2.2.1) :
    (outsAt0 m c t.val t.isLt).2.2.1 y = dwT (dmT m c t) (vnT m c t) prev y := by
  by_cases h : t.val % 32 = 0
  on_goal 1 => rw [outsAt0_A m c t h, hA h]
  on_goal 2 => rw [outsAt0_B m c t h, hB h]
  all_goals
    frame_open
    simp (disch := decide) only [↓ View.readCov_skip, ↓ View.readCov_cons_toLoadRect, ↓ View.readCov_fill]
    frame_out
    refine View.canon_append_of_piecesOf (Val := Elt Ideal) (e := .f32) _ _ (_ :: _ :: _ :: _ :: _ :: _ :: _ :: _ :: []) ⟨dw_piece _ _ _ 7, dw_piece _ _ _ 6, dw_piece _ _ _ 5, dw_piece _ _ _ 4, dw_piece _ _ _ 3, dw_piece _ _ _ 2, dw_piece _ _ _ 1, dw_piece _ _ _ 0, trivial⟩ y ?_
    exact View.cover_of_tiledL (s := S8x128x128) _ S1x128x128.size (by sl_kernel_rfl) y
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem row_lt (r : Fin 256) : t.val * 256 + r.val < 8192 := by
  have := t.isLt; have hN : cfg0.N = 32 := N_0; omega

/-- The blocks the body loads, in terms of the arguments. -/
theorem iblk0_apply (r : Fin 256) (k : Fin 2048) :
    (iblk m c 0 t : Vec Ideal S256x2048 .f32) (ix2 r k) = m ((c : Thread nD τ).loc main_arg0) (ix2 ⟨t.val * 256 + r.val, row_lt t r⟩ k) := by
  have he : (win0_0.blk t).view.emb (ix2 r k) = ix2 ⟨t.val * 256 + r.val, row_lt t r⟩ k := by blk_ext [idx0 t]
  blk_simp [iblk]
  rw [he]
  exact congrFun (V_main_arg0 m c) _
theorem iblk1_apply (r : Fin 256) (k : Fin 1024) :
    (iblk m c 1 t : Vec Ideal S256x1024 .f32) (ix2 r k) = m ((c : Thread nD τ).loc main_arg4) (ix2 ⟨t.val * 256 + r.val, row_lt t r⟩ k) := by
  have he : (win0_1.blk t).view.emb (ix2 r k) = ix2 ⟨t.val * 256 + r.val, row_lt t r⟩ k := by blk_ext [idx1 t]
  blk_simp [iblk]
  rw [he]
  exact congrFun (V_main_arg4 m c) _
theorem iblk2_apply (k : Fin 1024) :
    (iblk m c 2 t : Vec Ideal S1x1024 .f32) (ix2 0 k) = m ((c : Thread nD τ).loc main_arg1) (ix2 0 k) := by
  have he : (win0_2.blk t).view.emb (ix2 0 k) = ix2 0 k := by blk_ext [idx2 t]
  blk_simp [iblk]
  rw [he]
  exact congrFun (V_main_arg1 m c) _
/-- The lower triangle, -/
def triM : S128x128.Idx → BitVec 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
/-- the squares with zeros above it, -/
def maskM (x : S8x128x128.Idx → EReal) : S8x128x128.Idx → EReal :=
  select (broadcastInDim S8x128x128 ![0, 1, 2] bcast_S1x128x128_S8x128x128_0_1_2 (broadcastInDim S1x128x128 ![1, 2] bcast_S128x128_S1x128x128_1_2 triM)) x
    (broadcastInDim S8x128x128 ![] bcast_S_S8x128x128 (constant (F := Ideal) S_ .f32 0#32))
theorem triM_apply (i j : Fin 128) : triM (ix2 i j) = if j.val ≤ i.val then 1#1 else 0#1 := by
  pointwise [triM]
  exact (by decide +kernel : ∀ i j : Fin 128, Scalar.select (IntOp.cmpi CmpIPredicate.sge (IntOp.addi (BitVec.ofNat 32 i.val) 0#32) (BitVec.ofNat 32 j.val)) 1#1 0#1 = if j.val ≤ i.val then 1#1 else 0#1) i j
theorem maskM_apply (x : S8x128x128.Idx → EReal) (g : Fin 8) (i j : Fin 128) : maskM x (ix3 g i j) = if j.val ≤ i.val then x (ix3 g i j) else 0 := by
  have h := triM_apply i j
  unfold maskM
  generalize triM = a at h ⊢
  pointwise
  rw [h]
  by_cases hj : j.val ≤ i.val
  · simp [hj, Scalar.select]
  · simp [hj, Scalar.select]
theorem sq_apply (x : S1x8x128x128.Idx → EReal) (g : Fin 8) (i j : Fin 128) : (shapeCast S8x128x128 x shapeCasts_S1x8x128x128_S8x128x128 : S8x128x128.Idx → EReal) (ix3 g i j) = x (ix4 0 g i j) := by
  pointwise
theorem hV1 : @Eq (S128x128.Idx → BitVec 1) (V m c main_v1) triM := by
  unfold V V0 hostOps0 hostOps0_1 hostOps0_2 hostOps0_3 hostOps0_4
  simp only [List.flatten_cons, List.flatten_nil, List.append_nil, List.cons_append, List.nil_append]
  after_results
  rfl
theorem hV5 : @Eq (S8x128x128.Idx → EReal) (V m c main_v5) (maskM (shapeCast S8x128x128 (m ((c : Thread nD τ).loc main_arg2)) shapeCasts_S1x8x128x128_S8x128x128)) := by
  unfold V V0 hostOps0 hostOps0_1 hostOps0_2 hostOps0_3 hostOps0_4
  simp only [List.flatten_cons, List.flatten_nil, List.append_nil, List.cons_append, List.nil_append]
  after_results
  rfl
theorem hV7 : @Eq (S8x128x128.Idx → EReal) (V m c main_v7) (transpose S8x128x128 [0, 2, 1] (maskM (shapeCast S8x128x128 (m ((c : Thread nD τ).loc main_arg2)) shapeCasts_S1x8x128x128_S8x128x128)) transposes_S8x128x128_S8x128x128_0_2_1) := by
  unfold V V0 hostOps0 hostOps0_1 hostOps0_2 hostOps0_3 hostOps0_4
  simp only [List.flatten_cons, List.flatten_nil, List.append_nil, List.cons_append, List.nil_append]
  after_results
  rfl
theorem hV11 : @Eq (S128x1024.Idx → EReal) (V m c main_v11) (shapeCast S128x1024 (broadcastInDim S128x8x128 ![0, 1] bcast_S128x8_S128x8x128_0_1 (transpose S128x8 [1, 0]
    (shapeCast S8x128 (m ((c : Thread nD τ).loc main_arg3)) shapeCasts_S1x8x128_S8x128) transposes_S8x128_S128x8_1_0)) shapeCasts_S128x8x128_S128x1024) := by
  unfold V V0 hostOps0 hostOps0_1 hostOps0_2 hostOps0_3 hostOps0_4
  simp only [List.flatten_cons, List.flatten_nil, List.append_nil, List.cons_append, List.nil_append]
  after_results
  rfl
theorem turn_apply (x : S8x128x128.Idx → EReal) (g : Fin 8) (i j : Fin 128) : (transpose S8x128x128 [0, 2, 1] x transposes_S8x128x128_S8x128x128_0_2_1 : S8x128x128.Idx → EReal) (ix3 g i j) = x (ix3 g j i) := by
  pointwise
theorem bias_apply (x : S1x8x128.Idx → EReal) (r : Fin 128) (l : Fin 1024) : (shapeCast S128x1024 (broadcastInDim S128x8x128 ![0, 1] bcast_S128x8_S128x8x128_0_1 (transpose S128x8 [1, 0]
    (shapeCast S8x128 x shapeCasts_S1x8x128_S8x128) transposes_S8x128_S128x8_1_0)) shapeCasts_S128x8x128_S128x1024 : S128x1024.Idx → EReal) (ix2 r l) = x (ix3 0 ⟨l.val / 128, by omega⟩ r) := by
  pointwise
theorem iblk3_apply (g : Fin 8) (i k : Fin 128) :
    (iblk m c 3 t : Vec Ideal S8x128x128 .bf16) (ix3 g i k) = maskM (shapeCast S8x128x128 (m ((c : Thread nD τ).loc main_arg2)) shapeCasts_S1x8x128x128_S8x128x128) (ix3 g i k) := by
  have he : (win0_3.blk t).view.emb (ix3 g i k) = ix3 g i k := by blk_ext [idx3 t]
  blk_simp [iblk]
  rw [he]
  exact congrFun (hV5 m c) _
theorem iblk4_apply (g : Fin 8) (i k : Fin 128) :
    (iblk m c 4 t : Vec Ideal S8x128x128 .bf16) (ix3 g i k) = maskM (shapeCast S8x128x128 (m ((c : Thread nD τ).loc main_arg2)) shapeCasts_S1x8x128x128_S8x128x128) (ix3 g k i) := by
  have he : (win0_4.blk t).view.emb (ix3 g i k) = ix3 g i k := by blk_ext [idx4 t]
  blk_simp [iblk]
  rw [he]
  exact (congrFun (hV7 m c) _).trans (turn_apply _ _ _ _)
theorem iblk5_apply (r : Fin 128) (l : Fin 1024) :
    (iblk m c 5 t : Vec Ideal S128x1024 .f32) (ix2 r l) = m ((c : Thread nD τ).loc main_arg3) (ix3 0 ⟨l.val / 128, by omega⟩ r) := by
  have he : (win0_5.blk t).view.emb (ix2 r l) = ix2 r l := by blk_ext [idx5 t]
  blk_simp [iblk]
  rw [he]
  exact (congrFun (hV11 m c) _).trans (bias_apply _ _ _)

/-- The pieces, of the arguments: the half that is normed, -/
def vv (x0 : S8192x2048.Idx → EReal) (r : Fin 8192) (l : Fin 1024) : EReal := gel (x0 (ix2 r ⟨1024 + l.val, by omega⟩))
/-- its reciprocal root, -/
def rv (x0 : S8192x2048.Idx → EReal) (r : Fin 8192) : EReal :=
  Ideal.rsqrt (Ideal.div (∑ k : Fin 1024, vv x0 r k * vv x0 r k) (Ideal.ofBits .f32 0x44800000#32) + Ideal.ofBits .f32 0x358637BD#32)
/-- the normed half, -/
def vh (x0 : S8192x2048.Idx → EReal) (r : Fin 8192) (l : Fin 1024) : EReal := vv x0 r l * rv x0 r
/-- and with the scale; -/
def vn (x0 : S8192x2048.Idx → EReal) (x1 : S1x1024.Idx → EReal) (r : Fin 8192) (l : Fin 1024) : EReal := vh x0 r l * x1 (ix2 0 l)
/-- what flows back to the mixed rows, -/
def dm (x0 : S8192x2048.Idx → EReal) (x4 : S8192x1024.Idx → EReal) (r : Fin 8192) (l : Fin 1024) : EReal := x4 (ix2 r l) * gel (x0 (ix2 r ⟨l.val, by omega⟩))
/-- the masked squares, -/
def wm (x2 : S1x8x128x128.Idx → EReal) (g : Fin 8) (i k : Fin 128) : EReal := maskM (shapeCast S8x128x128 x2 shapeCasts_S1x8x128x128_S8x128x128) (ix3 g i k)
/-- a row's chunk at a place, the row's place in its chunk, a column's group, -/
abbrev row (r : Fin 8192) (k : Fin 128) : Fin 8192 := ⟨r.val / 128 * 128 + k.val, by omega⟩
abbrev pos (r : Fin 8192) : Fin 128 := ⟨r.val % 128, Nat.mod_lt _ (by norm_num)⟩
abbrev grp (l : Fin 1024) : Fin 8 := ⟨l.val / 128, by omega⟩
abbrev cell (n : Fin 64) (i : Fin 128) : Fin 8192 := ⟨n.val * 128 + i.val, by omega⟩
abbrev lane (g : Fin 8) (k : Fin 128) : Fin 1024 := ⟨g.val * 128 + k.val, by omega⟩
/-- the mixed rows, -/
def mixed (x0 : S8192x2048.Idx → EReal) (x1 : S1x1024.Idx → EReal) (x2 : S1x8x128x128.Idx → EReal) (x3 : S1x8x128.Idx → EReal) (r : Fin 8192) (l : Fin 1024) : EReal :=
  (∑ k : Fin 128, wm x2 (grp l) (pos r) k * vn x0 x1 (row r k) l) + x3 (ix3 0 (grp l) (pos r))
/-- what flows back to the normed rows, -/
def dvn (x0 : S8192x2048.Idx → EReal) (x2 : S1x8x128x128.Idx → EReal) (x4 : S8192x1024.Idx → EReal) (r : Fin 8192) (l : Fin 1024) : EReal :=
  ∑ k : Fin 128, wm x2 (grp l) k (pos r) * dm x0 x4 (row r k) l
/-- the gradient of the input's two halves, -/
def dpl (x0 : S8192x2048.Idx → EReal) (x1 : S1x1024.Idx → EReal) (x2 : S1x8x128x128.Idx → EReal) (x3 : S1x8x128.Idx → EReal) (x4 : S8192x1024.Idx → EReal) (r : Fin 8192) (l : Fin 1024) : EReal :=
  x4 (ix2 r l) * mixed x0 x1 x2 x3 r l * dgel (x0 (ix2 r ⟨l.val, by omega⟩))
def dpr (x0 : S8192x2048.Idx → EReal) (x1 : S1x1024.Idx → EReal) (x2 : S1x8x128x128.Idx → EReal) (x4 : S8192x1024.Idx → EReal) (r : Fin 8192) (l : Fin 1024) : EReal :=
  rv x0 r * (dvn x0 x2 x4 r l * x1 (ix2 0 l) - vh x0 r l * Ideal.div (∑ j : Fin 1024, dvn x0 x2 x4 r j * x1 (ix2 0 j) * vh x0 r j) (Ideal.ofBits .f32 0x44800000#32)) * dgel (x0 (ix2 r ⟨1024 + l.val, by omega⟩))
def dp (x0 : S8192x2048.Idx → EReal) (x1 : S1x1024.Idx → EReal) (x2 : S1x8x128x128.Idx → EReal) (x3 : S1x8x128.Idx → EReal) (x4 : S8192x1024.Idx → EReal) : S8192x2048.Idx → EReal := fun i =>
  if h : (i 1).val < 1024 then dpl x0 x1 x2 x3 x4 (i 0) ⟨(i 1).val, h⟩ else dpr x0 x1 x2 x4 (i 0) ⟨(i 1).val - 1024, by have := (i 1).isLt; have : S8192x2048.size 1 = 2048 := rfl; omega⟩
/-- of the norm's scale, -/
def dng (x0 : S8192x2048.Idx → EReal) (x2 : S1x8x128x128.Idx → EReal) (x4 : S8192x1024.Idx → EReal) : S1x1024.Idx → EReal := fun i =>
  ∑ r : Fin 8192, dvn x0 x2 x4 r (i 1) * vh x0 r (i 1)
/-- of the squares before the mask, -/
def dwc (x0 : S8192x2048.Idx → EReal) (x1 : S1x1024.Idx → EReal) (x4 : S8192x1024.Idx → EReal) : S8x128x128.Idx → EReal := fun i =>
  ∑ n : Fin 64, ∑ k : Fin 128, dm x0 x4 (cell n (i 1)) (lane (i 0) k) * vn x0 x1 (cell n (i 2)) (lane (i 0) k)
/-- and of the bias before the sum along a group. -/
def dbr (x0 : S8192x2048.Idx → EReal) (x4 : S8192x1024.Idx → EReal) : S128x1024.Idx → EReal := fun i => ∑ n : Fin 64, dm x0 x4 (cell n (i 0)) (i 1)

abbrev a0 : S8192x2048.Idx → EReal := m ((c : Thread nD τ).loc main_arg0)
abbrev a1 : S1x1024.Idx → EReal := m ((c : Thread nD τ).loc main_arg1)
abbrev a2 : S1x8x128x128.Idx → EReal := m ((c : Thread nD τ).loc main_arg2)
abbrev a3 : S1x8x128.Idx → EReal := m ((c : Thread nD τ).loc main_arg3)
abbrev a4 : S8192x1024.Idx → EReal := m ((c : Thread nD τ).loc main_arg4)

theorem pay9_eq (r : Fin 256) (k : Fin 1024) : k0_pay9 (F := Ideal) (iblk m c 0 t) (ix2 r k) = vv (a0 m c) ⟨t.val * 256 + r.val, row_lt t r⟩ k := by
  rw [pay9_apply, pay6_apply, iblk0_apply]; rfl
theorem rsT_apply (a : FVec Ideal S256x1 .f32) (r : Fin 256) :
    rsqrt (F := Ideal) (φ := .f32) (addf (divf a (broadcast S256x1 (FloatOps.ofBits (F := Ideal) .f32 0x44800000#32))) (broadcast S256x1 (FloatOps.ofBits (F := Ideal) .f32 0x358637BD#32))) (ix2 r 0)
      = Ideal.rsqrt (Ideal.div (a (ix2 r 0)) (Ideal.ofBits .f32 0x44800000#32) + Ideal.ofBits .f32 0x358637BD#32) := by
  pointwise
theorem rsT_eq (r : Fin 256) : rsT m c t (ix2 r 0) = rv (a0 m c) ⟨t.val * 256 + r.val, row_lt t r⟩ := by
  refine (rsT_apply _ r).trans ?_
  rw [pay10_apply]
  simp only [pay9_eq]
  rfl
theorem vhT_apply (a : FVec Ideal S256x1024 .f32) (b : FVec Ideal S256x1 .f32) (r : Fin 256) (l : Fin 1024) :
    mulf (F := Ideal) (φ := .f32) a (broadcastTo S256x1024 b broadcasts_S256x1_S256x1024) (ix2 r l) = a (ix2 r l) * b (ix2 r 0) := by
  pointwise
theorem vhT_eq (r : Fin 256) (l : Fin 1024) : vhT m c t (ix2 r l) = vh (a0 m c) ⟨t.val * 256 + r.val, row_lt t r⟩ l := by
  refine (vhT_apply _ _ r l).trans ?_
  rw [pay9_eq, rsT_eq]
  rfl
theorem pay13_apply (a : FVec Ideal S256x1024 .f32) (b : FVec Ideal S256x1 .f32) (s : Ideal .f32) (g : Vec Ideal S1x1024 .f32) (r : Fin 256) (l : Fin 1024) :
    k0_pay13 (F := Ideal) a b s g (ix2 r l) = k0_pay12 (F := Ideal) a b s (ix2 r l) * g (ix2 0 l) := by
  unfold k0_pay13
  generalize k0_pay12 (F := Ideal) a b s = z
  pointwise
theorem vnT_eq (r : Fin 256) (l : Fin 1024) : vnT m c t (ix2 r l) = vn (a0 m c) (a1 m c) ⟨t.val * 256 + r.val, row_lt t r⟩ l := by
  refine (pay13_apply _ _ _ _ r l).trans ?_
  rw [iblk2_apply]
  exact congrArg (· * a1 m c (ix2 0 l)) (vhT_eq m c t r l)
theorem dmT_eq (r : Fin 256) (l : Fin 1024) : dmT m c t (ix2 r l) = dm (a0 m c) (a4 m c) ⟨t.val * 256 + r.val, row_lt t r⟩ l := by
  refine (pay32_apply _ _ r l).trans ?_
  rw [pay8_apply, pay6_apply, iblk0_apply, iblk1_apply]
  rfl
theorem mix_eq (W : S8x128x128.Idx → EReal) (V : S256x1024.Idx → EReal) (w : Fin 8 → Fin 128 → Fin 128 → EReal) (v : Fin 8192 → Fin 1024 → EReal)
    (hW : ∀ g i k, W (ix3 g i k) = w g i k) (hV : ∀ r l, V (ix2 r l) = v ⟨t.val * 256 + r.val, row_lt t r⟩ l) (r : Fin 256) (l : Fin 1024) :
    mixT W V (ix2 r l) = ∑ k : Fin 128, w (grp l) (pos ⟨t.val * 256 + r.val, row_lt t r⟩) k * v (row ⟨t.val * 256 + r.val, row_lt t r⟩ k) l := by
  unfold mixT
  refine Finset.sum_congr rfl fun k _ => (congrArg₂ (· * ·) (hW _ _ _) (hV _ _)).trans ?_
  have h1 : (⟨r.val % 128, Nat.mod_lt _ (by norm_num)⟩ : Fin 128) = pos ⟨t.val * 256 + r.val, row_lt t r⟩ := Fin.ext (by show r.val % 128 = (t.val * 256 + r.val) % 128; omega)
  have h2 : (⟨t.val * 256 + (r.val / 128 * 128 + k.val), by have := row_lt t r; omega⟩ : Fin 8192) = row ⟨t.val * 256 + r.val, row_lt t r⟩ k := Fin.ext (by show t.val * 256 + (r.val / 128 * 128 + k.val) = (t.val * 256 + r.val) / 128 * 128 + k.val; omega)
  rw [← h1, ← h2]
  rfl
theorem dvnT_eq (r : Fin 256) (l : Fin 1024) : dvnT m c t (ix2 r l) = dvn (a0 m c) (a2 m c) (a4 m c) ⟨t.val * 256 + r.val, row_lt t r⟩ l :=
  mix_eq t _ _ (fun g i k => wm (a2 m c) g k i) (dm (a0 m c) (a4 m c)) (iblk4_apply m c t) (dmT_eq m c t) r l
theorem mixedT_eq (r : Fin 256) (l : Fin 1024) : mixedT m c t (ix2 r l) = mixed (a0 m c) (a1 m c) (a2 m c) (a3 m c) ⟨t.val * 256 + r.val, row_lt t r⟩ l := by
  refine congrArg₂ (· + ·) (mix_eq t _ _ (wm (a2 m c)) (vn (a0 m c) (a1 m c)) (iblk3_apply m c t) (vnT_eq m c t) r l) ((iblk5_apply m c t _ _).trans ?_)
  exact congrArg (a3 m c) (by blk_ext)
end Cert.SguBwdIdeal.Outcome
end
-- ==== Proof.SguBwdRun.lean ====
/- SguBwd: the arrays the grid and the lines after it leave. -/
module

public import proofs.«01_k».proof.Proof.SguBwdBody
public import Idealize.ShloMosaic.Lib.Quiescent
@[expose] public section
set_option maxRecDepth 16384
noncomputable section
open Idealize.ShloMosaic Idealize.ShloMosaic.TcCoe Idealize.SL.Sem
open Idealize.ShloMosaic.Pipeline (Dat)
namespace Cert.SguBwdIdeal.Outcome
open Cert.SguBwdIdeal Cert.SguBwdIdeal.Gen
variable (m : (ℓ : Loc nD τ sig) → Buf (Elt Ideal) ℓ) (c : Dev nD) (t : Fin cfg0.N)

theorem idx7 (t : Fin grid0.N) : win0_7.index t = ![0, 0] := by decide +revert +kernel
theorem idx8 (t : Fin grid0.N) : win0_8.index t = ![0, 0, 0] := by decide +revert +kernel
theorem idx9 (t : Fin grid0.N) : win0_9.index t = ![0, 0] := by decide +revert +kernel

/-- The three sums kept over the tiles, at the last of them. -/
theorem last7 (l : Fin 1024) (h : t.val + 1 = 32) : (outsAt0 m c t.val t.isLt).2.1 (ix2 0 l) = dng (a0 m c) (a2 m c) (a4 m c) (ix2 0 l) := by
  have := Pipeline.eq_sum_fin_of_reset_step_apply_last (N := cfg0.N) (fun n h (l : Fin 1024) => ((outsAt0 m c n h).2.1 (ix2 0 l) : EReal)) 32 (fun _ => (0 : EReal))
    (fun p l => ∑ r : Fin 256, dvn (a0 m c) (a2 m c) (a4 m c) ⟨p.val * 256 + r.val, row_lt p r⟩ l * vh (a0 m c) ⟨p.val * 256 + r.val, row_lt p r⟩ l) ?_ ?_ (by decide) t h l
  · refine this.trans ((zero_add _).trans ?_)
    exact Fin.sum_mul_add_fin 32 256 (fun r : Fin 8192 => dvn (a0 m c) (a2 m c) (a4 m c) r l * vh (a0 m c) r l) rfl
  · intro p hp l
    refine (step7 m c p l _ (fun _ => rfl) (fun h => absurd hp h)).trans ?_
    simp only [dvnT_eq, vhT_eq]
    exact congrArg (· + _) Ideal.ofBits_zero_f32
  · intro p hp l
    refine (step7 m c p l _ (fun h => absurd h hp) (fun _ => rfl)).trans ?_
    simp only [dvnT_eq, vhT_eq]

theorem row01 (p : Fin cfg0.N) (r : Fin 128) (j : Fin 2) : (⟨p.val * 256 + (j.val * 128 + r.val), row_lt p ⟨j.val * 128 + r.val, by omega⟩⟩ : Fin 8192) = cell ⟨p.val * 2 + j.val, by have := row_lt p ⟨0, by norm_num⟩; omega⟩ r :=
  Fin.ext (by show p.val * 256 + (j.val * 128 + r.val) = (p.val * 2 + j.val) * 128 + r.val; omega)

theorem last9 (r : Fin 128) (l : Fin 1024) (h : t.val + 1 = 32) : (outsAt0 m c t.val t.isLt).2.2.2 (ix2 r l) = dbr (a0 m c) (a4 m c) (ix2 r l) := by
  have := Pipeline.eq_sum_fin_of_reset_step_apply_last (N := cfg0.N) (fun n h (y : Fin 128 × Fin 1024) => ((outsAt0 m c n h).2.2.2 (ix2 y.1 y.2) : EReal)) 32 (fun _ => (0 : EReal))
    (fun p y => ∑ j : Fin 2, dm (a0 m c) (a4 m c) (cell ⟨p.val * 2 + j.val, by have := row_lt p ⟨0, by norm_num⟩; omega⟩ y.1) y.2) ?_ ?_ (by decide) t h (r, l)
  · refine this.trans ((zero_add _).trans ?_)
    exact Fin.sum_mul_add_fin 32 2 (fun n : Fin 64 => dm (a0 m c) (a4 m c) (cell n r) l) rfl
  · intro p hp y
    refine (step9 m c p y.1 y.2 _ (fun _ => rfl) (fun h => absurd hp h)).trans ?_
    rw [dmT_eq, dmT_eq, add_assoc, Fin.sum_univ_two, ← row01 p y.1 0, ← row01 p y.1 1]
    exact congrArg (· + _) Ideal.ofBits_zero_f32
  · intro p hp y
    refine (step9 m c p y.1 y.2 _ (fun h => absurd h hp) (fun _ => rfl)).trans ?_
    rw [dmT_eq, dmT_eq, add_assoc, Fin.sum_univ_two, ← row01 p y.1 0, ← row01 p y.1 1]
    rfl

theorem dwT_eq (p : Fin cfg0.N) (prev : S8x128x128.Idx → EReal) (y : S8x128x128.Idx) : dwT (dmT m c p) (vnT m c p) prev y
    = prev y + ∑ j : Fin 2, ∑ k : Fin 128, dm (a0 m c) (a4 m c) (cell ⟨p.val * 2 + j.val, by have := row_lt p ⟨0, by norm_num⟩; omega⟩ (y 1)) (lane (y 0) k)
        * vn (a0 m c) (a1 m c) (cell ⟨p.val * 2 + j.val, by have := row_lt p ⟨0, by norm_num⟩; omega⟩ (y 2)) (lane (y 0) k) := by
  unfold dwT
  rw [add_assoc, Fin.sum_univ_two]
  simp only [dmT_eq, vnT_eq]
  rw [← row01 p (y 1) 0, ← row01 p (y 1) 1, ← row01 p (y 2) 0, ← row01 p (y 2) 1]
  rfl

theorem last8 (y : S8x128x128.Idx) (h : t.val + 1 = 32) : (outsAt0 m c t.val t.isLt).2.2.1 y = dwc (a0 m c) (a1 m c) (a4 m c) y := by
  have := Pipeline.eq_sum_fin_of_reset_step_apply_last (N := cfg0.N) (fun n h (y : S8x128x128.Idx) => ((outsAt0 m c n h).2.2.1 y : EReal)) 32 (fun _ => (0 : EReal))
    (fun p y => ∑ j : Fin 2, ∑ k : Fin 128, dm (a0 m c) (a4 m c) (cell ⟨p.val * 2 + j.val, by have := row_lt p ⟨0, by norm_num⟩; omega⟩ (y 1)) (lane (y 0) k)
        * vn (a0 m c) (a1 m c) (cell ⟨p.val * 2 + j.val, by have := row_lt p ⟨0, by norm_num⟩; omega⟩ (y 2)) (lane (y 0) k)) ?_ ?_ (by decide) t h y
  · refine this.trans ((zero_add _).trans ?_)
    exact Fin.sum_mul_add_fin 32 2 (fun n : Fin 64 => ∑ k : Fin 128, dm (a0 m c) (a4 m c) (cell n (y 1)) (lane (y 0) k) * vn (a0 m c) (a1 m c) (cell n (y 2)) (lane (y 0) k)) rfl
  · intro p hp y
    refine (step8 m c p y _ (fun _ => rfl) (fun h => absurd hp h)).trans ((dwT_eq m c p _ y).trans ?_)
    exact congrArg (· + _) Ideal.ofBits_zero_f32
  · intro p hp y
    exact (step8 m c p y _ (fun h => absurd h hp) (fun _ => rfl)).trans (dwT_eq m c p _ y)

theorem dp_left (x0 : S8192x2048.Idx → EReal) (x1 : S1x1024.Idx → EReal) (x2 : S1x8x128x128.Idx → EReal) (x3 : S1x8x128.Idx → EReal) (x4 : S8192x1024.Idx → EReal) (r : Fin 8192) (l : Fin 2048) (k : Fin 1024) (h : l.val = k.val) :
    dp x0 x1 x2 x3 x4 (ix2 r l) = dpl x0 x1 x2 x3 x4 r k := by
  have hl : l.val < 1024 := by omega
  refine (dif_pos hl).trans (congrArg (dpl x0 x1 x2 x3 x4 r) (Fin.ext h))
theorem dp_right (x0 : S8192x2048.Idx → EReal) (x1 : S1x1024.Idx → EReal) (x2 : S1x8x128x128.Idx → EReal) (x3 : S1x8x128.Idx → EReal) (x4 : S8192x1024.Idx → EReal) (r : Fin 8192) (l : Fin 2048) (k : Fin 1024) (h : l.val = 1024 + k.val) :
    dp x0 x1 x2 x3 x4 (ix2 r l) = dpr x0 x1 x2 x4 r k := by
  have hl : ¬l.val < 1024 := by omega
  refine (dif_neg hl).trans (congrArg (dpr x0 x1 x2 x4 r) (Fin.ext ?_))
  show l.val - 1024 = k.val
  omega

/-- The arrays the tiles leave. -/
theorem final6 : (dats m 0 c).arrAt 6 cfg0.N = dp (a0 m c) (a1 m c) (a2 m c) (a3 m c) (a4 m c) := by
  refine (dats m 0 c).arrAt_eq_of_covers 6 _ (by decide +kernel) fun t hf y => ?_
  blk_simp
  rw [after0_6]
  obtain ⟨r, l, rfl⟩ : ∃ (r : Fin 256) (l : Fin 2048), y = ix2 r l := ⟨y 0, y 1, eq_ix2 y⟩
  have he : ((View.whole main_v12_0).slice (win0_6.rect t)).emb (ix2 r l) = ix2 ⟨t.val * 256 + r.val, row_lt t r⟩ l := by blk_ext [idx6 t]
  rw [he]
  by_cases hl : l.val < 1024
  · obtain ⟨k, hk⟩ : ∃ k : Fin 1024, l = ⟨k.val, Nat.lt_trans k.isLt (by norm_num)⟩ := ⟨⟨l.val, hl⟩, rfl⟩
    subst hk
    refine (after6_left m c t r k).trans ?_
    have h0 : pT m c t (ix2 r ⟨k.val, by omega⟩) = a0 m c (ix2 ⟨t.val * 256 + r.val, row_lt t r⟩ ⟨k.val, by omega⟩) := iblk0_apply m c t r _
    have h1 : dyT m c t (ix2 r k) = a4 m c (ix2 ⟨t.val * 256 + r.val, row_lt t r⟩ k) := iblk1_apply m c t r k
    rw [mixedT_eq, h0, h1, dp_left _ _ _ _ _ _ _ k rfl]
    rfl
  · obtain ⟨k, hk⟩ : ∃ k : Fin 1024, l = ⟨1024 + k.val, Nat.add_lt_add_left k.isLt 1024⟩ := ⟨⟨l.val - 1024, by omega⟩, Fin.ext (by show l.val = 1024 + (l.val - 1024); omega)⟩
    subst hk
    refine (after6_right m c t r k).trans ?_
    simp only [rsT_eq, dvnT_eq, vhT_eq, iblk0_apply, iblk2_apply]
    rw [dp_right _ _ _ _ _ _ _ k rfl]
    rfl
theorem final7 : (dats m 0 c).arrAt 7 cfg0.N = dng (a0 m c) (a2 m c) (a4 m c) := by
  refine (dats m 0 c).arrAt_eq_of_covers 7 _ (by decide +kernel) fun t hf y => ?_
  blk_simp
  rw [after0_7]
  obtain ⟨r, l, rfl⟩ : ∃ (r : Fin 1) (l : Fin 1024), y = ix2 r l := ⟨y 0, y 1, eq_ix2 y⟩
  obtain rfl : r = 0 := Subsingleton.elim _ _
  have he : ((View.whole main_v12_1).slice (win0_7.rect t)).emb (ix2 0 l) = ix2 0 l := by blk_ext [idx7 t]
  rw [he]
  exact last7 m c t l ((by decide +kernel : ∀ t : Fin grid0.N, win0_7.flush t = true → t.val + 1 = 32) t hf)
theorem final8 : (dats m 0 c).arrAt 8 cfg0.N = dwc (a0 m c) (a1 m c) (a4 m c) := by
  refine (dats m 0 c).arrAt_eq_of_covers 8 _ (by decide +kernel) fun t hf y => ?_
  blk_simp
  rw [after0_8]
  have he : ((View.whole main_v12_2).slice (win0_8.rect t)).emb y = y := by blk_ext [idx8 t]
  rw [he]
  exact last8 m c t y ((by decide +kernel : ∀ t : Fin grid0.N, win0_8.flush t = true → t.val + 1 = 32) t hf)
theorem final9 : (dats m 0 c).arrAt 9 cfg0.N = dbr (a0 m c) (a4 m c) := by
  refine (dats m 0 c).arrAt_eq_of_covers 9 _ (by decide +kernel) fun t hf y => ?_
  blk_simp
  rw [after0_9]
  obtain ⟨r, l, rfl⟩ : ∃ (r : Fin 128) (l : Fin 1024), y = ix2 r l := ⟨y 0, y 1, eq_ix2 y⟩
  have he : ((View.whole main_v12_3).slice (win0_9.rect t)).emb (ix2 r l) = ix2 r l := by blk_ext [idx9 t]
  rw [he]
  exact last9 m c t r l ((by decide +kernel : ∀ t : Fin grid0.N, win0_9.flush t = true → t.val + 1 = 32) t hf)

/-- The lines after the grid: the mask, the sum along each group. -/
def dbs (x0 : S8192x2048.Idx → EReal) (x4 : S8192x1024.Idx → EReal) : S8x128.Idx → EReal := fun i => ∑ k : Fin 128, dbr x0 x4 (ix2 (i 1) (lane (i 0) k))
theorem dbs_apply (x : S128x1024.Idx → EReal) (g : Fin 8) (i : Fin 128) :
    (transpose S8x128 [1, 0] (Host.reduceAdd (F := Ideal) (φ := .f32) (shapeCast S128x8x128 x shapeCasts_S128x1024_S128x8x128) (constant S_ .f32 0x00000000#32) reducesTo_S128x8x128_S128x8_d2 h_S_) transposes_S128x8_S8x128_1_0 : S8x128.Idx → EReal) (ix2 g i)
      = ∑ k : Fin 128, x (ix2 i (lane g k)) := by
  pointwise
abbrev tailV : Valuation τ sig (Elt Ideal) := Pipeline.withArrays spec0 c (V0 m c) fun w => (dats m 0 c).arrAt w cfg0.N
theorem tail14 (X : Valuation τ sig (Elt Ideal)) (d : S8x128x128.Idx → EReal) (h1 : @Eq (S128x128.Idx → BitVec 1) (X (Proc.devRef .tc main_v1)) triM) (h2 : @Eq (S8x128x128.Idx → EReal) (X (Proc.devRef .tc main_v12_2)) d) :
    @Eq (S8x128x128.Idx → EReal) (StableHlo.after (List.flatten [hostOps1, hostOps1_1, hostOps1_2]) X (Proc.devRef .tc main_v14)) (maskM d) := by
  simp only [List.flatten_cons, List.flatten_nil, List.append_nil, List.cons_append, List.nil_append]
  after_results
  rw [h1, h2]
  rfl
theorem tail17 (X : Valuation τ sig (Elt Ideal)) (d : S128x1024.Idx → EReal) (h2 : @Eq (S128x1024.Idx → EReal) (X (Proc.devRef .tc main_v12_3)) d) :
    @Eq (S8x128.Idx → EReal) (StableHlo.after (List.flatten [hostOps1, hostOps1_1, hostOps1_2]) X (Proc.devRef .tc main_v17))
      (transpose S8x128 [1, 0] (Host.reduceAdd (F := Ideal) (φ := .f32) (shapeCast S128x8x128 d shapeCasts_S128x1024_S128x8x128) (constant S_ .f32 0x00000000#32) reducesTo_S128x8x128_S128x8_d2 h_S_) transposes_S128x8_S8x128_1_0) := by
  simp only [List.flatten_cons, List.flatten_nil, List.append_nil, List.cons_append, List.nil_append]
  after_results
  rw [h2]
  rfl
theorem W14 : @Eq (S8x128x128.Idx → EReal) (Pipeline.afterTail₀ cfgs (dats m) 0 (V0 m) [hostOps1, hostOps1_1, hostOps1_2] c main_v14) (maskM (dwc (a0 m c) (a1 m c) (a4 m c))) := by
  refine tail14 (tailV m c) _ ?_ ?_
  · exact (Pipeline.withArrays_of_ne _ c _ _ main_v1 (by decide)).trans (hV1 m c)
  · exact (Pipeline.withArrays_arr spec0 (by decide) c _ _ 8).trans (final8 m c)
theorem W17 : @Eq (S8x128.Idx → EReal) (Pipeline.afterTail₀ cfgs (dats m) 0 (V0 m) [hostOps1, hostOps1_1, hostOps1_2] c main_v17) (dbs (a0 m c) (a4 m c)) := by
  refine (tail17 (tailV m c) _ ((Pipeline.withArrays_arr spec0 (by decide) c _ _ 9).trans (final9 m c))).trans ?_
  funext i
  obtain ⟨g, k, rfl⟩ : ∃ (g : Fin 8) (k : Fin 128), i = ix2 g k := ⟨i 0, i 1, eq_ix2 i⟩
  exact dbs_apply _ g k

/-- The run, read. -/
theorem run (ρ) : θ_run defs (onTc (τ := τ) (main (F := Ideal))) ⟨m, fun _ => 0, ρ⟩ fun r => ∀ c : Dev nD,
      r.2.mem ((c : Thread nD τ).loc main_v12_0) = dp (a0 m c) (a1 m c) (a2 m c) (a3 m c) (a4 m c)
      ∧ r.2.mem ((c : Thread nD τ).loc main_v12_1) = dng (a0 m c) (a2 m c) (a4 m c)
      ∧ r.2.mem ((c : Thread nD τ).loc main_v14) = maskM (dwc (a0 m c) (a1 m c) (a4 m c))
      ∧ r.2.mem ((c : Thread nD τ).loc main_v17) = dbs (a0 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 6).trans (final6 m c), ((h.1 c).1 7).trans (final7 m c),
      ((h.1 c).2 main_v14 (Pipeline.mem_restRefs_of main_v14 (by decide) (by decide))).trans (W14 m c),
      ((h.1 c).2 main_v17 (Pipeline.mem_restRefs_of main_v17 (by decide) (by decide))).trans (W17 m c), h.2 c⟩)
    (θ_run_and (run_main m ρ) (unchanged m ρ))

end Cert.SguBwdIdeal.Outcome
-- ==== Proof.SguBwdValue.lean ====
/- SguBwd: the reference read, and the claims. -/
module

public import proofs.«01_k».proof.Proof.SguBwdRun
public import proofs.«01_k».proof.Proof.Reals
public import proofs.«01_k».proof.Proof.Gen.SguBwdRefIdeal.Run
public import proofs.«01_k».proof.Proof.Gen.SguBwdRefIdeal.Read
public import proofs.«01_k».proof.Defs
public import proofs.«01_k».proof.Proof.Gen.SguBwd.Frame
public import proofs.«01_k».proof.Proof.Gen.Pre_sgu_bwd_finite
public import Idealize.ShloMosaic.Lib.TwoAxisContraction
@[expose] public section
set_option maxRecDepth 16384
noncomputable section
open Idealize.ShloMosaic Idealize.ShloMosaic.TcCoe Idealize.SL.Sem
namespace Cert.SguBwdRefIdeal.Outcome
open Cert.SguBwdRefIdeal Cert.SguBwdRefIdeal.Read
open Cert.SguBwdIdeal.Outcome (gel dgel vv rv vh vn dm wm row pos grp cell lane mixed dvn dpl dpr dp dng dwc dbr dbs maskM)

/-- A sum over the first and last of four axes. -/
theorem sum_first_last {a b c d : ℕ} (x : (⟨4, ![a, b, c, d]⟩ : Shape).Idx → EReal) (h : (⟨4, ![a, b, c, d]⟩ : Shape).ReducesTo [0, 3] ⟨2, ![b, c]⟩) (z : EReal) (i : Fin b) (g : Fin c) :
    Ideal.hostReduceAdd h x z (ix2 i g) = z + ∑ n : Fin a, ∑ k : Fin d, x (ix4 n i g k) := by
  unfold Ideal.hostReduceAdd
  rw [← Finset.sum_product']
  congr 1
  refine Finset.sum_nbij' (fun y => (y 0, y 3)) (fun p => ix4 p.1 i g p.2) ?_ ?_ ?_ ?_ ?_
  · intro y _; simp
  · intro p _
    rw [Finset.mem_filter]
    exact ⟨Finset.mem_univ _, funext fun b => by fin_cases b <;> rfl⟩
  · intro y hy
    have hd := (Finset.mem_filter.mp hy).2
    have h1 : y 1 = i := congrFun hd 0
    have h2 : y 2 = g := congrFun hd 1
    subst h1 h2
    exact (eq_ix4 y).symm
  · intro p _; rfl
  · intro y hy
    have hd := (Finset.mem_filter.mp hy).2
    have h1 : y 1 = i := congrFun hd 0
    have h2 : y 2 = g := congrFun hd 1
    subst h1 h2
    exact congrArg x (eq_ix4 y)

theorem tanh_coe (r : ℝ) : Ideal.tanh (r : EReal) = (Real.tanh r : ℝ) := rfl
theorem c_half : (Ideal.ofBits .f32 0x3F000000#32 : EReal) = ((1 / 2 : ℝ) : EReal) := by
  simp [Ideal.ofBits, Ideal.ieee]; rw [← EReal.coe_mul]; norm_num
theorem c_one : (Ideal.ofBits .f32 0x3F800000#32 : EReal) = ((1 : ℝ) : EReal) := by
  simp [Ideal.ofBits, Ideal.ieee]; rw [← EReal.coe_mul]; norm_num
theorem c_three : (Ideal.ofBits .f32 0x40400000#32 : EReal) = ((3 : ℝ) : EReal) := by
  simp [Ideal.ofBits, Ideal.ieee]; rw [← EReal.coe_mul]; norm_num
theorem c_44715 : (Ideal.ofBits .f32 0x472EAB00#32 : EReal) = ((44715 : ℝ) : EReal) := by
  simp [Ideal.ofBits, Ideal.ieee]; rw [← EReal.coe_mul]; norm_num
theorem c_million : (Ideal.ofBits .f32 0x49742400#32 : EReal) = ((1000000 : ℝ) : EReal) := by
  simp [Ideal.ofBits, Ideal.ieee]; rw [← EReal.coe_mul]; norm_num
/-- The root's constant, a real. -/
def kap : ℝ := (2 ^ 23 + 4997674 : ℕ) * (2 : ℝ) ^ (-24 : ℤ)
theorem c_kap : (Ideal.ofBits .f32 0x3F4C422A#32 : EReal) = (kap : EReal) := by
  simp [Ideal.ofBits, Ideal.ieee, kap]

/-- The gate at a real, and its derivative. -/
def th (x : ℝ) : ℝ := Real.tanh (kap * (x + 8943 / 200000 * x * x * x))
def gelR (x : ℝ) : ℝ := 1 / 2 * x * (1 + th x)
def dgelR (x : ℝ) : ℝ := 1 / 2 * (1 + th x) + 1 / 2 * x * (1 - th x * th x) * (kap * (1 + 26829 / 200000 * x * x))
theorem gel_real (x : ℝ) : gel (x : EReal) = (gelR x : EReal) := by
  unfold gel gelR th
  rw [c_half, c_one, c_kap]
  simp only [← EReal.coe_mul, ← EReal.coe_add, tanh_coe]
theorem dgel_real (x : ℝ) : dgel (x : EReal) = (dgelR x : EReal) := by
  unfold dgel dgelR th
  rw [c_half, c_one, c_kap]
  simp only [← EReal.coe_mul, ← EReal.coe_add, ← EReal.coe_sub, tanh_coe]
/-- The reference's forms of both. -/
theorem ref_th (x : ℝ) : Ideal.tanh (Ideal.ofBits .f32 0x3F4C422A#32 * ((x : EReal) + Ideal.div ((x : EReal) * x * x * Ideal.ofBits .f32 0x472EAB00#32) (Ideal.ofBits .f32 0x49742400#32))) = (th x : EReal) := by
  rw [c_44715, c_million, c_kap]
  simp only [← EReal.coe_mul]
  rw [Cert.Reals.div_real (by norm_num)]
  simp only [← EReal.coe_mul, ← EReal.coe_add, tanh_coe]
  unfold th
  congr 3
  ring
theorem ref_gel (x : ℝ) {T : EReal} (hT : T = (th x : EReal)) : (x : EReal) * (Ideal.ofBits .f32 0x3F000000#32 * (Ideal.ofBits .f32 0x3F800000#32 + T)) = gel (x : EReal) := by
  rw [gel_real, c_half, c_one, hT]
  simp only [← EReal.coe_mul, ← EReal.coe_add]
  congr 1
  unfold gelR
  ring
theorem ref_dgel (x c : ℝ) {T : EReal} (hT : T = (th x : EReal)) :
    (c : EReal) * (Ideal.ofBits .f32 0x3F000000#32 * (Ideal.ofBits .f32 0x3F800000#32 + T))
      + Ideal.ofBits .f32 0x3F4C422A#32 * (Ideal.ofBits .f32 0x3F000000#32 * ((x : EReal) * c) * ((Ideal.ofBits .f32 0x3F800000#32 + T) * (Ideal.ofBits .f32 0x3F800000#32 - T)))
      + Ideal.div (Ideal.ofBits .f32 0x3F4C422A#32 * (Ideal.ofBits .f32 0x3F000000#32 * ((x : EReal) * c) * ((Ideal.ofBits .f32 0x3F800000#32 + T) * (Ideal.ofBits .f32 0x3F800000#32 - T)))) (Ideal.ofBits .f32 0x49742400#32)
        * Ideal.ofBits .f32 0x472EAB00#32 * (Ideal.ofBits .f32 0x40400000#32 * ((x : EReal) * x)) = (c : EReal) * dgel (x : EReal) := by
  rw [dgel_real, c_half, c_one, c_44715, c_million, c_kap, c_three, hT]
  simp only [← EReal.coe_mul, ← EReal.coe_add, ← EReal.coe_sub]
  rw [Cert.Reals.div_real (by norm_num)]
  simp only [← EReal.coe_mul, ← EReal.coe_add]
  congr 1
  unfold dgelR
  ring

variable (x0 : S8192x2048.Idx → EReal) (x1 : S1x1024.Idx → EReal) (x2 : S1x8x128x128.Idx → EReal) (x3 : S1x8x128.Idx → EReal) (x4 : S8192x1024.Idx → EReal)

theorem v12_apply (x0 : S8192x2048.Idx → ℝ) (i : S8192x2048.Idx) : (val_main_v12 (F := Ideal) (fun i => (x0 i : EReal)) i : EReal) = (th (x0 i) : EReal) := by
  refine Eq.trans ?_ (ref_th (x0 i))
  obtain ⟨r, l, rfl⟩ : ∃ (r : Fin 8192) (l : Fin 2048), i = ix2 r l := ⟨i 0, i 1, eq_ix2 i⟩
  pointwise [val_main_v0, val_main_v1, val_main_cst_0, val_main_v5, val_main_v6, val_main_cst_1, val_main_v7, val_main_v8, val_main_v9, val_main_cst_2, val_main_v10, val_main_v11, val_main_v12]
theorem v22_apply (x0 : S8192x2048.Idx → ℝ) (i : S8192x2048.Idx) : (val_main_v22 (F := Ideal) (fun i => (x0 i : EReal)) i : EReal) = gel (x0 i : EReal) := by
  refine Eq.trans ?_ (ref_gel (x0 i) (v12_apply x0 i))
  generalize hT : val_main_v12 (F := Ideal) (fun i => (x0 i : EReal)) = T
  obtain ⟨r, l, rfl⟩ : ∃ (r : Fin 8192) (l : Fin 2048), i = ix2 r l := ⟨i 0, i 1, eq_ix2 i⟩
  pointwise [val_main_v22, val_main_v21, val_main_v20, val_main_v19, val_main_v18, val_main_cst_5, val_main_cst_6, hT]

abbrev re {ι : Type} (x : ι → ℝ) : ι → EReal := fun i => (x i : EReal)

section
variable (x0 : S8192x2048.Idx → ℝ) (x1 : S1x1024.Idx → EReal) (x2 : S1x8x128x128.Idx → EReal) (x3 : S1x8x128.Idx → EReal) (x4 : S8192x1024.Idx → EReal)

/-- The reference's normed half, its scale, the chunks. -/
theorem v24_apply (r : Fin 8192) (l : Fin 1024) : (val_main_v24 (F := Ideal) (re x0) : S8192x1024.Idx → EReal) (ix2 r l) = vv (re x0) r l := by
  have h := fun i => v22_apply x0 i
  generalize hT : val_main_v22 (F := Ideal) (re x0) = T at h
  unfold vv
  rw [← h]
  pointwise [val_main_v24, hT]
theorem v23_apply (r : Fin 8192) (l : Fin 1024) : (val_main_v23 (F := Ideal) (re x0) : S8192x1024.Idx → EReal) (ix2 r l) = gel (re x0 (ix2 r ⟨l.val, by omega⟩)) := by
  have h := fun i => v22_apply x0 i
  generalize hT : val_main_v22 (F := Ideal) (re x0) = T at h
  rw [← h]
  pointwise [val_main_v23, hT]
theorem v32_apply (r : Fin 8192) : (val_main_v32 (F := Ideal) (re x0) : S8192x1.Idx → EReal) (ix2 r 0)
    = Ideal.div (∑ k : Fin 1024, vv (re x0) r k * vv (re x0) r k) (Ideal.ofBits .f32 0x44800000#32) + Ideal.ofBits .f32 0x358637BD#32 := by
  have h := fun r l => v24_apply x0 r l
  generalize hT : val_main_v24 (F := Ideal) (re x0) = T at h
  simp only [← h]
  pointwise [val_main_v32, val_main_v31, val_main_cst_9, val_main_v30, val_main_v29, val_main_cst_8, val_main_v28, val_main_v27, val_main_cst_7, val_main_v26, hT]
theorem v33_apply (r : Fin 8192) : (val_main_v33 (F := Ideal) (re x0) : S8192x1.Idx → EReal) (ix2 r 0) = rv (re x0) r := by
  refine Eq.trans ?_ (congrArg Ideal.rsqrt (v32_apply x0 r))
  pointwise [val_main_v33]
theorem v38_apply (r : Fin 8192) (l : Fin 1024) : (val_main_v38 (F := Ideal) (re x0) : S8192x1024.Idx → EReal) (ix2 r l) = vh (re x0) r l := by
  unfold vh
  rw [← v24_apply, ← v33_apply]
  pointwise [val_main_v38, val_main_v37]
theorem v41_apply (r : Fin 8192) (l : Fin 1024) : (val_main_v41 (F := Ideal) (re x0) x1 : S8192x1024.Idx → EReal) (ix2 r l) = vn (re x0) x1 r l := by
  unfold vn
  rw [← v38_apply]
  pointwise [val_main_v41, val_main_v40, val_main_v39, val_main_v25]
theorem v42_apply (n : Fin 64) (i : Fin 128) (g : Fin 8) (k : Fin 128) : (val_main_v42 (F := Ideal) (re x0) x1 : S64x128x8x128.Idx → EReal) (ix4 n i g k) = vn (re x0) x1 (cell n i) (lane g k) := by
  rw [← v41_apply]
  pointwise [val_main_v42]
/-- The masked squares. -/
theorem v47_apply (g : Fin 8) (i k : Fin 128) : (val_main_v47_0 (F := Ideal) x2 : S8x128x128.Idx → EReal) (ix3 g i k) = wm x2 g i k := rfl
theorem v69_apply (y : S8x128x128.Idx → EReal) (h : (val_main_v66 (F := Ideal) (re x0) x1 x4 : S8x128x128.Idx → EReal) = y) : (val_main_v69 (F := Ideal) (re x0) x1 x4 : S8x128x128.Idx → EReal) = maskM y := by
  subst h
  rfl
theorem lane_div (l : Fin 1024) : lane ⟨l.val / 128, by omega⟩ ⟨l.val % 128, Nat.mod_lt _ (by norm_num)⟩ = l := Fin.ext (by show l.val / 128 * 128 + l.val % 128 = l.val; omega)
/-- The mixed rows. -/
theorem v48_apply (g : Fin 8) (n : Fin 64) (k i : Fin 128) : (val_main_v48 (F := Ideal) (re x0) x1 x2 : S8x64x128x128.Idx → EReal) (ix4 g n k i) = ∑ j : Fin 128, vn (re x0) x1 (cell n j) (lane g k) * wm x2 g i j := by
  simp only [← v42_apply, ← v47_apply]
  pointwise [val_main_v48]
theorem v55_apply (r : Fin 8192) (l : Fin 1024) : (val_main_v55 (F := Ideal) (re x0) x1 x2 x3 : S8192x1024.Idx → EReal) (ix2 r l) = mixed (re x0) x1 x2 x3 r l := by
  have h := fun g n k i => v48_apply x0 x1 x2 g n k i
  generalize hT : val_main_v48 (F := Ideal) (re x0) x1 x2 = T at h
  pointwise [val_main_v55, val_main_v54, val_main_v53, val_main_v52, val_main_v51, val_main_v50, val_main_v49, hT]
  unfold mixed
  refine congrArg₂ (· + ·) ((h _ _ _ _).trans (Finset.sum_congr rfl fun j _ => ?_)) rfl
  rw [mul_comm, lane_div]
/-- What flows back to the mixed rows. -/
theorem v59_apply (n : Fin 64) (i : Fin 128) (g : Fin 8) (k : Fin 128) : (val_main_v59 (F := Ideal) (re x0) x4 : S64x128x8x128.Idx → EReal) (ix4 n i g k) = dm (re x0) x4 (cell n i) (lane g k) := by
  unfold dm
  rw [mul_comm, ← v23_apply]
  pointwise [val_main_v59, val_main_v57]
theorem v60_apply (i : Fin 128) (g : Fin 8) : (val_main_v60 (F := Ideal) (re x0) x4 : S128x8.Idx → EReal) (ix2 i g) = ∑ n : Fin 64, ∑ k : Fin 128, dm (re x0) x4 (cell n i) (lane g k) := by
  refine (sum_first_last _ _ _ i g).trans ?_
  simp only [v59_apply]
  exact (congrArg (· + _) Ideal.ofBits_zero_f32).trans (zero_add _)
theorem v62_apply (i : Fin 128) (g : Fin 8) : (val_main_v62 (F := Ideal) (re x0) x4 : S128x8.Idx → EReal) (ix2 i g) = ∑ n : Fin 64, ∑ k : Fin 128, dm (re x0) x4 (cell n i) (lane g k) := by
  refine (sum_first_last _ _ _ i g).trans ?_
  rw [Fin.sum_univ_one, Fin.sum_univ_one, ← v60_apply]
  refine (congrArg (· + _) Ideal.ofBits_zero_f32).trans ((zero_add _).trans ?_)
  pointwise [val_main_v61]
theorem v110_eq : (val_main_v110 (F := Ideal) (re x0) x4 : S8x128.Idx → EReal) = dbs (re x0) x4 := by
  funext y
  obtain ⟨g, i, rfl⟩ : ∃ (g : Fin 8) (i : Fin 128), y = ix2 g i := ⟨y 0, y 1, eq_ix2 y⟩
  have h := fun i g => v62_apply x0 x4 i g
  generalize hT : val_main_v62 (F := Ideal) (re x0) x4 = T at h
  refine Eq.trans (b := (T (ix2 i g) : EReal)) ?_ ((h i g).trans Finset.sum_comm)
  pointwise [val_main_v110, val_main_v64, val_main_v63, hT]
/-- What flows back to the normed rows. -/
theorem v65_apply (g : Fin 8) (n : Fin 64) (k i : Fin 128) : (val_main_v65 (F := Ideal) (re x0) x4 : S8x64x128x128.Idx → EReal) (ix4 g n k i) = dm (re x0) x4 (cell n i) (lane g k) := by
  rw [← v59_apply]
  pointwise [val_main_v65]
theorem v67_apply (g : Fin 8) (n : Fin 64) (k j : Fin 128) : (val_main_v67 (F := Ideal) (re x0) x2 x4 : S8x64x128x128.Idx → EReal) (ix4 g n k j) = ∑ i : Fin 128, dm (re x0) x4 (cell n i) (lane g k) * wm x2 g i j := by
  simp only [← v65_apply, ← v47_apply]
  pointwise [val_main_v67]
theorem v71_apply (r : Fin 8192) (l : Fin 1024) : (val_main_v71 (F := Ideal) (re x0) x2 x4 : S8192x1024.Idx → EReal) (ix2 r l) = dvn (re x0) x2 x4 r l := by
  have h := fun g n k i => v67_apply x0 x2 x4 g n k i
  generalize hT : val_main_v67 (F := Ideal) (re x0) x2 x4 = T at h
  pointwise [val_main_v71, val_main_v68, hT]
  unfold dvn
  refine (h _ _ _ _).trans (Finset.sum_congr rfl fun j _ => ?_)
  rw [mul_comm, lane_div]
theorem v66_apply (g : Fin 8) (i j : Fin 128) : (val_main_v66 (F := Ideal) (re x0) x1 x4 : S8x128x128.Idx → EReal) (ix3 g i j) = dwc (re x0) x1 x4 (ix3 g i j) := by
  have h1 := fun g n k i => v65_apply x0 x4 g n k i
  have h2 := fun n i g k => v42_apply x0 x1 n i g k
  unfold val_main_v66
  generalize val_main_v65 (F := Ideal) (re x0) x4 = T at h1 ⊢
  generalize val_main_v42 (F := Ideal) (re x0) x1 = U at h2 ⊢
  refine (Ideal.dotGeneral_apply _ _ _ _ _ _).trans ?_
  rw [ValueIdx.sum_contr2 _ 64 128 (by rfl) (by rfl) (by rfl)]
  refine Finset.sum_congr rfl fun n _ => Finset.sum_congr rfl fun k _ => ?_
  refine congrArg₂ (· * ·) (Eq.trans (congrArg T ?_) (h1 g n k i)) (Eq.trans (congrArg U ?_) (h2 n j g k))
  · funext a; apply Fin.ext; fin_cases a
    · rfl
    · exact ValueIdx.contrEquiv2_symm_val0 dot_S8x64x128x128_S64x128x8x128_S8x128x128_12_03_3_1_0_2 64 128 (by rfl) (by rfl) (by rfl) (n, k)
    · exact ValueIdx.contrEquiv2_symm_val1 dot_S8x64x128x128_S64x128x8x128_S8x128x128_12_03_3_1_0_2 64 128 (by rfl) (by rfl) (by rfl) (n, k)
    · rfl
  · funext a; apply Fin.ext; fin_cases a
    · exact ValueIdx.contrEquiv2_symm_val0 dot_S8x64x128x128_S64x128x8x128_S8x128x128_12_03_3_1_0_2 64 128 (by rfl) (by rfl) (by rfl) (n, k)
    · rfl
    · rfl
    · exact ValueIdx.contrEquiv2_symm_val1 dot_S8x64x128x128_S64x128x8x128_S8x128x128_12_03_3_1_0_2 64 128 (by rfl) (by rfl) (by rfl) (n, k)

theorem v92_eq : (val_main_v92 (F := Ideal) (re x0) x2 x4 : S1x1024.Idx → EReal) = dng (re x0) x2 x4 := by
  funext y
  obtain ⟨z, l, rfl⟩ : ∃ (z : Fin 1) (l : Fin 1024), y = ix2 z l := ⟨y 0, y 1, eq_ix2 y⟩
  obtain rfl : z = 0 := Subsingleton.elim _ _
  have h := fun r l => v71_apply x0 x2 x4 r l
  have h' := fun r l => v38_apply x0 r l
  generalize hT : val_main_v71 (F := Ideal) (re x0) x2 x4 = T at h
  generalize hU : val_main_v38 (F := Ideal) (re x0) = U at h'
  unfold dng
  simp only [← h, ← h']
  pointwise [val_main_v92, val_main_v77, val_main_v74, val_main_v73, val_main_v72, val_main_cst_14, val_main_cst_15, hT, hU]
  rw [Fin.sum_univ_one]
  exact Finset.sum_congr rfl fun r _ => (mul_comm _ _).trans (congrArg₂ (· * ·) (h r l) (h' r l))
/-- The gradient of the norm. -/
theorem v91_apply (r : Fin 8192) (l : Fin 1024) (C : Fin 8192 → Fin 1024 → ℝ) (hC : ∀ r l, dvn (re x0) x2 x4 r l * x1 (ix2 0 l) = (C r l : EReal)) :
    (val_main_v91 (F := Ideal) (re x0) x1 x2 x4 : S8192x1024.Idx → EReal) (ix2 r l)
      = rv (re x0) r * (dvn (re x0) x2 x4 r l * x1 (ix2 0 l) - vh (re x0) r l * Ideal.div (∑ j : Fin 1024, dvn (re x0) x2 x4 r j * x1 (ix2 0 j) * vh (re x0) r j) (Ideal.ofBits .f32 0x44800000#32)) := by
  have hX : ∀ k, vv (re x0) r k = (gelR (x0 (ix2 r ⟨1024 + k.val, by omega⟩)) : EReal) := fun k => gel_real _
  have key := Cert.Reals.norm_grad (fun k : Fin 1024 => gelR (x0 (ix2 r ⟨1024 + k.val, by omega⟩))) (C r) (n := 1024) (by norm_num)
    Cert.Reals.eps_pos l Cert.Reals.c_1024 Cert.Reals.c_eps Cert.Reals.c_neg_half rfl rfl
  simp only [← hX, ← hC] at key
  have h71 := fun r l => v71_apply x0 x2 x4 r l
  have h24 := fun r l => v24_apply x0 r l
  have h33 := fun r => v33_apply x0 r
  have h32 := fun r => v32_apply x0 r
  generalize hT : val_main_v71 (F := Ideal) (re x0) x2 x4 = T at h71
  generalize hU : val_main_v24 (F := Ideal) (re x0) = U at h24
  generalize hQ : val_main_v33 (F := Ideal) (re x0) = Q at h33
  generalize hW : val_main_v32 (F := Ideal) (re x0) = W at h32
  refine Eq.trans ?_ (key.trans ?_)
  · pointwise [val_main_v91, val_main_v90, val_main_v89, val_main_v88, val_main_v87, val_main_v86, val_main_cst_18, val_main_v85, val_main_v84, val_main_cst_17, val_main_v83, val_main_v82, val_main_v81, val_main_v80, val_main_v79, val_main_cst_16, val_main_v78, val_main_v76, val_main_v75, val_main_v39, val_main_v25, val_main_v36, val_main_v35, val_main_cst_10, val_main_v34, hT, hU, hQ, hW]
    simp only [Fin.sum_univ_one, h71, h24, h33, h32]
    rfl
  · rfl
/-- The gate's gradient at a real cotangent. -/
theorem v108_apply (i : S8192x2048.Idx) (c : ℝ) (hc : (val_main_v93 (F := Ideal) (re x0) x1 x2 x3 x4 : S8192x2048.Idx → EReal) i = (c : EReal)) :
    (val_main_v108 (F := Ideal) (re x0) x1 x2 x3 x4 : S8192x2048.Idx → EReal) i = (c : EReal) * dgel (re x0 i) := by
  refine Eq.trans ?_ (ref_dgel (x0 i) c (v12_apply x0 i))
  generalize hT : val_main_v12 (F := Ideal) (fun i => (x0 i : EReal)) = T
  rw [← hc]
  generalize hU : val_main_v93 (F := Ideal) (re x0) x1 x2 x3 x4 = U
  obtain ⟨r, l, rfl⟩ : ∃ (r : Fin 8192) (l : Fin 2048), i = ix2 r l := ⟨i 0, i 1, eq_ix2 i⟩
  pointwise [val_main_v108, val_main_v107, val_main_v106, val_main_v105, val_main_v104, val_main_cst_22, val_main_v103, val_main_v102, val_main_cst_21, val_main_v101, val_main_v100, val_main_v99, val_main_cst_20, val_main_v98, val_main_v97, val_main_v96, val_main_cst_19, val_main_v95, val_main_v94, val_main_v21, val_main_v20, val_main_cst_6, val_main_v19, val_main_v18, val_main_cst_5, val_main_v17, val_main_v16, val_main_v15, val_main_cst_4, val_main_v14, val_main_v13, val_main_cst_3, val_main_v4, val_main_v3, val_main_cst, val_main_v2, hT, hU]
/-- The two halves of the cotangent. -/
theorem v93_left (r : Fin 8192) (l : Fin 2048) (k : Fin 1024) (h : l.val = k.val) :
    (val_main_v93 (F := Ideal) (re x0) x1 x2 x3 x4 : S8192x2048.Idx → EReal) (ix2 r l) = x4 (ix2 r k) * mixed (re x0) x1 x2 x3 r k := by
  have h' := v55_apply x0 x1 x2 x3 r k
  refine (concatenate_pair_apply_left (s₁ := S8192x1024) (s₂ := S8192x1024) (t := S8192x2048) 1 _ _ _ (ix2 r l) rfl (ix2 r k) ?_).trans ?_
  · intro b; fin_cases b
    · rfl
    · exact h.symm
  · rw [← h']
    pointwise [val_main_v58]
theorem v93_right (r : Fin 8192) (l : Fin 2048) (k : Fin 1024) (h : l.val = 1024 + k.val) :
    (val_main_v93 (F := Ideal) (re x0) x1 x2 x3 x4 : S8192x2048.Idx → EReal) (ix2 r l) = (val_main_v91 (F := Ideal) (re x0) x1 x2 x4 : S8192x1024.Idx → EReal) (ix2 r k) := by
  refine concatenate_pair_apply_right (s₁ := S8192x1024) (s₂ := S8192x1024) (t := S8192x2048) 1 _ _ _ (ix2 r l) rfl rfl (ix2 r k) ?_ ?_
  · intro b hb; fin_cases b
    · rfl
    · exact absurd rfl hb
  · show k.val + 1024 = l.val
    omega
end

/-- Being a real. -/
def IsR (z : EReal) : Prop := ∃ r : ℝ, z = r
theorem IsR.mul {a b : EReal} : IsR a → IsR b → IsR (a * b) := by rintro ⟨x, rfl⟩ ⟨y, rfl⟩; exact ⟨x * y, (EReal.coe_mul x y).symm⟩
theorem IsR.add {a b : EReal} : IsR a → IsR b → IsR (a + b) := by rintro ⟨x, rfl⟩ ⟨y, rfl⟩; exact ⟨x + y, (EReal.coe_add x y).symm⟩
theorem IsR.sum {ι : Type} [Fintype ι] {f : ι → EReal} (h : ∀ i, IsR (f i)) : IsR (∑ i, f i) := by
  choose g hg using h
  exact ⟨∑ i, g i, by simp only [hg, Cert.Reals.coe_sum]⟩
theorem vv_real (x0 : S8192x2048.Idx → ℝ) (r : Fin 8192) (l : Fin 1024) : IsR (vv (re x0) r l) := ⟨_, gel_real _⟩
theorem rv_real (x0 : S8192x2048.Idx → ℝ) (r : Fin 8192) : IsR (rv (re x0) r) := by
  choose g hg using vv_real x0 r
  have hpos : 0 < (∑ k, g k * g k) / 1024 + Cert.Reals.eps :=
    add_pos_of_nonneg_of_pos (div_nonneg (Finset.sum_nonneg fun k _ => mul_self_nonneg _) (by norm_num)) Cert.Reals.eps_pos
  refine ⟨(Real.sqrt ((∑ k, g k * g k) / 1024 + Cert.Reals.eps))⁻¹, ?_⟩
  unfold rv
  simp only [hg, ← EReal.coe_mul, Cert.Reals.coe_sum, Cert.Reals.c_1024, Cert.Reals.c_eps]
  rw [Cert.Reals.div_real (by norm_num), ← EReal.coe_add, Cert.Reals.rsqrt_real hpos]
theorem wm_real (x2 : S1x8x128x128.Idx → ℝ) (g : Fin 8) (i k : Fin 128) : IsR (wm (re x2) g i k) := by
  unfold wm
  rw [Cert.SguBwdIdeal.Outcome.maskM_apply, Cert.SguBwdIdeal.Outcome.sq_apply]
  split
  · exact ⟨_, rfl⟩
  · exact ⟨0, rfl⟩
theorem mixed_real (x0 : S8192x2048.Idx → ℝ) (x1 : S1x1024.Idx → ℝ) (x2 : S1x8x128x128.Idx → ℝ) (x3 : S1x8x128.Idx → ℝ) (r : Fin 8192) (l : Fin 1024) : IsR (mixed (re x0) (re x1) (re x2) (re x3) r l) :=
  IsR.add (IsR.sum fun k => (wm_real x2 _ _ k).mul (((vv_real x0 _ l).mul (rv_real x0 _)).mul ⟨_, rfl⟩)) ⟨_, rfl⟩
theorem dvn_real (x0 : S8192x2048.Idx → ℝ) (x2 : S1x8x128x128.Idx → ℝ) (x4 : S8192x1024.Idx → ℝ) (r : Fin 8192) (l : Fin 1024) : IsR (dvn (re x0) (re x2) (re x4) r l) :=
  IsR.sum fun k => (wm_real x2 _ k _).mul (IsR.mul ⟨_, rfl⟩ ⟨_, gel_real _⟩)
theorem IsR.sub {a b : EReal} : IsR a → IsR b → IsR (a - b) := by rintro ⟨x, rfl⟩ ⟨y, rfl⟩; exact ⟨x - y, (EReal.coe_sub x y).symm⟩
theorem IsR.div {a : EReal} : IsR a → IsR (Ideal.div a (Ideal.ofBits .f32 0x44800000#32)) := by
  rintro ⟨x, rfl⟩
  exact ⟨x / 1024, by rw [Cert.Reals.c_1024, Cert.Reals.div_real (by norm_num)]⟩

/-- The reference's four results, at finite arguments. -/
theorem ref_dp (x0 : S8192x2048.Idx → EReal) (x1 : S1x1024.Idx → EReal) (x2 : S1x8x128x128.Idx → EReal) (x3 : S1x8x128.Idx → EReal) (x4 : S8192x1024.Idx → EReal)
    (h0 : ∀ i, ∃ r : ℝ, x0 i = r) (h1 : ∀ i, ∃ r : ℝ, x1 i = r) (h2 : ∀ i, ∃ r : ℝ, x2 i = r) (h3 : ∀ i, ∃ r : ℝ, x3 i = r) (h4 : ∀ i, ∃ r : ℝ, x4 i = r) :
    (val_main_v108 (F := Ideal) x0 x1 x2 x3 x4 : S8192x2048.Idx → EReal) = dp x0 x1 x2 x3 x4 := by
  obtain ⟨x0, rfl⟩ := Cert.Reals.reals_of h0
  obtain ⟨x1, rfl⟩ := Cert.Reals.reals_of h1
  obtain ⟨x2, rfl⟩ := Cert.Reals.reals_of h2
  obtain ⟨x3, rfl⟩ := Cert.Reals.reals_of h3
  obtain ⟨x4, rfl⟩ := Cert.Reals.reals_of h4
  funext i
  obtain ⟨r, l, rfl⟩ : ∃ (r : Fin 8192) (l : Fin 2048), i = ix2 r l := ⟨i 0, i 1, eq_ix2 i⟩
  by_cases hl : l.val < 1024
  · have hk : l.val = (⟨l.val, hl⟩ : Fin 1024).val := rfl
    generalize (⟨l.val, hl⟩ : Fin 1024) = k at hk
    obtain ⟨c, hc⟩ : IsR (re x4 (ix2 r k) * mixed (re x0) (re x1) (re x2) (re x3) r k) := IsR.mul ⟨_, rfl⟩ (mixed_real x0 x1 x2 x3 r k)
    refine (v108_apply x0 _ _ _ _ _ c ((v93_left x0 _ _ _ _ r l k hk).trans hc)).trans ?_
    rw [Cert.SguBwdIdeal.Outcome.dp_left _ _ _ _ _ r l k hk, ← hc]
    have he : l = ⟨k.val, by omega⟩ := Fin.ext hk
    rw [he]
    rfl
  · obtain ⟨k, hk⟩ : ∃ k : Fin 1024, l.val = 1024 + k.val := ⟨⟨l.val - 1024, by omega⟩, by show l.val = 1024 + (l.val - 1024); omega⟩
    have hD : ∀ r l, IsR (dvn (re x0) (re x2) (re x4) r l * re x1 (ix2 0 l)) := fun r l => (dvn_real x0 x2 x4 r l).mul ⟨_, rfl⟩
    choose C hC using hD
    have hvh : ∀ l, IsR (vh (re x0) r l) := fun l => (vv_real x0 r l).mul (rv_real x0 r)
    have h91 := v91_apply x0 (re x1) (re x2) (re x4) r k C hC
    obtain ⟨c, hc⟩ : IsR (rv (re x0) r * (dvn (re x0) (re x2) (re x4) r k * re x1 (ix2 0 k) - vh (re x0) r k * Ideal.div (∑ j : Fin 1024, dvn (re x0) (re x2) (re x4) r j * re x1 (ix2 0 j) * vh (re x0) r j) (Ideal.ofBits .f32 0x44800000#32))) :=
      (rv_real x0 r).mul (IsR.sub ⟨_, hC r k⟩ ((hvh k).mul (IsR.div (IsR.sum fun j => IsR.mul ⟨_, hC r j⟩ (hvh j)))))
    refine (v108_apply x0 _ _ _ _ _ c ((v93_right x0 _ _ _ _ r l k hk).trans (h91.trans hc))).trans ?_
    rw [Cert.SguBwdIdeal.Outcome.dp_right _ _ _ _ _ r l k hk, ← hc]
    have he : l = ⟨1024 + k.val, by omega⟩ := Fin.ext hk
    rw [he]
    rfl
theorem ref_dng (x0 : S8192x2048.Idx → EReal) (x2 : S1x8x128x128.Idx → EReal) (x4 : S8192x1024.Idx → EReal) (h0 : ∀ i, ∃ r : ℝ, x0 i = r) :
    (val_main_v92 (F := Ideal) x0 x2 x4 : S1x1024.Idx → EReal) = dng x0 x2 x4 := by
  obtain ⟨x0, rfl⟩ := Cert.Reals.reals_of h0
  exact v92_eq x0 x2 x4
theorem ref_dw (x0 : S8192x2048.Idx → EReal) (x1 : S1x1024.Idx → EReal) (x4 : S8192x1024.Idx → EReal) (h0 : ∀ i, ∃ r : ℝ, x0 i = r) :
    (val_main_v109 (F := Ideal) x0 x1 x4 : S8x128x128.Idx → EReal) = maskM (dwc x0 x1 x4) := by
  obtain ⟨x0, rfl⟩ := Cert.Reals.reals_of h0
  have h : (val_main_v66 (F := Ideal) (re x0) x1 x4 : S8x128x128.Idx → EReal) = dwc (re x0) x1 x4 := by
    funext y
    obtain ⟨g, i, j, rfl⟩ : ∃ (g : Fin 8) (i j : Fin 128), y = ix3 g i j := ⟨y 0, y 1, y 2, eq_ix3 y⟩
    exact v66_apply x0 x1 x4 g i j
  refine Eq.trans ?_ (v69_apply x0 x1 x4 _ h)
  generalize hT : val_main_v69 (F := Ideal) (re x0) x1 x4 = T
  funext y
  obtain ⟨g, i, j, rfl⟩ : ∃ (g : Fin 8) (i j : Fin 128), y = ix3 g i j := ⟨y 0, y 1, y 2, eq_ix3 y⟩
  pointwise [val_main_v109, val_main_v70, hT]
theorem ref_db (x0 : S8192x2048.Idx → EReal) (x4 : S8192x1024.Idx → EReal) (h0 : ∀ i, ∃ r : ℝ, x0 i = r) :
    (val_main_v110 (F := Ideal) x0 x4 : S8x128.Idx → EReal) = dbs x0 x4 := by
  obtain ⟨x0, rfl⟩ := Cert.Reals.reals_of h0
  exact v110_eq x0 x4

end Cert.SguBwdRefIdeal.Outcome

namespace Cert.Proof.SguBwdClaims

/-- Every execution of the kernel as compiled terminates, keeps its arguments and leaves every semaphore at zero. -/
theorem frame_k : Cert.quiescent_SguBwd := fun m ρ _ => Cert.SguBwd.Gen.frame m ρ
/-- The same of the kernel read over the extended reals, -/
theorem frame_ki : Cert.quiescent_SguBwdIdeal := fun m ρ _ => Cert.SguBwdIdeal.Gen.frame m ρ
/-- and of the reference. -/
theorem frame_ri : Cert.quiescent_SguBwdRefIdeal := fun m ρ _ =>
  (θ_run Cert.SguBwdRefIdeal.defs _ _).mono
    (fun r h => ⟨fun c => (h c).2.2.2.2, Idealize.ShloMosaic.sem_eq_zero_of_no_sems (by decide) r.2⟩)
    (Cert.SguBwdRefIdeal.Value.run (F := Ideal) m ρ)
/-- Both frames at finite arguments, as the claim of the values restates them. -/
theorem frame_ki_pre : Cert.quiescent_SguBwdIdeal_pre_sgu_bwd_finite := fun m ρ _ => Cert.SguBwdIdeal.Gen.frame m ρ
theorem frame_ri_pre : Cert.quiescent_SguBwdRefIdeal_pre_sgu_bwd_finite := fun m ρ _ => frame_ri m ρ trivial
/-- Reading the kernel over the extended reals named the two constants of the gate's cubic. -/
theorem preserves : Cert.preserves_SguBwd_SguBwdIdeal :=
  ⟨IdealRules.named_const.statement Cert.SguBwdIdeal.κ "gelu_c" .f32 0x3D372713#32 _ rfl, IdealRules.named_const.statement Cert.SguBwdIdeal.κ "gelu_3c" .f32 0x3E095D4F#32 _ rfl⟩

/-- Over the extended reals, at finite arguments, the kernel's four gradients are the reference's. -/
theorem algebraic : Cert.algebraic_SguBwdIdeal_SguBwdRefIdeal_pre_sgu_bwd_finite := fun m ρ m' ρ' hpre hag =>
  ⟨fun c => Cert.SguBwdIdeal.Outcome.dp (Cert.SguBwdIdeal.Outcome.a0 m c) (Cert.SguBwdIdeal.Outcome.a1 m c) (Cert.SguBwdIdeal.Outcome.a2 m c) (Cert.SguBwdIdeal.Outcome.a3 m c) (Cert.SguBwdIdeal.Outcome.a4 m c), fun c => Cert.SguBwdIdeal.Outcome.dng (Cert.SguBwdIdeal.Outcome.a0 m c) (Cert.SguBwdIdeal.Outcome.a2 m c) (Cert.SguBwdIdeal.Outcome.a4 m c), fun c => Cert.SguBwdIdeal.Outcome.maskM (Cert.SguBwdIdeal.Outcome.dwc (Cert.SguBwdIdeal.Outcome.a0 m c) (Cert.SguBwdIdeal.Outcome.a1 m c) (Cert.SguBwdIdeal.Outcome.a4 m c)), fun c => Cert.SguBwdIdeal.Outcome.dbs (Cert.SguBwdIdeal.Outcome.a0 m c) (Cert.SguBwdIdeal.Outcome.a4 m c), Cert.SguBwdIdeal.Outcome.run m ρ,
    (θ_run Cert.SguBwdRefIdeal.defs _ _).mono
      (fun _ h c => ⟨(h c).1.trans (by
        rw [Cert.SguBwdRefIdeal.Read.val_main_v108_eq, (hag c).1, (hag c).2.1, (hag c).2.2.1, (hag c).2.2.2.1, (hag c).2.2.2.2]
        exact Cert.SguBwdRefIdeal.Outcome.ref_dp _ _ _ _ _ (fun i => Cert.Reals.real_of_cmp (congrFun (hpre c).1 i)) (fun i => Cert.Reals.real_of_cmp (congrFun (hpre c).2.1 i)) (fun i => Cert.Reals.real_of_cmp (congrFun (hpre c).2.2.1 i)) (fun i => Cert.Reals.real_of_cmp (congrFun (hpre c).2.2.2.1 i)) (fun i => Cert.Reals.real_of_cmp (congrFun (hpre c).2.2.2.2 i))), (h c).2.1.trans (by
        rw [Cert.SguBwdRefIdeal.Read.val_main_v92_eq, (hag c).1, (hag c).2.2.1, (hag c).2.2.2.2]
        exact Cert.SguBwdRefIdeal.Outcome.ref_dng _ _ _ (fun i => Cert.Reals.real_of_cmp (congrFun (hpre c).1 i))), (h c).2.2.1.trans (by
        rw [Cert.SguBwdRefIdeal.Read.val_main_v109_eq, (hag c).1, (hag c).2.1, (hag c).2.2.2.2]
        exact Cert.SguBwdRefIdeal.Outcome.ref_dw _ _ _ (fun i => Cert.Reals.real_of_cmp (congrFun (hpre c).1 i))), (h c).2.2.2.1.trans (by
        rw [Cert.SguBwdRefIdeal.Read.val_main_v110_eq, (hag c).1, (hag c).2.2.2.2]
        exact Cert.SguBwdRefIdeal.Outcome.ref_db _ _ (fun i => Cert.Reals.real_of_cmp (congrFun (hpre c).1 i))), (h c).2.2.2.2⟩)
      (Cert.SguBwdRefIdeal.Value.run (F := Ideal) m' ρ')⟩

end Cert.Proof.SguBwdClaims

end
-- ==== Proof.SguFwdValue.lean ====
/- The gating unit's forward call (`SguFwd`): the rows it leaves, in the terms of its backward call's pieces; the reference, and the claims. -/
module

public import proofs.«01_k».proof.Proof.SguBwdValue
public import proofs.«01_k».proof.Proof.Gen.SguFwd.Frame
public import proofs.«01_k».proof.Proof.Gen.Pre_sgu_fwd_finite
public import proofs.«01_k».proof.Proof.Gen.SguFwdIdeal.Value
public import proofs.«01_k».proof.Proof.Gen.SguFwdRefIdeal.Run
public import proofs.«01_k».proof.Proof.Gen.SguFwdRefIdeal.Read
@[expose] public section
set_option maxRecDepth 16384
noncomputable section
open Idealize.ShloMosaic Idealize.ShloMosaic.TcCoe Idealize.SL.Sem
open Idealize.ShloMosaic.Pipeline (Dat)

namespace Cert.SguFwdIdeal.Outcome
open Cert.SguFwdIdeal Cert.SguFwdIdeal.Gen
open Cert.SguBwdIdeal.Outcome (gel vv rv vh vn wm row pos grp cell lane mixed maskM mixT biased tile_piece mix_eq bias_apply)
variable (m : (ℓ : Loc nD τ sig) → Buf (Elt Ideal) ℓ) (c : Dev nD) (t : Fin cfg0.N)

/-- The gate's unit of a block, its left half, and its right half normed and scaled. -/
theorem pay1_apply (v : Vec Ideal S256x2048 .f32) (r : Fin 256) (k : Fin 2048) : k0_pay1 (F := Ideal) v (ix2 r k) = gel (v (ix2 r k)) := by
  unfold gel
  pointwise [k0_pay1]
  rfl
theorem pay2_apply (v : Vec Ideal S256x2048 .f32) (r : Fin 256) (k : Fin 1024) : k0_pay2 (F := Ideal) v (ix2 r k) = gel (v (ix2 r ⟨k.val, by omega⟩)) := by
  rw [← pay1_apply]
  unfold k0_pay2
  generalize k0_pay1 (F := Ideal) v = a
  pointwise
theorem pay3_apply (v : Vec Ideal S256x2048 .f32) (g : Vec Ideal S1x1024 .f32) (r : Fin 256) (l : Fin 1024) :
    k0_pay3 (F := Ideal) v g (ix2 r l) = gel (v (ix2 r ⟨1024 + l.val, by omega⟩))
      * Ideal.rsqrt (Ideal.div (∑ k : Fin 1024, gel (v (ix2 r ⟨1024 + k.val, by omega⟩)) * gel (v (ix2 r ⟨1024 + k.val, by omega⟩))) (Ideal.ofBits .f32 0x44800000#32) + Ideal.ofBits .f32 0x358637BD#32)
      * g (ix2 0 l) := by
  simp only [← pay1_apply]
  unfold k0_pay3
  generalize k0_pay1 (F := Ideal) v = a
  pointwise

/-- A covering list of pieces that all show one function, read back. -/
theorem readCov_of_pieces {κ : Kind} {sp : Space} {S : Shape} {e : EltTy} (v : View sig κ sp S e) (L : List (View.Piece (Elt Ideal) S e)) (G : S.Idx → Elt Ideal e)
    (h : View.PiecesOf G L) (hc : ∀ y : S.Idx, ∃ p ∈ L, y ∈ p.1.set) (r : Rect S) : v.readCov L r.toLoadRect = View.ld G r := by
  rw [View.readCov_eq_canon_ld v L r hc]
  congr 1
  funext y
  exact View.canon_apply_of_pieces G L h.mem y (hc y)

/-- A half of the rows that the body writes: the gate's half times the mixed rows with their bias. -/
theorem half_out (v : View sig .tc .vmem S256x1024 .f32) (L : List (View.Piece (Elt Ideal) S256x1024 .f32)) (G : S256x1024.Idx → EReal) (B : S128x1024.Idx → EReal) (A : FVec Ideal S256x1024 .f32)
    (h : View.PiecesOf (Val := Elt Ideal) (e := .f32) G L) (hc : ∀ y : S256x1024.Idx, ∃ p ∈ L, y ∈ p.1.set) (n : ℕ) (hn : n < 2)
    (i : ∀ a, (![128 * n, 0] : Fin 2 → ℕ) a + S128x1024.size a ≤ S256x1024.size a) (hd : S128x1024.ShapeCasts S128x1024) (hs : S256x1024.Slices ![128 * n, 0] S128x1024) (x : S128x1024.Idx) :
    (truncf .bf16 (mulf (F := Ideal) (φ := .f32) (extractStridedSlice S128x1024 ![128 * n, 0] A hs)
      (addf (F := Ideal) (φ := .f32) (v.readCov L (Rect.unit (s := S256x1024) ![128 * n, 0] S128x1024.size i).toLoadRect) (shapeCast S128x1024 B hd))) bitsLt_bf16_f32 : FVec Ideal S128x1024 .bf16) x
      = A ((Rect.unit (s := S256x1024) ![128 * n, 0] S128x1024.size i).emb x) * biased G B ((Rect.unit (s := S256x1024) ![128 * n, 0] S128x1024.size i).emb x) := by
  obtain ⟨r, l, rfl⟩ : ∃ (r : Fin 128) (l : Fin 1024), x = ix2 r l := ⟨x 0, x 1, eq_ix2 x⟩
  rw [readCov_of_pieces v L G h hc]
  refine congrArg₂ (· * ·) ((extractStridedSlice_apply _ _ _ _ _ fun d => ?_)) (congrArg₂ (· + ·) rfl ((congrFun (shapeCast_self _ _) _).trans (congrArg B ?_)))
  · fin_cases d <;> simp [ix2]
  · blk_ext

abbrev outT : S256x1024.Idx → EReal := fun y =>
  k0_pay2 (F := Ideal) (iblk m c 0 t) y * biased (mixT (iblk m c 2 t) (k0_pay3 (F := Ideal) (iblk m c 0 t) (iblk m c 1 t))) (iblk m c 3 t) y
theorem after4 (y : S256x1024.Idx) : (outsAt0 m c t : S256x1024.Idx → EReal) y = outT m c t y := by
  unfold outsAt0
  frame_out
  refine View.canon_append_of_piecesOf (Val := Elt Ideal) (e := .bf16) (outT m c t) [] (_ :: _ :: []) ⟨half_out _ _ _ _ _ ?_ ?_ 1 (by norm_num) _ _ _, half_out _ _ _ _ _ ?_ ?_ 0 (by norm_num) _ _ _, trivial⟩ y ?_
  · exact ⟨tile_piece _ _ 1 7, tile_piece _ _ 1 6, tile_piece _ _ 1 5, tile_piece _ _ 1 4, tile_piece _ _ 1 3, tile_piece _ _ 1 2, tile_piece _ _ 1 1, tile_piece _ _ 1 0, tile_piece _ _ 0 7, tile_piece _ _ 0 6, tile_piece _ _ 0 5, tile_piece _ _ 0 4, tile_piece _ _ 0 3, tile_piece _ _ 0 2, tile_piece _ _ 0 1, tile_piece _ _ 0 0, trivial⟩
  · exact View.cover_of_tiledL _ S128x128.size (by sl_kernel_rfl)
  · exact ⟨tile_piece _ _ 1 7, tile_piece _ _ 1 6, tile_piece _ _ 1 5, tile_piece _ _ 1 4, tile_piece _ _ 1 3, tile_piece _ _ 1 2, tile_piece _ _ 1 1, tile_piece _ _ 1 0, tile_piece _ _ 0 7, tile_piece _ _ 0 6, tile_piece _ _ 0 5, tile_piece _ _ 0 4, tile_piece _ _ 0 3, tile_piece _ _ 0 2, tile_piece _ _ 0 1, tile_piece _ _ 0 0, trivial⟩
  · exact View.cover_of_tiledL _ S128x128.size (by sl_kernel_rfl)
  · exact View.cover_of_tiledL (s := S256x1024) _ S128x1024.size (by sl_kernel_rfl) y

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem row_lt (r : Fin 256) : t.val * 256 + r.val < 8192 := by
  have := t.isLt; have hN : cfg0.N = 32 := N_0; omega
abbrev a0 : S8192x2048.Idx → EReal := m ((c : Thread nD τ).loc main_arg0)
abbrev a1 : S1x1024.Idx → EReal := m ((c : Thread nD τ).loc main_arg1)
abbrev a2 : S1x8x128x128.Idx → EReal := m ((c : Thread nD τ).loc main_arg2)
abbrev a3 : S1x8x128.Idx → EReal := m ((c : Thread nD τ).loc main_arg3)

/-- The host's masked squares and rows of the bias, and the blocks that the body loads. -/
theorem hV5 : @Eq (S8x128x128.Idx → EReal) (V m c main_v5) (maskM (shapeCast S8x128x128 (a2 m c) shapeCasts_S1x8x128x128_S8x128x128)) := by
  unfold V hostOps0 hostOps0_1 hostOps0_2 hostOps0_3 hostOps0_4
  simp only [List.flatten_cons, List.flatten_nil, List.append_nil, List.cons_append, List.nil_append]
  after_results
  rfl
theorem hV9 : @Eq (S128x1024.Idx → EReal) (V m c main_v9) (shapeCast S128x1024 (broadcastInDim S128x8x128 ![0, 1] bcast_S128x8_S128x8x128_0_1 (transpose S128x8 [1, 0]
    (shapeCast S8x128 (a3 m c) shapeCasts_S1x8x128_S8x128) transposes_S8x128_S128x8_1_0)) shapeCasts_S128x8x128_S128x1024) := by
  unfold V hostOps0 hostOps0_1 hostOps0_2 hostOps0_3 hostOps0_4
  simp only [List.flatten_cons, List.flatten_nil, List.append_nil, List.cons_append, List.nil_append]
  after_results
  rfl
theorem iblk0_apply (r : Fin 256) (k : Fin 2048) : (iblk m c 0 t : Vec Ideal S256x2048 .f32) (ix2 r k) = a0 m c (ix2 ⟨t.val * 256 + r.val, row_lt t r⟩ k) := by
  have he : (win0_0.blk t).view.emb (ix2 r k) = ix2 ⟨t.val * 256 + r.val, row_lt t r⟩ k := by blk_ext [idx0 t]
  blk_simp [iblk]
  rw [he]
  exact congrFun (V_main_arg0 m c) _
theorem iblk1_apply (k : Fin 1024) : (iblk m c 1 t : Vec Ideal S1x1024 .f32) (ix2 0 k) = a1 m c (ix2 0 k) := by
  have he : (win0_1.blk t).view.emb (ix2 0 k) = ix2 0 k := by blk_ext [idx1 t]
  blk_simp [iblk]
  rw [he]
  exact congrFun (V_main_arg1 m c) _
theorem iblk2_apply (g : Fin 8) (i k : Fin 128) : (iblk m c 2 t : Vec Ideal S8x128x128 .bf16) (ix3 g i k) = wm (a2 m c) g i k := by
  have he : (win0_2.blk t).view.emb (ix3 g i k) = ix3 g i k := by blk_ext [idx2 t]
  blk_simp [iblk]
  rw [he]
  exact congrFun (hV5 m c) _
theorem iblk3_apply (r : Fin 128) (l : Fin 1024) : (iblk m c 3 t : Vec Ideal S128x1024 .f32) (ix2 r l) = a3 m c (ix3 0 ⟨l.val / 128, by omega⟩ r) := by
  have he : (win0_3.blk t).view.emb (ix2 r l) = ix2 r l := by blk_ext [idx3 t]
  blk_simp [iblk]
  rw [he]
  exact (congrFun (hV9 m c) _).trans (bias_apply _ _ _)

/-- The rows of the result, of the arguments. -/
def yy (x0 : S8192x2048.Idx → EReal) (x1 : S1x1024.Idx → EReal) (x2 : S1x8x128x128.Idx → EReal) (x3 : S1x8x128.Idx → EReal) : S8192x1024.Idx → EReal := fun i =>
  gel (x0 (ix2 (i 0) ⟨(i 1).val, by have := (i 1).isLt; have : S8192x1024.size 1 = 1024 := rfl; omega⟩)) * mixed x0 x1 x2 x3 (i 0) (i 1)
theorem vnT_eq (r : Fin 256) (l : Fin 1024) : k0_pay3 (F := Ideal) (iblk m c 0 t) (iblk m c 1 t) (ix2 r l) = vn (a0 m c) (a1 m c) ⟨t.val * 256 + r.val, row_lt t r⟩ l := by
  rw [pay3_apply]
  simp only [iblk0_apply, iblk1_apply]
  rfl
theorem tile (r : Fin 256) (l : Fin 1024) : (outsAt0 m c t : S256x1024.Idx → EReal) (ix2 r l) = yy (a0 m c) (a1 m c) (a2 m c) (a3 m c) (ix2 ⟨t.val * 256 + r.val, row_lt t r⟩ l) := by
  rw [after4]
  refine congrArg₂ (· * ·) ((pay2_apply _ r l).trans (congrArg gel (iblk0_apply m c t r _))) ?_
  refine congrArg₂ (· + ·) (mix_eq t _ _ (wm (a2 m c)) (vn (a0 m c) (a1 m c)) (iblk2_apply m c t) (vnT_eq m c t) r l) ((iblk3_apply m c t _ _).trans ?_)
  exact congrArg (fun p => a3 m c (ix3 0 (grp l) p)) (Fin.ext (by show r.val % 128 = (t.val * 256 + r.val) % 128; omega))
theorem final4 : (dats m 0 c).arrAt 4 cfg0.N = yy (a0 m c) (a1 m c) (a2 m c) (a3 m c) := by
  refine (dats m 0 c).arrAt_eq_of_covers 4 _ (by decide +kernel) fun t hf y => ?_
  blk_simp
  rw [after0_4]
  obtain ⟨r, l, rfl⟩ : ∃ (r : Fin 256) (l : Fin 1024), y = ix2 r l := ⟨y 0, y 1, eq_ix2 y⟩
  refine (tile m c t r l).trans ?_
  congr 1
  blk_ext [idx4 t]

/-- The run, read. -/
theorem run (ρ) : θ_run defs (onTc (τ := τ) (main (F := Ideal))) ⟨m, fun _ => 0, ρ⟩ fun r => ∀ c : Dev nD,
      r.2.mem ((c : Thread nD τ).loc main_v10) = yy (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)
end Cert.SguFwdIdeal.Outcome

namespace Cert.SguFwdRefIdeal.Outcome
open Cert.SguFwdRefIdeal Cert.SguFwdRefIdeal.Read
open Cert.SguBwdIdeal.Outcome (gel vv rv vh vn wm row pos grp cell lane mixed)
open Cert.SguBwdRefIdeal.Outcome (th ref_th ref_gel re lane_div)
open Cert.SguFwdIdeal.Outcome (yy)
variable (x0 : S8192x2048.Idx → ℝ) (x1 : S1x1024.Idx → EReal) (x2 : S1x8x128x128.Idx → EReal) (x3 : S1x8x128.Idx → EReal)

/-- The reference's gate, read as its backward call's reference is. -/
theorem v9_apply (i : S8192x2048.Idx) : (val_main_v9 (F := Ideal) (re x0) i : EReal) = (th (x0 i) : EReal) := by
  refine Eq.trans ?_ (ref_th (x0 i))
  obtain ⟨r, l, rfl⟩ : ∃ (r : Fin 8192) (l : Fin 2048), i = ix2 r l := ⟨i 0, i 1, eq_ix2 i⟩
  pointwise [val_main_v0, val_main_v1, val_main_cst, val_main_v2, val_main_v3, val_main_cst_0, val_main_v4, val_main_v5, val_main_v6, val_main_cst_1, val_main_v7, val_main_v8, val_main_v9]
theorem v14_apply (i : S8192x2048.Idx) : (val_main_v14 (F := Ideal) (re x0) i : EReal) = gel (x0 i : EReal) := by
  refine Eq.trans ?_ (ref_gel (x0 i) (v9_apply x0 i))
  generalize hT : val_main_v9 (F := Ideal) (re x0) = T
  obtain ⟨r, l, rfl⟩ : ∃ (r : Fin 8192) (l : Fin 2048), i = ix2 r l := ⟨i 0, i 1, eq_ix2 i⟩
  pointwise [val_main_v14, val_main_v13, val_main_v12, val_main_v11, val_main_v10, val_main_cst_2, val_main_cst_3, hT]
theorem v16_apply (r : Fin 8192) (l : Fin 1024) : (val_main_v16 (F := Ideal) (re x0) : S8192x1024.Idx → EReal) (ix2 r l) = vv (re x0) r l := by
  have h := fun i => v14_apply x0 i
  generalize hT : val_main_v14 (F := Ideal) (re x0) = T at h
  unfold vv
  rw [← h]
  pointwise [val_main_v16, hT]
theorem v15_apply (r : Fin 8192) (l : Fin 1024) : (val_main_v15 (F := Ideal) (re x0) : S8192x1024.Idx → EReal) (ix2 r l) = gel (re x0 (ix2 r ⟨l.val, by omega⟩)) := by
  have h := fun i => v14_apply x0 i
  generalize hT : val_main_v14 (F := Ideal) (re x0) = T at h
  rw [← h]
  pointwise [val_main_v15, hT]
/-- The norm, the scale, the chunks, the mixed rows. -/
theorem v24_apply (r : Fin 8192) : (val_main_v24 (F := Ideal) (re x0) : S8192x1.Idx → EReal) (ix2 r 0)
    = Ideal.div (∑ k : Fin 1024, vv (re x0) r k * vv (re x0) r k) (Ideal.ofBits .f32 0x44800000#32) + Ideal.ofBits .f32 0x358637BD#32 := by
  have h := fun r l => v16_apply x0 r l
  generalize hT : val_main_v16 (F := Ideal) (re x0) = T at h
  simp only [← h]
  pointwise [val_main_v24, val_main_v23, val_main_cst_6, val_main_v22, val_main_v21, val_main_cst_5, val_main_v20, val_main_v19, val_main_cst_4, val_main_v18, hT]
theorem v25_apply (r : Fin 8192) : (val_main_v25 (F := Ideal) (re x0) : S8192x1.Idx → EReal) (ix2 r 0) = rv (re x0) r := by
  refine Eq.trans ?_ (congrArg Ideal.rsqrt (v24_apply x0 r))
  pointwise [val_main_v25]
theorem v27_apply (r : Fin 8192) (l : Fin 1024) : (val_main_v27 (F := Ideal) (re x0) : S8192x1024.Idx → EReal) (ix2 r l) = vh (re x0) r l := by
  unfold vh
  rw [← v16_apply, ← v25_apply]
  pointwise [val_main_v27, val_main_v26]
theorem v30_apply (r : Fin 8192) (l : Fin 1024) : (val_main_v30 (F := Ideal) (re x0) x1 : S8192x1024.Idx → EReal) (ix2 r l) = vn (re x0) x1 r l := by
  unfold vn
  rw [← v27_apply]
  pointwise [val_main_v30, val_main_v29, val_main_v28, val_main_v17]
theorem v31_apply (n : Fin 64) (i : Fin 128) (g : Fin 8) (k : Fin 128) : (val_main_v31 (F := Ideal) (re x0) x1 : S64x128x8x128.Idx → EReal) (ix4 n i g k) = vn (re x0) x1 (cell n i) (lane g k) := by
  rw [← v30_apply]
  pointwise [val_main_v31]
theorem v36_apply (g : Fin 8) (i k : Fin 128) : (val_main_v36 (F := Ideal) x2 : S8x128x128.Idx → EReal) (ix3 g i k) = wm x2 g i k := rfl
theorem v37_apply (g : Fin 8) (n : Fin 64) (k i : Fin 128) : (val_main_v37 (F := Ideal) (re x0) x1 x2 : S8x64x128x128.Idx → EReal) (ix4 g n k i) = ∑ j : Fin 128, vn (re x0) x1 (cell n j) (lane g k) * wm x2 g i j := by
  simp only [← v31_apply, ← v36_apply]
  pointwise [val_main_v37]
theorem v44_apply (r : Fin 8192) (l : Fin 1024) : (val_main_v44 (F := Ideal) (re x0) x1 x2 x3 : S8192x1024.Idx → EReal) (ix2 r l) = mixed (re x0) x1 x2 x3 r l := by
  have h := fun g n k i => v37_apply x0 x1 x2 g n k i
  generalize hT : val_main_v37 (F := Ideal) (re x0) x1 x2 = T at h
  pointwise [val_main_v44, val_main_v43, val_main_v42, val_main_v41, val_main_v40, val_main_v39, val_main_v38, hT]
  unfold mixed
  refine congrArg₂ (· + ·) ((h _ _ _ _).trans (Finset.sum_congr rfl fun j _ => ?_)) rfl
  rw [mul_comm, lane_div]

/-- The reference's rows, when the input is finite. -/
theorem ref_y (x0 : S8192x2048.Idx → EReal) (x1 : S1x1024.Idx → EReal) (x2 : S1x8x128x128.Idx → EReal) (x3 : S1x8x128.Idx → EReal) (h0 : ∀ i, ∃ r : ℝ, x0 i = r) :
    (val_main_v46 (F := Ideal) x0 x1 x2 x3 : S8192x1024.Idx → EReal) = yy x0 x1 x2 x3 := by
  obtain ⟨x0, rfl⟩ := Cert.Reals.reals_of h0
  funext i
  obtain ⟨r, l, rfl⟩ : ∃ (r : Fin 8192) (l : Fin 1024), i = ix2 r l := ⟨i 0, i 1, eq_ix2 i⟩
  exact congrArg₂ (· * ·) (v15_apply x0 r l) (v44_apply x0 x1 x2 x3 r l)
end Cert.SguFwdRefIdeal.Outcome

namespace Cert.Proof.SguFwdClaims

/-- Every execution of the kernel as compiled terminates, keeps its arguments and leaves every semaphore at zero. -/
theorem frame_k : Cert.quiescent_SguFwd := fun m ρ _ => Cert.SguFwd.Gen.frame m ρ
/-- The same of the kernel read over the extended reals, -/
theorem frame_ki : Cert.quiescent_SguFwdIdeal := fun m ρ _ => Cert.SguFwdIdeal.Gen.frame m ρ
/-- and of the reference. -/
theorem frame_ri : Cert.quiescent_SguFwdRefIdeal := fun m ρ _ =>
  (θ_run Cert.SguFwdRefIdeal.defs _ _).mono
    (fun r h => ⟨fun c => (h c).2, Idealize.ShloMosaic.sem_eq_zero_of_no_sems (by decide) r.2⟩)
    (Cert.SguFwdRefIdeal.Value.run (F := Ideal) m ρ)
/-- Both frames at finite arguments, as the claim of the values restates them. -/
theorem frame_ki_pre : Cert.quiescent_SguFwdIdeal_pre_sgu_fwd_finite := fun m ρ _ => Cert.SguFwdIdeal.Gen.frame m ρ
theorem frame_ri_pre : Cert.quiescent_SguFwdRefIdeal_pre_sgu_fwd_finite := fun m ρ _ => frame_ri m ρ trivial
/-- Reading the kernel over the extended reals named the constant of the gate's cubic. -/
theorem preserves : Cert.preserves_SguFwd_SguFwdIdeal := IdealRules.named_const.statement Cert.SguFwdIdeal.κ "gelu_c" .f32 0x3D372713#32 _ rfl

/-- Over the extended reals, at finite arguments, the kernel's rows are the reference's. -/
theorem algebraic : Cert.algebraic_SguFwdIdeal_SguFwdRefIdeal_pre_sgu_fwd_finite := fun m ρ m' ρ' hpre hag =>
  ⟨fun c => Cert.SguFwdIdeal.Outcome.yy (Cert.SguFwdIdeal.Outcome.a0 m c) (Cert.SguFwdIdeal.Outcome.a1 m c) (Cert.SguFwdIdeal.Outcome.a2 m c) (Cert.SguFwdIdeal.Outcome.a3 m c), Cert.SguFwdIdeal.Outcome.run m ρ,
    (θ_run Cert.SguFwdRefIdeal.defs _ _).mono
      (fun _ h c => ⟨(h c).1.trans (by
        rw [Cert.SguFwdRefIdeal.Read.val_main_v46_eq, (hag c).1, (hag c).2.1, (hag c).2.2.1, (hag c).2.2.2]
        exact Cert.SguFwdRefIdeal.Outcome.ref_y _ _ _ _ (fun i => Cert.Reals.real_of_cmp (congrFun (hpre c).1 i))), (h c).2⟩)
      (Cert.SguFwdRefIdeal.Value.run (F := Ideal) m' ρ')⟩

end Cert.Proof.SguFwdClaims

end
-- ==== Proof.LruMath.lean ====
/- The gated linear recurrence over the reals: the doubling scan, its derivative, the scan of one tile, and the gates'
   elementary identities. Nothing here mentions a program. -/
module

public import Idealize.ShloMosaic.PureOps.Ideal
public import Idealize.ShloMosaic.PureOps.Ideal.Laws
public import Idealize.ShloMosaic.Lib.Pointwise

@[expose] public section

noncomputable section

namespace Cert.Lru

/-! ## The recurrence h t = a t · h (t - 1) + u t and its doubling scan -/

/-- The state. -/
def fwd (a u : ℕ → ℝ) : ℕ → ℝ
  | 0 => u 0
  | t + 1 => a (t + 1) * fwd a u t + u (t + 1)

/-- A sequence `d` places later, with `z` in front. -/
def lag (z : ℝ) (d : ℕ) (f : ℕ → ℝ) (t : ℕ) : ℝ := if t < d then z else f (t - d)

/-- A sequence of `N` terms `d` places earlier, with zeros behind. -/
def lead (N d : ℕ) (f : ℕ → ℝ) (t : ℕ) : ℝ := if t + d < N then f (t + d) else 0

/-- The products of the factors over the last 2ⁿ places. -/
def AN (a : ℕ → ℝ) : ℕ → ℕ → ℝ
  | 0 => a
  | n + 1 => fun t => AN a n t * lag 1 (2 ^ n) (AN a n) t

/-- What the last 2ⁿ places contribute to the state. -/
def UN (a u : ℕ → ℝ) : ℕ → ℕ → ℝ
  | 0 => u
  | n + 1 => fun t => AN a n t * lag 0 (2 ^ n) (UN a u n) t + UN a u n t

theorem fwd_level (a u : ℕ → ℝ) (n t : ℕ) : fwd a u t = UN a u n t + AN a n t * lag 0 (2 ^ n) (fwd a u) t := by
  induction n generalizing t with
  | zero => cases t with
    | zero => simp [UN, lag, fwd]
    | succ t => simp only [UN, AN, lag, fwd, pow_zero, Nat.add_sub_cancel, if_neg (show ¬ t + 1 < 1 by omega)]; ring
  | succ n ih =>
    have h1 := ih t
    have e : 2 ^ (n + 1) = 2 ^ n + 2 ^ n := by rw [pow_succ]; ring
    simp only [UN, AN]
    rw [e]
    by_cases h : t < 2 ^ n
    · rw [h1]; simp only [lag, if_pos h, if_pos (show t < 2 ^ n + 2 ^ n by omega)]; ring
    · have h2 := ih (t - 2 ^ n)
      rw [h1]
      simp only [lag, if_neg h] at h2 ⊢
      rw [h2]
      by_cases h3 : t < 2 ^ n + 2 ^ n
      · simp only [if_pos (show t - 2 ^ n < 2 ^ n by omega), if_pos h3]; ring
      · simp only [if_neg (show ¬ t - 2 ^ n < 2 ^ n by omega), if_neg h3, show t - 2 ^ n - 2 ^ n = t - (2 ^ n + 2 ^ n) by omega]; ring

/-- After enough levels the scan is the state. -/
theorem UN_eq (a u : ℕ → ℝ) {n t : ℕ} (h : t < 2 ^ n) : UN a u n t = fwd a u t := by
  rw [fwd_level a u n t]; simp [lag, h]

/-! ## The derivative of the scan -/

/-- The derivative with respect to the contributions, from the last of `K` levels down. -/
def GU (a c : ℕ → ℝ) (N K : ℕ) : ℕ → ℕ → ℝ
  | 0 => c
  | k + 1 => fun t => GU a c N K k t + lead N (2 ^ (K - 1 - k)) (fun s => AN a (K - 1 - k) s * GU a c N K k s) t

theorem GU_level (a c : ℕ → ℝ) {N K : ℕ} (hN : N ≤ 2 ^ K) : ∀ k ≤ K, ∀ t,
    GU a c N K k t = c t + lead N (2 ^ (K - k)) (fun s => AN a (K - k) s * GU a c N K k s) t := by
  intro k
  induction k with
  | zero => intro _ t; simp only [GU, lead, Nat.sub_zero]; rw [if_neg (by omega)]; ring
  | succ k ih =>
    intro hk t
    have ih := ih (by omega)
    obtain ⟨n, hn⟩ : ∃ n, K - 1 - k = n := ⟨_, rfl⟩
    have e1 : K - k = n + 1 := by omega
    have e2 : K - (k + 1) = n := by omega
    have e : 2 ^ (n + 1) = 2 ^ n + 2 ^ n := by rw [pow_succ]; ring
    have hp : 0 < 2 ^ n := Nat.two_pow_pos n
    simp only [GU, hn, e2]
    rw [e1, e] at ih
    rw [ih t]
    simp only [lead, AN] at ih ⊢
    by_cases h : t + 2 ^ n < N
    · simp only [if_pos h]
      by_cases h2 : t + (2 ^ n + 2 ^ n) < N
      · rw [if_pos h2, if_pos (show t + 2 ^ n + 2 ^ n < N by omega)]
        have e3 : lag 1 (2 ^ n) (AN a n) (t + (2 ^ n + 2 ^ n)) = AN a n (t + 2 ^ n) := by
          rw [lag, if_neg (show ¬ t + (2 ^ n + 2 ^ n) < 2 ^ n by omega)]; congr 1; omega
        rw [e3, show t + 2 ^ n + 2 ^ n = t + (2 ^ n + 2 ^ n) by omega]; ring
      · rw [if_neg h2, if_neg (show ¬ t + 2 ^ n + 2 ^ n < N by omega)]; ring
    · rw [if_neg h, if_neg h, if_neg (show ¬ t + (2 ^ n + 2 ^ n) < N by omega)]; ring

/-- The cotangent of the state: the recurrence run backwards. -/
def adj (a c : ℕ → ℝ) (K : ℕ) : ℕ → ℝ := GU a c (2 ^ K) K K

theorem adj_eq (a c : ℕ → ℝ) (K t : ℕ) :
    adj a c K t = c t + (if t + 1 < 2 ^ K then a (t + 1) * adj a c K (t + 1) else 0) := by
  have h := GU_level a c (le_refl (2 ^ K)) K (le_refl K) t
  simpa [adj, lead, AN] using h

/-- The derivative with respect to the factors at the last level. -/
theorem GA_top (a u c : ℕ → ℝ) {N K t : ℕ} (hN : N ≤ 2 ^ (K + 1)) (ht : t < N) :
    c t * lag 0 (2 ^ K) (UN a u K) t = GU a c N (K + 1) 1 t * lag 0 (2 ^ K) (fwd a u) t := by
  have e : 2 ^ (K + 1) = 2 ^ K + 2 ^ K := by rw [pow_succ]; ring
  by_cases h : t < 2 ^ K
  · simp [lag, h]
  · simp only [lag, if_neg h, GU, lead]
    rw [UN_eq a u (show t - 2 ^ K < 2 ^ K by omega), if_neg (by simp; omega)]; ring

/-- The derivative with respect to the factors, one level down. -/
theorem GA_step (a u c : ℕ → ℝ) {N K k n t : ℕ} (hn : K - 1 - k = n) (g : ℕ → ℝ)
    (hg : ∀ s < N, g s = GU a c N K k s * lag 0 (2 ^ (n + 1)) (fwd a u) s) (ht : t < N) :
    GU a c N K k t * lag 0 (2 ^ n) (UN a u n) t + g t * lag 1 (2 ^ n) (AN a n) t + lead N (2 ^ n) (fun s => AN a n s * g s) t
      = GU a c N K (k + 1) t * lag 0 (2 ^ n) (fwd a u) t := by
  have e : 2 ^ (n + 1) = 2 ^ n + 2 ^ n := by rw [pow_succ]; ring
  rw [e] at hg
  simp only [GU, hn, lead]
  rw [hg t ht]
  have e4 : (if t + 2 ^ n < N then AN a n (t + 2 ^ n) * g (t + 2 ^ n) else 0)
      = (if t + 2 ^ n < N then AN a n (t + 2 ^ n) * GU a c N K k (t + 2 ^ n) else 0) * lag 0 (2 ^ n) (fwd a u) t := by
    by_cases h : t + 2 ^ n < N
    · rw [if_pos h, if_pos h, hg _ h]
      have : lag 0 (2 ^ n + 2 ^ n) (fwd a u) (t + 2 ^ n) = lag 0 (2 ^ n) (fwd a u) t := by
        simp only [lag]
        by_cases h2 : t < 2 ^ n
        · rw [if_pos h2, if_pos (by omega)]
        · rw [if_neg h2, if_neg (by omega)]; congr 1; omega
      rw [this]; ring
    · simp [h]
  rw [e4]
  by_cases h : t < 2 ^ n
  · simp [lag, h, show t < 2 ^ n + 2 ^ n by omega]
  · have h1 := fwd_level a u n (t - 2 ^ n)
    have h2 : lag 0 (2 ^ n + 2 ^ n) (fwd a u) t = lag 0 (2 ^ n) (fwd a u) (t - 2 ^ n) := by
      simp only [lag]
      by_cases h3 : t - 2 ^ n < 2 ^ n
      · rw [if_pos h3, if_pos (by omega)]
      · rw [if_neg h3, if_neg (by omega)]; congr 1; omega
    rw [h2]
    have h3 : lag 0 (2 ^ n) (fwd a u) t = fwd a u (t - 2 ^ n) := by rw [lag, if_neg h]
    have h4 : lag 0 (2 ^ n) (UN a u n) t = UN a u n (t - 2 ^ n) := by rw [lag, if_neg h]
    have h5 : lag 1 (2 ^ n) (AN a n) t = AN a n (t - 2 ^ n) := by rw [lag, if_neg h]
    rw [h3, h4, h5, h1]; ring

/-! ## The scan of one tile of 128 rows -/

/-- The factors of a tile after `n` doublings. -/
def TA (a : ℕ → ℝ) : ℕ → ℕ → ℝ
  | 0 => a
  | n + 1 => fun r => if r + 2 ^ n < 128 then TA a n r * TA a n (r + 2 ^ n) else TA a n r

/-- The tile's partial sums after `n` doublings. -/
def TU (a b : ℕ → ℝ) : ℕ → ℕ → ℝ
  | 0 => b
  | n + 1 => fun r => if r + 2 ^ n < 128 then TA a n r * TU a b n (r + 2 ^ n) + TU a b n r else TU a b n r

theorem tile_level {a b D : ℕ → ℝ} (hD : ∀ r < 128, D r = b r + if r + 1 < 128 then a r * D (r + 1) else 0) :
    ∀ n, ∀ r < 128, D r = TU a b n r + if r + 2 ^ n < 128 then TA a n r * D (r + 2 ^ n) else 0 := by
  intro n
  induction n with
  | zero => simpa [TU, TA] using hD
  | succ n ih =>
    intro r hr
    have e : 2 ^ (n + 1) = 2 ^ n + 2 ^ n := by rw [pow_succ]; ring
    rw [ih r hr, e]
    simp only [TU, TA]
    by_cases h : r + 2 ^ n < 128
    · simp only [if_pos h]
      rw [ih _ h]
      by_cases h2 : r + (2 ^ n + 2 ^ n) < 128
      · rw [if_pos h2, if_pos (show r + 2 ^ n + 2 ^ n < 128 by omega), show r + 2 ^ n + 2 ^ n = r + (2 ^ n + 2 ^ n) by omega]; ring
      · rw [if_neg h2, if_neg (show ¬ r + 2 ^ n + 2 ^ n < 128 by omega)]; ring
    · simp only [if_neg h, if_neg (show ¬ r + (2 ^ n + 2 ^ n) < 128 by omega)]

/-- Seven doublings solve the tile's recurrence. -/
theorem tile_eq {a b D : ℕ → ℝ} (hD : ∀ r < 128, D r = b r + if r + 1 < 128 then a r * D (r + 1) else 0) {r : ℕ} (hr : r < 128) :
    TU a b 7 r = D r := by
  rw [tile_level hD 7 r hr]; simp

/-! ## The gates -/

/-- The logistic function. -/
def sig (x : ℝ) : ℝ := 1 / (1 + Real.exp (-x))

theorem sig_pos (x : ℝ) : 0 < sig x := by unfold sig; positivity
theorem sig_lt (x : ℝ) : sig x < 1 := by
  unfold sig; rw [div_lt_one (by positivity)]; linarith [Real.exp_pos (-x)]

/-- The logistic function by the hyperbolic tangent. -/
theorem half_tanh (x : ℝ) : 1 / 2 * Real.tanh (1 / 2 * x) + 1 / 2 = sig x := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [sig, h, Real.tanh_eq_sinh_div_cosh, Real.sinh_eq, Real.cosh_eq]
  have := Real.exp_pos (1 / 2 * x)
  have := Real.exp_pos (-(1 / 2 * x))
  generalize Real.exp (1 / 2 * x) = p at *
  generalize Real.exp (-(1 / 2 * x)) = q at *
  have hp : 0 < p + q := by linarith
  have hq : 0 < 1 + q * q := by positivity
  field_simp
  linear_combination (2 * q) * h1

/-- log (1 + eˣ). -/
def spl (x : ℝ) : ℝ := Real.log (1 + Real.exp x)

theorem spl_pos (x : ℝ) : 0 < spl x := Real.log_pos (by linarith [Real.exp_pos x])

theorem max_log (x : ℝ) : max x 0 + Real.log (1 + Real.exp (-|x|)) = spl x := by
  unfold spl
  rcases le_total 0 x with h | h
  · rw [max_eq_left h, abs_of_nonneg h]
    have : 1 + Real.exp x = Real.exp x * (1 + Real.exp (-x)) := by rw [mul_add, ← Real.exp_add]; simp [add_comm]
    rw [this, Real.log_mul (Real.exp_pos x).ne' (by positivity), Real.log_exp]
  · rw [max_eq_right h, abs_of_nonpos h]; simp

/-- The kernel's quotient form of the same logarithm. -/
theorem log_quot (z : ℝ) (hz : 0 < z) : Real.log (1 + z) * z / (1 + z - 1) = Real.log (1 + z) := by
  rw [add_sub_cancel_left]; field_simp

/-- Its derivative, the logistic function. -/
theorem exp_spl (x : ℝ) : Real.exp (x - spl x) = sig x := by
  rw [Real.exp_sub, spl, Real.exp_log (by positivity), sig, Real.exp_neg]
  have := Real.exp_pos x
  field_simp
  ring

/-- The square of the input's factor: 1 - a², for a = e^y, by the hyperbolic tangent. -/
theorem tanh_sq (y : ℝ) : (0 - Real.tanh y) * (Real.exp y * Real.exp y + 1) = 1 - Real.exp (2 * y) := by
  have h : Real.exp (2 * y) = Real.exp y * Real.exp y := by rw [← Real.exp_add]; congr 1; ring
  have h1 : Real.exp y * Real.exp (-y) = 1 := by rw [← Real.exp_add]; simp
  rw [h, Real.tanh_eq_sinh_div_cosh, Real.sinh_eq, Real.cosh_eq]
  have := Real.exp_pos y
  have := Real.exp_pos (-y)
  generalize Real.exp y = p at *
  generalize Real.exp (-y) = q at *
  have hp : 0 < p + q := by linarith
  field_simp
  linear_combination (2 * p) * h1

theorem sq_pos_of_neg {y : ℝ} (h : y < 0) : 0 < 1 - Real.exp (2 * y) := by
  have := Real.exp_lt_one_iff.mpr (show 2 * y < 0 by linarith); linarith

/-- The log-factor of the state. -/
theorem la_neg (z x : ℝ) : -8 * sig z * spl x < 0 := by
  have := mul_pos (sig_pos z) (spl_pos x); linarith

/-! ## The block-diagonal product -/

/-- A sum over 640 columns against one block of 80 is the sum over the block. -/
theorem block_sum (f : ℕ → ℝ) (w : ℕ → ℝ) {b : ℕ} (hb : b < 8) :
    ∑ k : Fin 640, f k * (if k.val / 80 = b then w (k.val % 80) else 0) = ∑ i : Fin 80, f (80 * b + i) * w i := by
  rw [Fin.sum_univ_eq_sum_range (fun k => f k * (if k / 80 = b then w (k % 80) else 0)) 640,
    Fin.sum_univ_eq_sum_range (fun i => f (80 * b + i) * w i) 80]
  have h := Finset.sum_subset_zero_on_sdiff (s₁ := Finset.Ico (80 * b) (80 * b + 80)) (s₂ := Finset.range 640)
    (g := fun k => f k * (if k / 80 = b then w (k % 80) else 0)) (f := fun k => f k * w (k - 80 * b))
    (fun k hk => by simp only [Finset.mem_Ico, Finset.mem_range] at hk ⊢; omega)
    (fun k hk => by
      simp only [Finset.mem_sdiff, Finset.mem_range, Finset.mem_Ico] at hk
      show f k * _ = 0
      rw [if_neg (by omega), mul_zero])
    (fun k hk => by
      simp only [Finset.mem_Ico] at hk
      show f k * _ = f k * _
      rw [if_pos (by omega), show k % 80 = k - 80 * b by omega])
  rw [← h, Finset.sum_Ico_eq_sum_range, Nat.add_sub_cancel_left]
  exact Finset.sum_congr rfl fun i _ => by rw [Nat.add_sub_cancel_left]

end Cert.Lru

end
-- ==== Proof.LruLevels.lean ====
/- Arrays of reals as values of the idealized programs: the operations on them, and the levels of the doubling scan by
   rotations and by concatenations. Nothing here mentions a program. -/
module

public import proofs.«01_k».proof.Proof.LruMath
public import proofs.«01_k».proof.Proof.Reals
public import Idealize.ShloMosaic.PureOps.Ideal.Laws
public import Idealize.ShloMosaic.Lib.Pointwise
public import Idealize.ShloMosaic.Lib.KernelVsHost
public import Idealize.ShloMosaic.Lib.Pipeline.Value

@[expose] public section

noncomputable section

namespace Cert.Lru

open Idealize.ShloMosaic

/-- The shape of `n` rows of `m` columns. -/
abbrev S2 (n m : ℕ) : Shape := ⟨2, ![n, m]⟩
abbrev S3 (k n m : ℕ) : Shape := ⟨3, ![k, n, m]⟩

/-- An array of reals. -/
def up {φ : FTy} (n m : ℕ) (f : ℕ → ℕ → ℝ) : FVec Ideal (S2 n m) φ := fun i => ((f (i 0).val (i 1).val : ℝ) : EReal)
def up3 {φ : FTy} (k n m : ℕ) (f : ℕ → ℕ → ℕ → ℝ) : FVec Ideal (S3 k n m) φ := fun i => ((f (i 0).val (i 1).val (i 2).val : ℝ) : EReal)

variable {φ : FTy} {n m : ℕ} {f g : ℕ → ℕ → ℝ}

theorem up_apply (i : Fin n) (j : Fin m) : up (φ := φ) n m f (ix2 i j) = ((f i.val j.val : ℝ) : EReal) := rfl
theorem up3_apply {k : ℕ} {f : ℕ → ℕ → ℕ → ℝ} (b : Fin k) (i : Fin n) (j : Fin m) : up3 (φ := φ) k n m f (ix3 b i j) = ((f b.val i.val j.val : ℝ) : EReal) := rfl
theorem up_ext (h : ∀ i < n, ∀ j < m, f i j = g i j) : up (φ := φ) n m f = up n m g :=
  funext fun i => congrArg (fun r : ℝ => (r : EReal)) (h _ (i 0).isLt _ (i 1).isLt)
theorem eq_up {x : FVec Ideal (S2 n m) φ} (h : ∀ (i : Fin n) (j : Fin m), x (ix2 i j) = ((f i.val j.val : ℝ) : EReal)) : x = up n m f :=
  funext fun i => by rw [eq_ix2 i]; exact h _ _

/-- Finite entries are reals. -/
theorem exists_up {x : FVec Ideal (S2 n m) φ} (h : ∀ i, ∃ r : ℝ, x i = r) : ∃ f, x = up n m f := by
  obtain ⟨F, hF⟩ := Cert.Reals.reals_of h
  refine ⟨fun i j => if hi : i < n ∧ j < m then F (ix2 ⟨i, hi.1⟩ ⟨j, hi.2⟩) else 0, eq_up fun i j => ?_⟩
  rw [dif_pos ⟨i.isLt, j.isLt⟩, hF]
theorem eq_up3 {k : ℕ} {x : FVec Ideal (S3 k n m) φ} {f : ℕ → ℕ → ℕ → ℝ} (h : ∀ (b : Fin k) (i : Fin n) (j : Fin m), x (ix3 b i j) = ((f b.val i.val j.val : ℝ) : EReal)) : x = up3 k n m f :=
  funext fun i => by rw [eq_ix3 i]; exact h _ _ _
theorem exists_up3 {k : ℕ} {x : FVec Ideal (S3 k n m) φ} (h : ∀ i, ∃ r : ℝ, x i = r) : ∃ f, x = up3 k n m f := by
  obtain ⟨F, hF⟩ := Cert.Reals.reals_of h
  refine ⟨fun b i j => if hi : b < k ∧ i < n ∧ j < m then F (ix3 ⟨b, hi.1⟩ ⟨i, hi.2.1⟩ ⟨j, hi.2.2⟩) else 0, eq_up3 fun b i j => ?_⟩
  rw [dif_pos ⟨b.isLt, i.isLt, j.isLt⟩, hF]

/-! ## Entry by entry -/

theorem mulf_up : mulf (up (φ := φ) n m f) (up n m g) = up n m fun t l => f t l * g t l := funext fun _ => (EReal.coe_mul _ _).symm
theorem addf_up : addf (up (φ := φ) n m f) (up n m g) = up n m fun t l => f t l + g t l := funext fun _ => (EReal.coe_add _ _).symm
theorem subf_up : subf (up (φ := φ) n m f) (up n m g) = up n m fun t l => f t l - g t l := funext fun _ => (EReal.coe_sub _ _).symm
theorem tanh_up : tanh (up (φ := φ) n m f) = up n m fun t l => Real.tanh (f t l) := rfl
theorem exp_up : exp (up (φ := φ) n m f) = up n m fun t l => Real.exp (f t l) := rfl
theorem max_coe (a b : ℝ) : max (a : EReal) (b : EReal) = ((max a b : ℝ) : EReal) := (EReal.coe_strictMono.monotone.map_max).symm
theorem maximumf_up : maximumf (up (φ := φ) n m f) (up n m g) = up n m fun t l => max (f t l) (g t l) := funext fun _ => max_coe _ _
theorem absf_up : absf (up (φ := φ) n m f) = up n m fun t l => |f t l| := funext fun _ => by
  show max ((_ : ℝ) : EReal) (-((_ : ℝ) : EReal)) = _
  rw [← EReal.coe_neg, max_coe]; rfl
theorem log_coe {r : ℝ} (h : 0 < r) : Ideal.log (r : EReal) = (Real.log r : EReal) := if_neg (not_le.mpr h)
theorem log_up (h : ∀ t l, 0 < f t l) : log (up (φ := φ) n m f) = up n m fun t l => Real.log (f t l) := funext fun _ => log_coe (h _ _)
theorem divf_up (h : ∀ t l, g t l ≠ 0) : divf (up (φ := φ) n m f) (up n m g) = up n m fun t l => f t l / g t l := funext fun _ => Cert.Reals.div_real (h _ _)
theorem rsqrt_up (h : ∀ t l, 0 < f t l) : rsqrt (up (φ := φ) n m f) = up n m fun t l => (Real.sqrt (f t l))⁻¹ := funext fun _ => Cert.Reals.rsqrt_real (h _ _)
theorem truncf_up {ψ : FTy} (h : ψ.bits < φ.bits) : truncf ψ (up (φ := φ) n m f) h = up n m f := rfl
theorem bc_up {w : BitVec φ.bits} {c : ℝ} (h : (Ideal.ofBits φ w : EReal) = (c : EReal)) : (broadcast (S2 n m) (Scalar.ofBits φ w : Ideal φ) : FVec Ideal (S2 n m) φ) = up n m fun _ _ => c :=
  funext fun _ => h
theorem cst_up {w : BitVec φ.bits} {c : ℝ} (h : (Ideal.ofBits φ w : EReal) = (c : EReal)) : (constant (S2 n m) φ w : FVec Ideal (S2 n m) φ) = up n m fun _ _ => c :=
  funext fun _ => h

/-- A choice that is the same at all entries, and one by the row. -/
theorem select_yes {M : IVec (S2 n m) 1} {x y : FVec Ideal (S2 n m) φ} (h : ∀ i, M i = 1#1) : select M x y = x := funext fun i => by
  show Scalar.select (M i) (x i) (y i) = _
  rw [h]; rfl
theorem select_no {M : IVec (S2 n m) 1} {x y : FVec Ideal (S2 n m) φ} (h : ∀ i, M i = 0#1) : select M x y = y := funext fun i => by
  show Scalar.select (M i) (x i) (y i) = _
  rw [h]; rfl
theorem select_up {M : IVec (S2 n m) 1} {p : ℕ → Prop} [DecidablePred p] (h : ∀ (i : Fin n) (j : Fin m), M (ix2 i j) = if p i.val then 1#1 else 0#1) :
    select M (up (φ := φ) n m f) (up n m g) = up n m fun t l => if p t then f t l else g t l := eq_up fun i j => by
  show Scalar.select (M (ix2 i j)) (up (φ := φ) n m f (ix2 i j)) (up (φ := φ) n m g (ix2 i j)) = _
  rw [h]
  by_cases hp : p i.val
  · rw [if_pos hp, if_pos hp]; rfl
  · rw [if_neg hp, if_neg hp]; rfl

/-! ## Moving entries -/

theorem row_up (h : (S2 1 m).Broadcasts (S2 n m)) (hm : 1 < m) : broadcastTo (S2 n m) (up (φ := φ) 1 m f) h = up n m fun _ l => f 0 l := eq_up fun i j => by
  refine (broadcastTo_apply _ _ _ (ix2 0 j) fun a => ?_).trans (up_apply _ _)
  fin_cases a
  · simp [ix2]
  · have : m ≠ 1 := by omega
    simp [ix2, this]
theorem slice_up {k q o d : ℕ} (h : (S2 n m).Slices ![o, d] (S2 k q)) : extractStridedSlice (S2 k q) ![o, d] (up (φ := φ) n m f) h = up k q fun t l => f (o + t) (d + l) :=
  eq_up fun i j => by
    have h0 : o + i.val < n := by have := h.2 0; have := i.isLt; simp at *; omega
    have h1 : d + j.val < m := by have := h.2 1; have := j.isLt; simp at *; omega
    exact (extractStridedSlice_apply _ _ _ _ (ix2 ⟨_, h0⟩ ⟨_, h1⟩) fun a => by fin_cases a <;> rfl).trans (up_apply _ _)
theorem concat_up {s k : ℕ} (h : Shape.Concatenates [S2 s m, S2 k m] (S2 n m) 0) :
    concatenate (S2 n m) 0 [⟨S2 s m, up (φ := φ) s m f⟩, ⟨S2 k m, up (φ := φ) k m g⟩] h = up (φ := φ) n m fun t l => if t < s then f t l else g (t - s) l :=
  eq_up fun i j => by
    have hn : s + k = n := by have := h.2.2; simp at this; omega
    by_cases hi : i.val < s
    · rw [if_pos hi]
      exact (concatenate_pair_apply_left 0 _ _ h _ rfl (ix2 ⟨i.val, hi⟩ j) fun a => by fin_cases a <;> rfl).trans (up_apply _ _)
    · rw [if_neg hi]
      exact (concatenate_pair_apply_right 0 _ _ h _ rfl rfl (ix2 (⟨i.val - s, by have := i.isLt; omega⟩ : Fin k) j) (by intro a ha; fin_cases a; exacts [absurd rfl ha, rfl]) (by show i.val - s + s = i.val; omega)).trans (up_apply _ _)
theorem roll_up {s : ℕ} {sb : BitVec 32} (hs : sb.toNat = s) (hn : s < n) (h : (S2 n m).Rotates 0 none) :
    dynamicRotate 0 sb none (up (φ := φ) n m f) h = up n m fun t l => f ((t + n - s) % n) l := eq_up fun i j => by
  refine (dynamicRotate_apply 0 sb _ h _ (ix2 ⟨(i.val + n - s) % n, Nat.mod_lt _ (by omega)⟩ j) fun b => ?_).trans (up_apply _ _)
  fin_cases b
  · show (i.val + n - s) % n = (i.val + n - sb.toNat % n) % n
    rw [hs, Nat.mod_eq_of_lt hn]
  · rfl

/-! ## The levels -/

/-- The products and the contributions over the last 2ᵏ places, column by column. -/
abbrev ANs (a : ℕ → ℕ → ℝ) (k : ℕ) : ℕ → ℕ → ℝ := fun t l => AN (fun s => a s l) k t
abbrev UNs (a u : ℕ → ℕ → ℝ) (k : ℕ) : ℕ → ℕ → ℝ := fun t l => UN (fun s => a s l) (fun s => u s l) k t

variable {a u : ℕ → ℕ → ℝ} {k : ℕ}

/-- By a rotation, the first 2ᵏ rows kept. -/
theorem roll_A {sb : BitVec 32} (hs : sb.toNat = 2 ^ k) (hn : 2 ^ k < n) (h : (S2 n m).Rotates 0 none) {M : IVec (S2 n m) 1}
    (hM : ∀ (i : Fin n) (j : Fin m), M (ix2 i j) = if 2 ^ k ≤ i.val then 1#1 else 0#1) :
    select M (mulf (up (φ := φ) n m (ANs a k)) (dynamicRotate 0 sb none (up n m (ANs a k)) h)) (up n m (ANs a k)) = up n m (ANs a (k + 1)) := by
  rw [roll_up hs hn, mulf_up, select_up (p := fun t => 2 ^ k ≤ t) hM]
  refine up_ext fun t ht l _ => ?_
  simp only [ANs, AN, lag]
  by_cases hp : 2 ^ k ≤ t
  · rw [if_pos hp, if_neg (not_lt.mpr hp), show t + n - 2 ^ k = t - 2 ^ k + n by omega, Nat.add_mod_right, Nat.mod_eq_of_lt (by omega)]
  · rw [if_neg hp, if_pos (not_le.mp hp), mul_one]
theorem roll_U {sb : BitVec 32} (hs : sb.toNat = 2 ^ k) (hn : 2 ^ k < n) (h : (S2 n m).Rotates 0 none) {M : IVec (S2 n m) 1}
    (hM : ∀ (i : Fin n) (j : Fin m), M (ix2 i j) = if 2 ^ k ≤ i.val then 1#1 else 0#1) :
    select M (addf (mulf (up (φ := φ) n m (ANs a k)) (dynamicRotate 0 sb none (up n m (UNs a u k)) h)) (up n m (UNs a u k))) (up n m (UNs a u k)) = up n m (UNs a u (k + 1)) := by
  rw [roll_up hs hn, mulf_up, addf_up, select_up (p := fun t => 2 ^ k ≤ t) hM]
  refine up_ext fun t ht l _ => ?_
  simp only [UNs, UN, lag]
  by_cases hp : 2 ^ k ≤ t
  · rw [if_pos hp, if_neg (not_lt.mpr hp), show t + n - 2 ^ k = t - 2 ^ k + n by omega, Nat.add_mod_right, Nat.mod_eq_of_lt (by omega)]
  · rw [if_neg hp, if_pos (not_le.mp hp), mul_zero, zero_add]

/-- By a concatenation, the first 2ᵏ rows kept. -/
theorem cat_A {s r : ℕ} (hs : s = 2 ^ k) (h : Shape.Concatenates [S2 s m, S2 r m] (S2 n m) 0) (h1 : (S2 n m).Slices ![0, 0] (S2 s m))
    (h2 : (S2 n m).Slices ![s, 0] (S2 r m)) (h3 : (S2 n m).Slices ![0, 0] (S2 r m)) :
    concatenate (S2 n m) 0 [⟨S2 s m, extractStridedSlice (S2 s m) ![0, 0] (up (φ := φ) n m (ANs a k)) h1⟩,
      ⟨S2 r m, mulf (extractStridedSlice (S2 r m) ![s, 0] (up (φ := φ) n m (ANs a k)) h2) (extractStridedSlice (S2 r m) ![0, 0] (up n m (ANs a k)) h3)⟩] h
      = up (φ := φ) n m (ANs a (k + 1)) := by
  rw [slice_up, slice_up, slice_up, mulf_up, concat_up]
  refine up_ext fun t ht l _ => ?_
  simp only [ANs, AN, lag, Nat.zero_add]
  subst hs
  by_cases hp : t < 2 ^ k
  · rw [if_pos hp, if_pos hp, mul_one]
  · rw [if_neg hp, if_neg hp, show 2 ^ k + (t - 2 ^ k) = t by omega]
theorem cat_U {s r : ℕ} (hs : s = 2 ^ k) (h : Shape.Concatenates [S2 s m, S2 r m] (S2 n m) 0) (h1 : (S2 n m).Slices ![0, 0] (S2 s m))
    (h2 : (S2 n m).Slices ![s, 0] (S2 r m)) (h3 : (S2 n m).Slices ![0, 0] (S2 r m)) (h4 : (S2 n m).Slices ![s, 0] (S2 r m)) :
    concatenate (S2 n m) 0 [⟨S2 s m, extractStridedSlice (S2 s m) ![0, 0] (up (φ := φ) n m (UNs a u k)) h1⟩,
      ⟨S2 r m, addf (mulf (extractStridedSlice (S2 r m) ![s, 0] (up (φ := φ) n m (ANs a k)) h2) (extractStridedSlice (S2 r m) ![0, 0] (up n m (UNs a u k)) h3))
        (extractStridedSlice (S2 r m) ![s, 0] (up n m (UNs a u k)) h4)⟩] h
      = up (φ := φ) n m (UNs a u (k + 1)) := by
  rw [slice_up, slice_up, slice_up, slice_up, mulf_up, addf_up, concat_up]
  refine up_ext fun t ht l _ => ?_
  simp only [UNs, UN, lag, Nat.zero_add]
  subst hs
  by_cases hp : t < 2 ^ k
  · rw [if_pos hp, if_pos hp, mul_zero, zero_add]
  · rw [if_neg hp, if_neg hp, show 2 ^ k + (t - 2 ^ k) = t by omega]

/-- One level as the problem writes it: ones and zeros in front. -/
theorem host_A {s r : ℕ} (hs : s = 2 ^ k) (h : Shape.Concatenates [S2 s m, S2 r m] (S2 n m) 0) (h1 : (S2 n m).Slices ![0, 0] (S2 r m))
    {x y : FVec Ideal (S2 n m) φ} {o : FVec Ideal (S2 s m) φ} (hx : x = up n m (ANs a k)) (hy : y = up n m (ANs a k)) (ho : o = up s m fun _ _ => 1) :
    mulf x (concatenate (S2 n m) 0 [⟨S2 s m, o⟩, ⟨S2 r m, extractStridedSlice (S2 r m) ![0, 0] y h1⟩] h) = up n m (ANs a (k + 1)) := by
  subst hx hy ho
  rw [slice_up, concat_up, mulf_up]
  refine up_ext fun t ht l _ => ?_
  simp only [ANs, AN, lag, Nat.zero_add, hs]
theorem host_U {s r : ℕ} (hs : s = 2 ^ k) (h : Shape.Concatenates [S2 s m, S2 r m] (S2 n m) 0) (h1 : (S2 n m).Slices ![0, 0] (S2 r m))
    {x y z : FVec Ideal (S2 n m) φ} {o : FVec Ideal (S2 s m) φ} (hx : x = up n m (ANs a k)) (hy : y = up n m (UNs a u k)) (hz : z = up n m (UNs a u k)) (ho : o = up s m fun _ _ => 0) :
    addf (mulf x (concatenate (S2 n m) 0 [⟨S2 s m, o⟩, ⟨S2 r m, extractStridedSlice (S2 r m) ![0, 0] y h1⟩] h)) z = up n m (UNs a u (k + 1)) := by
  subst hx hy hz ho
  rw [slice_up, concat_up, mulf_up, addf_up]
  refine up_ext fun t ht l _ => ?_
  simp only [UNs, UN, lag, Nat.zero_add, hs]

/-- The state along a tile whose row before is `c`: what the tile contributes, and what the row before contributes. -/
theorem carry_level {a u D : ℕ → ℝ} {c : ℝ} (hD : ∀ r, D r = u r + a r * (if r = 0 then c else D (r - 1))) (k r : ℕ) :
    D r = UN a u k r + AN a k r * lag c (2 ^ k) D r := by
  induction k generalizing r with
  | zero =>
    rw [hD r]
    simp only [UN, AN, lag, pow_zero]
    by_cases h : r = 0
    · subst h; simp
    · rw [if_neg h, if_neg (show ¬ r < 1 by omega)]
  | succ k ih =>
    have e : 2 ^ (k + 1) = 2 ^ k + 2 ^ k := by rw [pow_succ]; ring
    have hp := Nat.two_pow_pos k
    rw [ih r, e]
    simp only [UN, AN, lag]
    by_cases h : r < 2 ^ k
    · rw [if_pos h, if_pos h, if_pos h, if_pos (show r < 2 ^ k + 2 ^ k by omega)]; ring
    · rw [if_neg h, if_neg h, if_neg h, ih (r - 2 ^ k)]
      simp only [lag]
      by_cases h2 : r - 2 ^ k < 2 ^ k
      · rw [if_pos h2, if_pos (show r < 2 ^ k + 2 ^ k by omega)]; ring
      · rw [if_neg h2, if_neg (show ¬ r < 2 ^ k + 2 ^ k by omega), show r - 2 ^ k - 2 ^ k = r - (2 ^ k + 2 ^ k) by omega]; ring
/-- The state of a row of the tile `t`, from the tile's own scan and the state before it. -/
theorem tile_state (a u : ℕ → ℝ) (b : ℕ) {r : ℕ} (hr : r < 256) {c : ℝ} (hc : c = if b = 0 then 0 else fwd a u (b - 1)) :
    UN (fun s => a (b + s)) (fun s => u (b + s)) 8 r + AN (fun s => a (b + s)) 8 r * c = fwd a u (b + r) := by
  have h := carry_level (a := fun s => a (b + s)) (u := fun s => u (b + s)) (D := fun s => fwd a u (b + s)) (c := c) (fun r => by
    cases r with
    | zero =>
      rw [if_pos rfl, hc]
      cases b with
      | zero => simp [fwd]
      | succ b => simp only [Nat.add_zero, fwd, if_neg (Nat.succ_ne_zero b), Nat.add_sub_cancel]; ring
    | succ r =>
      rw [if_neg (Nat.succ_ne_zero r), Nat.add_sub_cancel]
      show fwd a u (b + r + 1) = _
      rw [fwd]; simp only [Nat.add_assoc]; ring) 8 r
  rw [lag, if_pos (show r < 2 ^ 8 by omega)] at h
  exact h.symm

end Cert.Lru

end
-- ==== Proof.LruSpec.lean ====
/- What the recurrence's forward call computes, over the reals. -/
module

public import proofs.«01_k».proof.Proof.LruLevels
@[expose] public section
noncomputable section

namespace Cert.Lru

open Idealize.ShloMosaic

/-- The arguments as reals: the projections, the taps and their bias, the two gates' blocks and biases, the decay's parameter. -/
structure Args where
  P : ℕ → ℕ → ℝ
  W : ℕ → ℕ → ℝ
  cb : ℕ → ℝ
  ba : ℕ → ℝ
  bx : ℕ → ℝ
  lam : ℕ → ℝ
  Ga : ℕ → ℕ → ℕ → ℝ
  Gx : ℕ → ℕ → ℕ → ℝ

namespace Args
variable (A : Args)

/-- A row of the right half, `3 - k` places back, zero before the first; the convolution; a gate's argument; the logarithm of the decay; the decay; the input; the state. -/
def tap (k τ l : ℕ) : ℝ := if τ + k < 3 then 0 else A.P (τ + k - 3) (1280 + l)
def X (τ l : ℕ) : ℝ := A.cb l + A.W 0 l * A.tap 0 τ l + A.W 1 l * A.tap 1 τ l + A.W 2 l * A.tap 2 τ l + A.W 3 l * A.tap 3 τ l
def gate (G : ℕ → ℕ → ℕ → ℝ) (b : ℕ → ℝ) (τ l : ℕ) : ℝ := (∑ i : Fin 80, A.X τ (80 * (l / 80) + i) * G (l / 80) i (l % 80)) + b l
def L (τ l : ℕ) : ℝ := -8 * sig (A.gate A.Ga A.ba τ l) * spl (-A.lam l)
def D (τ l : ℕ) : ℝ := Real.exp (A.L τ l)
def I (τ l : ℕ) : ℝ := Real.sqrt (1 - Real.exp (2 * A.L τ l)) * (sig (A.gate A.Gx A.bx τ l) * A.X τ l)
def H (τ l : ℕ) : ℝ := fwd (fun s => A.D s l) (fun s => A.I s l) τ

/-- Arrays whose entries are these reals. -/
def Of (x0 : FVec Ideal (S2 8192 2560) .f32) (x1 : FVec Ideal (S2 4 1280) .f32) (x2 : FVec Ideal ⟨1, ![1280]⟩ .f32) (x3 : FVec Ideal (S3 16 80 80) .f32) (x4 : FVec Ideal ⟨1, ![1280]⟩ .f32)
    (x5 : FVec Ideal (S3 16 80 80) .f32) (x6 x7 : FVec Ideal ⟨1, ![1280]⟩ .f32) : Prop :=
  x0 = up 8192 2560 A.P ∧ x1 = up 4 1280 A.W ∧ (∀ l : Fin 1280, x2 (ix1 l) = (A.cb l : EReal)) ∧ x3 = up3 16 80 80 A.Ga ∧ (∀ l : Fin 1280, x4 (ix1 l) = (A.ba l : EReal))
    ∧ x5 = up3 16 80 80 A.Gx ∧ (∀ l : Fin 1280, x6 (ix1 l) = (A.bx l : EReal)) ∧ ∀ l : Fin 1280, x7 (ix1 l) = (A.lam l : EReal)
end Args

theorem exists_up1 {n : ℕ} {x : FVec Ideal ⟨1, ![n]⟩ .f32} (h : ∀ i, ∃ r : ℝ, x i = r) : ∃ f : ℕ → ℝ, ∀ l : Fin n, x (ix1 l) = (f l : EReal) := by
  obtain ⟨F, hF⟩ := Cert.Reals.reals_of h
  refine ⟨fun i => if hi : i < n then F (ix1 ⟨i, hi⟩) else 0, fun l => ?_⟩
  show x (ix1 l) = ((dite (l.val < n) _ _ : ℝ) : EReal)
  rw [dif_pos l.isLt, hF]
theorem Args.exists_of {x0 : FVec Ideal (S2 8192 2560) .f32} {x1 : FVec Ideal (S2 4 1280) .f32} {x2 : FVec Ideal ⟨1, ![1280]⟩ .f32} {x3 : FVec Ideal (S3 16 80 80) .f32} {x4 : FVec Ideal ⟨1, ![1280]⟩ .f32}
    {x5 : FVec Ideal (S3 16 80 80) .f32} {x6 x7 : FVec Ideal ⟨1, ![1280]⟩ .f32} (h0 : ∀ i, ∃ r : ℝ, x0 i = r) (h1 : ∀ i, ∃ r : ℝ, x1 i = r) (h2 : ∀ i, ∃ r : ℝ, x2 i = r) (h3 : ∀ i, ∃ r : ℝ, x3 i = r)
    (h4 : ∀ i, ∃ r : ℝ, x4 i = r) (h5 : ∀ i, ∃ r : ℝ, x5 i = r) (h6 : ∀ i, ∃ r : ℝ, x6 i = r) (h7 : ∀ i, ∃ r : ℝ, x7 i = r) : ∃ A : Args, A.Of x0 x1 x2 x3 x4 x5 x6 x7 := by
  obtain ⟨P, hP⟩ := exists_up h0
  obtain ⟨W, hW⟩ := exists_up h1
  obtain ⟨cb, hcb⟩ := exists_up1 h2
  obtain ⟨Ga, hGa⟩ := exists_up3 h3
  obtain ⟨ba, hba⟩ := exists_up1 h4
  obtain ⟨Gx, hGx⟩ := exists_up3 h5
  obtain ⟨bx, hbx⟩ := exists_up1 h6
  obtain ⟨lam, hlam⟩ := exists_up1 h7
  exact ⟨⟨P, W, cb, ba, bx, lam, Ga, Gx⟩, hP, hW, hcb, hGa, hba, hGx, hbx, hlam⟩

end Cert.Lru

end
-- ==== Proof.LruFwdTile.lean ====
/- The recurrence's forward call (`LruFwd`): what the body computes of one block of 256 rows, for the two halves of the columns. -/
module

public import proofs.«01_k».proof.Proof.LruLevels
public import proofs.«01_k».proof.Proof.SguBwdValue
public import proofs.«01_k».proof.Proof.Gen.LruFwdIdeal.Frame
@[expose] public section
set_option maxRecDepth 16384
noncomputable section
open Idealize.ShloMosaic Idealize.ShloMosaic.TcCoe Idealize.SL.Sem

namespace Cert.LruFwdIdeal.Outcome
open Cert.LruFwdIdeal Cert.LruFwdIdeal.Gen Cert.Lru
open Cert.SguBwdRefIdeal.Outcome (c_half c_one gel_real gelR)

theorem c_zero : (Ideal.ofBits .f32 0x00000000#32 : EReal) = ((0 : ℝ) : EReal) := by simp
theorem c_neg8 : (Ideal.ofBits .f32 0xC1000000#32 : EReal) = ((-8 : ℝ) : EReal) := by
  simp [Ideal.ofBits, Ideal.ieee]; rw [← EReal.coe_mul]; norm_num

theorem drop_up {φ : FTy} {n m : ℕ} {f : ℕ → ℕ → ℕ → ℝ} (h : (S3 1 n m).ShapeCasts (S2 n m)) : shapeCast (S2 n m) (up3 (φ := φ) 1 n m f) h = up n m (f 0) := eq_up fun i j =>
  (shapeCast_apply _ h _ (ix3 0 i j) (by rw [Shape.rowMajor_val_two, Shape.rowMajor_val_three]; show (0 * n + i.val) * m + j.val = i.val * m + j.val; rw [Nat.zero_mul, Nat.zero_add])).trans (up3_apply _ _ _)
theorem lift_up {φ : FTy} {n m : ℕ} {f : ℕ → ℕ → ℝ} (h : (S2 n m).ShapeCasts (S3 1 n m)) : shapeCast (S3 1 n m) (up (φ := φ) n m f) h = up3 1 n m fun _ => f := eq_up3 fun b i j =>
  (shapeCast_apply _ h _ (ix2 i j) (by
    rw [Shape.rowMajor_val_two, Shape.rowMajor_val_three]; show i.val * m + j.val = (b.val * n + i.val) * m + j.val; rw [show b.val = 0 by omega, Nat.zero_mul, Nat.zero_add])).trans (up_apply _ _)

/-- A gate: the block-diagonal product with its bias, under the logistic function. -/
theorem mm_up {X W : ℕ → ℕ → ℝ} : matmul (F := Ideal) (φ₁ := .bf16) (φ₂ := .bf16) dot_S256x640_S640x640_S256x640_1_0_0_1_n_n none (up 256 640 X) (up 640 640 W) (constant S256x640 .f32 0x00000000#32)
    = up (φ := .f32) 256 640 fun r j => ∑ k : Fin 640, X r k * W k j := eq_up fun i j => by
  have h : ∀ (A : FVec Ideal S256x640 .bf16) (B : FVec Ideal S640x640 .bf16), matmul (F := Ideal) (φ₁ := .bf16) (φ₂ := .bf16) dot_S256x640_S640x640_S256x640_1_0_0_1_n_n none A B (constant S256x640 .f32 0x00000000#32) (ix2 i j)
      = ∑ k : Fin 640, A (ix2 i k) * B (ix2 k j) := fun A B => by pointwise
  rw [h, ← Cert.Reals.coe_sum]
  exact Finset.sum_congr rfl fun k _ => (EReal.coe_mul _ _).symm
theorem sig_up {f : ℕ → ℕ → ℝ} : addf (mulf (broadcast S256x640 (Scalar.ofBits .f32 0x3F000000#32)) (tanh (mulf (broadcast S256x640 (Scalar.ofBits .f32 0x3F000000#32)) (up (φ := .f32) 256 640 f))))
    (broadcast S256x640 (Scalar.ofBits .f32 0x3F000000#32)) = up 256 640 fun r j => Cert.Lru.sig (f r j) := by
  rw [bc_up c_half, mulf_up, tanh_up, mulf_up, addf_up]
  exact up_ext fun i _ j _ => half_tanh _
/-- The logarithm of 1 + eˣ, with the quotient form of log (1 + z). -/
theorem spl_up {f : ℕ → ℕ → ℝ} : k0_pay45 (F := Ideal) (up (φ := .f32) 1 640 f) = up (φ := .f32) 1 640 fun i j => spl (-f i j) := by
  unfold k0_pay45
  simp only [shapeCast_self]
  rw [bc_up c_zero, bc_up c_one, subf_up, absf_up, subf_up, exp_up, addf_up, log_up (fun t l => by positivity), mulf_up, subf_up, maximumf_up,
    divf_up (fun t l => by have := Real.exp_pos (0 - |0 - f t l|); linarith), select_no, addf_up]
  · refine up_ext fun i _ j _ => ?_
    rw [log_quot _ (Real.exp_pos _), zero_sub, zero_sub, max_log]
  · intro i
    show Ideal.cmp .oeq ((_ : ℝ) : EReal) ((_ : ℝ) : EReal) = _
    simp only [Ideal.cmp, EReal.coe_eq_coe_iff]
    rw [decide_eq_false (by have := Real.exp_pos (0 - |0 - f (i 0).val (i 1).val|); intro h; linarith)]
    rfl

/-- The factor of the input, from the state's log-factor. -/
theorem mult_up {f : ℕ → ℕ → ℝ} (h : ∀ r j, f r j < 0) {m2 : FVec Ideal S256x640 .f32} (hm : m2 = mulf (subf (broadcast S256x640 (Scalar.ofBits .f32 0x00000000#32)) (tanh (up (φ := .f32) 256 640 f)))
      (addf (mulf (up (φ := .f32) 256 640 fun r j => Real.exp (f r j)) (up (φ := .f32) 256 640 fun r j => Real.exp (f r j))) (broadcast S256x640 (Scalar.ofBits .f32 0x3F800000#32)))) :
    select (cmpf .ogt m2 (broadcast S256x640 (Scalar.ofBits .f32 0x00000000#32))) (mulf m2 (rsqrt m2)) (broadcast S256x640 (Scalar.ofBits .f32 0x00000000#32))
      = up 256 640 fun r j => Real.sqrt (1 - Real.exp (2 * f r j)) := by
  have hp : ∀ r j, 0 < 1 - Real.exp (2 * f r j) := fun r j => sq_pos_of_neg (h r j)
  have e : m2 = up 256 640 fun r j => 1 - Real.exp (2 * f r j) := by
    rw [hm, bc_up c_zero, bc_up c_one, tanh_up, subf_up, mulf_up, addf_up, mulf_up]
    exact up_ext fun i _ j _ => tanh_sq _
  rw [e, rsqrt_up hp, mulf_up, select_yes]
  · refine up_ext fun i _ j _ => ?_
    have hs := Real.mul_self_sqrt (hp i j).le
    have h0 := (Real.sqrt_pos.mpr (hp i j)).ne'
    nth_rewrite 1 [← hs]
    field_simp
  · intro i
    show Ideal.cmp .ogt ((_ : ℝ) : EReal) (Ideal.ofBits .f32 0x00000000#32) = _
    rw [c_zero]
    simp only [Ideal.cmp, EReal.coe_lt_coe_iff]
    rw [decide_eq_true (hp _ _)]
    rfl

/-- The rows' numbers, and the choices by them. -/
abbrev rows : IVec S256x640 32 := iota .tc S256x640 32 [0] iota_S256x640_d0_w32
theorem ge_rows {s : ℕ} {w : BitVec 32} (hw : ∀ r : Fin 256, IntOp.cmpi .sge (BitVec.ofNat 32 r.val) w = if s ≤ r.val then 1#1 else 0#1) (i : Fin 256) (j : Fin 640) :
    (cmpi .sge rows (broadcast S256x640 w)) (ix2 i j) = if s ≤ i.val then 1#1 else 0#1 := by
  rw [← hw i]
  pointwise
theorem ge1 : ∀ r : Fin 256, IntOp.cmpi .sge (BitVec.ofNat 32 r.val) 1#32 = if 2 ^ 0 ≤ r.val then 1#1 else 0#1 := by decide +kernel
theorem ge2 : ∀ r : Fin 256, IntOp.cmpi .sge (BitVec.ofNat 32 r.val) 2#32 = if 2 ^ 1 ≤ r.val then 1#1 else 0#1 := by decide +kernel
theorem ge4 : ∀ r : Fin 256, IntOp.cmpi .sge (BitVec.ofNat 32 r.val) 4#32 = if 2 ^ 2 ≤ r.val then 1#1 else 0#1 := by decide +kernel
theorem eq255 : ∀ r : Fin 256, IntOp.cmpi .eq (BitVec.ofNat 32 r.val) 255#32 = if r.val = 255 then 1#1 else 0#1 := by decide +kernel

/-- The last row, by a sum over the rows. -/
theorem last_up {f : ℕ → ℕ → ℝ} (h1 : S256x640.Reduces [0] S640) (h2 : S640.ShapeCasts S1x640) :
    shapeCast S1x640 (multiReduction .add [0] S640 (select (cmpi .eq rows (broadcast S256x640 255#32)) (up (φ := .f32) 256 640 f) (broadcast S256x640 (Scalar.ofBits .f32 0x00000000#32))) 0x00000000#32 h1 (.inl rfl) rfl) h2
      = up (φ := .f32) 1 640 fun _ j => f 255 j := by
  rw [bc_up c_zero, select_up (p := fun t => t = 255) (fun i j => by rw [← eq255 i]; pointwise)]
  refine eq_up fun i j => ?_
  have h : ∀ A : FVec Ideal S256x640 .f32, shapeCast S1x640 (multiReduction .add [0] S640 A 0x00000000#32 h1 (.inl rfl) rfl) h2 (ix2 i j) = ∑ r : Fin 256, A (ix2 r j) := fun A => by
    obtain rfl : i = 0 := Subsingleton.elim _ _
    pointwise
  rw [h]
  simp only [up_apply]
  rw [Cert.Reals.coe_sum, Finset.sum_eq_single (255 : Fin 256)]
  · rfl
  · intro b _ hb
    rw [if_neg fun e : b.val = 255 => hb (Fin.ext e)]
  · intro hb; exact absurd (Finset.mem_univ _) hb

/-- The rows of the gated state. -/
theorem y_up {H g : ℕ → ℕ → ℝ} : k0_pay34 (F := Ideal) (up (φ := .f32) 256 640 g) (up (φ := .f32) 256 640 H) = up (φ := .bf16) 256 640 fun r j => H r j * gelR (g r j) := eq_up fun i j => by
  have h : ∀ A B : FVec Ideal S256x640 .f32, k0_pay34 (F := Ideal) A B (ix2 i j) = B (ix2 i j) * Cert.SguBwdIdeal.Outcome.gel (A (ix2 i j)) := fun A B => by
    unfold Cert.SguBwdIdeal.Outcome.gel
    pointwise [k0_pay34]
    rfl
  rw [h, up_apply, up_apply, gel_real, ← EReal.coe_mul]

/-! ## What a tile's half computes, over the reals -/

section Half
variable (cb w0 w1 w2 w3 E C ba bx lam c : ℕ → ℕ → ℝ) (wa wx : ℕ → ℕ → ℕ → ℝ)

/-- The short convolution, a gate's argument, the state's log-factor, its input, and the state from the row before. -/
def conv : ℕ → ℕ → ℝ := fun r j => cb 0 j + w0 0 j * E (5 + r) j + w1 0 j * E (6 + r) j + w2 0 j * E (7 + r) j + w3 0 j * E (8 + r) j
def gz (w : ℕ → ℕ → ℕ → ℝ) (b : ℕ → ℕ → ℝ) : ℕ → ℕ → ℝ := fun r j => (∑ k : Fin 640, C r k * w 0 k j) + b 0 j
def la (z : ℕ → ℕ → ℝ) : ℕ → ℕ → ℝ := fun r j => -8 * Cert.Lru.sig (z r j) * spl (-lam 0 j)
def fac (z : ℕ → ℕ → ℝ) : ℕ → ℕ → ℝ := fun r j => Real.exp (la lam z r j)
def st (a u : ℕ → ℕ → ℝ) : ℕ → ℕ → ℝ := fun r j => UNs a u 8 r j + ANs a 8 r j * c 0 j

/-- The rows seen by the convolution, shifted by `5`, `6`, `7`, `8`. -/
abbrev seen (s : ℕ) : FVec Ideal S1x256x640 .f32 := up3 1 256 640 fun _ r j => E (s + r) j
abbrev row (f : ℕ → ℕ → ℝ) : FVec Ideal S1x640 .f32 := up 1 640 f
abbrev blk (f : ℕ → ℕ → ℝ) : FVec Ideal S256x640 .f32 := up 256 640 f
abbrev wgt (w : ℕ → ℕ → ℕ → ℝ) : FVec Ideal S1x640x640 .bf16 := up3 1 640 640 w

theorem conv0 : k0_pay8 (F := Ideal) (k0_pay7 (row cb) (row w0) (seen E 5) (row w1) (seen E 6) (row w2) (seen E 7)) (row w3) (seen E 8) = blk (conv cb w0 w1 w2 w3 E) := by
  unfold k0_pay8 k0_pay7
  simp only [shapeCast_self, drop_up, row_up _ (by norm_num : 1 < 640), mulf_up, addf_up]
  rfl
theorem conv1 : k0_pay37 (F := Ideal) (k0_pay36 (row cb) (row w0) (seen E 5)) (row w1) (seen E 6) (row w2) (seen E 7) (row w3) (seen E 8) = blk (conv cb w0 w1 w2 w3 E) := by
  unfold k0_pay37 k0_pay36
  simp only [shapeCast_self, drop_up, row_up _ (by norm_num : 1 < 640), mulf_up, addf_up]
  rfl

variable {C}
theorem gate0a {v29 : FVec Ideal S256x640 .f32} {v30 : FVec Ideal S1x640 .f32} {v31 : FVec Ideal S1x256x640 .f32} (h : k0_pay8 v29 v30 v31 = blk C) :
    k0_pay14 (F := Ideal) v29 v30 v31 (wgt wa) (row ba) = blk fun r j => Cert.Lru.sig (gz C wa ba r j) := by
  unfold k0_pay14 k0_pay13
  simp only [shapeCast_self]
  rw [h, truncf_up, drop_up, mm_up, row_up _ (by norm_num : 1 < 640), addf_up, sig_up]
  rfl
theorem gate0x : k0_pay15 (F := Ideal) (k0_pay10 (wgt wx)) (k0_pay11 (row bx)) (up 256 640 C) (constant S256x640 .f32 0x00000000#32) = blk fun r j => Cert.Lru.sig (gz C wx bx r j) := by
  unfold k0_pay15 k0_pay10 k0_pay11
  simp only [shapeCast_self]
  rw [drop_up, mm_up, row_up _ (by norm_num : 1 < 640), addf_up, sig_up]
  rfl
theorem gate1x : k0_pay44 (F := Ideal) (blk C) (k0_pay40 (wgt wx)) (k0_pay42 (row bx)) = blk fun r j => Cert.Lru.sig (gz C wx bx r j) :=
  gate0x bx wx
theorem gate1a : k0_pay46 (F := Ideal) (blk C) (k0_pay39 (wgt wa)) (k0_pay41 (row ba)) = blk fun r j => -8 * Cert.Lru.sig (gz C wa ba r j) := by
  have h : k0_pay46 (F := Ideal) (blk C) (k0_pay39 (wgt wa)) (k0_pay41 (row ba))
      = mulf (broadcast S256x640 (Scalar.ofBits .f32 0xC1000000#32)) (k0_pay15 (F := Ideal) (k0_pay10 (wgt wa)) (k0_pay11 (row ba)) (up 256 640 C) (constant S256x640 .f32 0x00000000#32)) := rfl
  rw [h, gate0x, bc_up c_neg8, mulf_up]

variable {z : ℕ → ℕ → ℝ}
theorem la1 : k0_pay47 (F := Ideal) (k0_pay45 (row lam)) (blk fun r j => -8 * Cert.Lru.sig (z r j)) = blk (la lam z) := by
  unfold k0_pay47
  simp only [spl_up, row_up _ (by norm_num : 1 < 640), mulf_up]
  rfl
theorem la0 : k0_pay16 (F := Ideal) (k0_pay12 (row lam)) (blk fun r j => Cert.Lru.sig (z r j)) = blk (la lam z) := by
  have h : ∀ S : FVec Ideal S256x640 .f32, k0_pay16 (F := Ideal) (k0_pay12 (row lam)) S
      = k0_pay47 (k0_pay45 (row lam)) (mulf (broadcast S256x640 (Scalar.ofBits .f32 0xC1000000#32)) S) := fun S => rfl
  rw [h, bc_up c_neg8, mulf_up, la1]
theorem fac1 : k0_pay48 (F := Ideal) (k0_pay45 (row lam)) (blk fun r j => -8 * Cert.Lru.sig (z r j)) = blk (ANs (fac lam z) 0) := by
  unfold k0_pay48
  rw [la1]; rfl
theorem fac0 : k0_pay17 (F := Ideal) (k0_pay12 (row lam)) (blk fun r j => Cert.Lru.sig (z r j)) = blk (ANs (fac lam z) 0) := by
  unfold k0_pay17
  rw [la0]; rfl
theorem mult0 : select (k0_pay19 (F := Ideal) (k0_pay12 (row lam)) (blk fun r j => Cert.Lru.sig (z r j))) (k0_pay20 (k0_pay12 (row lam)) (blk fun r j => Cert.Lru.sig (z r j))) k0_pay21
    = blk fun r j => Real.sqrt (1 - Real.exp (2 * la lam z r j)) := by
  refine mult_up (f := la lam z) (fun r j => la_neg _ _) ?_
  unfold k0_pay18
  rw [la0, fac0]; rfl

/-! ## The levels -/

variable {a u : ℕ → ℕ → ℝ}
theorem m1 (i : Fin 256) (j : Fin 640) : k0_pay22 rows (ix2 i j) = if 2 ^ 0 ≤ i.val then 1#1 else 0#1 := ge_rows ge1 i j
theorem m2 (i : Fin 256) (j : Fin 640) : k0_pay24 rows (ix2 i j) = if 2 ^ 1 ≤ i.val then 1#1 else 0#1 := ge_rows ge2 i j
theorem m4 (i : Fin 256) (j : Fin 640) : k0_pay26 rows (ix2 i j) = if 2 ^ 2 ≤ i.val then 1#1 else 0#1 := ge_rows ge4 i j
theorem A1 : k0_pay23 (F := Ideal) rows (blk (ANs a 0)) = blk (ANs a 1) := roll_A (k := 0) rfl (by norm_num) _ m1
theorem A2 : k0_pay25 (F := Ideal) rows (blk (ANs a 0)) = blk (ANs a 2) := by unfold k0_pay25; rw [A1]; exact roll_A (k := 1) rfl (by norm_num) _ m2
theorem A3 : k0_pay27 (F := Ideal) rows (blk (ANs a 0)) = blk (ANs a 3) := by unfold k0_pay27; rw [A2]; exact roll_A (k := 2) rfl (by norm_num) _ m4
theorem A4 : k0_pay28 (F := Ideal) rows (blk (ANs a 0)) = blk (ANs a 4) := by unfold k0_pay28; rw [A3]; exact cat_A (s := 8) (k := 3) rfl _ _ _ _
/-- The first three levels of the contributions, and the factor of the input, as one step each. -/
def three (A A1 A2 U : FVec Ideal S256x640 .f32) : FVec Ideal S256x640 .f32 :=
  let U1 := select (k0_pay22 rows) (addf (mulf A (dynamicRotate 0 1#32 none U rotates_S256x640_d0)) U) U
  let U2 := select (k0_pay24 rows) (addf (mulf A1 (dynamicRotate 0 2#32 none U1 rotates_S256x640_d0)) U1) U1
  select (k0_pay26 rows) (addf (mulf A2 (dynamicRotate 0 4#32 none U2 rotates_S256x640_d0)) U2) U2
theorem three_up : three (blk (ANs a 0)) (blk (ANs a 1)) (blk (ANs a 2)) (blk (UNs a u 0)) = blk (UNs a u 3) := by
  unfold three
  dsimp only
  rw [roll_U (k := 0) rfl (by norm_num) _ m1, roll_U (k := 1) rfl (by norm_num) _ m2, roll_U (k := 2) rfl (by norm_num) _ m4]
def fct (l a : FVec Ideal S256x640 .f32) : FVec Ideal S256x640 .f32 :=
  let m2 := mulf (subf (broadcast S256x640 (Scalar.ofBits .f32 0x00000000#32)) (tanh l)) (addf (mulf a a) (broadcast S256x640 (Scalar.ofBits .f32 0x3F800000#32)))
  select (cmpf .ogt m2 (broadcast S256x640 (Scalar.ofBits .f32 0x00000000#32))) (mulf m2 (rsqrt m2)) (broadcast S256x640 (Scalar.ofBits .f32 0x00000000#32))

/-- One level of the contributions by a concatenation. -/
def lv (s r : ℕ) (A U : FVec Ideal S256x640 .f32) (h : Shape.Concatenates [S2 s 640, S2 r 640] (S2 256 640) 0 := by decide) (h1 : (S2 256 640).Slices ![0, 0] (S2 s 640) := by decide)
    (h2 : (S2 256 640).Slices ![s, 0] (S2 r 640) := by decide) (h3 : (S2 256 640).Slices ![0, 0] (S2 r 640) := by decide) : FVec Ideal S256x640 .f32 :=
  concatenate (S2 256 640) 0 [⟨S2 s 640, extractStridedSlice (S2 s 640) ![0, 0] U h1⟩,
    ⟨S2 r 640, addf (mulf (extractStridedSlice (S2 r 640) ![s, 0] A h2) (extractStridedSlice (S2 r 640) ![0, 0] U h3)) (extractStridedSlice (S2 r 640) ![s, 0] U h2)⟩] h
theorem lv_up {s r k : ℕ} (hs : s = 2 ^ k) {h h1 h2 h3} : lv s r (blk (ANs a k)) (blk (UNs a u k)) h h1 h2 h3 = blk (UNs a u (k + 1)) := cat_U hs h h1 h2 h3 h2
/-- And of the products. -/
def lvA (s r : ℕ) (A : FVec Ideal S256x640 .f32) (h : Shape.Concatenates [S2 s 640, S2 r 640] (S2 256 640) 0 := by decide) (h1 : (S2 256 640).Slices ![0, 0] (S2 s 640) := by decide)
    (h2 : (S2 256 640).Slices ![s, 0] (S2 r 640) := by decide) (h3 : (S2 256 640).Slices ![0, 0] (S2 r 640) := by decide) : FVec Ideal S256x640 .f32 :=
  concatenate (S2 256 640) 0 [⟨S2 s 640, extractStridedSlice (S2 s 640) ![0, 0] A h1⟩,
    ⟨S2 r 640, mulf (extractStridedSlice (S2 r 640) ![s, 0] A h2) (extractStridedSlice (S2 r 640) ![0, 0] A h3)⟩] h
theorem lvA_up {s r k : ℕ} (hs : s = 2 ^ k) {h h1 h2 h3} : lvA s r (blk (ANs a k)) h h1 h2 h3 = blk (ANs a (k + 1)) := cat_A hs h h1 h2 h3

variable {c M I : ℕ → ℕ → ℝ}
theorem U5 {v105 : IVec S256x640 1} {v106 v107 : FVec Ideal S256x640 .f32} (hm : select v105 v106 v107 = blk M) :
    k0_pay29 (F := Ideal) rows (blk C) (blk I) (blk (ANs a 0)) v105 v106 v107 = blk (UNs a (fun r j => M r j * (I r j * C r j)) 5) := by
  have h : ∀ C I a : FVec Ideal S256x640 .f32, k0_pay29 (F := Ideal) rows C I a v105 v106 v107
    = lv 16 240 (k0_pay28 rows a) (lv 8 248 (k0_pay27 rows a) (three a (k0_pay23 rows a) (k0_pay25 rows a) (mulf (select v105 v106 v107) (mulf I C)))) := fun _ _ _ => rfl
  rw [h, hm, A1, A2, A3, A4, mulf_up, mulf_up]
  exact (congrArg (fun x => lv 16 240 (blk (ANs a 4)) (lv 8 248 (blk (ANs a 3)) x)) three_up).trans ((congrArg (lv 16 240 (blk (ANs a 4))) (lv_up (s := 8) (k := 3) rfl)).trans (lv_up (s := 16) (k := 4) rfl))
theorem st0 : k0_pay32 (F := Ideal) (blk (ANs a 4)) (blk (UNs a u 5)) (k0_pay30 rows (blk (ANs a 0))) (k0_pay31 rows (blk (ANs a 0))) (row c) = blk (st c a u) := by
  have h : ∀ A U : FVec Ideal S256x640 .f32, ∀ c : FVec Ideal S1x640 .f32, k0_pay32 (F := Ideal) A U (extractStridedSlice S16x640 ![0, 0] A slices_S256x640_o0_0_S16x640) (extractStridedSlice S240x640 ![16, 0] A slices_S256x640_o16_0_S240x640) c
    = addf (lv 128 128 (lvA 64 192 (lvA 32 224 (lvA 16 240 A))) (lv 64 192 (lvA 32 224 (lvA 16 240 A)) (lv 32 224 (lvA 16 240 A) U)))
      (mulf (lvA 128 128 (lvA 64 192 (lvA 32 224 (lvA 16 240 A)))) (broadcastTo S256x640 c broadcasts_S1x640_S256x640)) := fun _ _ _ => rfl
  unfold k0_pay30 k0_pay31
  rw [A4, h, lvA_up (s := 16) (k := 4) rfl, lvA_up (s := 32) (k := 5) rfl, lvA_up (s := 64) (k := 6) rfl, lvA_up (s := 128) (k := 7) rfl, lv_up (s := 32) (k := 5) rfl, lv_up (s := 64) (k := 6) rfl, lv_up (s := 128) (k := 7) rfl,
    row_up _ (by norm_num : 1 < 640), mulf_up, addf_up]
  rfl
theorem last0 : k0_pay33 (F := Ideal) rows (blk (ANs a 4)) (blk (UNs a u 5)) (k0_pay30 rows (blk (ANs a 0))) (k0_pay31 rows (blk (ANs a 0))) (row c) = row fun _ j => st c a u 255 j := by
  unfold k0_pay33
  simp only [st0, shapeCast_self]
  exact last_up _ _

/-- The other half: the same levels, cut between the payloads elsewhere. -/
theorem A3' : k0_pay55 (F := Ideal) rows (k0_pay45 (row lam)) (blk fun r j => -8 * Cert.Lru.sig (z r j)) = blk (ANs (fac lam z) 3) := by
  have h : ∀ x : FVec Ideal S1x640 .f32, ∀ y, k0_pay55 (F := Ideal) rows x y = k0_pay27 rows (k0_pay48 x y) := fun _ _ => rfl
  rw [h, fac1, A3]
theorem U3 : k0_pay54 (F := Ideal) rows (blk C) (blk I) (k0_pay45 (row lam)) (blk fun r j => -8 * Cert.Lru.sig (z r j))
    = blk (UNs (fac lam z) (fun r j => Real.sqrt (1 - Real.exp (2 * la lam z r j)) * (I r j * C r j)) 3) := by
  have h50 : ∀ x : FVec Ideal S1x640 .f32, ∀ y, k0_pay50 (F := Ideal) rows x y = k0_pay23 rows (k0_pay48 x y) := fun _ _ => rfl
  have h52 : ∀ x : FVec Ideal S1x640 .f32, ∀ y, k0_pay52 (F := Ideal) rows x y = k0_pay25 rows (k0_pay48 x y) := fun _ _ => rfl
  have h54 : ∀ (x : FVec Ideal S1x640 .f32) (y C I : FVec Ideal S256x640 .f32), k0_pay54 (F := Ideal) rows C I x y
      = three (k0_pay48 x y) (k0_pay50 rows x y) (k0_pay52 rows x y) (mulf (fct (k0_pay47 x y) (k0_pay48 x y)) (mulf I C)) := fun _ _ _ _ => rfl
  rw [h54, h50, h52, fac1, A1, A2, la1, show fct (blk (la lam z)) (blk (ANs (fac lam z) 0)) = _ from mult_up (f := la lam z) (fun r j => la_neg _ _) rfl, mulf_up, mulf_up]
  exact three_up
theorem A58 : k0_pay58 (F := Ideal) (blk (ANs a 3)) = blk (ANs a 4) := by unfold k0_pay58; exact cat_A (s := 8) (k := 3) rfl _ _ _ _
theorem A59 : k0_pay59 (F := Ideal) (blk (ANs a 3)) = blk (ANs a 5) := by unfold k0_pay59; rw [A58]; exact cat_A (s := 16) (k := 4) rfl _ _ _ _
theorem A60 : k0_pay60 (F := Ideal) (blk (ANs a 3)) = blk (ANs a 6) := by unfold k0_pay60; rw [A59]; exact cat_A (s := 32) (k := 5) rfl _ _ _ _
theorem A61 : k0_pay61 (F := Ideal) (blk (ANs a 3)) = blk (ANs a 7) := by unfold k0_pay61; rw [A60]; exact cat_A (s := 64) (k := 6) rfl _ _ _ _
theorem A63 : k0_pay63 (F := Ideal) (blk (ANs a 3)) = blk (ANs a 8) := by unfold k0_pay63; rw [A61]; exact cat_A (s := 128) (k := 7) rfl _ _ _ _
theorem U62 {v362 : FVec Ideal S8x640 .f32} {v363 : FVec Ideal S248x640 .f32} (h2 : v362 = extractStridedSlice S8x640 ![0, 0] (blk (UNs a u 3)) slices_S256x640_o0_0_S8x640)
    (h3 : v363 = extractStridedSlice S248x640 ![8, 0] (blk (ANs a 3)) slices_S256x640_o8_0_S248x640) : k0_pay62 (F := Ideal) (blk (UNs a u 3)) (blk (ANs a 3)) v362 v363 = blk (UNs a u 8) := by
  subst h2 h3
  have h : ∀ U A : FVec Ideal S256x640 .f32, k0_pay62 (F := Ideal) U A (extractStridedSlice S8x640 ![0, 0] U slices_S256x640_o0_0_S8x640) (extractStridedSlice S248x640 ![8, 0] A slices_S256x640_o8_0_S248x640)
    = lv 128 128 (k0_pay61 A) (lv 64 192 (k0_pay60 A) (lv 32 224 (k0_pay59 A) (lv 16 240 (k0_pay58 A) (lv 8 248 A U)))) := fun _ _ => rfl
  rw [h, A58, A59, A60, A61, lv_up (s := 8) (k := 3) rfl, lv_up (s := 16) (k := 4) rfl, lv_up (s := 32) (k := 5) rfl, lv_up (s := 64) (k := 6) rfl, lv_up (s := 128) (k := 7) rfl]
theorem st1 : k0_pay1 (F := Ideal) (blk (UNs a u 8)) (blk (ANs a 8)) (row c) = blk (st c a u) := by
  unfold k0_pay1
  simp only [row_up _ (by norm_num : 1 < 640), mulf_up, addf_up]
  rfl
theorem last1 : k0_pay2 (F := Ideal) rows (blk (UNs a u 8)) (blk (ANs a 8)) (row c) = row fun _ j => st c a u 255 j := by
  unfold k0_pay2
  simp only [st1, shapeCast_self]
  exact last_up _ _
theorem y1 {g : ℕ → ℕ → ℝ} : k0_pay3 (F := Ideal) (blk g) (blk (UNs a u 8)) (blk (ANs a 8)) (row c) = up (φ := .bf16) 256 640 fun r j => st c a u r j * gelR (g r j) := by
  have h : ∀ (g U A : FVec Ideal S256x640 .f32) (c : FVec Ideal S1x640 .f32), k0_pay3 (F := Ideal) g U A c = k0_pay34 g (k0_pay1 U A c) := fun _ _ _ _ => rfl
  rw [h, st1, y_up]

end Half

end Cert.LruFwdIdeal.Outcome

end
-- ==== Proof.LruFwdLoads.lean ====
/- The recurrence's forward call: what the body loads of its blocks, over the reals. -/
module

public import proofs.«01_k».proof.Proof.LruSpec
public import proofs.«01_k».proof.Proof.LruFwdTile
public import Idealize.ShloMosaic.Lib.Pipeline.Value
public import Idealize.ShloMosaic.Lib.Pipeline.ValueKit
public import Idealize.ShloMosaic.Lib.Pipeline.ReadBack
public import Idealize.ShloMosaic.Lib.WritesUnit
@[expose] public section
set_option maxRecDepth 16384
noncomputable section
open Idealize.ShloMosaic Idealize.ShloMosaic.TcCoe Idealize.SL.Sem
open Idealize.ShloMosaic.Pipeline (Dat)

namespace Cert.LruFwdIdeal.Outcome
open Cert.LruFwdIdeal Cert.LruFwdIdeal.Gen Cert.Lru
variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem row_lt (r : Fin 256) : t.val * 256 + r.val < 8192 := by
  have := t.isLt; have hN : cfg0.N = 32 := N_0; omega
abbrev a0 : S8192x2560.Idx → EReal := m ((c : Thread nD τ).loc main_arg0)
abbrev a1 : S4x1280.Idx → EReal := m ((c : Thread nD τ).loc main_arg1)
abbrev a2 : S1280.Idx → EReal := m ((c : Thread nD τ).loc main_arg2)
abbrev a3 : S16x80x80.Idx → EReal := m ((c : Thread nD τ).loc main_arg3)
abbrev a4 : S1280.Idx → EReal := m ((c : Thread nD τ).loc main_arg4)
abbrev a5 : S16x80x80.Idx → EReal := m ((c : Thread nD τ).loc main_arg5)
abbrev a6 : S1280.Idx → EReal := m ((c : Thread nD τ).loc main_arg6)
abbrev a7 : S1280.Idx → EReal := m ((c : Thread nD τ).loc main_arg7)

/-- The gates' blocks along the diagonal, and the rows of the biases and the decay's parameter. -/
abbrev diag' (x : FVec Ideal S16x80x80 .f32) : FVec Ideal S2x640x640 .f32 :=
  (shapeCast S2x640x640 (mulf (broadcastInDim S2x8x80x8x80 ![0, 1, 2, 3, 4] bcast_S2x8x80x1x80_S2x8x80x8x80_0_1_2_3_4 (broadcastInDim S2x8x80x1x80 ![0, 1, 2, 4] bcast_S2x8x80x80_S2x8x80x1x80_0_1_2_4
      (shapeCast S2x8x80x80 x shapeCasts_S16x80x80_S2x8x80x80)))
    (broadcastInDim S2x8x80x8x80 ![0, 1, 2, 3, 4] bcast_S1x8x1x8x1_S2x8x80x8x80_0_1_2_3_4 (broadcastInDim S1x8x1x8x1 ![1, 3] bcast_S8x8_S1x8x1x8x1_1_3
      (uitofp .f32 (cmpi .eq (addi (iotaInDim S8x8 32 0) (broadcastInDim S8x8 ![] bcast_S_S8x8 (constantI S_ 32 0#32))) (iotaInDim S8x8 32 1)))))) shapeCasts_S2x8x80x8x80_S2x640x640)
abbrev diag (x : FVec Ideal S16x80x80 .f32) : FVec Ideal S2x640x640 .bf16 := truncf .bf16 (diag' x) bitsLt_bf16_f32
theorem hV13 : @Eq (S2x640x640.Idx → EReal) (V m c main_v13) (diag (a3 m c)) := by
  unfold V hostOps0
  after_results
  rfl
theorem hV27 : @Eq (S2x640x640.Idx → EReal) (V m c main_v27) (diag (a5 m c)) := by
  unfold V hostOps0
  after_results
  rfl
abbrev stack (x2 x4 x6 x7 : FVec Ideal S1280 .f32) : FVec Ideal S8x1280 .f32 :=
  concatenate S8x1280 0 [⟨S1x1280, broadcastInDim S1x1280 ![1] bcast_S1280_S1x1280_1 x2⟩, ⟨S1x1280, broadcastInDim S1x1280 ![1] bcast_S1280_S1x1280_1 x4⟩,
    ⟨S1x1280, broadcastInDim S1x1280 ![1] bcast_S1280_S1x1280_1 x6⟩, ⟨S1x1280, broadcastInDim S1x1280 ![1] bcast_S1280_S1x1280_1 x7⟩,
    ⟨S4x1280, broadcastInDim S4x1280 ![] bcast_S_S4x1280 (constant S_ .f32 0x00000000#32)⟩] concatenates_S1x1280_S1x1280_S1x1280_S1x1280_S4x1280_S8x1280_d0
theorem hV33 : @Eq (S8x1280.Idx → EReal) (V m c main_v33) (stack (a2 m c) (a4 m c) (a6 m c) (a7 m c)) := by
  unfold V hostOps0
  after_results
  rfl

theorem hot (p q : Fin 8) : (uitofp .f32 (cmpi .eq (addi (iotaInDim S8x8 32 0) (broadcastInDim S8x8 ![] bcast_S_S8x8 (constantI S_ 32 0#32))) (iotaInDim S8x8 32 1)) : FVec Ideal S8x8 .f32) (ix2 p q)
    = (((if p.val = q.val then 1 else 0 : ℝ)) : EReal) := by
  have h : (cmpi .eq (addi (iotaInDim S8x8 32 0) (broadcastInDim S8x8 ![] bcast_S_S8x8 (constantI S_ 32 0#32))) (iotaInDim S8x8 32 1) : IVec S8x8 1) (ix2 p q)
      = if p.val = q.val then 1#1 else 0#1 := by
    have e : ∀ p q : Fin 8, IntOp.cmpi .eq (BitVec.ofNat 32 p.val + 0#32) (BitVec.ofNat 32 q.val) = if p.val = q.val then 1#1 else 0#1 := by decide +kernel
    rw [← e]
    pointwise
    rfl
  show (((_ : BitVec 1).toNat : ℝ) : EReal) = _
  rw [h]
  by_cases e : p.val = q.val
  · rw [if_pos e, if_pos e]; simp
  · rw [if_neg e, if_neg e]; simp
theorem rm5 (q : Fin 2) (p : Fin 8) (r : Fin 80) (s : Fin 8) (u : Fin 80) : (S2x8x80x8x80.rowMajor (ValueIdx.ix5 q p r s u)).val = (((q.val * 8 + p.val) * 80 + r.val) * 8 + s.val) * 80 + u.val := by
  rw [Shape.rowMajor_val_five]; rfl
theorem rm4 (q : Fin 2) (p : Fin 8) (r u : Fin 80) : (S2x8x80x80.rowMajor (ValueIdx.ix4 q p r u)).val = ((q.val * 8 + p.val) * 80 + r.val) * 80 + u.val := by
  rw [Shape.rowMajor_val_four]; rfl
theorem rm3 (q : Fin 2) (k j : Fin 640) : (S2x640x640.rowMajor (ix3 q k j)).val = (q.val * 640 + k.val) * 640 + j.val := by
  rw [Shape.rowMajor_val_three]; rfl
theorem rm3' (q : Fin 16) (k j : Fin 80) : (S16x80x80.rowMajor (ix3 q k j)).val = (q.val * 80 + k.val) * 80 + j.val := by
  rw [Shape.rowMajor_val_three]; rfl
theorem diag_apply {G : ℕ → ℕ → ℕ → ℝ} (q : Fin 2) (k j : Fin 640) :
    diag (up3 16 80 80 G) (ix3 q k j) = (((if k.val / 80 = j.val / 80 then G (8 * q.val + k.val / 80) (k.val % 80) (j.val % 80) else 0 : ℝ)) : EReal) := by
  show diag' (up3 16 80 80 G) (ix3 q k j) = _
  have hk : k.val / 80 < 8 := by omega
  have hj : j.val / 80 < 8 := by omega
  refine (shapeCast_apply _ shapeCasts_S2x8x80x8x80_S2x640x640 (ix3 q k j) (ValueIdx.ix5 q (⟨k.val / 80, hk⟩ : Fin 8) (⟨k.val % 80, Nat.mod_lt _ (by norm_num)⟩ : Fin 80) (⟨j.val / 80, hj⟩ : Fin 8) (⟨j.val % 80, Nat.mod_lt _ (by norm_num)⟩ : Fin 80)) (by
    rw [rm5, rm3]
    dsimp only
    omega)).trans ?_
  have hx : shapeCast S2x8x80x80 (up3 (φ := .f32) 16 80 80 G) shapeCasts_S16x80x80_S2x8x80x80 (ValueIdx.ix4 q (⟨k.val / 80, hk⟩ : Fin 8) (⟨k.val % 80, Nat.mod_lt _ (by norm_num)⟩ : Fin 80) (⟨j.val % 80, Nat.mod_lt _ (by norm_num)⟩ : Fin 80))
      = ((G (8 * q.val + k.val / 80) (k.val % 80) (j.val % 80) : ℝ) : EReal) :=
    (shapeCast_apply _ shapeCasts_S16x80x80_S2x8x80x80 (ValueIdx.ix4 q (⟨k.val / 80, hk⟩ : Fin 8) (⟨k.val % 80, Nat.mod_lt _ (by norm_num)⟩ : Fin 80) (⟨j.val % 80, Nat.mod_lt _ (by norm_num)⟩ : Fin 80)) (ix3 (⟨8 * q.val + k.val / 80, by omega⟩ : Fin 16) (⟨k.val % 80, Nat.mod_lt _ (by norm_num)⟩ : Fin 80) (⟨j.val % 80, Nat.mod_lt _ (by norm_num)⟩ : Fin 80)) (by
      rw [rm4, rm3']
      dsimp only
      omega)).trans (up3_apply _ _ _)
  have h5 : ∀ (a : FVec Ideal S2x8x80x80 .f32) (b : FVec Ideal S8x8 .f32) (p : Fin 8) (r : Fin 80) (s : Fin 8) (u : Fin 80),
      mulf (broadcastInDim S2x8x80x8x80 ![0, 1, 2, 3, 4] bcast_S2x8x80x1x80_S2x8x80x8x80_0_1_2_3_4 (broadcastInDim S2x8x80x1x80 ![0, 1, 2, 4] bcast_S2x8x80x80_S2x8x80x1x80_0_1_2_4 a))
        (broadcastInDim S2x8x80x8x80 ![0, 1, 2, 3, 4] bcast_S1x8x1x8x1_S2x8x80x8x80_0_1_2_3_4 (broadcastInDim S1x8x1x8x1 ![1, 3] bcast_S8x8_S1x8x1x8x1_1_3 b)) (ValueIdx.ix5 q p r s u)
        = a (ValueIdx.ix4 q p r u) * b (ix2 p s) := fun a b p r s u => by
    pointwise
    rfl
  rw [h5, hx, hot, ← EReal.coe_mul]
  congr 1
  split <;> simp_all
theorem stack_apply (x2 x4 x6 x7 : FVec Ideal S1280 .f32) (l : Fin 1280) :
    stack x2 x4 x6 x7 (ix2 0 l) = x2 (ix1 l) ∧ stack x2 x4 x6 x7 (ix2 1 l) = x4 (ix1 l) ∧ stack x2 x4 x6 x7 (ix2 2 l) = x6 (ix1 l) ∧ stack x2 x4 x6 x7 (ix2 3 l) = x7 (ix1 l) := by
  refine ⟨?_, ?_, ?_, ?_⟩ <;> pointwise

/-! ## The loads of the argument blocks -/

variable {m c t}
variable {A : Args} (hA : A.Of (a0 m c) (a1 m c) (a2 m c) (a3 m c) (a4 m c) (a5 m c) (a6 m c) (a7 m c))
include hA

theorem ld0 {o : ℕ} (inb) : View.ld (iblk m c 0 t : Vec Ideal S256x2560 .f32) (Rect.unit (s := S256x2560) ![0, o] ![256, 640] inb) = (blk fun r j => A.P (256 * t.val + r) (o + j)) := by
  have ho : o + 640 ≤ 2560 := inb 1
  refine eq_up fun i j => ?_
  refine (View.ld_unit_apply_of _ _ _ _ _ (ix2 i ⟨o + j.val, by omega⟩) fun a => by fin_cases a <;> simp [ix2]).trans ?_
  have he : (win0_0.blk t).view.emb (ix2 i ⟨o + j.val, by omega⟩) = ix2 ⟨t.val * 256 + i.val, row_lt t i⟩ ⟨o + j.val, by omega⟩ := by blk_ext [idx0 t]
  blk_simp [iblk]
  rw [he]
  refine (congrFun (V_main_arg0 m c) _).trans ((congrFun hA.1 _).trans ?_)
  rw [Nat.mul_comm 256]; rfl
theorem ld1 {k o : ℕ} (inb) : View.ld (iblk m c 1 t : Vec Ideal S4x1280 .f32) (Rect.unit (s := S4x1280) ![k, o] ![1, 640] inb) = (row fun _ j => A.W k (o + j)) := by
  have hk : k + 1 ≤ 4 := inb 0
  have ho : o + 640 ≤ 1280 := inb 1
  refine eq_up fun i j => ?_
  refine (View.ld_unit_apply_of _ _ _ _ _ (ix2 ⟨k, by omega⟩ ⟨o + j.val, by omega⟩) fun a => by fin_cases a <;> simp [ix2]).trans ?_
  have he : (win0_1.blk t).view.emb (ix2 ⟨k, by omega⟩ ⟨o + j.val, by omega⟩) = ix2 ⟨k, by omega⟩ ⟨o + j.val, by omega⟩ := by blk_ext [idx1 t]
  blk_simp [iblk]
  rw [he]
  exact (congrFun (V_main_arg1 m c) _).trans (congrFun hA.2.1 _)
omit hA in
theorem ld2 {k o : ℕ} {f : ℕ → ℝ} (hk : k < 8) (h : ∀ l : Fin 1280, stack (a2 m c) (a4 m c) (a6 m c) (a7 m c) (ix2 ⟨k, hk⟩ l) = (f l : EReal)) (inb) :
    View.ld (iblk m c 2 t : Vec Ideal S8x1280 .f32) (Rect.unit (s := S8x1280) ![k, o] ![1, 640] inb) = (row fun _ j => f (o + j)) := by
  have ho : o + 640 ≤ 1280 := inb 1
  refine eq_up fun i j => ?_
  refine (View.ld_unit_apply_of _ _ _ _ _ (ix2 ⟨k, hk⟩ ⟨o + j.val, by omega⟩) fun a => by fin_cases a <;> simp [ix2]).trans ?_
  have he : (win0_2.blk t).view.emb (ix2 ⟨k, hk⟩ ⟨o + j.val, by omega⟩) = ix2 ⟨k, hk⟩ ⟨o + j.val, by omega⟩ := by blk_ext [idx2 t]
  blk_simp [iblk]
  rw [he]
  exact (congrFun (hV33 m c) _).trans (h _)
theorem ldcb {o : ℕ} (inb) : View.ld (iblk m c 2 t : Vec Ideal S8x1280 .f32) (Rect.unit (s := S8x1280) ![0, o] ![1, 640] inb) = (row fun _ j => A.cb (o + j)) :=
  ld2 (by norm_num) (fun l => (stack_apply _ _ _ _ l).1.trans (hA.2.2.1 l)) inb
theorem ldba {o : ℕ} (inb) : View.ld (iblk m c 2 t : Vec Ideal S8x1280 .f32) (Rect.unit (s := S8x1280) ![1, o] ![1, 640] inb) = (row fun _ j => A.ba (o + j)) :=
  ld2 (by norm_num) (fun l => (stack_apply _ _ _ _ l).2.1.trans (hA.2.2.2.2.1 l)) inb
theorem ldbx {o : ℕ} (inb) : View.ld (iblk m c 2 t : Vec Ideal S8x1280 .f32) (Rect.unit (s := S8x1280) ![2, o] ![1, 640] inb) = (row fun _ j => A.bx (o + j)) :=
  ld2 (by norm_num) (fun l => (stack_apply _ _ _ _ l).2.2.1.trans (hA.2.2.2.2.2.2.1 l)) inb
theorem ldlam {o : ℕ} (inb) : View.ld (iblk m c 2 t : Vec Ideal S8x1280 .f32) (Rect.unit (s := S8x1280) ![3, o] ![1, 640] inb) = (row fun _ j => A.lam (o + j)) :=
  ld2 (by norm_num) (fun l => (stack_apply _ _ _ _ l).2.2.2.trans (hA.2.2.2.2.2.2.2 l)) inb

/-- A gate's weights of one half. -/
abbrev half (G : ℕ → ℕ → ℕ → ℝ) (q : ℕ) : ℕ → ℕ → ℕ → ℝ := fun _ k j => if k / 80 = j / 80 then G (8 * q + k / 80) (k % 80) (j % 80) else 0
theorem ld3 {q : ℕ} (inb) : View.ld (iblk m c 3 t : Vec Ideal S2x640x640 .bf16) (Rect.unit (s := S2x640x640) ![q, 0, 0] ![1, 640, 640] inb) = wgt (half A.Ga q) := by
  have hq : q + 1 ≤ 2 := inb 0
  refine eq_up3 fun b i j => ?_
  refine (View.ld_unit_apply_of _ _ _ _ _ (ix3 ⟨q, by omega⟩ i j) fun a => by fin_cases a <;> simp [ix3]).trans ?_
  have he : (win0_3.blk t).view.emb (ix3 ⟨q, by omega⟩ i j) = ix3 ⟨q, by omega⟩ i j := by blk_ext [idx3 t]
  blk_simp [iblk]
  rw [he]
  refine (congrFun (hV13 m c) _).trans ((congrFun (congrArg diag hA.2.2.2.1) _).trans (diag_apply _ _ _))
theorem ld4 {q : ℕ} (inb) : View.ld (iblk m c 4 t : Vec Ideal S2x640x640 .bf16) (Rect.unit (s := S2x640x640) ![q, 0, 0] ![1, 640, 640] inb) = wgt (half A.Gx q) := by
  have hq : q + 1 ≤ 2 := inb 0
  refine eq_up3 fun b i j => ?_
  refine (View.ld_unit_apply_of _ _ _ _ _ (ix3 ⟨q, by omega⟩ i j) fun a => by fin_cases a <;> simp [ix3]).trans ?_
  have he : (win0_4.blk t).view.emb (ix3 ⟨q, by omega⟩ i j) = ix3 ⟨q, by omega⟩ i j := by blk_ext [idx4 t]
  blk_simp [iblk]
  rw [he]
  refine (congrFun (hV27 m c) _).trans ((congrFun (congrArg diag hA.2.2.2.2.2.1) _).trans (diag_apply _ _ _))

/-! ## What the rows before leave: the convolution's rows and the state -/

omit hA
/-- The rows the convolution sees at a point, eight before the block's first. -/
def E (n : ℕ) (A : Args) (o : ℕ) : ℕ → ℕ → ℝ := fun s j => if 256 * n + s < 8 then 0 else A.P (256 * n + s - 8) (1280 + (o + j))
/-- The state before a block. -/
def C (n : ℕ) (A : Args) (l : ℕ) : ℝ := if 256 * n = 0 then 0 else A.H (256 * n - 1) l

/-- A half's rows, from the fifth up to `hi`. -/
def Sees (X : S2x264x640.Idx → EReal) (q : Fin 2) (F : ℕ → ℕ → ℝ) (hi : ℕ) : Prop := ∀ (s : Fin 264) (j : Fin 640), 5 ≤ s.val → s.val < hi → X (ix3 q s j) = (F s.val j.val : EReal)

section Ext
variable {f : (View.whole cc0_scratch0).ty.Contents (Elt Ideal)} {L : List (View.Piece (Elt Ideal) S2x264x640 .f32)} {F : ℕ → ℕ → ℝ} {q : Fin 2} {hi : ℕ}
abbrev rd (f : (View.whole cc0_scratch0).ty.Contents (Elt Ideal)) (L : List (View.Piece (Elt Ideal) S2x264x640 .f32)) : S2x264x640.Idx → EReal :=
  View.read (Elt Ideal) (View.whole cc0_scratch0) ((View.whole cc0_scratch0).writes (Elt Ideal) f L)

theorem sees_store {p : ℕ} (hp : p = q.val) {inb} {w : FVec Ideal S1x256x640 .f32} (hw : w = up3 1 256 640 fun _ r j => F (8 + r) j) (h : Sees (rd f L) q F 8) :
    Sees (rd f (⟨Rect.unit (s := S2x264x640) ![p, 8, 0] ![1, 256, 640] inb, w⟩ :: L)) q F 264 := by
  subst hw hp
  intro s j h5 _
  by_cases h8 : s.val < 8
  · exact (View.read_writes_cons_unit_of_not_mem _ f inb _ L _ rfl 1 (.inl h8)).trans (h s j h5 h8)
  · refine (View.read_writes_cons_unit_of_mem _ f inb _ L (ix3 q s j) (ix3 0 (⟨s.val - 8, by have := s.isLt; omega⟩ : Fin 256) j) rfl fun a => ?_).trans ((up3_apply _ _ _).trans ?_)
    · fin_cases a
      · simp [ix3]
      · show s.val = 8 + (s.val - 8); omega
      · show j.val = 0 + j.val; omega
    · show ((F (8 + (s.val - 8)) j.val : ℝ) : EReal) = _
      rw [show 8 + (s.val - 8) = s.val by omega]
theorem sees_last {p : ℕ} (hp : p = q.val) {inb} {w : FVec Ideal S1x8x640 .f32} (hw : w = up3 1 8 640 fun _ r j => F r j) :
    Sees (rd f (⟨Rect.unit (s := S2x264x640) ![p, 0, 0] ![1, 8, 640] inb, w⟩ :: L)) q F 8 := by
  subst hw hp
  intro s j h5 h8
  refine (View.read_writes_cons_unit_of_mem _ f inb _ L (ix3 q s j) (ix3 0 (⟨s.val, h8⟩ : Fin 8) j) rfl fun a => ?_).trans (up3_apply _ _ _)
  fin_cases a
  · simp [ix3]
  · show s.val = 0 + s.val; omega
  · show j.val = 0 + j.val; omega
theorem sees_skip {p d n : ℕ} (hp : p ≠ q.val) {inb w} (h : Sees (rd f L) q F hi) : Sees (rd f (⟨Rect.unit (s := S2x264x640) ![p, d, 0] ![1, n, 640] inb, w⟩ :: L)) q F hi := by
  intro s j h5 h8
  refine (View.read_writes_cons_unit_of_not_mem _ f inb w L _ rfl 0 ?_).trans (h s j h5 h8)
  show q.val < p ∨ p + 1 ≤ q.val
  omega
theorem sees_low {p : ℕ} {inb w} (h : Sees (rd f L) q F 8) : Sees (rd f (⟨Rect.unit (s := S2x264x640) ![p, 8, 0] ![1, 256, 640] inb, w⟩ :: L)) q F 8 := by
  intro s j h5 h8
  exact (View.read_writes_cons_unit_of_not_mem _ f inb w L _ rfl 1 (.inl h8)).trans (h s j h5 h8)
theorem ld_sees {s0 p : ℕ} {X : S2x264x640.Idx → EReal} (h : Sees X q F 264) (hp : p = q.val) (h5 : 5 ≤ s0) (inb) : View.ld (Val := Elt Ideal) (e' := .f32) X (Rect.unit (s := S2x264x640) ![p, s0, 0] ![1, 256, 640] inb) = seen F s0 := by
  have h8 : s0 + 256 ≤ 264 := inb 1
  subst hp
  refine eq_up3 fun b r j => ?_
  exact (View.ld_unit_apply_of _ _ _ _ _ (ix3 q ⟨s0 + r.val, by omega⟩ j) fun a => by fin_cases a <;> simp [ix3]).trans (h _ _ (by show 5 ≤ s0 + r.val; omega) (by show s0 + r.val < 264; omega))
theorem cov_eq (v : View sig .tc .vmem S2x264x640 .f32) (r : Rect S2x264x640) : v.readCov L r.toLoadRect = View.ld (rd (View.whole cc0_scratch0).junk L) r := by
  rw [View.readCov_eq_canon']
  exact funext fun j => (View.read_writes_junk_apply_eq_canon _ _ L).symm
end Ext

/-- The carried state's row. -/
def Holds (X : S8x1280.Idx → EReal) (F : ℕ → ℝ) (lo hi : ℕ) : Prop := ∀ l : Fin 1280, lo ≤ l.val → l.val < hi → X (ix2 0 l) = (F l.val : EReal)

section Car
variable {f : (View.whole cc0_scratch1).ty.Contents (Elt Ideal)} {L : List (View.Piece (Elt Ideal) S8x1280 .f32)} {F : ℕ → ℝ} {lo hi : ℕ}
abbrev rdc (f : (View.whole cc0_scratch1).ty.Contents (Elt Ideal)) (L : List (View.Piece (Elt Ideal) S8x1280 .f32)) : S8x1280.Idx → EReal :=
  View.read (Elt Ideal) (View.whole cc0_scratch1) ((View.whole cc0_scratch1).writes (Elt Ideal) f L)
theorem holds_store {o : ℕ} {inb} {w : FVec Ideal S1x640 .f32} (hw : w = row fun _ j => F (o + j)) :
    Holds (rdc f (⟨Rect.unit (s := S8x1280) ![0, o] ![1, 640] inb, w⟩ :: L)) F o (o + 640) := by
  subst hw
  intro l h1 h2
  refine (View.read_writes_cons_unit_of_mem _ f inb _ L (ix2 0 l) (ix2 0 (⟨l.val - o, by omega⟩ : Fin 640)) rfl fun a => ?_).trans ((up_apply _ _).trans ?_)
  · fin_cases a
    · simp [ix2]
    · show l.val = o + (l.val - o); omega
  · show ((F (o + (l.val - o)) : ℝ) : EReal) = _
    rw [show o + (l.val - o) = l.val by omega]
theorem holds_skip {o : ℕ} {inb w} (h : Holds (rdc f L) F lo hi) (ho : hi ≤ o ∨ o + 640 ≤ lo) : Holds (rdc f (⟨Rect.unit (s := S8x1280) ![0, o] ![1, 640] inb, w⟩ :: L)) F lo hi := by
  intro l h1 h2
  refine (View.read_writes_cons_unit_of_not_mem _ f inb w L _ rfl 1 ?_).trans (h l h1 h2)
  show l.val < o ∨ o + 640 ≤ l.val
  omega
theorem ld_holds {o : ℕ} {X : S8x1280.Idx → EReal} (h : Holds X F o (o + 640)) (inb) : View.ld (Val := Elt Ideal) (e' := .f32) X (Rect.unit (s := S8x1280) ![0, o] ![1, 640] inb) = row fun _ j => F (o + j) := by
  have ho : o + 640 ≤ 1280 := inb 1
  refine eq_up fun i j => ?_
  exact (View.ld_unit_apply_of _ _ _ _ _ (ix2 0 ⟨o + j.val, by omega⟩) fun a => by fin_cases a <;> simp [ix2]).trans (h _ (by show o ≤ o + j.val; omega) (by show o + j.val < o + 640; omega))
theorem covc_eq (v : View sig .tc .vmem S8x1280 .f32) (r : Rect S8x1280) : v.readCov L r.toLoadRect = View.ld (rdc (View.whole cc0_scratch1).junk L) r := by
  rw [View.readCov_eq_canon']
  exact funext fun j => (View.read_writes_junk_apply_eq_canon _ _ L).symm
end Car

/-! ## A half of a block, from its loads -/

section Half
variable (A t) (o q : ℕ) (ho : o = 640 * q)

theorem conv_eq : conv (fun _ j => A.cb (o + j)) (fun _ j => A.W 0 (o + j)) (fun _ j => A.W 1 (o + j)) (fun _ j => A.W 2 (o + j)) (fun _ j => A.W 3 (o + j)) (E t.val A o) = fun r j => A.X (256 * t.val + r) (o + j) := by
  funext r j
  have h : ∀ k, k < 4 → E t.val A o (5 + k + r) j = A.tap k (256 * t.val + r) (o + j) := fun k hk => by
    unfold E Args.tap
    by_cases h : 256 * t.val + r + k < 3
    · rw [if_pos h, if_pos (by omega)]
    · rw [if_neg h, if_neg (by omega), show 256 * t.val + (5 + k + r) - 8 = 256 * t.val + r + k - 3 by omega]
  unfold conv Args.X
  rw [← h 0 (by norm_num), ← h 1 (by norm_num), ← h 2 (by norm_num), ← h 3 (by norm_num)]
include ho in
theorem gate_eq (G : ℕ → ℕ → ℕ → ℝ) (b : ℕ → ℝ) : blk (fun r j => Cert.Lru.sig (gz (fun r j => A.X (256 * t.val + r) (o + j)) (half G q) (fun _ j => b (o + j)) r j))
    = blk fun r j => Cert.Lru.sig (A.gate G b (256 * t.val + r) (o + j)) := by
  subst ho
  refine up_ext fun r _ j hj => ?_
  unfold gz Args.gate
  congr 2
  rw [show (640 * q + j) / 80 = 8 * q + j / 80 by omega, show (640 * q + j) % 80 = j % 80 by omega]
  have hb : j / 80 < 8 := by omega
  refine (Finset.sum_congr rfl fun k _ => ?_).trans ((block_sum (fun k => A.X (256 * t.val + r) (640 * q + k)) (fun i => G (8 * q + j / 80) i (j % 80)) hb).trans (Finset.sum_congr rfl fun i _ => ?_))
  · congr 1
    show (if k.val / 80 = j / 80 then _ else _) = if k.val / 80 = j / 80 then _ else _
    by_cases h : k.val / 80 = j / 80
    · rw [if_pos h, if_pos h, h]
    · rw [if_neg h, if_neg h]
  · rw [show 640 * q + (80 * (j / 80) + i.val) = 80 * (8 * q + j / 80) + i.val by omega]
/-- The state after a block's rows. -/
theorem st_eq : blk (st (fun _ j => C t.val A (o + j)) (fun r j => A.D (256 * t.val + r) (o + j)) (fun r j => A.I (256 * t.val + r) (o + j))) = blk fun r j => A.H (256 * t.val + r) (o + j) := by
  refine up_ext fun r hr j _ => ?_
  exact tile_state (fun s => A.D s (o + j)) (fun s => A.I s (o + j)) (256 * t.val) hr rfl
end Half
end Cert.LruFwdIdeal.Outcome

end
-- ==== Proof.LruFwdRun.lean ====
/- The recurrence's forward call: what a grid point's body stores, over the reals, whatever the scratch held before. -/
module

public import proofs.«01_k».proof.Proof.LruFwdLoads
@[expose] public section
set_option maxRecDepth 16384
noncomputable section
open Idealize.ShloMosaic Idealize.ShloMosaic.TcCoe Idealize.SL.Sem
open Idealize.ShloMosaic.Pipeline (Dat)

namespace Cert.LruFwdIdeal.Outcome
open Cert.LruFwdIdeal Cert.LruFwdIdeal.Gen Cert.Lru
open Cert.SguBwdRefIdeal.Outcome (gelR)
variable (m : (ℓ : Loc nD τ sig) → Buf (Elt Ideal) ℓ) (c : Dev nD) (t : Fin cfg0.N)

/-! ## The body's terms -/

abbrev gl (o : ℕ) (inb : ∀ a, (![0, o] : Fin 2 → ℕ) a + (![256, 640] : Fin 2 → ℕ) a ≤ S256x2560.size a) : FVec Ideal S256x640 .f32 := View.ld (iblk m c 0 t) (Rect.unit (s := S256x2560) ![0, o] ![256, 640] inb)
abbrev cw (k o : ℕ) (inb : ∀ a, (![k, o] : Fin 2 → ℕ) a + (![1, 640] : Fin 2 → ℕ) a ≤ S4x1280.size a) : FVec Ideal S1x640 .f32 := View.ld (iblk m c 1 t) (Rect.unit (s := S4x1280) ![k, o] ![1, 640] inb)
abbrev vc (k o : ℕ) (inb : ∀ a, (![k, o] : Fin 2 → ℕ) a + (![1, 640] : Fin 2 → ℕ) a ≤ S8x1280.size a) : FVec Ideal S1x640 .f32 := View.ld (iblk m c 2 t) (Rect.unit (s := S8x1280) ![k, o] ![1, 640] inb)
abbrev wa (q : ℕ) (inb : ∀ a, (![q, 0, 0] : Fin 3 → ℕ) a + (![1, 640, 640] : Fin 3 → ℕ) a ≤ S2x640x640.size a) : FVec Ideal S1x640x640 .bf16 := View.ld (iblk m c 3 t) (Rect.unit (s := S2x640x640) ![q, 0, 0] ![1, 640, 640] inb)
abbrev wx (q : ℕ) (inb : ∀ a, (![q, 0, 0] : Fin 3 → ℕ) a + (![1, 640, 640] : Fin 3 → ℕ) a ≤ S2x640x640.size a) : FVec Ideal S1x640x640 .bf16 := View.ld (iblk m c 4 t) (Rect.unit (s := S2x640x640) ![q, 0, 0] ![1, 640, 640] inb)
abbrev p0 := gl m c t 1280 inb_S256x2560_S256x640_0_1280
abbrev p1 := gl m c t 1920 inb_S256x2560_S256x640_0_1920

variable (f : (View.whole cc0_scratch0).ty.Contents (Elt Ideal)) (L0 : List (View.Piece (Elt Ideal) S2x264x640 .f32))
variable (g : (View.whole cc0_scratch1).ty.Contents (Elt Ideal)) (M0 : List (View.Piece (Elt Ideal) S8x1280 .f32))

abbrev LL0 : List (View.Piece (Elt Ideal) S2x264x640 .f32) := ⟨Rect.unit ![0, 8, 0] ![1, 256, 640] inb_S2x264x640_S1x256x640_0_8_0, k0_pay6 (F := Ideal) (p0 m c t)⟩ :: L0
abbrev LL1 : List (View.Piece (Elt Ideal) S2x264x640 .f32) := ⟨Rect.unit ![1, 8, 0] ![1, 256, 640] inb_S2x264x640_S1x256x640_1_8_0, k0_pay35 (F := Ideal) (p1 m c t)⟩
  :: ⟨Rect.unit ![0, 0, 0] ![1, 8, 640] inb_S2x264x640_S1x8x640_0_0_0, k0_pay9 (F := Ideal) (p0 m c t)⟩ :: LL0 m c t L0
abbrev LL2 : List (View.Piece (Elt Ideal) S2x264x640 .f32) := ⟨Rect.unit ![1, 0, 0] ![1, 8, 640] inb_S2x264x640_S1x8x640_1_0_0, k0_pay38 (F := Ideal) (p1 m c t)⟩ :: LL1 m c t L0
abbrev xl (s : ℕ) (inb : ∀ a, (![0, s, 0] : Fin 3 → ℕ) a + (![1, 256, 640] : Fin 3 → ℕ) a ≤ S2x264x640.size a) : FVec Ideal S1x256x640 .f32 := View.ld (Val := Elt Ideal) (e' := .f32) (rd f (LL0 m c t L0)) (Rect.unit (s := S2x264x640) ![0, s, 0] ![1, 256, 640] inb)
abbrev zl (s : ℕ) (inb : ∀ a, (![1, s, 0] : Fin 3 → ℕ) a + (![1, 256, 640] : Fin 3 → ℕ) a ≤ S2x264x640.size a) : FVec Ideal S1x256x640 .f32 := View.ld (Val := Elt Ideal) (e' := .f32) (rd f (LL1 m c t L0)) (Rect.unit (s := S2x264x640) ![1, s, 0] ![1, 256, 640] inb)

abbrev v29 := k0_pay7 (F := Ideal) (vc m c t 0 0 inb_S8x1280_S1x640_0_0) (cw m c t 0 0 inb_S4x1280_S1x640_0_0) (xl m c t f L0 5 inb_S2x264x640_S1x256x640_0_5_0)
  (cw m c t 1 0 inb_S4x1280_S1x640_1_0) (xl m c t f L0 6 inb_S2x264x640_S1x256x640_0_6_0) (cw m c t 2 0 inb_S4x1280_S1x640_2_0) (xl m c t f L0 7 inb_S2x264x640_S1x256x640_0_7_0)
abbrev v30 := cw m c t 3 0 inb_S4x1280_S1x640_3_0
abbrev v31 := k0_pay6 (F := Ideal) (p0 m c t)
abbrev v35 := k0_pay8 (F := Ideal) (v29 m c t f L0) (v30 m c t) (v31 m c t)
abbrev v50 := k0_pay12 (F := Ideal) (vc m c t 3 0 inb_S8x1280_S1x640_3_0)
abbrev v61 := k0_pay14 (F := Ideal) (v29 m c t f L0) (v30 m c t) (v31 m c t) (wa m c t 0 inb_S2x640x640_S1x640x640_0_0_0) (vc m c t 1 0 inb_S8x1280_S1x640_1_0)
abbrev v71 := k0_pay15 (F := Ideal) (k0_pay10 (wx m c t 0 inb_S2x640x640_S1x640x640_0_0_0)) (k0_pay11 (vc m c t 2 0 inb_S8x1280_S1x640_2_0)) (k0_pay13 (v29 m c t f L0) (v30 m c t) (v31 m c t)) (constant S256x640 .f32 0x00000000#32)
abbrev v95 := k0_pay17 (F := Ideal) (v50 m c t) (v61 m c t f L0)
abbrev v149 := k0_pay28 (F := Ideal) rows (v95 m c t f L0)
abbrev v156 := k0_pay29 (F := Ideal) rows (v35 m c t f L0) (v71 m c t f L0) (v95 m c t f L0) (k0_pay19 (v50 m c t) (v61 m c t f L0)) (k0_pay20 (v50 m c t) (v61 m c t f L0)) k0_pay21
abbrev v198 : FVec Ideal S1x640 .f32 := View.ld (Val := Elt Ideal) (e' := .f32) (rdc g M0) (Rect.unit (s := S8x1280) ![0, 0] ![1, 640] inb_S8x1280_S1x640_0_0)
abbrev H0 := k0_pay32 (F := Ideal) (v149 m c t f L0) (v156 m c t f L0) (k0_pay30 rows (v95 m c t f L0)) (k0_pay31 rows (v95 m c t f L0)) (v198 g M0)
abbrev R0 := k0_pay33 (F := Ideal) rows (v149 m c t f L0) (v156 m c t f L0) (k0_pay30 rows (v95 m c t f L0)) (k0_pay31 rows (v95 m c t f L0)) (v198 g M0)
abbrev Y0 := k0_pay34 (F := Ideal) (gl m c t 0 inb_S256x2560_S256x640_0_0) (H0 m c t f L0 g M0)

abbrev v259 := k0_pay37 (F := Ideal) (k0_pay36 (vc m c t 0 640 inb_S8x1280_S1x640_0_640) (cw m c t 0 640 inb_S4x1280_S1x640_0_640) (zl m c t f L0 5 inb_S2x264x640_S1x256x640_1_5_0))
  (cw m c t 1 640 inb_S4x1280_S1x640_1_640) (zl m c t f L0 6 inb_S2x264x640_S1x256x640_1_6_0) (cw m c t 2 640 inb_S4x1280_S1x640_2_640) (zl m c t f L0 7 inb_S2x264x640_S1x256x640_1_7_0)
  (cw m c t 3 640 inb_S4x1280_S1x640_3_640) (k0_pay35 (F := Ideal) (p1 m c t))
abbrev v295 := k0_pay44 (F := Ideal) (v259 m c t f L0) (k0_pay40 (wx m c t 1 inb_S2x640x640_S1x640x640_1_0_0)) (k0_pay42 (vc m c t 2 640 inb_S8x1280_S1x640_2_640))
abbrev v314 := k0_pay45 (F := Ideal) (vc m c t 3 640 inb_S8x1280_S1x640_3_640)
abbrev v316 := k0_pay46 (F := Ideal) (v259 m c t f L0) (k0_pay39 (wa m c t 1 inb_S2x640x640_S1x640x640_1_0_0)) (k0_pay41 (vc m c t 1 640 inb_S8x1280_S1x640_1_640))
abbrev v359 := k0_pay54 (F := Ideal) rows (v259 m c t f L0) (v295 m c t f L0) (v314 m c t) (v316 m c t f L0)
abbrev v361 := k0_pay55 (F := Ideal) rows (v314 m c t) (v316 m c t f L0)
abbrev v416 := k0_pay62 (F := Ideal) (v359 m c t f L0) (v361 m c t f L0) (k0_pay56 rows (v259 m c t f L0) (v295 m c t f L0) (v314 m c t) (v316 m c t f L0)) (k0_pay57 rows (v314 m c t) (v316 m c t f L0))
abbrev v421 := k0_pay63 (F := Ideal) (v361 m c t f L0)
abbrev MM1 : List (View.Piece (Elt Ideal) S8x1280 .f32) := ⟨Rect.unit ![0, 0] ![1, 640] inb_S8x1280_S1x640_0_0, R0 m c t f L0 g M0⟩ :: M0
abbrev v422 : FVec Ideal S1x640 .f32 := View.ld (Val := Elt Ideal) (e' := .f32) (rdc g (MM1 m c t f L0 g M0)) (Rect.unit (s := S8x1280) ![0, 640] ![1, 640] inb_S8x1280_S1x640_0_640)
variable (w : FVec Ideal S1x640 .f32)
abbrev H1 := k0_pay1 (F := Ideal) (v416 m c t f L0) (v421 m c t f L0) w
abbrev R1 := k0_pay2 (F := Ideal) rows (v416 m c t f L0) (v421 m c t f L0) w
abbrev Y1 := k0_pay3 (F := Ideal) (gl m c t 640 inb_S256x2560_S256x640_0_640) (v416 m c t f L0) (v421 m c t f L0) w
abbrev MM2 : List (View.Piece (Elt Ideal) S8x1280 .f32) := ⟨Rect.unit ![0, 640] ![1, 640] inb_S8x1280_S1x640_0_640, R1 m c t f L0 w⟩ :: MM1 m c t f L0 g M0

/-! ## Their values -/

variable {m c t f L0 g M0}
variable {A : Args} (hA : A.Of (a0 m c) (a1 m c) (a2 m c) (a3 m c) (a4 m c) (a5 m c) (a6 m c) (a7 m c))
variable (h0 : Sees (rd f L0) 0 (E t.val A 0) 8) (h1 : Sees (rd f L0) 1 (E t.val A 640) 8) (hc : Holds (rdc g M0) (C t.val A) 0 1280)
abbrev glob (t : Fin cfg0.N) (F : ℕ → ℕ → ℝ) (o : ℕ) : ℕ → ℕ → ℝ := fun r j => F (256 * t.val + r) (o + j)

section Values
include hA

theorem E_store (o : ℕ) : (up3 1 256 640 fun _ r j => A.P (256 * t.val + r) (1280 + o + j) : FVec Ideal S1x256x640 .f32) = up3 1 256 640 fun _ r j => E t.val A o (8 + r) j := by
  congr 1
  funext _ r j
  unfold E
  rw [if_neg (by omega), show 256 * t.val + (8 + r) - 8 = 256 * t.val + r by omega, Nat.add_assoc]
theorem E_last (o : ℕ) : (up3 1 8 640 fun _ r j => A.P (256 * t.val + (248 + r)) (1280 + o + (0 + j)) : FVec Ideal S1x8x640 .f32) = up3 1 8 640 fun _ r j => E (t.val + 1) A o r j := by
  congr 1
  funext _ r j
  unfold E
  rw [if_neg (by omega), show 256 * (t.val + 1) + r - 8 = 256 * t.val + (248 + r) by omega, Nat.add_assoc, Nat.zero_add]
theorem st6 : v31 m c t = seen (E t.val A 0) 8 := by
  unfold v31 p0 gl
  rw [ld0 hA]
  exact (lift_up _).trans (E_store hA 0)
theorem st35 : k0_pay35 (F := Ideal) (p1 m c t) = seen (E t.val A 640) 8 := by
  unfold p1 gl
  rw [ld0 hA]
  exact (lift_up _).trans (E_store hA 640)
theorem st9 : k0_pay9 (F := Ideal) (p0 m c t) = up3 1 8 640 fun _ r j => E (t.val + 1) A 0 r j := by
  unfold p0 gl
  rw [ld0 hA]
  unfold k0_pay9
  rw [slice_up]
  exact (lift_up _).trans (E_last hA 0)
theorem st38 : k0_pay38 (F := Ideal) (p1 m c t) = up3 1 8 640 fun _ r j => E (t.val + 1) A 640 r j := by
  unfold p1 gl
  rw [ld0 hA]
  unfold k0_pay38
  rw [slice_up]
  exact (lift_up _).trans (E_last hA 640)

/-- The scratch that the convolution reads, as the body leaves it. -/
theorem next0 : Sees (rd f (LL2 m c t L0)) 0 (E (t.val + 1) A 0) 8 :=
  sees_skip (p := 1) (by decide) (sees_skip (p := 1) (by decide) (sees_last (p := 0) (q := 0) rfl (st9 hA)))
theorem next1 : Sees (rd f (LL2 m c t L0)) 1 (E (t.val + 1) A 640) 8 := sees_last (p := 1) (q := 1) rfl (st38 hA)

section First
include h0
theorem see0 : Sees (rd f (LL0 m c t L0)) 0 (E t.val A 0) 264 := sees_store (p := 0) (q := 0) rfl (st6 hA) h0
theorem xc0 : v35 m c t f L0 = blk (glob t A.X 0) := by
  unfold v35 v29 v30 xl vc cw
  rw [ldcb hA, ld1 hA, ld1 hA, ld1 hA, ld1 hA, ld_sees (p := 0) (see0 hA h0) rfl (by norm_num), ld_sees (p := 0) (see0 hA h0) rfl (by norm_num), ld_sees (p := 0) (see0 hA h0) rfl (by norm_num), st6 hA, conv0, conv_eq]
theorem ga0 : v61 m c t f L0 = blk fun r j => Cert.Lru.sig (A.gate A.Ga A.ba (256 * t.val + r) (0 + j)) := by
  unfold v61 wa vc
  rw [ld3 hA, ldba hA, gate0a _ _ (xc0 hA h0), gate_eq t A 0 0 rfl]
theorem gx0 : v71 m c t f L0 = blk fun r j => Cert.Lru.sig (A.gate A.Gx A.bx (256 * t.val + r) (0 + j)) := by
  have h : k0_pay13 (F := Ideal) (v29 m c t f L0) (v30 m c t) (v31 m c t) = up 256 640 (glob t A.X 0) := by
    show truncf .bf16 (v35 m c t f L0) bitsLt_bf16_f32 = _
    rw [xc0 hA h0]
    exact truncf_up _
  unfold v71 wx vc
  rw [ld4 hA, ldbx hA, h, gate0x, gate_eq t A 0 0 rfl]
theorem D0 : v95 m c t f L0 = blk (ANs (glob t A.D 0) 0) := by
  unfold v95 v50 vc
  rw [ga0 hA h0, ldlam hA, fac0]
  rfl
theorem I0 : v156 m c t f L0 = blk (UNs (glob t A.D 0) (glob t A.I 0) 5) := by
  unfold v156 v50 vc
  rw [D0 hA h0, xc0 hA h0, gx0 hA h0, ga0 hA h0, ldlam hA, U5 (mult0 _)]
  rfl
include hc
theorem H0_eq : H0 m c t f L0 g M0 = blk (glob t A.H 0) ∧ R0 m c t f L0 g M0 = row fun _ j => C (t.val + 1) A (0 + j) := by
  have hl : v198 g M0 = row fun _ j => C t.val A (0 + j) := ld_holds (F := C t.val A) (fun l h _ => hc l h l.isLt) _
  have e := st_eq t A 0
  constructor
  · unfold H0 v149
    rw [I0 hA h0, D0 hA h0, A4, hl, st0, e]
  · unfold R0 v149
    rw [I0 hA h0, D0 hA h0, A4, hl, last0]
    refine up_ext fun _ _ j hj => ?_
    have h := EReal.coe_eq_coe_iff.mp (congrFun e (ix2 (255 : Fin 256) (⟨j, hj⟩ : Fin 640)))
    refine h.trans ?_
    unfold C
    rw [if_neg (by omega)]
    rfl
theorem Y0_eq : Y0 m c t f L0 g M0 = up 256 640 fun r j => A.H (256 * t.val + r) (0 + j) * gelR (A.P (256 * t.val + r) (0 + j)) := by
  unfold Y0 gl
  rw [(H0_eq hA h0 hc).1, ld0 hA, y_up]
end First

section Second
variable {w : FVec Ideal S1x640 .f32} (hw : w = row fun _ j => C t.val A (640 + j))
include h1
theorem see1 : Sees (rd f (LL1 m c t L0)) 1 (E t.val A 640) 264 :=
  sees_store (p := 1) (q := 1) rfl (st35 hA) (sees_skip (p := 0) (by decide) (sees_skip (p := 0) (by decide) h1))
theorem xc1 : v259 m c t f L0 = blk (glob t A.X 640) := by
  unfold v259 zl vc cw
  rw [ldcb hA, ld1 hA, ld1 hA, ld1 hA, ld1 hA, ld_sees (p := 1) (see1 hA h1) rfl (by norm_num), ld_sees (p := 1) (see1 hA h1) rfl (by norm_num), ld_sees (p := 1) (see1 hA h1) rfl (by norm_num), st35 hA, conv1, conv_eq]
theorem gx1 : v295 m c t f L0 = blk fun r j => Cert.Lru.sig (A.gate A.Gx A.bx (256 * t.val + r) (640 + j)) := by
  unfold v295 wx vc
  rw [xc1 hA h1, ld4 hA, ldbx hA, gate1x, gate_eq t A 640 1 rfl]
theorem ga1 : v316 m c t f L0 = blk fun r j => -8 * Cert.Lru.sig (A.gate A.Ga A.ba (256 * t.val + r) (640 + j)) := by
  have e := gate_eq t A 640 1 rfl A.Ga A.ba
  unfold v316 wa vc
  rw [xc1 hA h1, ld3 hA, ldba hA, gate1a]
  exact up_ext fun r hr j hj => congrArg (-8 * ·) (EReal.coe_eq_coe_iff.mp (congrFun e (ix2 (⟨r, hr⟩ : Fin 256) (⟨j, hj⟩ : Fin 640))))
theorem A1_eq : v361 m c t f L0 = blk (ANs (glob t A.D 640) 3) := by
  unfold v361 v314 vc
  rw [ga1 hA h1, ldlam hA, A3']
  rfl
theorem U1_eq : v359 m c t f L0 = blk (UNs (glob t A.D 640) (glob t A.I 640) 3) := by
  unfold v359 v314 vc
  rw [ga1 hA h1, ldlam hA, gx1 hA h1, xc1 hA h1, U3]
  rfl
theorem U1_eq' : v416 m c t f L0 = blk (UNs (glob t A.D 640) (glob t A.I 640) 8) := by
  have h2 : ∀ (C I : FVec Ideal S256x640 .f32) (x : FVec Ideal S1x640 .f32) (y : FVec Ideal S256x640 .f32),
      k0_pay56 (F := Ideal) rows C I x y = extractStridedSlice S8x640 ![0, 0] (k0_pay54 rows C I x y) slices_S256x640_o0_0_S8x640 := fun _ _ _ _ => rfl
  have h3 : ∀ (x : FVec Ideal S1x640 .f32) (y : FVec Ideal S256x640 .f32),
      k0_pay57 (F := Ideal) rows x y = extractStridedSlice S248x640 ![8, 0] (k0_pay55 rows x y) slices_S256x640_o8_0_S248x640 := fun _ _ => rfl
  have e2 : k0_pay54 (F := Ideal) rows (v259 m c t f L0) (v295 m c t f L0) (v314 m c t) (v316 m c t f L0) = _ := U1_eq hA h1
  have e3 : k0_pay55 (F := Ideal) rows (v314 m c t) (v316 m c t f L0) = _ := A1_eq hA h1
  unfold v416 v359 v361
  rw [h2, h3, e2, e3]
  exact U62 rfl rfl
include hw
theorem H1_eq : H1 m c t f L0 w = blk (glob t A.H 640) ∧ R1 m c t f L0 w = row fun _ j => C (t.val + 1) A (640 + j) := by
  have e := st_eq t A 640
  have h63 : v421 m c t f L0 = blk (ANs (glob t A.D 640) 8) := by
    unfold v421
    rw [A1_eq hA h1, A63]
  constructor
  · unfold H1
    rw [U1_eq' hA h1, h63, hw, st1, e]
  · unfold R1
    rw [U1_eq' hA h1, h63, hw, last1]
    refine up_ext fun _ _ j hj => ?_
    have h := EReal.coe_eq_coe_iff.mp (congrFun e (ix2 (255 : Fin 256) (⟨j, hj⟩ : Fin 640)))
    refine h.trans ?_
    unfold C
    rw [if_neg (by omega)]
    rfl
include h1 hw in
theorem Y1_eq : Y1 m c t f L0 w = up 256 640 fun r j => A.H (256 * t.val + r) (640 + j) * gelR (A.P (256 * t.val + r) (640 + j)) := by
  have h : ∀ (g U A : FVec Ideal S256x640 .f32) (c : FVec Ideal S1x640 .f32), k0_pay3 (F := Ideal) g U A c = k0_pay34 g (k0_pay1 U A c) := fun _ _ _ _ => rfl
  unfold Y1 gl
  have e : k0_pay1 (F := Ideal) (v416 m c t f L0) (v421 m c t f L0) w = _ := (H1_eq hA h1 hw).1
  rw [h, e, ld0 hA, y_up]
include h0 h1 hc hw in
/-- The carried row, as the body leaves it. -/
theorem nextC : Holds (rdc g (MM2 m c t f L0 g M0 w)) (C (t.val + 1) A) 0 1280 := fun l _ _ => by
  by_cases h : l.val < 640
  · exact holds_skip (o := 640) (holds_store (o := 0) (H0_eq hA h0 hc).2) (Or.inl (by decide)) l (by omega) (by omega)
  · exact holds_store (o := 640) (H1_eq hA h1 hw).2 l (by omega) (by omega)
end Second
end Values

/-! ## The three result blocks -/

/-- A half of a result block. -/
theorem half_piece (G : ℕ → ℕ → ℝ) {w : S256x640.Idx → EReal} (o : ℕ) (i) (e : w = up (φ := .f32) 256 640 fun r j => G r (o + j)) (x : S256x640.Idx) :
    w x = (fun y : S256x1280.Idx => ((G (y 0).val (y 1).val : ℝ) : EReal)) ((Rect.unit (s := S256x1280) ![0, o] ![256, 640] i).emb x) := by
  subst e
  refine congrArg (fun z : ℝ => (z : EReal)) (congrArg₂ G ?_ ?_)
  · show (x 0).val = 0 + 1 * (x 0).val
    omega
  · show o + (x 1).val = o + 1 * (x 1).val
    omega
/-- A result block put together from its two halves. -/
theorem halves (G : ℕ → ℕ → ℝ) {w0 w1 : FVec Ideal S256x640 .f32} (i0) (i1) (e1 : w1 = up 256 640 fun r j => G r (640 + j)) (e0 : w0 = up 256 640 fun r j => G r (0 + j)) (y : S256x1280.Idx) :
    View.canon (Val := Elt Ideal) (e := .f32) [⟨Rect.unit (s := S256x1280) ![0, 640] ![256, 640] i1, w1⟩, ⟨Rect.unit (s := S256x1280) ![0, 0] ![256, 640] i0, w0⟩] y
      = (G (y 0).val (y 1).val : EReal) :=
  View.canon_append_of_piecesOf (Val := Elt Ideal) (e := .f32) (fun y : S256x1280.Idx => ((G (y 0).val (y 1).val : ℝ) : EReal)) [] (_ :: _ :: [])
    ⟨half_piece G 640 i1 e1, half_piece G 0 i0 e0, trivial⟩ y (View.cover_of_tiledL (s := S256x1280) _ S256x640.size (by sl_kernel_rfl) y)
theorem halves' (G : ℕ → ℕ → ℝ) {w0 w1 : FVec Ideal S256x640 .bf16} (i0) (i1) (e1 : w1 = up 256 640 fun r j => G r (640 + j)) (e0 : w0 = up 256 640 fun r j => G r (0 + j)) (y : S256x1280.Idx) :
    View.canon (Val := Elt Ideal) (e := .bf16) [⟨Rect.unit (s := S256x1280) ![0, 640] ![256, 640] i1, w1⟩, ⟨Rect.unit (s := S256x1280) ![0, 0] ![256, 640] i0, w0⟩] y
      = (G (y 0).val (y 1).val : EReal) :=
  View.canon_append_of_piecesOf (Val := Elt Ideal) (e := .bf16) (fun y : S256x1280.Idx => ((G (y 0).val (y 1).val : ℝ) : EReal)) [] (_ :: _ :: [])
    ⟨half_piece G 640 i1 e1, half_piece G 0 i0 e0, trivial⟩ y (View.cover_of_tiledL (s := S256x1280) _ S256x640.size (by sl_kernel_rfl) y)

/-- What holds of a grid point's results and of the scratch it leaves. -/
def Good (m : (ℓ : Loc nD τ sig) → Buf (Elt Ideal) ℓ) (c : Dev nD) (A : Args) (n : ℕ) (hn : n < cfg0.N) : Prop :=
  (∀ y : S256x1280.Idx, ((outsAt0 m c n hn).1 : S256x1280.Idx → EReal) y = ((A.H (256 * n + (y 0).val) (y 1).val * gelR (A.P (256 * n + (y 0).val) (y 1).val) : ℝ) : EReal)) ∧
  (∀ y : S256x1280.Idx, ((outsAt0 m c n hn).2.1 : S256x1280.Idx → EReal) y = ((A.H (256 * n + (y 0).val) (y 1).val : ℝ) : EReal)) ∧
  (∀ y : S256x1280.Idx, ((outsAt0 m c n hn).2.2.1 : S256x1280.Idx → EReal) y = ((A.X (256 * n + (y 0).val) (y 1).val : ℝ) : EReal)) ∧
  Sees (outsAt0 m c n hn).2.2.2.1 0 (E (n + 1) A 0) 8 ∧ Sees (outsAt0 m c n hn).2.2.2.1 1 (E (n + 1) A 640) 8 ∧
  Holds (outsAt0 m c n hn).2.2.2.2 (C (n + 1) A) 0 1280

theorem canon_rd (L : List (View.Piece (Elt Ideal) S2x264x640 .f32)) : View.canon (Val := Elt Ideal) (e := .f32) L = rd (View.whole cc0_scratch0).junk L :=
  funext fun y => (View.read_writes_junk_apply_eq_canon _ y L).symm
theorem canon_rdc (L : List (View.Piece (Elt Ideal) S8x1280 .f32)) : View.canon (Val := Elt Ideal) (e := .f32) L = rdc (View.whole cc0_scratch1).junk L :=
  funext fun y => (View.read_writes_junk_apply_eq_canon _ y L).symm

/-- At the first point both scratches are filled with zeros. -/
theorem first_ext (ht : t.val = 0) (o : ℕ) (q : Fin 2) (i) :
    Sees (rd (View.whole cc0_scratch0).junk [⟨Rect.unit (s := S2x264x640) ![0, 0, 0] ![2, 264, 640] i, k0_pay4 (F := Ideal)⟩]) q (E t.val A o) 8 := fun s j _ h8 => by
  refine (View.read_writes_cons_unit_of_mem _ _ i _ [] (ix3 q s j) (ix3 q s j) rfl fun a => by fin_cases a <;> simp [ix3]).trans ?_
  unfold E
  rw [if_pos (by omega)]
  unfold k0_pay4
  rw [shapeCast_self]
  exact c_zero
theorem first_row (ht : t.val = 0) (i) :
    Holds (rdc (View.whole cc0_scratch1).junk [⟨Rect.unit (s := S8x1280) ![0, 0] ![8, 1280] i, k0_pay5 (F := Ideal)⟩]) (C t.val A) 0 1280 := fun l _ _ => by
  refine (View.read_writes_cons_unit_of_mem _ _ i _ [] (ix2 0 l) (ix2 0 l) rfl fun a => by fin_cases a <;> simp [ix2]).trans ?_
  unfold C
  rw [if_pos (by omega)]
  unfold k0_pay5
  rw [shapeCast_self]
  exact c_zero

section Point
include hA
theorem good_A (h : t.val % 32 = 0) : Good m c A t.val t.isLt := by
  have ht : t.val = 0 := by have := t.isLt; have : cfg0.N = 32 := rfl; omega
  have h0 := first_ext (A := A) ht 0 0 inb_S2x264x640_S2x264x640_0_0_0
  have h1 := first_ext (A := A) ht 640 1 inb_S2x264x640_S2x264x640_0_0_0
  have hc := first_row (A := A) ht inb_S8x1280_S8x1280_0_0
  unfold Good
  rw [outsAt0_A m c t h]
  frame_open
  frame_out
  simp only [View.readCov_cons_toLoadRect]
  simp only [cov_eq, covc_eq, canon_rd, canon_rdc]
  have hw : v422 m c t (View.whole cc0_scratch0).junk [⟨Rect.unit (s := S2x264x640) ![0, 0, 0] ![2, 264, 640] inb_S2x264x640_S2x264x640_0_0_0, k0_pay4 (F := Ideal)⟩] (View.whole cc0_scratch1).junk [⟨Rect.unit (s := S8x1280) ![0, 0] ![8, 1280] inb_S8x1280_S8x1280_0_0, k0_pay5 (F := Ideal)⟩] = row fun _ j => C t.val A (640 + j) := ld_holds (F := C t.val A) (holds_skip (fun l h _ => hc l (by omega) l.isLt) (by omega)) _
  refine ⟨fun y => ?_, fun y => ?_, fun y => ?_, ?_, ?_, ?_⟩
  · exact halves' (fun r j => A.H (256 * t.val + r) j * gelR (A.P (256 * t.val + r) j)) _ _ (Y1_eq hA h1 hw) (Y0_eq hA h0 hc) y
  · exact halves (fun r j => A.H (256 * t.val + r) j) _ _ (H1_eq hA h1 hw).1 (H0_eq hA h0 hc).1 y
  · exact halves (fun r j => A.X (256 * t.val + r) j) _ _ (xc1 hA h1) (xc0 hA h0) y
  · exact next0 hA (f := (View.whole cc0_scratch0).junk)
  · exact next1 hA (f := (View.whole cc0_scratch0).junk)
  · exact nextC hA h0 h1 hc hw
theorem good_B (h : ¬t.val % 32 = 0) (hg : Good m c A (t.val - 1) (Nat.lt_of_le_of_lt (Nat.sub_le _ _) t.isLt)) : Good m c A t.val t.isLt := by
  obtain ⟨-, -, -, g0, g1, gc⟩ := hg
  rw [Nat.sub_add_cancel (by omega)] at g0 g1 gc
  have e0 := read_unread_whole (Val := Elt Ideal) cc0_scratch0 (Memref.isWhole_whole _) (outsAt0 m c (t.val - 1) (Nat.lt_of_le_of_lt (Nat.sub_le _ _) t.isLt)).2.2.2.1
  have e1 := read_unread_whole (Val := Elt Ideal) cc0_scratch1 (Memref.isWhole_whole _) (outsAt0 m c (t.val - 1) (Nat.lt_of_le_of_lt (Nat.sub_le _ _) t.isLt)).2.2.2.2
  rw [← e0] at g0 g1
  rw [← e1] at gc
  have h0 : Sees (rd ((Memref.isWhole_whole cc0_scratch0).unread (outsAt0 m c (t.val - 1) (Nat.lt_of_le_of_lt (Nat.sub_le _ _) t.isLt)).2.2.2.1) []) 0 (E t.val A 0) 8 := g0
  have h1 : Sees (rd ((Memref.isWhole_whole cc0_scratch0).unread (outsAt0 m c (t.val - 1) (Nat.lt_of_le_of_lt (Nat.sub_le _ _) t.isLt)).2.2.2.1) []) 1 (E t.val A 640) 8 := g1
  have hc : Holds (rdc ((Memref.isWhole_whole cc0_scratch1).unread (outsAt0 m c (t.val - 1) (Nat.lt_of_le_of_lt (Nat.sub_le _ _) t.isLt)).2.2.2.2) []) (C t.val A) 0 1280 := gc
  have e2 (r : Rect S8x1280) : View.ld (Val := Elt Ideal) (e' := .f32) (View.read (Elt Ideal) (View.whole cc0_scratch1) ((Memref.isWhole_whole cc0_scratch1).unread (outsAt0 m c (t.val - 1) (Nat.lt_of_le_of_lt (Nat.sub_le _ _) t.isLt)).2.2.2.2)) r
    = View.ld (Val := Elt Ideal) (e' := .f32) (rdc ((Memref.isWhole_whole cc0_scratch1).unread (outsAt0 m c (t.val - 1) (Nat.lt_of_le_of_lt (Nat.sub_le _ _) t.isLt)).2.2.2.2) []) r := rfl
  unfold Good
  rw [outsAt0_B m c t h]
  frame_open
  frame_out
  simp only [View.readCov_cons_toLoadRect]
  simp only [cov_eq, covc_eq, canon_rd, canon_rdc]
  simp only [e2]
  revert h0 h1 hc
  generalize ((Memref.isWhole_whole cc0_scratch0).unread (outsAt0 m c (t.val - 1) (Nat.lt_of_le_of_lt (Nat.sub_le _ _) t.isLt)).2.2.2.1) = f
  generalize ((Memref.isWhole_whole cc0_scratch1).unread (outsAt0 m c (t.val - 1) (Nat.lt_of_le_of_lt (Nat.sub_le _ _) t.isLt)).2.2.2.2) = g
  intro h0 h1 hc
  have hw : View.ld (Val := Elt Ideal) (e' := .f32) (rdc g []) (Rect.unit (s := S8x1280) ![0, 640] ![1, 640] inb_S8x1280_S1x640_0_640) = row fun _ j => C t.val A (640 + j) :=
    ld_holds (F := C t.val A) (fun l h _ => hc l (by omega) l.isLt) _
  refine ⟨fun y => ?_, fun y => ?_, fun y => ?_, ?_, ?_, ?_⟩
  · exact halves' (fun r j => A.H (256 * t.val + r) j * gelR (A.P (256 * t.val + r) j)) _ _ (Y1_eq hA h1 hw) (Y0_eq hA h0 hc) y
  · exact halves (fun r j => A.H (256 * t.val + r) j) _ _ (H1_eq hA h1 hw).1 (H0_eq hA h0 hc).1 y
  · exact halves (fun r j => A.X (256 * t.val + r) j) _ _ (xc1 hA h1) (xc0 hA h0) y
  · exact next0 hA (f := (View.whole cc0_scratch0).junk) (L0 := [])
  · exact next1 hA (f := (View.whole cc0_scratch0).junk) (L0 := [])
  · exact nextC hA h0 h1 hc hw
theorem good (n : ℕ) (hn : n < cfg0.N) : Good m c A n hn := by
  induction n with
  | zero => exact good_A (t := ⟨0, hn⟩) hA rfl
  | succ n ih =>
    have : n + 1 < 32 := hn
    exact good_B (t := ⟨n + 1, hn⟩) hA (by show ¬(n + 1) % 32 = 0; omega) (ih _)
end Point

end Cert.LruFwdIdeal.Outcome

end
-- ==== Proof.LruFwdRef.lean ====
/- The recurrence's forward call: its reference, read over the reals. -/
module

public import proofs.«01_k».proof.Proof.LruSpec
public import proofs.«01_k».proof.Proof.SguBwdValue
public import proofs.«01_k».proof.Proof.Gen.LruFwdRefIdeal.Run
public import proofs.«01_k».proof.Proof.Gen.LruFwdRefIdeal.Read
@[expose] public section
set_option maxRecDepth 16384
noncomputable section
open Idealize.ShloMosaic Idealize.ShloMosaic.TcCoe Idealize.SL.Sem

namespace Cert.LruFwdRefIdeal.Outcome
open Cert.LruFwdRefIdeal Cert.LruFwdRefIdeal.Gen Cert.LruFwdRefIdeal.Facts Cert.LruFwdRefIdeal.Read Cert.Lru
open Cert.SguBwdRefIdeal.Outcome (gelR th ref_th ref_gel gel_real c_one)

theorem c_two : (Ideal.ofBits .f32 0x40000000#32 : EReal) = ((2 : ℝ) : EReal) := by
  simp [Ideal.ofBits, Ideal.ieee]; rw [← EReal.coe_mul]; norm_num
theorem c_eight : (Ideal.ofBits .f32 0xC1000000#32 : EReal) = ((-8 : ℝ) : EReal) := by
  simp [Ideal.ofBits, Ideal.ieee]; rw [← EReal.coe_mul]; norm_num
theorem c_zero : (Ideal.ofBits .f32 0x00000000#32 : EReal) = ((0 : ℝ) : EReal) := by
  simp [Ideal.ofBits, Ideal.ieee]

/-- A constant, and the host's own operations, on arrays of reals. -/
theorem cst {n m : ℕ} {w : BitVec 32} {c : ℝ} (h : (Ideal.ofBits .f32 w : EReal) = (c : EReal)) (hb) :
    (broadcastInDim (S2 n m) ![] hb (constant (F := Ideal) S_ .f32 w) : FVec Ideal (S2 n m) .f32) = up n m fun _ _ => c := funext fun _ => h
theorem negf_up {n m : ℕ} {f : ℕ → ℕ → ℝ} : Host.negf (up (φ := .f32) n m f) = up n m fun t l => -f t l := funext fun _ => (EReal.coe_neg _).symm
theorem hexp_up {n m : ℕ} {f : ℕ → ℕ → ℝ} : Host.exp (up (φ := .f32) n m f) = up n m fun t l => Real.exp (f t l) := rfl
theorem hdiv_up {n m : ℕ} {f g : ℕ → ℕ → ℝ} (h : ∀ t l, g t l ≠ 0) : Host.divf (up (φ := .f32) n m f) (up n m g) = up n m fun t l => f t l / g t l := funext fun _ => Cert.Reals.div_real (h _ _)
theorem expm1_up {n m : ℕ} {f : ℕ → ℕ → ℝ} : Host.expm1 (up (φ := .f32) n m f) = up n m fun t l => Real.exp (f t l) - 1 := funext fun _ => (EReal.coe_sub _ _).symm
theorem sqrt_up {n m : ℕ} {f : ℕ → ℕ → ℝ} (h : ∀ t l, 0 ≤ f t l) : Host.sqrt (up (φ := .f32) n m f) = up n m fun t l => Real.sqrt (f t l) := funext fun _ => if_neg (not_lt.mpr (h _ _))
/-- A row's copies. -/
theorem bias_up {x : FVec Ideal S1280 .f32} {f : ℕ → ℝ} (h : ∀ l : Fin 1280, x (ix1 l) = (f l : EReal)) :
    broadcastInDim S8192x1280 ![0, 1] bcast_S1x1280_S8192x1280_0_1 (broadcastInDim S1x1280 ![1] bcast_S1280_S1x1280_1 x) = up (φ := .f32) 8192 1280 fun _ l => f l := eq_up fun i j => by
  rw [← h j]
  pointwise
theorem weight_up {x : FVec Ideal S4x1280 .f32} {W : ℕ → ℕ → ℝ} (h : x = up 4 1280 W) (k : ℕ) (hk : k < 4) (hs : S4x1280.Slices ![k, 0] S1x1280) :
    broadcastInDim S8192x1280 ![0, 1] bcast_S1x1280_S8192x1280_0_1 (broadcastInDim S1x1280 ![1] bcast_S1280_S1x1280_1 (shapeCast S1280 (extractStridedSlice S1x1280 ![k, 0] x hs) shapeCasts_S1x1280_S1280))
      = up (φ := .f32) 8192 1280 fun _ l => W k l := by
  refine bias_up (f := fun l => W k l) fun l => ?_
  subst h
  rw [slice_up]
  refine (shapeCast_apply _ _ _ (ix2 0 l) (by rw [Shape.rowMajor_val_two, Shape.rowMajor_val_one]; show 0 * 1280 + l.val = l.val; omega)).trans ?_
  exact congrArg (fun r : ℝ => (r : EReal)) (congrArg₂ W rfl (by show 0 + l.val = l.val; omega))

variable {A : Args} {x0 : FVec Ideal S8192x2560 .f32} {x1 : FVec Ideal S4x1280 .f32} {x2 : FVec Ideal S1280 .f32} {x3 : FVec Ideal S16x80x80 .f32} {x4 : FVec Ideal S1280 .f32}
  {x5 : FVec Ideal S16x80x80 .f32} {x6 x7 : FVec Ideal S1280 .f32}

/-- The gate's unit of the left half. -/
theorem v11_apply (h0 : x0 = up 8192 2560 A.P) (r : Fin 8192) (l : Fin 1280) : (val_main_v11 (F := Ideal) x0 (ix2 r l) : EReal) = (th (A.P r l) : EReal) := by
  refine Eq.trans ?_ (ref_th (A.P r l))
  have e : ((A.P r l : ℝ) : EReal) = x0 (ix2 r ⟨l.val, by omega⟩) := by rw [h0]; rfl
  rw [e]
  pointwise [val_main_v0, val_main_v2, val_main_cst, val_main_v3, val_main_v4, val_main_cst_0, val_main_v5, val_main_v6, val_main_cst_1, val_main_v7, val_main_v8, val_main_v9, val_main_v10, val_main_v11]
theorem v16_up (h0 : x0 = up 8192 2560 A.P) : val_main_v16 (F := Ideal) x0 = up (φ := .f32) 8192 1280 fun t l => gelR (A.P t l) := eq_up fun r l => by
  refine Eq.trans ?_ ((ref_gel (A.P r l) (v11_apply h0 r l)).trans (gel_real _))
  have e : ((A.P r l : ℝ) : EReal) = x0 (ix2 r ⟨l.val, by omega⟩) := by rw [h0]; rfl
  rw [e]
  generalize hT : val_main_v11 (F := Ideal) x0 = T
  pointwise [val_main_v16, val_main_v15, val_main_v14, val_main_v13, val_main_v12, val_main_v0, val_main_cst_2, val_main_cst_3, hT]

/-- The convolution. -/
theorem v18_up (h0 : x0 = up 8192 2560 A.P) : val_main_v18 (F := Ideal) x0 = up (φ := .f32) 8195 1280 fun t l => if t < 3 then 0 else A.P (t - 3) (1280 + l) := by
  have e1 : val_main_v1 (F := Ideal) x0 = up (φ := .f32) 8192 1280 fun t l => A.P t (1280 + l) := by
    unfold val_main_v1
    rw [h0, slice_up]
    exact up_ext fun t _ l _ => by rw [Nat.zero_add]
  unfold val_main_v18
  rw [e1, show val_main_v17 (F := Ideal) = up (φ := .f32) 3 1280 fun _ _ => 0 from cst c_zero _]
  exact concat_up _
theorem tap_up (h0 : x0 = up 8192 2560 A.P) (k : ℕ) (hs : S8195x1280.Slices ![k, 0] S8192x1280) :
    extractStridedSlice S8192x1280 ![k, 0] (val_main_v18 (F := Ideal) x0) hs = up (φ := .f32) 8192 1280 (A.tap k) := by
  rw [v18_up h0, slice_up]
  exact up_ext fun t _ l _ => by unfold Args.tap; rw [Nat.zero_add, Nat.add_comm k t]
theorem v50_up (h0 : x0 = up 8192 2560 A.P) (h1 : x1 = up 4 1280 A.W) (h2 : ∀ l : Fin 1280, x2 (ix1 l) = (A.cb l : EReal)) : val_main_v50 (F := Ideal) x0 x1 x2 = up (φ := .f32) 8192 1280 A.X := by
  have w0 : val_main_v23 (F := Ideal) x1 = up (φ := .f32) 8192 1280 fun _ l => A.W 0 l := weight_up h1 0 (by decide) _
  have w1 : val_main_v31 (F := Ideal) x1 = up (φ := .f32) 8192 1280 fun _ l => A.W 1 l := weight_up h1 1 (by decide) _
  have w2 : val_main_v38 (F := Ideal) x1 = up (φ := .f32) 8192 1280 fun _ l => A.W 2 l := weight_up h1 2 (by decide) _
  have w3 : val_main_v45 (F := Ideal) x1 = up (φ := .f32) 8192 1280 fun _ l => A.W 3 l := weight_up h1 3 (by decide) _
  have b : val_main_v49 (F := Ideal) x2 = up (φ := .f32) 8192 1280 fun _ l => A.cb l := bias_up h2
  have z : val_main_v25 (F := Ideal) = up (φ := .f32) 8192 1280 fun _ _ => 0 := cst c_zero _
  unfold val_main_v50 val_main_v47 val_main_v40 val_main_v33 val_main_v26 val_main_v24 val_main_v32 val_main_v39 val_main_v46 val_main_v21 val_main_v29 val_main_v36 val_main_v43
  rw [w0, w1, w2, w3, b, z, tap_up h0, tap_up h0, tap_up h0, tap_up h0]
  simp only [mulf_up, addf_up]
  exact up_ext fun t _ l _ => by unfold Args.X; ring

/-- A gate: its blocks' products and its bias, and the logistic of the sum. -/
theorem gate_up {X Z : FVec Ideal S8192x1280 .f32} {g : FVec Ideal S16x80x80 .f32} {G : ℕ → ℕ → ℕ → ℝ} {b : ℕ → ℝ} (hX : X = up 8192 1280 A.X) (hg : g = up3 16 80 80 G) (hZ : Z = up 8192 1280 fun _ l => b l) :
    addf (shapeCast S8192x1280 (transpose S8192x16x80 [2, 0, 1] (Host.dotGeneral dot_S16x80x80_S8192x16x80_S16x80x8192_1_2_2_0_0_1 none g
      (shapeCast S8192x16x80 X shapeCasts_S8192x1280_S8192x16x80)) transposes_S16x80x8192_S8192x16x80_2_0_1) shapeCasts_S8192x16x80_S8192x1280) Z = up 8192 1280 (A.gate G b) := by
  have e : shapeCast S8192x16x80 X shapeCasts_S8192x1280_S8192x16x80 = up3 (φ := .f32) 8192 16 80 fun t q i => A.X t (80 * q + i) := by
    refine eq_up3 fun t q i => ?_
    rw [hX]
    exact shapeCast_apply _ _ _ (ix2 t ⟨80 * q.val + i.val, by omega⟩) (by rw [Shape.rowMajor_val_two, Shape.rowMajor_val_three]; show t.val * 1280 + (80 * q.val + i.val) = (t.val * 16 + q.val) * 80 + i.val; omega)
  have d : ∀ (q : Fin 16) (j : Fin 80) (t : Fin 8192), Host.dotGeneral dot_S16x80x80_S8192x16x80_S16x80x8192_1_2_2_0_0_1 none g
      (shapeCast S8192x16x80 X shapeCasts_S8192x1280_S8192x16x80) (ix3 q j t) = ((∑ i : Fin 80, A.X t (80 * q + i) * G q i j : ℝ) : EReal) := by
    intro q j t
    rw [e]
    refine Eq.trans (b := ∑ i : Fin 80, g (ix3 q i j) * (up3 (φ := .f32) 8192 16 80 fun t q i => A.X t (80 * q + i)) (ix3 t q i)) ?_ ?_
    · generalize (up3 (φ := .f32) 8192 16 80 fun t q i => A.X t (80 * q + i)) = Y
      pointwise
    · rw [hg, ← Cert.Reals.coe_sum]
      exact Finset.sum_congr rfl fun i _ => by rw [up3_apply, up3_apply, ← EReal.coe_mul, mul_comm]
  generalize Host.dotGeneral dot_S16x80x80_S8192x16x80_S16x80x8192_1_2_2_0_0_1 none g (shapeCast S8192x16x80 X shapeCasts_S8192x1280_S8192x16x80) = Y at d ⊢
  refine eq_up fun t l => ?_
  have hl : l.val / 80 < 16 := by omega
  have hm : l.val % 80 < 80 := Nat.mod_lt _ (by omega)
  refine (congrArg₂ (· + ·) ((shapeCast_apply _ _ _ (ix3 t ⟨l.val / 80, hl⟩ ⟨l.val % 80, hm⟩) (by rw [Shape.rowMajor_val_two, Shape.rowMajor_val_three]; show (t.val * 16 + l.val / 80) * 80 + l.val % 80 = t.val * 1280 + l.val; omega)).trans
    ((transpose_apply _ _ _ _ (ix3 ⟨l.val / 80, hl⟩ ⟨l.val % 80, hm⟩ t) fun a => by fin_cases a <;> rfl).trans (d _ _ _))) (congrFun hZ _)).trans ?_
  exact (EReal.coe_add _ _).symm
theorem sig_up {f : ℕ → ℕ → ℝ} {Z O O' : FVec Ideal S8192x1280 .f32} (hZ : Z = up 8192 1280 f) (hO : O = up 8192 1280 fun _ _ => 1) (hO' : O' = up 8192 1280 fun _ _ => 1) :
    Host.divf O' (addf O (Host.exp (Host.negf Z))) = up 8192 1280 fun t l => Cert.Lru.sig (f t l) := by
  subst hZ hO hO'
  rw [negf_up, hexp_up, addf_up, hdiv_up fun t l => (by positivity)]
  rfl
theorem v63_up (h0 : x0 = up 8192 2560 A.P) (h1 : x1 = up 4 1280 A.W) (h2 : ∀ l : Fin 1280, x2 (ix1 l) = (A.cb l : EReal)) (h3 : x3 = up3 16 80 80 A.Ga) (h4 : ∀ l : Fin 1280, x4 (ix1 l) = (A.ba l : EReal)) :
    val_main_v63 (F := Ideal) x0 x1 x2 x3 x4 = up (φ := .f32) 8192 1280 fun t l => Cert.Lru.sig (A.gate A.Ga A.ba t l) :=
  sig_up (gate_up (v50_up h0 h1 h2) h3 (bias_up h4)) (cst c_one _) (cst c_one _)
theorem v75_up (h0 : x0 = up 8192 2560 A.P) (h1 : x1 = up 4 1280 A.W) (h2 : ∀ l : Fin 1280, x2 (ix1 l) = (A.cb l : EReal)) (h5 : x5 = up3 16 80 80 A.Gx) (h6 : ∀ l : Fin 1280, x6 (ix1 l) = (A.bx l : EReal)) :
    val_main_v75 (F := Ideal) x0 x1 x2 x5 x6 = up (φ := .f32) 8192 1280 fun t l => Cert.Lru.sig (A.gate A.Gx A.bx t l) :=
  sig_up (gate_up (v50_up h0 h1 h2) h5 (bias_up h6)) (cst c_one _) (cst c_one _)

/-- The decay's parameter. -/
theorem v79_apply (h7 : ∀ l : Fin 1280, x7 (ix1 l) = (A.lam l : EReal)) (l : Fin 1280) : val_main_v79 (F := Ideal) x7 (ix1 l) = (spl (-A.lam l) : EReal) := by
  have e : val_main_v78 (F := Ideal) x7 (ix1 l) = ((-A.lam l : ℝ) : EReal) := (congrArg Neg.neg (h7 l)).trans (EReal.coe_neg _).symm
  generalize hx : -A.lam l = y at e ⊢
  have e3 : val_main_call0_v3 (F := Ideal) x7 (ix1 l) = (y : EReal) := by
    refine (congrArg₂ (· - ·) e c_zero).trans ?_
    rw [← EReal.coe_sub, sub_zero]
  have e4 : val_main_call0_v4 (F := Ideal) x7 (ix1 l) = 0#1 := by
    show Ideal.cmp .une (val_main_call0_v3 (F := Ideal) x7 (ix1 l)) (val_main_call0_v3 (F := Ideal) x7 (ix1 l)) = _
    rw [e3]; simp [Ideal.cmp]
  have e1 : val_main_call0_v1 (F := Ideal) x7 (ix1 l) = ((max y 0 : ℝ) : EReal) := (congrArg₂ max e c_zero).trans (max_coe _ _)
  have e8 : val_main_call0_v8 (F := Ideal) x7 (ix1 l) = ((-|y| : ℝ) : EReal) := by
    show -(max (val_main_call0_v3 (F := Ideal) x7 (ix1 l)) (-(val_main_call0_v3 (F := Ideal) x7 (ix1 l)))) = _
    rw [e3, ← EReal.coe_neg, max_coe, ← EReal.coe_neg]; rfl
  have e10 : val_main_call0_v10 (F := Ideal) x7 (ix1 l) = ((Real.log (1 + Real.exp (-|y|)) : ℝ) : EReal) := by
    show Ideal.log (1 + Ideal.exp (val_main_call0_v8 (F := Ideal) x7 (ix1 l))) = _
    rw [e8]
    show Ideal.log (1 + ((Real.exp (-|y|) : ℝ) : EReal)) = _
    rw [← EReal.coe_one, ← EReal.coe_add]
    exact log_coe (by positivity)
  show Scalar.select (val_main_call0_v4 (F := Ideal) x7 (ix1 l)) (val_main_call0_v6 (F := Ideal) x7 (ix1 l)) (val_main_call0_v1 (F := Ideal) x7 (ix1 l) + val_main_call0_v10 (F := Ideal) x7 (ix1 l)) = _
  rw [e4, e1, e10, ← EReal.coe_add, max_log]
  rfl

/-! The logarithm of the decay, the decay, and the input. -/
variable (hA : A.Of x0 x1 x2 x3 x4 x5 x6 x7)
include hA
theorem v82_up : val_main_v82 (F := Ideal) x0 x1 x2 x3 x4 x7 = up (φ := .f32) 8192 1280 A.L := by
  obtain ⟨h0, h1, h2, h3, h4, h5, h6, h7⟩ := hA
  unfold val_main_v82 val_main_v77
  rw [v63_up h0 h1 h2 h3 h4, show val_main_v76 (F := Ideal) = up (φ := .f32) 8192 1280 fun _ _ => -8 from cst c_eight _,
    show val_main_v81 (F := Ideal) x7 = up (φ := .f32) 8192 1280 fun _ l => spl (-A.lam l) from bias_up (v79_apply h7), mulf_up, mulf_up]
  rfl
theorem v83_up : val_main_v83 (F := Ideal) x0 x1 x2 x3 x4 x7 = up (φ := .f32) 8192 1280 A.D := by
  unfold val_main_v83
  rw [v82_up hA, hexp_up]
  rfl
theorem v90_up : val_main_v90 (F := Ideal) x0 x1 x2 x3 x4 x5 x6 x7 = up (φ := .f32) 8192 1280 A.I := by
  have h82 := v82_up hA
  obtain ⟨h0, h1, h2, h3, h4, h5, h6, h7⟩ := hA
  unfold val_main_v90 val_main_v89 val_main_v88 val_main_v87 val_main_v86 val_main_v85
  rw [h82, v75_up h0 h1 h2 h5 h6, v50_up h0 h1 h2, show val_main_v84 (F := Ideal) = up (φ := .f32) 8192 1280 fun _ _ => 2 from cst c_two _, mulf_up, expm1_up, negf_up,
    sqrt_up fun t l => ?_, mulf_up, mulf_up]
  · exact up_ext fun t _ l _ => by unfold Args.I; rw [neg_sub]
  · rw [neg_sub]
    exact (Cert.Lru.sq_pos_of_neg (la_neg _ _)).le

/-- The doubling scan's levels. -/
theorem A1_up : val_main_v97 (F := Ideal) x0 x1 x2 x3 x4 x7 = up (φ := .f32) 8192 1280 (ANs A.D 1) := host_A (s := 1) (k := 0) rfl _ _ (v83_up hA) (v83_up hA) (cst c_one _)
theorem U1_up : val_main_v99 (F := Ideal) x0 x1 x2 x3 x4 x5 x6 x7 = up (φ := .f32) 8192 1280 (UNs A.D A.I 1) := host_U (s := 1) (k := 0) rfl _ _ (v83_up hA) (v90_up hA) (v90_up hA) (cst c_zero _)
theorem A2_up : val_main_v106 (F := Ideal) x0 x1 x2 x3 x4 x7 = up (φ := .f32) 8192 1280 (ANs A.D 2) := host_A (s := 2) (k := 1) rfl _ _ (A1_up hA) (A1_up hA) (cst c_one _)
theorem U2_up : val_main_v108 (F := Ideal) x0 x1 x2 x3 x4 x5 x6 x7 = up (φ := .f32) 8192 1280 (UNs A.D A.I 2) := host_U (s := 2) (k := 1) rfl _ _ (A1_up hA) (U1_up hA) (U1_up hA) (cst c_zero _)
theorem A3_up : val_main_v115 (F := Ideal) x0 x1 x2 x3 x4 x7 = up (φ := .f32) 8192 1280 (ANs A.D 3) := host_A (s := 4) (k := 2) rfl _ _ (A2_up hA) (A2_up hA) (cst c_one _)
theorem U3_up : val_main_v117 (F := Ideal) x0 x1 x2 x3 x4 x5 x6 x7 = up (φ := .f32) 8192 1280 (UNs A.D A.I 3) := host_U (s := 4) (k := 2) rfl _ _ (A2_up hA) (U2_up hA) (U2_up hA) (cst c_zero _)
theorem A4_up : val_main_v124 (F := Ideal) x0 x1 x2 x3 x4 x7 = up (φ := .f32) 8192 1280 (ANs A.D 4) := host_A (s := 8) (k := 3) rfl _ _ (A3_up hA) (A3_up hA) (cst c_one _)
theorem U4_up : val_main_v126 (F := Ideal) x0 x1 x2 x3 x4 x5 x6 x7 = up (φ := .f32) 8192 1280 (UNs A.D A.I 4) := host_U (s := 8) (k := 3) rfl _ _ (A3_up hA) (U3_up hA) (U3_up hA) (cst c_zero _)
theorem A5_up : val_main_v133 (F := Ideal) x0 x1 x2 x3 x4 x7 = up (φ := .f32) 8192 1280 (ANs A.D 5) := host_A (s := 16) (k := 4) rfl _ _ (A4_up hA) (A4_up hA) (cst c_one _)
theorem U5_up : val_main_v135 (F := Ideal) x0 x1 x2 x3 x4 x5 x6 x7 = up (φ := .f32) 8192 1280 (UNs A.D A.I 5) := host_U (s := 16) (k := 4) rfl _ _ (A4_up hA) (U4_up hA) (U4_up hA) (cst c_zero _)
theorem A6_up : val_main_v142 (F := Ideal) x0 x1 x2 x3 x4 x7 = up (φ := .f32) 8192 1280 (ANs A.D 6) := host_A (s := 32) (k := 5) rfl _ _ (A5_up hA) (A5_up hA) (cst c_one _)
theorem U6_up : val_main_v144 (F := Ideal) x0 x1 x2 x3 x4 x5 x6 x7 = up (φ := .f32) 8192 1280 (UNs A.D A.I 6) := host_U (s := 32) (k := 5) rfl _ _ (A5_up hA) (U5_up hA) (U5_up hA) (cst c_zero _)
theorem A7_up : val_main_v151 (F := Ideal) x0 x1 x2 x3 x4 x7 = up (φ := .f32) 8192 1280 (ANs A.D 7) := host_A (s := 64) (k := 6) rfl _ _ (A6_up hA) (A6_up hA) (cst c_one _)
theorem U7_up : val_main_v153 (F := Ideal) x0 x1 x2 x3 x4 x5 x6 x7 = up (φ := .f32) 8192 1280 (UNs A.D A.I 7) := host_U (s := 64) (k := 6) rfl _ _ (A6_up hA) (U6_up hA) (U6_up hA) (cst c_zero _)
theorem A8_up : val_main_v160 (F := Ideal) x0 x1 x2 x3 x4 x7 = up (φ := .f32) 8192 1280 (ANs A.D 8) := host_A (s := 128) (k := 7) rfl _ _ (A7_up hA) (A7_up hA) (cst c_one _)
theorem U8_up : val_main_v162 (F := Ideal) x0 x1 x2 x3 x4 x5 x6 x7 = up (φ := .f32) 8192 1280 (UNs A.D A.I 8) := host_U (s := 128) (k := 7) rfl _ _ (A7_up hA) (U7_up hA) (U7_up hA) (cst c_zero _)
theorem A9_up : val_main_v169 (F := Ideal) x0 x1 x2 x3 x4 x7 = up (φ := .f32) 8192 1280 (ANs A.D 9) := host_A (s := 256) (k := 8) rfl _ _ (A8_up hA) (A8_up hA) (cst c_one _)
theorem U9_up : val_main_v171 (F := Ideal) x0 x1 x2 x3 x4 x5 x6 x7 = up (φ := .f32) 8192 1280 (UNs A.D A.I 9) := host_U (s := 256) (k := 8) rfl _ _ (A8_up hA) (U8_up hA) (U8_up hA) (cst c_zero _)
theorem A10_up : val_main_v178 (F := Ideal) x0 x1 x2 x3 x4 x7 = up (φ := .f32) 8192 1280 (ANs A.D 10) := host_A (s := 512) (k := 9) rfl _ _ (A9_up hA) (A9_up hA) (cst c_one _)
theorem U10_up : val_main_v180 (F := Ideal) x0 x1 x2 x3 x4 x5 x6 x7 = up (φ := .f32) 8192 1280 (UNs A.D A.I 10) := host_U (s := 512) (k := 9) rfl _ _ (A9_up hA) (U9_up hA) (U9_up hA) (cst c_zero _)
theorem A11_up : val_main_v187 (F := Ideal) x0 x1 x2 x3 x4 x7 = up (φ := .f32) 8192 1280 (ANs A.D 11) := host_A (s := 1024) (k := 10) rfl _ _ (A10_up hA) (A10_up hA) (cst c_one _)
theorem U11_up : val_main_v189 (F := Ideal) x0 x1 x2 x3 x4 x5 x6 x7 = up (φ := .f32) 8192 1280 (UNs A.D A.I 11) := host_U (s := 1024) (k := 10) rfl _ _ (A10_up hA) (U10_up hA) (U10_up hA) (cst c_zero _)
theorem A12_up : val_main_v196 (F := Ideal) x0 x1 x2 x3 x4 x7 = up (φ := .f32) 8192 1280 (ANs A.D 12) := host_A (s := 2048) (k := 11) rfl _ _ (A11_up hA) (A11_up hA) (cst c_one _)
theorem U12_up : val_main_v198 (F := Ideal) x0 x1 x2 x3 x4 x5 x6 x7 = up (φ := .f32) 8192 1280 (UNs A.D A.I 12) := host_U (s := 2048) (k := 11) rfl _ _ (A11_up hA) (U11_up hA) (U11_up hA) (cst c_zero _)
theorem U13_up : val_main_v207 (F := Ideal) x0 x1 x2 x3 x4 x5 x6 x7 = up (φ := .f32) 8192 1280 (UNs A.D A.I 13) := host_U (s := 4096) (k := 12) rfl _ _ (A12_up hA) (U12_up hA) (U12_up hA) (cst c_zero _)

/-- The states, and what leaves the branch. -/
theorem v207_up : val_main_v207 (F := Ideal) x0 x1 x2 x3 x4 x5 x6 x7 = up (φ := .f32) 8192 1280 A.H :=
  (U13_up hA).trans (up_ext fun t ht l _ => UN_eq _ _ (by norm_num; exact ht))
theorem v209_up : val_main_v209 (F := Ideal) x0 x1 x2 x3 x4 x5 x6 x7 = up (φ := .bf16) 8192 1280 fun t l => A.H t l * gelR (A.P t l) := by
  unfold val_main_v209 val_main_v208
  rw [v207_up hA, v16_up hA.1, mulf_up]
  rfl

end Cert.LruFwdRefIdeal.Outcome
-- ==== Proof.LruFwdValue.lean ====
/- The recurrence's forward call (`LruFwd`): the arrays it leaves, and the claims. -/
module

public import proofs.«01_k».proof.Proof.LruFwdRun
public import proofs.«01_k».proof.Proof.LruFwdRef
public import proofs.«01_k».proof.Proof.Gen.LruFwd.Frame
public import proofs.«01_k».proof.Proof.Gen.Pre_lru_fwd_finite
@[expose] public section
set_option maxRecDepth 16384
noncomputable section
open Idealize.ShloMosaic Idealize.ShloMosaic.TcCoe Idealize.SL.Sem
open Idealize.ShloMosaic.Pipeline (Dat)

namespace Cert.LruFwdIdeal.Outcome
open Cert.LruFwdIdeal Cert.LruFwdIdeal.Gen Cert.Lru
open Cert.SguBwdRefIdeal.Outcome (gelR)
variable {m : (ℓ : Loc nD τ sig) → Buf (Elt Ideal) ℓ} {c : Dev nD} {A : Args} (hA : A.Of (a0 m c) (a1 m c) (a2 m c) (a3 m c) (a4 m c) (a5 m c) (a6 m c) (a7 m c))
include hA

/-- The three arrays after the last grid point: the branch's rows, the states, and the convolution's. -/
theorem final5 : (dats m 0 c).arrAt 5 cfg0.N = up (φ := .bf16) 8192 1280 fun t l => A.H t l * gelR (A.P t l) := by
  refine (dats m 0 c).arrAt_eq_of_covers 5 _ (by decide +kernel) fun t hf y => ?_
  blk_simp
  rw [after0_5]
  obtain ⟨r, l, rfl⟩ : ∃ (r : Fin 256) (l : Fin 1280), y = ix2 r l := ⟨y 0, y 1, eq_ix2 y⟩
  refine ((good hA t.val t.isLt).1 (ix2 r l)).trans ?_
  rw [show 256 * t.val = t.val * 256 from Nat.mul_comm _ _]
  refine (up_apply (φ := .bf16) (f := fun t l => A.H t l * gelR (A.P t l)) ⟨t.val * 256 + r.val, row_lt t r⟩ l).symm.trans ?_
  congr 1
  blk_ext [idx5 t]
theorem final6 : (dats m 0 c).arrAt 6 cfg0.N = up (φ := .f32) 8192 1280 A.H := by
  refine (dats m 0 c).arrAt_eq_of_covers 6 _ (by decide +kernel) fun t hf y => ?_
  blk_simp
  rw [after0_6]
  obtain ⟨r, l, rfl⟩ : ∃ (r : Fin 256) (l : Fin 1280), y = ix2 r l := ⟨y 0, y 1, eq_ix2 y⟩
  refine ((good hA t.val t.isLt).2.1 (ix2 r l)).trans ?_
  rw [show 256 * t.val = t.val * 256 from Nat.mul_comm _ _]
  refine (up_apply (φ := .f32) (f := A.H) ⟨t.val * 256 + r.val, row_lt t r⟩ l).symm.trans ?_
  congr 1
  blk_ext [idx6 t]
theorem final7 : (dats m 0 c).arrAt 7 cfg0.N = up (φ := .f32) 8192 1280 A.X := by
  refine (dats m 0 c).arrAt_eq_of_covers 7 _ (by decide +kernel) fun t hf y => ?_
  blk_simp
  rw [after0_7]
  obtain ⟨r, l, rfl⟩ : ∃ (r : Fin 256) (l : Fin 1280), y = ix2 r l := ⟨y 0, y 1, eq_ix2 y⟩
  refine ((good hA t.val t.isLt).2.2.1 (ix2 r l)).trans ?_
  rw [show 256 * t.val = t.val * 256 from Nat.mul_comm _ _]
  refine (up_apply (φ := .f32) (f := A.X) ⟨t.val * 256 + r.val, row_lt t r⟩ l).symm.trans ?_
  congr 1
  blk_ext [idx7 t]
omit hA

/-- The run, read. -/
theorem run (m : (ℓ : Loc nD τ sig) → Buf (Elt Ideal) ℓ) (ρ) (A : Dev nD → Args) (hA : ∀ c, (A c).Of (a0 m c) (a1 m c) (a2 m c) (a3 m c) (a4 m c) (a5 m c) (a6 m c) (a7 m c)) :
    θ_run defs (onTc (τ := τ) (main (F := Ideal))) ⟨m, fun _ => 0, ρ⟩ fun r => ∀ c : Dev nD,
      r.2.mem ((c : Thread nD τ).loc main_v34_0) = up (φ := .bf16) 8192 1280 (fun t l => (A c).H t l * gelR ((A c).P t l))
      ∧ r.2.mem ((c : Thread nD τ).loc main_v34_1) = up (φ := .f32) 8192 1280 (A c).H
      ∧ r.2.mem ((c : Thread nD τ).loc main_v34_2) = up (φ := .f32) 8192 1280 (A c).X
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 5).trans (final5 (hA c)), ((h.1 c).1 6).trans (final6 (hA c)), ((h.1 c).1 7).trans (final7 (hA c)), h.2 c⟩)
    (θ_run_and (run_main m ρ) (unchanged m ρ))

/-- Finite arguments are reals. -/
theorem args_of {m : (ℓ : Loc nD τ sig) → Buf (Elt Ideal) ℓ} (hpre : Cert.Pre_LruFwdIdeal_lru_fwd_finite m) (c : Dev nD) :
    ∃ A : Args, A.Of (a0 m c) (a1 m c) (a2 m c) (a3 m c) (a4 m c) (a5 m c) (a6 m c) (a7 m c) :=
  Args.exists_of (fun i => Cert.Reals.real_of_cmp (congrFun (hpre c).1 i)) (fun i => Cert.Reals.real_of_cmp (congrFun (hpre c).2.1 i)) (fun i => Cert.Reals.real_of_cmp (congrFun (hpre c).2.2.1 i))
    (fun i => Cert.Reals.real_of_cmp (congrFun (hpre c).2.2.2.1 i)) (fun i => Cert.Reals.real_of_cmp (congrFun (hpre c).2.2.2.2.1 i)) (fun i => Cert.Reals.real_of_cmp (congrFun (hpre c).2.2.2.2.2.1 i))
    (fun i => Cert.Reals.real_of_cmp (congrFun (hpre c).2.2.2.2.2.2.1 i)) (fun i => Cert.Reals.real_of_cmp (congrFun (hpre c).2.2.2.2.2.2.2 i))

end Cert.LruFwdIdeal.Outcome

namespace Cert.Proof.LruFwdClaims

/-- Every execution of the kernel as compiled terminates, keeps its arguments and leaves every semaphore at zero. -/
theorem frame_k : Cert.quiescent_LruFwd := fun m ρ _ => Cert.LruFwd.Gen.frame m ρ
/-- The same of the kernel read over the extended reals, -/
theorem frame_ki : Cert.quiescent_LruFwdIdeal := fun m ρ _ => Cert.LruFwdIdeal.Gen.frame m ρ
/-- and of the reference. -/
theorem frame_ri : Cert.quiescent_LruFwdRefIdeal := fun m ρ _ =>
  (θ_run Cert.LruFwdRefIdeal.defs _ _).mono
    (fun r h => ⟨fun c => (h c).2.2.2, Idealize.ShloMosaic.sem_eq_zero_of_no_sems (by decide) r.2⟩)
    (Cert.LruFwdRefIdeal.Value.run (F := Ideal) m ρ)
/-- Both frames at finite arguments, as the claim of the values restates them. -/
theorem frame_ki_pre : Cert.quiescent_LruFwdIdeal_pre_lru_fwd_finite := fun m ρ _ => Cert.LruFwdIdeal.Gen.frame m ρ
theorem frame_ri_pre : Cert.quiescent_LruFwdRefIdeal_pre_lru_fwd_finite := fun m ρ _ => frame_ri m ρ trivial
/-- Reading the kernel over the extended reals named the constant of the gate's cubic. -/
theorem preserves : Cert.preserves_LruFwd_LruFwdIdeal := IdealRules.named_const.statement Cert.LruFwdIdeal.κ "gelu_c" .f32 0x3D372713#32 _ rfl

/-- Over the extended reals, at finite arguments, the kernel's three results are the reference's. -/
theorem algebraic : Cert.algebraic_LruFwdIdeal_LruFwdRefIdeal_pre_lru_fwd_finite := fun m ρ m' ρ' hpre hag => by
  choose A hA using Cert.LruFwdIdeal.Outcome.args_of hpre
  have hA' : ∀ c, (A c).Of (m' ((c.tc : Thread Cert.LruFwdRefIdeal.nD Cert.LruFwdRefIdeal.τ).loc Cert.LruFwdRefIdeal.main_arg0)) (m' (c.tc.loc Cert.LruFwdRefIdeal.main_arg1)) (m' (c.tc.loc Cert.LruFwdRefIdeal.main_arg2))
      (m' (c.tc.loc Cert.LruFwdRefIdeal.main_arg3)) (m' (c.tc.loc Cert.LruFwdRefIdeal.main_arg4)) (m' (c.tc.loc Cert.LruFwdRefIdeal.main_arg5)) (m' (c.tc.loc Cert.LruFwdRefIdeal.main_arg6)) (m' (c.tc.loc Cert.LruFwdRefIdeal.main_arg7)) := fun c => by
    rw [(hag c).1, (hag c).2.1, (hag c).2.2.1, (hag c).2.2.2.1, (hag c).2.2.2.2.1, (hag c).2.2.2.2.2.1, (hag c).2.2.2.2.2.2.1, (hag c).2.2.2.2.2.2.2]
    exact hA c
  exact ⟨_, _, _, Cert.LruFwdIdeal.Outcome.run m ρ A hA,
    (θ_run Cert.LruFwdRefIdeal.defs _ _).mono
      (fun _ h c => ⟨(h c).1.trans ((Cert.LruFwdRefIdeal.Read.val_main_v209_eq _).trans (Cert.LruFwdRefIdeal.Outcome.v209_up (hA' c))),
        (h c).2.1.trans ((Cert.LruFwdRefIdeal.Read.val_main_v207_eq _).trans (Cert.LruFwdRefIdeal.Outcome.v207_up (hA' c))),
        (h c).2.2.1.trans ((Cert.LruFwdRefIdeal.Read.val_main_v50_eq _).trans (Cert.LruFwdRefIdeal.Outcome.v50_up (hA' c).1 (hA' c).2.1 (hA' c).2.2.1)), (h c).2.2.2⟩)
      (Cert.LruFwdRefIdeal.Value.run (F := Ideal) m' ρ')⟩

end Cert.Proof.LruFwdClaims
-- ==== Proof.At2.lean ====
/- Reading a matrix at a row and a column given as numbers, and stores read back piece by piece. -/
module

public import Idealize.ShloMosaic.PureOps
public import Idealize.ShloMosaic.Lib.Pipeline.Value
public import Idealize.ShloMosaic.Lib.Pipeline.ValueKit
public import Idealize.ShloMosaic.Lib.Pipeline.ReadBack
public import Idealize.ShloMosaic.Lib.WritesUnit
@[expose] public section
noncomputable section
open Idealize.ShloMosaic

namespace Cert.Conv

/-- The entry in row `r` and column `j`, zero outside the matrix. -/
def at2 {m n : ℕ} (v : (⟨2, ![m, n]⟩ : Shape).Idx → EReal) (r j : ℕ) : EReal := if h : r < m ∧ j < n then v (ix2 ⟨r, h.1⟩ ⟨j, h.2⟩) else 0
theorem at2_ix {m n : ℕ} (v : (⟨2, ![m, n]⟩ : Shape).Idx → EReal) (i : Fin m) (j : Fin n) : at2 v i.val j.val = v (ix2 i j) := by
  unfold at2
  rw [dif_pos ⟨i.isLt, j.isLt⟩]
theorem at2_of {m n r j : ℕ} (v : (⟨2, ![m, n]⟩ : Shape).Idx → EReal) (hr : r < m) (hj : j < n) : at2 v r j = v (ix2 ⟨r, hr⟩ ⟨j, hj⟩) := dif_pos ⟨hr, hj⟩
/-- Where a block's index lies in the matrix. -/
theorem emb_ix {m n a b m' n' : ℕ} (inb : ∀ x, (![a, b] : Fin 2 → ℕ) x + (![m', n'] : Fin 2 → ℕ) x ≤ (⟨2, ![m, n]⟩ : Shape).size x) (i : Fin m') (j : Fin n') (hi : a + i.val < m) (hj : b + j.val < n) :
    (Rect.unit (s := ⟨2, ![m, n]⟩) ![a, b] ![m', n'] inb).emb (ix2 i j) = ix2 ⟨a + i.val, hi⟩ ⟨b + j.val, hj⟩ := by
  funext x
  fin_cases x <;> exact Fin.ext (by simp [Rect.emb, Rect.unit, ix2])
/-- A load of a block, at an index. -/
theorem ld_at2 {m n a b m' n' : ℕ} (v : (⟨2, ![m, n]⟩ : Shape).Idx → EReal) (inb : ∀ x, (![a, b] : Fin 2 → ℕ) x + (![m', n'] : Fin 2 → ℕ) x ≤ (⟨2, ![m, n]⟩ : Shape).size x) (i : Fin m') (j : Fin n') :
    View.ld (Val := Elt Ideal) (e' := .f32) v (Rect.unit (s := ⟨2, ![m, n]⟩) ![a, b] ![m', n'] inb) (ix2 i j) = at2 v (a + i.val) (b + j.val) := by
  have h0 : a + m' ≤ m := inb 0
  have h1 : b + n' ≤ n := inb 1
  rw [at2_of v (by omega) (by omega)]
  exact congrArg v (emb_ix inb i j (by omega) (by omega))

section Pieces
variable {s : Shape} {e : EltTy} {Val : EltTy → Type}
/-- Stores that are blocks of `G`, over contents that agree with `G` at every index they leave alone, leave `G`. -/
theorem read_pieces {sig : RefSig} {κ : Kind} {sp : Space} (v : View sig κ sp s e) (f : v.ty.Contents Val) (G : s.Idx → Val e) :
    ∀ (L : List (View.Piece Val s e)) (_ : View.PiecesOf G L) (y : s.Idx) (_ : (∀ p ∈ L, y ∉ p.1.set) → v.read Val f y = G y), v.read Val (v.writes Val f L) y = G y
  | [], _, y, h0 => by rw [View.writes_nil]; exact h0 fun _ h => absurd h List.not_mem_nil
  | p :: L, h, y, h0 => by
    by_cases hy : y ∈ p.1.set
    · obtain ⟨r, w⟩ := p
      obtain ⟨x, rfl⟩ : ∃ x, r.emb x = y := r.exists_idx_of_mem hy
      rw [View.read_writes_cons_emb]
      exact h.1 x
    · have hy' : y ∉ Finset.univ.map p.1.emb := by rwa [Rect.map_emb_univ]
      rw [View.writes_cons, View.read_slice_write_of_not_mem p.1 _ _ _ hy']
      refine read_pieces v f G L h.2 y fun hL => h0 fun q hq => ?_
      rcases List.mem_cons.mp hq with rfl | hq
      · exact hy
      · exact hL q hq
theorem canon_pieces [∀ e, Nonempty (Val e)] (G : s.Idx → Val e) (B : List (View.Piece Val s e)) :
    ∀ (L : List (View.Piece Val s e)) (_ : View.PiecesOf G L) (y : s.Idx) (_ : (∀ p ∈ L, y ∉ p.1.set) → View.canon B y = G y), View.canon (L ++ B) y = G y
  | [], _, y, h0 => h0 fun _ h => absurd h List.not_mem_nil
  | p :: L, h, y, h0 => by
    by_cases hy : y ∈ p.1.set
    · obtain ⟨r, w⟩ := p
      obtain ⟨x, rfl⟩ : ∃ x, r.emb x = y := r.exists_idx_of_mem hy
      rw [List.cons_append, View.canon_cons_emb]
      exact h.1 x
    · rw [List.cons_append, View.canon_cons_of_not_mem p _ hy]
      refine canon_pieces G B L h.2 y fun hL => h0 fun q hq => ?_
      rcases List.mem_cons.mp hq with rfl | hq
      · exact hy
      · exact hL q hq
theorem canon_all [∀ e, Nonempty (Val e)] (G : s.Idx → Val e) (L : List (View.Piece Val s e)) (hc : ∀ y : s.Idx, ∃ p ∈ L, y ∈ p.1.set) (h : View.PiecesOf G L) : View.canon L = G := by
  funext y
  rw [← List.append_nil L]
  exact View.canon_append_of_piecesOf G [] L h y (hc y)
theorem pieces_cons (G : s.Idx → Val e) (r : Rect s) (w : r.shape.Idx → Val e) (L : List (View.Piece Val s e)) (h : ∀ x, w x = G (r.emb x)) (hL : View.PiecesOf G L) : View.PiecesOf G (⟨r, w⟩ :: L) := ⟨h, hL⟩
theorem mem_block (r : Rect s) (x : r.shape.Idx) (y : s.Idx) (h : r.emb x = y) : y ∈ r.set := by
  rw [← Rect.map_emb_univ]
  exact Finset.mem_map.mpr ⟨x, Finset.mem_univ x, h⟩
end Pieces
theorem mem_unit {m n a b m' n' : ℕ} (inb : ∀ x, (![a, b] : Fin 2 → ℕ) x + (![m', n'] : Fin 2 → ℕ) x ≤ (⟨2, ![m, n]⟩ : Shape).size x) (i : Fin m) (j : Fin n) (h0 : a ≤ i.val) (h1 : i.val < a + m') (h2 : b ≤ j.val) (h3 : j.val < b + n') :
    ix2 i j ∈ (Rect.unit (s := ⟨2, ![m, n]⟩) ![a, b] ![m', n'] inb).set := by
  refine mem_block _ (ix2 (⟨i.val - a, by omega⟩ : Fin m') (⟨j.val - b, by omega⟩ : Fin n')) _ ((emb_ix inb _ _ (by show a + (i.val - a) < m; omega) (by show b + (j.val - b) < n; omega)).trans ?_)
  congr 1
  · exact Fin.ext (by show a + (i.val - a) = i.val; omega)
  · exact Fin.ext (by show b + (j.val - b) = j.val; omega)
/-- The indices of a block of columns' full width, by their row. -/
theorem mem_rows {m n a m' : ℕ} (inb : ∀ x, (![a, 0] : Fin 2 → ℕ) x + (![m', n] : Fin 2 → ℕ) x ≤ (⟨2, ![m, n]⟩ : Shape).size x) (y : (⟨2, ![m, n]⟩ : Shape).Idx) (h0 : a ≤ (y 0).val) (h1 : (y 0).val < a + m') :
    y ∈ (Rect.unit (s := ⟨2, ![m, n]⟩) ![a, 0] ![m', n] inb).set := by
  obtain ⟨i, j, rfl⟩ : ∃ (i : Fin m) (j : Fin n), y = ix2 i j := ⟨y 0, y 1, eq_ix2 y⟩
  have h0' : a ≤ i.val := h0
  have h1' : i.val < a + m' := h1
  refine mem_block _ (ix2 (⟨i.val - a, by omega⟩ : Fin m') j) _ ((emb_ix inb _ j (by show a + (i.val - a) < m; omega) (by omega)).trans ?_)
  congr 1
  · exact Fin.ext (by show a + (i.val - a) = i.val; omega)
  · exact Fin.ext (by show 0 + j.val = j.val; omega)
theorem cov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- A sum over blocks of `a` indices each. -/
theorem sum_blocks (a : ℕ) (f : ℕ → EReal) : ∀ n : ℕ, ∑ i ∈ Finset.range a, ∑ c ∈ Finset.range n, f (a * c + i) = ∑ k ∈ Finset.range (a * n), f k
  | 0 => by simp
  | n + 1 => by
    simp only [Finset.sum_range_succ, Finset.sum_add_distrib, sum_blocks a f n]
    rw [Nat.mul_succ, Finset.sum_range_add]

end Cert.Conv

end
-- ==== Proof.ConvBwdBody.lean ====
/- The short convolution's backward call (`ConvBwd`): what one grid point's body stores, in terms of the two scratch arrays. -/
module

public import proofs.«01_k».proof.Proof.At2
public import proofs.«01_k».proof.Proof.Gen.ConvBwdIdeal.Frame
@[expose] public section
set_option maxRecDepth 16384
noncomputable section
open Idealize.ShloMosaic Idealize.ShloMosaic.TcCoe Idealize.SL.Sem
open Idealize.ShloMosaic.Pipeline (Dat)
namespace Cert.ConvBwdIdeal.Outcome
open Cert.ConvBwdIdeal Cert.ConvBwdIdeal.Gen Cert.Conv

section Values
variable (p : S256x3072.Idx → EReal) (dy : S256x1024.Idx → EReal) (w : S3x1024.Idx → EReal) (X D : S264x1024.Idx → EReal)

/-- The convolution of the rows of `X`, the transposed one of the rows of `D`, -/
def cq (r j : ℕ) : EReal := ((0 + at2 w 0 j * at2 X (r + 6) j) + at2 w 1 j * at2 X (r + 7) j) + at2 w 2 j * at2 X (r + 8) j
def dq (r j : ℕ) : EReal := ((0 + at2 w 0 j * at2 D (r + 2) j) + at2 w 1 j * at2 D (r + 1) j) + at2 w 2 j * at2 D r j
/-- and the gradient of the three parts of the block's rows. -/
def dpv (r j : ℕ) : EReal :=
  if j < 1024 then at2 dy r j * cq w X r j else if j < 2048 then dq w D r (j - 1024) * at2 p r (j + 1024) else dq w D r (j - 2048) * at2 p r (j - 1024)
def dpb : S256x3072.Idx → EReal := fun y => dpv p dy w X D (y 0).val (y 1).val

variable {p dy w X D}
theorem c_zero : (Scalar.ofBits .f32 0x00000000#32 : Ideal .f32) = (0 : EReal) := Ideal.ofBits_zero_f32

abbrev bz : FVec Ideal S16x512 .f32 := broadcast S16x512 (Scalar.ofBits .f32 0x00000000#32)
abbrev conv3 (w0 w1 w2 : FVec Ideal S1x512 .f32) (x0 x1 x2 : FVec Ideal S16x512 .f32) : FVec Ideal S16x512 .f32 :=
  addf (addf (addf bz (mulf (broadcastTo S16x512 w0 broadcasts_S1x512_S16x512) x0)) (mulf (broadcastTo S16x512 w1 broadcasts_S1x512_S16x512) x1)) (mulf (broadcastTo S16x512 w2 broadcasts_S1x512_S16x512) x2)
theorem left_apply (a : FVec Ideal S16x512 .f32) (w0 w1 w2 : FVec Ideal S1x512 .f32) (x0 x1 x2 : FVec Ideal S16x512 .f32) (i : Fin 16) (j : Fin 512) :
    (truncf .bf16 (mulf a (conv3 w0 w1 w2 x0 x1 x2)) bitsLt_bf16_f32 : FVec Ideal S16x512 .bf16) (ix2 i j)
      = a (ix2 i j) * (((0 + w0 (ix2 (0 : Fin 1) j) * x0 (ix2 i j)) + w1 (ix2 (0 : Fin 1) j) * x1 (ix2 i j)) + w2 (ix2 (0 : Fin 1) j) * x2 (ix2 i j)) := by
  pointwise [c_zero]
theorem right_apply (a : FVec Ideal S16x512 .f32) (w0 w1 w2 : FVec Ideal S1x512 .f32) (x0 x1 x2 : FVec Ideal S16x512 .f32) (i : Fin 16) (j : Fin 512) :
    (truncf .bf16 (mulf (conv3 w0 w1 w2 x0 x1 x2) a) bitsLt_bf16_f32 : FVec Ideal S16x512 .bf16) (ix2 i j)
      = (((0 + w0 (ix2 (0 : Fin 1) j) * x0 (ix2 i j)) + w1 (ix2 (0 : Fin 1) j) * x1 (ix2 i j)) + w2 (ix2 (0 : Fin 1) j) * x2 (ix2 i j)) * a (ix2 i j) := by
  pointwise [c_zero]
def ldw (w : S3x1024.Idx → EReal) (k l0 : ℕ) (h : k + 1 ≤ 3) (hl : l0 + 512 ≤ 1024) : FVec Ideal S1x512 .f32 :=
  View.ld (Val := Elt Ideal) (e' := .f32) w (Rect.unit (s := S3x1024) ![k, l0] ![1, 512] (fun x => by fin_cases x; exacts [h, hl]))
def ldx (X : S264x1024.Idx → EReal) (r l0 : ℕ) (h : r + 16 ≤ 264) (hl : l0 + 512 ≤ 1024) : FVec Ideal S16x512 .f32 :=
  View.ld (Val := Elt Ideal) (e' := .f32) X (Rect.unit (s := S264x1024) ![r, l0] ![16, 512] (fun x => by fin_cases x; exacts [h, hl]))
def ldy (X : S256x1024.Idx → EReal) (r l0 : ℕ) (h : r + 16 ≤ 256) (hl : l0 + 512 ≤ 1024) : FVec Ideal S16x512 .f32 :=
  View.ld (Val := Elt Ideal) (e' := .f32) X (Rect.unit (s := S256x1024) ![r, l0] ![16, 512] (fun x => by fin_cases x; exacts [h, hl]))
def ldp (X : S256x3072.Idx → EReal) (r l0 : ℕ) (h : r + 16 ≤ 256) (hl : l0 + 512 ≤ 3072) : FVec Ideal S16x512 .f32 :=
  View.ld (Val := Elt Ideal) (e' := .f32) X (Rect.unit (s := S256x3072) ![r, l0] ![16, 512] (fun x => by fin_cases x; exacts [h, hl]))
theorem ldw_apply (w : S3x1024.Idx → EReal) (k l0 h hl) (i : Fin 1) (j : Fin 512) : ldw w k l0 h hl (ix2 i j) = at2 w (k + i.val) (l0 + j.val) := ld_at2 w _ i j
theorem ldx_apply (X : S264x1024.Idx → EReal) (k l0 h hl) (i : Fin 16) (j : Fin 512) : ldx X k l0 h hl (ix2 i j) = at2 X (k + i.val) (l0 + j.val) := ld_at2 X _ i j
theorem ldy_apply (X : S256x1024.Idx → EReal) (k l0 h hl) (i : Fin 16) (j : Fin 512) : ldy X k l0 h hl (ix2 i j) = at2 X (k + i.val) (l0 + j.val) := ld_at2 X _ i j
theorem ldp_apply (X : S256x3072.Idx → EReal) (k l0 h hl) (i : Fin 16) (j : Fin 512) : ldp X k l0 h hl (ix2 i j) = at2 X (k + i.val) (l0 + j.val) := ld_at2 X _ i j

/-- The three kinds of store of the first result: a store of 16 rows and 512 columns in each third. -/
theorem piece1 (r0 l0 : ℕ) (h : r0 + 16 ≤ 256) (hl : l0 + 512 ≤ 1024) (i8) (x : S16x512.Idx) :
    (truncf .bf16 (mulf (ldy dy r0 l0 h hl) (conv3 (ldw w 0 l0 (by omega) hl) (ldw w 1 l0 (by omega) hl) (ldw w 2 l0 (by omega) hl)
      (ldx X (r0 + 6) l0 (by omega) hl) (ldx X (r0 + 7) l0 (by omega) hl) (ldx X (r0 + 8) l0 (by omega) hl))) bitsLt_bf16_f32 : FVec Ideal S16x512 .bf16) x
      = dpb p dy w X D ((Rect.unit (s := S256x3072) ![r0, l0] ![16, 512] i8).emb x) := by
  obtain ⟨i, j, rfl⟩ : ∃ (i : Fin 16) (j : Fin 512), x = ix2 i j := ⟨x 0, x 1, eq_ix2 x⟩
  rw [emb_ix i8 i j (by omega) (by omega), left_apply]
  rw [ldw_apply, ldw_apply, ldw_apply, ldx_apply, ldx_apply, ldx_apply, ldy_apply]
  show _ = dpv p dy w X D (r0 + i.val) (l0 + j.val)
  unfold dpv cq
  rw [if_pos (by omega)]
  simp only [Fin.val_zero, Nat.add_right_comm]
theorem piece2 (r0 l0 : ℕ) (h : r0 + 16 ≤ 256) (hl : l0 + 512 ≤ 1024) (i8) (x : S16x512.Idx) :
    (truncf .bf16 (mulf (conv3 (ldw w 0 l0 (by omega) hl) (ldw w 1 l0 (by omega) hl) (ldw w 2 l0 (by omega) hl)
      (ldx D (r0 + 2) l0 (by omega) hl) (ldx D (r0 + 1) l0 (by omega) hl) (ldx D r0 l0 (by omega) hl)) (ldp p r0 (l0 + 2048) h (by omega))) bitsLt_bf16_f32 : FVec Ideal S16x512 .bf16) x
      = dpb p dy w X D ((Rect.unit (s := S256x3072) ![r0, l0 + 1024] ![16, 512] i8).emb x) := by
  obtain ⟨i, j, rfl⟩ : ∃ (i : Fin 16) (j : Fin 512), x = ix2 i j := ⟨x 0, x 1, eq_ix2 x⟩
  rw [emb_ix i8 i j (by omega) (by omega), right_apply]
  rw [ldw_apply, ldw_apply, ldw_apply, ldx_apply, ldx_apply, ldx_apply, ldp_apply]
  show _ = dpv p dy w X D (r0 + i.val) (l0 + 1024 + j.val)
  unfold dpv dq
  rw [if_neg (by omega), if_pos (by omega), show l0 + 1024 + j.val - 1024 = l0 + j.val from by omega, show l0 + 1024 + j.val + 1024 = l0 + 2048 + j.val from by omega]
  simp only [Fin.val_zero, Nat.add_right_comm]
theorem piece3 (r0 l0 : ℕ) (h : r0 + 16 ≤ 256) (hl : l0 + 512 ≤ 1024) (i8) (x : S16x512.Idx) :
    (truncf .bf16 (mulf (conv3 (ldw w 0 l0 (by omega) hl) (ldw w 1 l0 (by omega) hl) (ldw w 2 l0 (by omega) hl)
      (ldx D (r0 + 2) l0 (by omega) hl) (ldx D (r0 + 1) l0 (by omega) hl) (ldx D r0 l0 (by omega) hl)) (ldp p r0 (l0 + 1024) h (by omega))) bitsLt_bf16_f32 : FVec Ideal S16x512 .bf16) x
      = dpb p dy w X D ((Rect.unit (s := S256x3072) ![r0, l0 + 2048] ![16, 512] i8).emb x) := by
  obtain ⟨i, j, rfl⟩ : ∃ (i : Fin 16) (j : Fin 512), x = ix2 i j := ⟨x 0, x 1, eq_ix2 x⟩
  rw [emb_ix i8 i j (by omega) (by omega), right_apply]
  rw [ldw_apply, ldw_apply, ldw_apply, ldx_apply, ldx_apply, ldx_apply, ldp_apply]
  show _ = dpv p dy w X D (r0 + i.val) (l0 + 2048 + j.val)
  unfold dpv dq
  rw [if_neg (by omega), if_neg (by omega), show l0 + 2048 + j.val - 2048 = l0 + j.val from by omega, show l0 + 2048 + j.val - 1024 = l0 + 1024 + j.val from by omega]
  simp only [Fin.val_zero, Nat.add_right_comm]

/-- The sixteen products of a row of `D` with a row of `X` that a store of the second result sums, and their sum. -/
def acc (X D : S264x1024.Idx → EReal) (k l0 : ℕ) (hk : k ≤ 2) (hl : l0 + 512 ≤ 1024) : (n : ℕ) → n ≤ 16 → FVec Ideal S16x512 .f32
  | 0, _ => bz
  | n + 1, h => addf (acc X D k l0 hk hl n (by omega)) (mulf (ldx D (16 * n) l0 (by omega) hl) (ldx X (16 * n + (6 + k)) l0 (by omega) hl))
theorem acc_apply (k l0 : ℕ) (hk : k ≤ 2) (hl : l0 + 512 ≤ 1024) (i : Fin 16) (j : Fin 512) : ∀ (n : ℕ) (h : n ≤ 16),
    acc X D k l0 hk hl n h (ix2 i j) = ∑ c ∈ Finset.range n, at2 D (16 * c + i.val) (l0 + j.val) * at2 X (16 * c + i.val + (6 + k)) (l0 + j.val)
  | 0, _ => by
    rw [Finset.range_zero, Finset.sum_empty]
    show (Scalar.ofBits .f32 0x00000000#32 : Ideal .f32) = 0
    exact c_zero
  | n + 1, h => by
    rw [Finset.sum_range_succ, ← acc_apply k l0 hk hl i j n (by omega)]
    show addf (acc X D k l0 hk hl n (by omega)) (mulf (ldx D (16 * n) l0 (by omega) hl) (ldx X (16 * n + (6 + k)) l0 (by omega) hl)) (ix2 i j) = _
    have hv : ∀ a b c : FVec Ideal S16x512 .f32, addf a (mulf b c) (ix2 i j) = a (ix2 i j) + b (ix2 i j) * c (ix2 i j) := fun a b c => by pointwise
    rw [hv]
    rw [ldx_apply, ldx_apply, show 16 * n + (6 + k) + i.val = 16 * n + i.val + (6 + k) from by omega]
theorem sum16 (v : FVec Ideal S16x512 .f32) (o : Fin 1) (j : Fin 512) :
    shapeCast S1x512 (multiReduction .add [0] S512 v 0x00000000#32 reduces_S16x512_S512 (.inl rfl) rfl) shapeCasts_S512_S1x512 (ix2 o j) = ∑ i : Fin 16, v (ix2 i j) := by
  pointwise [c_zero]

/-- The second result's row `k`: what it held and the 256 products of this block. -/
def dwv (O : S8x1024.Idx → EReal) (X D : S264x1024.Idx → EReal) (k l : ℕ) : EReal :=
  if k < 3 then at2 O k l + ∑ τ ∈ Finset.range 256, at2 D τ l * at2 X (τ + (6 + k)) l else at2 O k l
def dwb (O : S8x1024.Idx → EReal) (X D : S264x1024.Idx → EReal) : S8x1024.Idx → EReal := fun y => dwv O X D (y 0).val (y 1).val
theorem piecew (O : S8x1024.Idx → EReal) (k l0 : ℕ) (hk : k ≤ 2) (hl : l0 + 512 ≤ 1024) (i1) (x : S1x512.Idx) :
    (addf (shapeCast S1x512 (View.ld (Val := Elt Ideal) (e' := .f32) O (Rect.unit (s := S8x1024) ![k, l0] ![1, 512] i1)) shapeCasts_S1x512_S1x512)
      (shapeCast S1x512 (multiReduction .add [0] S512 (acc X D k l0 hk hl 16 le_rfl) 0x00000000#32 reduces_S16x512_S512 (.inl rfl) rfl) shapeCasts_S512_S1x512) : FVec Ideal S1x512 .f32) x
      = dwb O X D ((Rect.unit (s := S8x1024) ![k, l0] ![1, 512] i1).emb x) := by
  obtain ⟨o, j, rfl⟩ : ∃ (o : Fin 1) (j : Fin 512), x = ix2 o j := ⟨x 0, x 1, eq_ix2 x⟩
  rw [emb_ix i1 o j (by omega) (by omega)]
  show _ = dwv O X D (k + o.val) (l0 + j.val)
  have hv : ∀ a b : FVec Ideal S1x512 .f32, addf (shapeCast S1x512 a shapeCasts_S1x512_S1x512) b (ix2 o j) = a (ix2 o j) + b (ix2 o j) := fun a b => by pointwise
  rw [hv, sum16]
  unfold dwv
  rw [if_pos (by omega), ld_at2]
  simp only [acc_apply]
  rw [Fin.sum_univ_eq_sum_range (fun i => ∑ c ∈ Finset.range 16, at2 D (16 * c + i) (l0 + j.val) * at2 X (16 * c + i + (6 + k)) (l0 + j.val)) 16,
    sum_blocks 16 (fun τ => at2 D τ (l0 + j.val) * at2 X (τ + (6 + k)) (l0 + j.val)) 16, show o.val = 0 from by omega]
  rfl
end Values
end Cert.ConvBwdIdeal.Outcome
end
-- ==== Proof.ConvBwdRun.lean ====
/- The short convolution's backward call (`ConvBwd`): the run over the row blocks. -/
module

public import proofs.«01_k».proof.Proof.ConvBwdBody
@[expose] public section
set_option maxRecDepth 16384
noncomputable section
open Idealize.ShloMosaic Idealize.ShloMosaic.TcCoe Idealize.SL.Sem
open Idealize.ShloMosaic.Pipeline (Dat)
namespace Cert.ConvBwdIdeal.Outcome
open Cert.ConvBwdIdeal Cert.ConvBwdIdeal.Gen Cert.Conv

/-- The factors by which the rows above and below the block count: none above the first block, none below the last. -/
def gTop (t : ℕ) : EReal := if t = 0 then 0 else 1
def gBot (t : ℕ) : EReal := if t = 31 then 0 else 1
theorem c_one : (Scalar.ofBits .f32 0x3F800000#32 : Ideal .f32) = (1 : EReal) := Ideal.ofBits_one_f32
theorem sel_top (t : Fin grid0.N) : (Scalar.select (Scalar.cmpi .eq (BitVec.ofNat 32 (grid0.coords t 0).val) 0#32) (Scalar.ofBits .f32 0x00000000#32 : Ideal .f32) (Scalar.ofBits .f32 0x3F800000#32)) = gTop t.val := by
  have h : ∀ t : Fin grid0.N, Scalar.cmpi .eq (BitVec.ofNat 32 (grid0.coords t 0).val) 0#32 = if t.val = 0 then 1#1 else 0#1 := by decide +kernel
  rw [h t, c_zero, c_one]
  unfold gTop
  split <;> rfl
theorem sel_bot (t : Fin grid0.N) : (k0_pay3 (F := Ideal) (grid0.coords t)) = gBot t.val := by
  have h : ∀ t : Fin grid0.N, Scalar.cmpi .eq (BitVec.ofNat 32 (grid0.coords t 0).val) 31#32 = if t.val = 31 then 1#1 else 0#1 := by decide +kernel
  show (Scalar.select (Scalar.cmpi .eq (BitVec.ofNat 32 (grid0.coords t 0).val) 31#32) (Scalar.ofBits .f32 0x00000000#32 : Ideal .f32) (Scalar.ofBits .f32 0x3F800000#32)) = _
  rw [h t, c_zero, c_one]
  unfold gBot
  split <;> rfl

/-- The products of the second and third parts, with the eight rows above; the products of the cotangent and the first part, with the eight rows below. -/
def extv (p : S256x3072.Idx → EReal) (ph : S8x3072.Idx → EReal) (g : EReal) (s j : ℕ) : EReal :=
  if s < 8 then at2 ph s (1024 + j) * at2 ph s (2048 + j) * g else at2 p (s - 8) (1024 + j) * at2 p (s - 8) (2048 + j)
def ext (p : S256x3072.Idx → EReal) (ph : S8x3072.Idx → EReal) (g : EReal) : S264x1024.Idx → EReal := fun y => extv p ph g (y 0).val (y 1).val
def dextv (p : S256x3072.Idx → EReal) (dy : S256x1024.Idx → EReal) (pn : S8x3072.Idx → EReal) (dn : S8x1024.Idx → EReal) (g : EReal) (s j : ℕ) : EReal :=
  if s < 256 then at2 dy s j * at2 p s j else at2 dn (s - 256) j * at2 pn (s - 256) j * g
def dext (p : S256x3072.Idx → EReal) (dy : S256x1024.Idx → EReal) (pn : S8x3072.Idx → EReal) (dn : S8x1024.Idx → EReal) (g : EReal) : S264x1024.Idx → EReal := fun y => dextv p dy pn dn g (y 0).val (y 1).val

theorem pay4_apply (t : Fin grid0.N) (a b : Vec Ideal S8x1024 .f32) (i : Fin 8) (j : Fin 1024) : k0_pay4 (F := Ideal) (grid0.coords t) a b (ix2 i j) = a (ix2 i j) * b (ix2 i j) * gTop t.val := by
  rw [← sel_top t]
  unfold k0_pay4
  pointwise
theorem pay7_apply (g : EReal) (a b : Vec Ideal S8x1024 .f32) (i : Fin 8) (j : Fin 1024) : k0_pay7 (F := Ideal) g a b (ix2 i j) = a (ix2 i j) * b (ix2 i j) * g := by
  unfold k0_pay7
  pointwise
theorem pay5_apply (a b : Vec Ideal S256x1024 .f32) (i : Fin 256) (j : Fin 1024) : k0_pay5 (F := Ideal) a b (ix2 i j) = a (ix2 i j) * b (ix2 i j) := by
  unfold k0_pay5
  pointwise
theorem pay6_apply (a b : Vec Ideal S256x1024 .f32) (i : Fin 256) (j : Fin 1024) : k0_pay6 (F := Ideal) a b (ix2 i j) = a (ix2 i j) * b (ix2 i j) := by
  unfold k0_pay6
  pointwise

theorem ext_canon (t : Fin grid0.N) (p : S256x3072.Idx → EReal) (ph : S8x3072.Idx → EReal) (i1 i2 i3 i4 i5 i6) :
    View.canon (Val := Elt Ideal) (s := S264x1024) (e := .f32)
      [⟨Rect.unit ![8, 0] ![256, 1024] i1, k0_pay5 (F := Ideal) (View.ld (Val := Elt Ideal) (e' := .f32) p (Rect.unit (s := S256x3072) ![0, 1024] ![256, 1024] i2)) (View.ld (Val := Elt Ideal) (e' := .f32) p (Rect.unit (s := S256x3072) ![0, 2048] ![256, 1024] i3))⟩,
       ⟨Rect.unit ![0, 0] ![8, 1024] i4, k0_pay4 (F := Ideal) (grid0.coords t) (View.ld (Val := Elt Ideal) (e' := .f32) ph (Rect.unit (s := S8x3072) ![0, 1024] ![8, 1024] i5)) (View.ld (Val := Elt Ideal) (e' := .f32) ph (Rect.unit (s := S8x3072) ![0, 2048] ![8, 1024] i6))⟩] = ext p ph (gTop t.val) := by
  refine canon_all (Val := Elt Ideal) (s := S264x1024) (e := .f32) (ext p ph (gTop t.val)) _ (fun y => ?_) ⟨fun x => ?_, fun x => ?_, trivial⟩
  · rcases Nat.lt_or_ge (y 0).val 8 with h | h
    · exact ⟨_, List.mem_cons_of_mem _ List.mem_cons_self, mem_rows i4 y (Nat.zero_le _) (by omega)⟩
    · exact ⟨_, List.mem_cons_self, mem_rows i1 y h (by have := (y 0).isLt; change (y 0).val < 264 at this; omega)⟩
  · obtain ⟨i, j, rfl⟩ : ∃ (i : Fin 256) (j : Fin 1024), x = ix2 i j := ⟨x 0, x 1, eq_ix2 x⟩
    rw [emb_ix i1 i j (by omega) (by omega)]
    refine (pay5_apply _ _ i j).trans ?_
    show _ = extv p ph (gTop t.val) (8 + i.val) (0 + j.val)
    unfold extv
    rw [if_neg (by omega), show 8 + i.val - 8 = i.val from by omega, Nat.zero_add]
    exact congrArg₂ (· * ·) ((ld_at2 p i2 i j).trans (by rw [Nat.zero_add])) ((ld_at2 p i3 i j).trans (by rw [Nat.zero_add]))
  · obtain ⟨i, j, rfl⟩ : ∃ (i : Fin 8) (j : Fin 1024), x = ix2 i j := ⟨x 0, x 1, eq_ix2 x⟩
    rw [emb_ix i4 i j (by omega) (by omega)]
    refine (pay4_apply t _ _ i j).trans ?_
    show _ = extv p ph (gTop t.val) (0 + i.val) (0 + j.val)
    unfold extv
    rw [if_pos (by omega), Nat.zero_add, Nat.zero_add]
    exact congrArg (· * gTop t.val) (congrArg₂ (· * ·) ((ld_at2 ph i5 i j).trans (by rw [Nat.zero_add])) ((ld_at2 ph i6 i j).trans (by rw [Nat.zero_add])))
theorem dext_canon (p : S256x3072.Idx → EReal) (dy : S256x1024.Idx → EReal) (pn : S8x3072.Idx → EReal) (dn : S8x1024.Idx → EReal) (t : Fin grid0.N) (i1 i2 i3 i4) :
    View.canon (Val := Elt Ideal) (s := S264x1024) (e := .f32)
      [⟨Rect.unit ![256, 0] ![8, 1024] i1, k0_pay7 (F := Ideal) (k0_pay3 (F := Ideal) (grid0.coords t)) dn (View.ld (Val := Elt Ideal) (e' := .f32) pn (Rect.unit (s := S8x3072) ![0, 0] ![8, 1024] i2))⟩,
       ⟨Rect.unit ![0, 0] ![256, 1024] i3, k0_pay6 (F := Ideal) dy (View.ld (Val := Elt Ideal) (e' := .f32) p (Rect.unit (s := S256x3072) ![0, 0] ![256, 1024] i4))⟩] = dext p dy pn dn (gBot t.val) := by
  rw [sel_bot t]
  refine canon_all (Val := Elt Ideal) (s := S264x1024) (e := .f32) (dext p dy pn dn (gBot t.val)) _ (fun y => ?_) ⟨fun x => ?_, fun x => ?_, trivial⟩
  · rcases Nat.lt_or_ge (y 0).val 256 with h | h
    · exact ⟨_, List.mem_cons_of_mem _ List.mem_cons_self, mem_rows i3 y (Nat.zero_le _) (by omega)⟩
    · exact ⟨_, List.mem_cons_self, mem_rows i1 y h (by have := (y 0).isLt; change (y 0).val < 264 at this; omega)⟩
  · obtain ⟨i, j, rfl⟩ : ∃ (i : Fin 8) (j : Fin 1024), x = ix2 i j := ⟨x 0, x 1, eq_ix2 x⟩
    rw [emb_ix i1 i j (by omega) (by omega)]
    refine (pay7_apply _ _ _ i j).trans ?_
    show _ = dextv p dy pn dn (gBot t.val) (256 + i.val) (0 + j.val)
    unfold dextv
    rw [if_neg (by omega), show 256 + i.val - 256 = i.val from by omega, Nat.zero_add]
    exact congrArg (· * gBot t.val) (congrArg₂ (· * ·) (at2_ix dn i j).symm ((ld_at2 pn i2 i j).trans (by rw [Nat.zero_add, Nat.zero_add])))
  · obtain ⟨i, j, rfl⟩ : ∃ (i : Fin 256) (j : Fin 1024), x = ix2 i j := ⟨x 0, x 1, eq_ix2 x⟩
    rw [emb_ix i3 i j (by omega) (by omega)]
    refine (pay6_apply _ _ i j).trans ?_
    show _ = dextv p dy pn dn (gBot t.val) (0 + i.val) (0 + j.val)
    unfold dextv
    rw [if_pos (by omega), Nat.zero_add, Nat.zero_add]
    exact congrArg₂ (· * ·) (at2_ix dy i j).symm ((ld_at2 p i4 i j).trans (by rw [Nat.zero_add, Nat.zero_add]))

theorem skip8 {κ : Kind} {sp : Space} (v : View sig κ sp S8x1024 .f32) (r : Rect S8x1024) (w : r.shape.Idx → EReal) (L : List (View.Piece (Elt Ideal) S8x1024 .f32)) (B : LoadRect S8x1024) (h : LoadRect.disj r B = true) :
    v.readCov (⟨r, w⟩ :: L) B = v.readCov L B := View.readCov_skip v r w L B h
theorem fill8 {κ : Kind} {sp : Space} (v : View sig κ sp S8x1024 .f32) {off : Fin 2 → ℕ} (inb : ∀ a, off a + S8x1024.size a ≤ S8x1024.size a) (Z : S8x1024.Idx → EReal)
    (L : List (View.Piece (Elt Ideal) S8x1024 .f32)) (r : Rect S8x1024) (h : ∀ a, off a = 0) :
    v.readCov (⟨Rect.unit off (no_index S8x1024.size) inb, Z⟩ :: L) r.toLoadRect = View.ld (Val := Elt Ideal) (e' := .f32) Z r := View.readCov_fill (Val := Elt Ideal) (s := S8x1024) (e := .f32) v inb Z L r h
/-- The six stores of the second result leave its rows from the third on. -/
theorem rest_rows (O : S8x1024.Idx → EReal) (X D : S264x1024.Idx → EReal) (i0 i1 i2 i3 i4 i5) (w0 w1 w2 w3 w4 w5 : S1x512.Idx → EReal) (y : S8x1024.Idx)
    (h : ∀ p ∈ ([⟨Rect.unit (s := S8x1024) ![2, 512] ![1, 512] i0, w0⟩, ⟨Rect.unit (s := S8x1024) ![1, 512] ![1, 512] i1, w1⟩, ⟨Rect.unit (s := S8x1024) ![0, 512] ![1, 512] i2, w2⟩,
      ⟨Rect.unit (s := S8x1024) ![2, 0] ![1, 512] i3, w3⟩, ⟨Rect.unit (s := S8x1024) ![1, 0] ![1, 512] i4, w4⟩, ⟨Rect.unit (s := S8x1024) ![0, 0] ![1, 512] i5, w5⟩] : List (View.Piece (Elt Ideal) S8x1024 .f32)), y ∉ p.1.set) :
    O y = dwb O X D y := by
  obtain ⟨i, j, rfl⟩ : ∃ (i : Fin 8) (j : Fin 1024), y = ix2 i j := ⟨y 0, y 1, eq_ix2 y⟩
  simp only [List.forall_mem_cons] at h
  obtain ⟨h0, h1, h2, h3, h4, h5, -⟩ := h
  have key : 3 ≤ i.val := by
    by_contra hk
    rcases Nat.lt_or_ge j.val 512 with hj | hj
    · rcases (by omega : i.val = 0 ∨ i.val = 1 ∨ i.val = 2) with e | e | e
      · exact h5 (mem_unit i5 i j (by omega) (by omega) (by omega) (by omega))
      · exact h4 (mem_unit i4 i j (by omega) (by omega) (by omega) (by omega))
      · exact h3 (mem_unit i3 i j (by omega) (by omega) (by omega) (by omega))
    · rcases (by omega : i.val = 0 ∨ i.val = 1 ∨ i.val = 2) with e | e | e
      · exact h2 (mem_unit i2 i j (by omega) (by omega) (by omega) (by omega))
      · exact h1 (mem_unit i1 i j (by omega) (by omega) (by omega) (by omega))
      · exact h0 (mem_unit i0 i j (by omega) (by omega) (by omega) (by omega))
  show _ = dwv O X D i.val j.val
  unfold dwv
  rw [if_neg (by omega), at2_ix]
theorem pay2_eq : k0_pay2 (F := Ideal) = fun _ => (0 : EReal) := funext fun _ => c_zero
variable (m : (ℓ : Loc nD τ sig) → Buf (Elt Ideal) ℓ) (c : Dev nD)
def Xt (t : Fin cfg0.N) : S264x1024.Idx → EReal := ext (iblk m c 0 t) (iblk m c 1 t) (gTop t.val)
def Dt (t : Fin cfg0.N) : S264x1024.Idx → EReal := dext (iblk m c 0 t) (iblk m c 3 t) (iblk m c 2 t) (iblk m c 4 t) (gBot t.val)
/-- What a grid point stores as the first result: the same at every point. -/
theorem out6_A (t : Fin cfg0.N) (h : t.val % 32 = 0) : (outsAt0 m c t.val t.isLt).1 = dpb (iblk m c 0 t) (iblk m c 3 t) (iblk m c 5 t) (Xt m c t) (Dt m c t) := by
  rw [outsAt0_A m c t h]
  frame_open
  frame_out
  simp only [cov_ld]
  rw [ext_canon, dext_canon]
  refine canon_all (Val := Elt Ideal) (s := S256x3072) (e := .bf16) (dpb (iblk m c 0 t) (iblk m c 3 t) (iblk m c 5 t) (Xt m c t) (Dt m c t)) _ (View.cover_of_tiledL _ S16x512.size (by sl_kernel_rfl)) ?_
  have h1 := fun r0 l0 h hl i8 => piece1 (p := iblk m c 0 t) (dy := iblk m c 3 t) (w := iblk m c 5 t) (X := Xt m c t) (D := Dt m c t) r0 l0 h hl i8
  have h2 := fun r0 l0 h hl i8 => piece2 (p := iblk m c 0 t) (dy := iblk m c 3 t) (w := iblk m c 5 t) (X := Xt m c t) (D := Dt m c t) r0 l0 h hl i8
  have h3 := fun r0 l0 h hl i8 => piece3 (p := iblk m c 0 t) (dy := iblk m c 3 t) (w := iblk m c 5 t) (X := Xt m c t) (D := Dt m c t) r0 l0 h hl i8
  iterate 32 refine pieces_cons _ _ _ _ (h3 _ _ (by decide) (by decide) _) (pieces_cons _ _ _ _ (h2 _ _ (by decide) (by decide) _) (pieces_cons _ _ _ _ (h1 _ _ (by decide) (by decide) _) ?_))
  trivial
theorem out6_B (t : Fin cfg0.N) (h : ¬ t.val % 32 = 0) : (outsAt0 m c t.val t.isLt).1 = dpb (iblk m c 0 t) (iblk m c 3 t) (iblk m c 5 t) (Xt m c t) (Dt m c t) := by
  rw [outsAt0_B m c t h]
  frame_open
  frame_out
  simp only [cov_ld]
  rw [ext_canon, dext_canon]
  refine canon_all (Val := Elt Ideal) (s := S256x3072) (e := .bf16) (dpb (iblk m c 0 t) (iblk m c 3 t) (iblk m c 5 t) (Xt m c t) (Dt m c t)) _ (View.cover_of_tiledL _ S16x512.size (by sl_kernel_rfl)) ?_
  have h1 := fun r0 l0 h hl i8 => piece1 (p := iblk m c 0 t) (dy := iblk m c 3 t) (w := iblk m c 5 t) (X := Xt m c t) (D := Dt m c t) r0 l0 h hl i8
  have h2 := fun r0 l0 h hl i8 => piece2 (p := iblk m c 0 t) (dy := iblk m c 3 t) (w := iblk m c 5 t) (X := Xt m c t) (D := Dt m c t) r0 l0 h hl i8
  have h3 := fun r0 l0 h hl i8 => piece3 (p := iblk m c 0 t) (dy := iblk m c 3 t) (w := iblk m c 5 t) (X := Xt m c t) (D := Dt m c t) r0 l0 h hl i8
  iterate 32 refine pieces_cons _ _ _ _ (h3 _ _ (by decide) (by decide) _) (pieces_cons _ _ _ _ (h2 _ _ (by decide) (by decide) _) (pieces_cons _ _ _ _ (h1 _ _ (by decide) (by decide) _) ?_))
  trivial

theorem out7_A (t : Fin cfg0.N) (h : t.val % 32 = 0) : (outsAt0 m c t.val t.isLt).2 = dwb (fun _ => 0) (Xt m c t) (Dt m c t) := by
  rw [outsAt0_A m c t h]
  frame_open
  frame_out
  simp (disch := decide) only [↓ skip8, ↓ fill8]
  simp only [cov_ld]
  rw [ext_canon, dext_canon]
  rw [pay2_eq]
  funext y
  refine canon_pieces (Val := Elt Ideal) (s := S8x1024) (e := .f32) (dwb (fun _ => 0) (Xt m c t) (Dt m c t)) (_ :: []) (_ :: _ :: _ :: _ :: _ :: _ :: []) ?_ y fun h => ?_
  · have hw := fun k l0 hk hl i8 => piecew (O := fun _ => 0) (X := Xt m c t) (D := Dt m c t) k l0 hk hl i8
    exact ⟨hw 2 512 (by decide) (by decide) (by decide), hw 1 512 (by decide) (by decide) (by decide), hw 0 512 (by decide) (by decide) (by decide), hw 2 0 (by decide) (by decide) (by decide), hw 1 0 (by decide) (by decide) (by decide), hw 0 0 (by decide) (by decide) (by decide), trivial⟩
  · refine Eq.trans ?_ (rest_rows _ _ _ _ _ _ _ _ _ _ _ _ _ _ _ y h)
    exact congrFun (View.canon_cons_unit_lit (Val := Elt Ideal) (S := S8x1024) (e := .f32) _ _ _ (fun a => by fin_cases a <;> rfl)) y
theorem out7_B (t : Fin cfg0.N) (h : ¬ t.val % 32 = 0) : (outsAt0 m c t.val t.isLt).2 = dwb (outsAt0 m c (t.val - 1) (by omega)).2 (Xt m c t) (Dt m c t) := by
  rw [outsAt0_B m c t h]
  frame_open
  frame_out
  simp only [cov_ld]
  rw [ext_canon, dext_canon]
  funext y
  refine read_pieces (Val := Elt Ideal) (s := S8x1024) (e := .f32) (ms0_7 t).view _ (dwb (outsAt0 m c (t.val - 1) (by omega)).2 (Xt m c t) (Dt m c t)) _ ?_ y fun h => ?_
  · have hw := fun k l0 hk hl i8 => piecew (O := (outsAt0 m c (t.val - 1) (by omega)).2) (X := Xt m c t) (D := Dt m c t) k l0 hk hl i8
    exact ⟨hw 2 512 (by decide) (by decide) (by decide), hw 1 512 (by decide) (by decide) (by decide), hw 0 512 (by decide) (by decide) (by decide), hw 2 0 (by decide) (by decide) (by decide), hw 1 0 (by decide) (by decide) (by decide), hw 0 0 (by decide) (by decide) (by decide), trivial⟩
  · refine Eq.trans ?_ (rest_rows _ _ _ _ _ _ _ _ _ _ _ _ _ _ _ y h)
    exact congrFun (Memref.IsWhole.read_unread _ _) y
end Cert.ConvBwdIdeal.Outcome
end
-- ==== Proof.ConvSpec.lean ====
/- The short convolution's gradients as sums of products of the arguments' entries, and matrices written entry by entry. -/
module

public import proofs.«01_k».proof.Proof.At2
public import Idealize.ShloMosaic.Lib.KernelVsHost
@[expose] public section
noncomputable section
open Idealize.ShloMosaic Idealize.ShloMosaic.StableHlo

namespace Cert.Conv

abbrev Mat (n m : ℕ) := (⟨2, ![n, m]⟩ : Shape).Idx → EReal
section Spec
variable (P : Mat 8192 3072) (W : Mat 3 1024) (Y : Mat 8192 1024)
/-- The product of the second and third parts eight rows above, -/
def q8 (n j : ℕ) : EReal := if n < 8 then 0 else at2 P (n - 8) (1024 + j) * at2 P (n - 8) (2048 + j)
/-- the product of the cotangent and the first part, -/
def ey (n j : ℕ) : EReal := at2 Y n j * at2 P n j
/-- the convolution and the transposed convolution, -/
def cqG (n j : ℕ) : EReal := ((0 + at2 W 0 j * q8 P (n + 6) j) + at2 W 1 j * q8 P (n + 7) j) + at2 W 2 j * q8 P (n + 8) j
def dqG (n j : ℕ) : EReal := ((0 + at2 W 0 j * ey P Y (n + 2) j) + at2 W 1 j * ey P Y (n + 1) j) + at2 W 2 j * ey P Y n j
/-- the gradient of the three parts, and that of the weights. -/
def dpG (n j : ℕ) : EReal :=
  if j < 1024 then at2 Y n j * cqG P W n j else if j < 2048 then dqG P W Y n (j - 1024) * at2 P n (j + 1024) else dqG P W Y n (j - 2048) * at2 P n (j - 1024)
def dwG (T k l : ℕ) : EReal := if k < 3 then ∑ n ∈ Finset.range T, ey P Y n l * q8 P (n + (6 + k)) l else 0
end Spec

/-- A matrix given by its entries. -/
def mat {φ : FTy} (n m : ℕ) (f : ℕ → ℕ → EReal) : FVec Ideal (⟨2, ![n, m]⟩ : Shape) φ := fun y => f (y 0).val (y 1).val
theorem eq_mat {φ : FTy} {n m : ℕ} {x : FVec Ideal (⟨2, ![n, m]⟩ : Shape) φ} {f : ℕ → ℕ → EReal} (h : ∀ (i : Fin n) (j : Fin m), x (ix2 i j) = f i.val j.val) : x = mat n m f := funext fun y => by
  rw [eq_ix2 y]
  exact h _ _
theorem mat_ext {φ : FTy} {n m : ℕ} {f g : ℕ → ℕ → EReal} (h : ∀ i < n, ∀ j < m, f i j = g i j) : mat (φ := φ) n m f = mat n m g := funext fun y => h _ (y 0).isLt _ (y 1).isLt
theorem mat_at2 {n m : ℕ} (x : FVec Ideal (⟨2, ![n, m]⟩ : Shape) .f32) : x = mat n m (at2 x) := eq_mat fun i j => (at2_ix x i j).symm
theorem mulf_mat {n m : ℕ} {f g : ℕ → ℕ → EReal} : mulf (mat (φ := .f32) n m f) (mat n m g) = mat n m fun i j => f i j * g i j := rfl
theorem addf_mat {n m : ℕ} {f g : ℕ → ℕ → EReal} : addf (mat (φ := .f32) n m f) (mat n m g) = mat n m fun i j => f i j + g i j := rfl
theorem slice_mat {n m n' m' a b : ℕ} {f : ℕ → ℕ → EReal} (h : (⟨2, ![n, m]⟩ : Shape).Slices ![a, b] ⟨2, ![n', m']⟩) :
    extractStridedSlice ⟨2, ![n', m']⟩ ![a, b] (mat (φ := .f32) n m f) h = mat (φ := .f32) n' m' fun i j => f (a + i) (b + j) := rfl
theorem pad_mat {n m N lo hi : ℕ} {f : ℕ → ℕ → EReal} {u : Shape} (v : u.Idx → EReal) (hv : ∀ k, v k = 0) (h : (⟨2, ![n, m]⟩ : Shape).Pads ![lo, 0] ![hi, 0] ![0, 0] ⟨2, ![N, m]⟩) (hu : 0 < u.numel) :
    pad ⟨2, ![N, m]⟩ ![lo, 0] ![hi, 0] ![0, 0] (mat (φ := .f32) n m f) v h hu = mat (φ := .f32) N m fun i j => if lo ≤ i ∧ i - lo < n then f (i - lo) j else 0 := by
  refine eq_mat fun i j => ?_
  by_cases hi : lo ≤ i.val ∧ i.val - lo < n
  · rw [if_pos hi]
    refine (pad_apply_of_inside _ _ _ _ _ _ _ (ix2 i j) (ix2 (⟨i.val - lo, hi.2⟩ : Fin n) j) fun a => ?_).trans rfl
    fin_cases a
    · show i.val = lo + (i.val - lo) * (0 + 1)
      omega
    · show j.val = 0 + j.val * (0 + 1)
      omega
  · rw [if_neg hi]
    refine (pad_apply_of_not_inside _ _ _ _ _ _ _ (ix2 i j) (0 : Fin 2) fun hc => hi ⟨hc.1, ?_⟩).trans (hv _)
    have h2 : (i.val - lo) / (0 + 1) < n := hc.2.2
    rwa [Nat.zero_add, Nat.div_one] at h2
theorem concat_mat {a b n m : ℕ} {f g : ℕ → ℕ → EReal} (h) (hn : n = a + b) :
    concatenate (⟨2, ![n, m]⟩ : Shape) 0 [⟨⟨2, ![a, m]⟩, mat (φ := .f32) a m f⟩, ⟨⟨2, ![b, m]⟩, mat (φ := .f32) b m g⟩] h = mat (φ := .f32) n m fun i j => if i < a then f i j else g (i - a) j := by
  refine eq_mat fun i j => ?_
  by_cases hi : i.val < a
  · rw [if_pos hi]
    exact (concatenate_pair_apply_left 0 _ _ h _ rfl (ix2 ⟨i.val, hi⟩ j) fun x => by fin_cases x <;> rfl).trans rfl
  · rw [if_neg hi]
    exact (concatenate_pair_apply_right 0 _ _ h _ rfl rfl (ix2 (⟨i.val - a, by have := i.isLt; omega⟩ : Fin b) j) (by intro x hx; fin_cases x; exacts [absurd rfl hx, rfl])
      (by show i.val - a + a = i.val; omega)).trans rfl
end Cert.Conv
end
-- ==== Proof.ConvBwdRef.lean ====
/- The short convolution's backward call (`ConvBwd`): its reference, read over the extended reals. -/
module

public import proofs.«01_k».proof.Proof.ConvSpec
public import proofs.«01_k».proof.Proof.Gen.ConvBwdRefIdeal.Run
public import proofs.«01_k».proof.Proof.Gen.ConvBwdRefIdeal.Read
@[expose] public section
set_option maxRecDepth 16384
noncomputable section
open Idealize.ShloMosaic Idealize.ShloMosaic.TcCoe Idealize.SL.Sem Idealize.ShloMosaic.StableHlo

namespace Cert.ConvBwdRefIdeal.Outcome
open Cert.ConvBwdRefIdeal Cert.ConvBwdRefIdeal.Gen Cert.ConvBwdRefIdeal.Facts Cert.ConvBwdRefIdeal.Read Cert.Conv

theorem c_zero : (Ideal.ofBits .f32 0x00000000#32 : EReal) = 0 := Ideal.ofBits_zero_f32
theorem zeros {n m : ℕ} (hb) : (broadcastInDim (⟨2, ![n, m]⟩ : Shape) ![] hb (constant (F := Ideal) S_ .f32 0x00000000#32) : FVec Ideal (⟨2, ![n, m]⟩ : Shape) .f32) = mat n m fun _ _ => 0 := funext fun _ => c_zero
/-- A row of the weights, copied to every row. -/
theorem weight_mat (x1 : FVec Ideal S3x1024 .f32) (k : ℕ) (hk : k < 3) (hs : S3x1024.Slices ![k, 0] S1x1024) :
    broadcastInDim S8192x1024 ![0, 1] bcast_S1x1024_S8192x1024_0_1 (broadcastInDim S1x1024 ![1] bcast_S1024_S1x1024_1 (shapeCast S1024 (extractStridedSlice S1x1024 ![k, 0] x1 hs) shapeCasts_S1x1024_S1024))
      = mat (φ := .f32) 8192 1024 fun _ l => at2 x1 k l := by
  refine eq_mat fun i l => ?_
  have e : shapeCast S1024 (extractStridedSlice S1x1024 ![k, 0] x1 hs) shapeCasts_S1x1024_S1024 (ix1 l) = at2 x1 k l.val := by
    refine (shapeCast_apply _ _ _ (ix2 0 l) (by rw [Shape.rowMajor_val_two, Shape.rowMajor_val_one]; show 0 * 1024 + l.val = l.val; omega)).trans ?_
    rw [at2_of x1 hk l.isLt]
    exact extractStridedSlice_apply _ _ _ _ (ix2 ⟨k, hk⟩ l) fun a => by
      fin_cases a
      · rfl
      · show l.val = 0 + l.val
        omega
  rw [← e]
  generalize shapeCast S1024 (extractStridedSlice S1x1024 ![k, 0] x1 hs) shapeCasts_S1x1024_S1024 = z
  pointwise

variable (x0 : FVec Ideal S8192x3072 .f32) (x1 : FVec Ideal S3x1024 .f32) (x2 : FVec Ideal S8192x1024 .f32)
/-- The three parts. -/
theorem part0 : val_main_v0 (F := Ideal) x0 = mat (φ := .f32) 8192 1024 fun i j => at2 x0 i j := by
  unfold val_main_v0
  conv_lhs => rw [mat_at2 x0]
  rw [slice_mat]
  exact mat_ext fun i _ j _ => by rw [Nat.zero_add, Nat.zero_add]
theorem part1 : val_main_v1 (F := Ideal) x0 = mat (φ := .f32) 8192 1024 fun i j => at2 x0 i (1024 + j) := by
  unfold val_main_v1
  conv_lhs => rw [mat_at2 x0]
  rw [slice_mat]
  exact mat_ext fun i _ j _ => by rw [Nat.zero_add]
theorem part2 : val_main_v2 (F := Ideal) x0 = mat (φ := .f32) 8192 1024 fun i j => at2 x0 i (2048 + j) := by
  unfold val_main_v2
  conv_lhs => rw [mat_at2 x0]
  rw [slice_mat]
  exact mat_ext fun i _ j _ => by rw [Nat.zero_add]
/-- The product behind the zero rows, -/
theorem v5_mat : val_main_v5 (F := Ideal) x0 = mat (φ := .f32) 8194 1024 fun i j => q8 x0 (i + 6) j := by
  unfold val_main_v5 val_main_v3
  rw [part1, part2, mulf_mat, show val_main_v4 (F := Ideal) = mat (φ := .f32) 2 1024 fun _ _ => 0 from zeros _, concat_mat _ (by decide)]
  refine mat_ext fun i _ j _ => ?_
  unfold q8
  by_cases h : i < 2
  · rw [if_pos h, if_pos (by omega)]
  · rw [if_neg h, if_neg (by omega), show i + 6 - 8 = i - 2 from by omega]
/-- read from the zeroth, first and second row on. -/
theorem tap (k : ℕ) (hs : S8194x1024.Slices ![k, 0] S8192x1024) : extractStridedSlice S8192x1024 ![k, 0] (val_main_v5 (F := Ideal) x0) hs = mat (φ := .f32) 8192 1024 fun i j => q8 x0 (i + (6 + k)) j := by
  rw [v5_mat, slice_mat]
  exact mat_ext fun i _ j _ => by rw [Nat.zero_add, show k + i + 6 = i + (6 + k) from by omega]
theorem v28_mat : val_main_v28 (F := Ideal) x0 x1 = mat (φ := .f32) 8192 1024 (cqG x0 x1) := by
  have w0 : val_main_v11 (F := Ideal) x1 = mat (φ := .f32) 8192 1024 fun _ l => at2 x1 0 l := weight_mat x1 0 (by decide) _
  have w1 : val_main_v19 (F := Ideal) x1 = mat (φ := .f32) 8192 1024 fun _ l => at2 x1 1 l := weight_mat x1 1 (by decide) _
  have w2 : val_main_v26 (F := Ideal) x1 = mat (φ := .f32) 8192 1024 fun _ l => at2 x1 2 l := weight_mat x1 2 (by decide) _
  unfold val_main_v28 val_main_v21 val_main_v14 val_main_v27 val_main_v20 val_main_v12 val_main_v9 val_main_v17 val_main_v24
  rw [w0, w1, w2, show val_main_v13 (F := Ideal) = mat (φ := .f32) 8192 1024 fun _ _ => 0 from zeros _, tap, tap, tap]
  rfl
theorem v30_mat : val_main_v30 (F := Ideal) x0 x2 = mat (φ := .f32) 8192 1024 (ey x0 x2) := by
  unfold val_main_v30
  rw [part0]
  conv_lhs => rw [mat_at2 x2]
  rw [mulf_mat]
  exact mat_ext fun i _ j _ => mul_comm _ _
/-- The transposed convolution. -/
theorem v64_mat : val_main_v64 (F := Ideal) x0 x1 x2 = mat (φ := .f32) 8192 1024 (dqG x0 x1 x2) := by
  have w0 : val_main_v52 (F := Ideal) x1 = mat (φ := .f32) 8192 1024 fun _ l => at2 x1 0 l := weight_mat x1 0 (by decide) _
  have w1 : val_main_v41 (F := Ideal) x1 = mat (φ := .f32) 8192 1024 fun _ l => at2 x1 1 l := weight_mat x1 1 (by decide) _
  have w2 : val_main_v32 (F := Ideal) x1 = mat (φ := .f32) 8192 1024 fun _ l => at2 x1 2 l := weight_mat x1 2 (by decide) _
  unfold val_main_v64 val_main_v59 val_main_v48 val_main_v38 val_main_v47 val_main_v58 val_main_v33 val_main_v42 val_main_v53
  rw [w0, w1, w2, v30_mat, mulf_mat, mulf_mat, mulf_mat, pad_mat (lo := 2) (hi := 0) (n := 8192) (N := 8194) (m := 1024) (val_main_cst_4 (F := Ideal)) (fun _ => c_zero) pads_S8192x1024_S8194x1024_200_000 h_S_, pad_mat (lo := 1) (hi := 1) (n := 8192) (N := 8194) (m := 1024) (val_main_cst_8 (F := Ideal)) (fun _ => c_zero) pads_S8192x1024_S8194x1024_110_000 h_S_, pad_mat (lo := 0) (hi := 2) (n := 8192) (N := 8194) (m := 1024) (val_main_cst_12 (F := Ideal)) (fun _ => c_zero) pads_S8192x1024_S8194x1024_020_000 h_S_, addf_mat, addf_mat, slice_mat]
  refine mat_ext fun i hi j hj => ?_
  have ez : ∀ n, 8192 ≤ n → ey x0 x2 n j = 0 := fun n hn => by
    unfold ey at2
    rw [dif_neg (by omega), zero_mul]
  unfold dqG
  rw [Nat.zero_add, if_pos (by omega), show 2 + i - 2 = i from by omega, show 2 + i - 1 = i + 1 from by omega, show 2 + i - 0 = i + 2 from by omega]
  have h1 : (if 1 ≤ 2 + i ∧ i + 1 < 8192 then at2 x1 1 j * ey x0 x2 (i + 1) j else 0) = at2 x1 1 j * ey x0 x2 (i + 1) j := by
    split_ifs with h
    · rfl
    · rw [ez (i + 1) (by omega), mul_zero]
  have h0 : (if 0 ≤ 2 + i ∧ i + 2 < 8192 then at2 x1 0 j * ey x0 x2 (i + 2) j else 0) = at2 x1 0 j * ey x0 x2 (i + 2) j := by
    split_ifs with h
    · rfl
    · rw [ez (i + 2) (by omega), mul_zero]
  rw [h1, h0, zero_add]
  abel
/-- The first result. -/
theorem cat3 {f g h : ℕ → ℕ → EReal} (hc) :
    concatenate S8192x3072 1 [⟨S8192x1024, mat (φ := .f32) 8192 1024 f⟩, ⟨S8192x1024, mat (φ := .f32) 8192 1024 g⟩, ⟨S8192x1024, mat (φ := .f32) 8192 1024 h⟩] hc
      = mat (φ := .f32) 8192 3072 fun i j => if j < 1024 then f i j else if j < 2048 then g i (j - 1024) else h i (j - 2048) := by
  refine eq_mat fun i j => ?_
  pointwise
  by_cases h1 : j.val < 1024
  · rw [dif_pos h1, if_pos h1]
    rfl
  · rw [dif_neg h1, if_neg h1]
    by_cases h2 : j.val - 1024 < 1024
    · rw [dif_pos h2, if_pos (show j.val < 2048 by omega)]
      rfl
    · rw [dif_neg h2, if_neg (show ¬ j.val < 2048 by omega)]
      exact congrArg (h i.val) (show j.val - 1024 - 1024 = j.val - 2048 by omega)
theorem v68_mat : val_main_v68 (F := Ideal) x0 x1 x2 = mat (φ := .bf16) 8192 3072 (dpG x0 x1 x2) := by
  have e : val_main_v67 (F := Ideal) x0 x1 x2 = mat (φ := .f32) 8192 3072 (dpG x0 x1 x2) := by
    unfold val_main_v67 val_main_v31 val_main_v66 val_main_v65
    rw [v28_mat, v64_mat, part1, part2]
    conv_lhs => rw [mat_at2 x2]
    rw [mulf_mat, mulf_mat, mulf_mat, cat3, ← mat_at2 x2]
    refine mat_ext fun i _ j _ => ?_
    unfold dpG
    split_ifs with h1 h2
    · rfl
    · rw [show 2048 + (j - 1024) = j + 1024 from by omega]
    · rw [show 1024 + (j - 2048) = j - 1024 from by omega, mul_comm]
  unfold val_main_v68
  rw [e]
  rfl
/-- The weights' rows: a sum over the rows, placed in its row. -/
theorem reduce_rows (x : FVec Ideal S8192x1024 .f32) (l : Fin 1024) :
    Host.reduceAdd x (constant (F := Ideal) S_ .f32 0x00000000#32) reducesTo_S8192x1024_S1024_d0 h_S_ (ix1 l) = ∑ n : Fin 8192, x (ix2 n l) := by
  simp only [Host.reduceAdd, Ideal.hostReduceAdd_def]
  rw [Ideal.hostReduceAdd_single reducesTo_S8192x1024_S1024_d0 (by decide)]
  refine (congrArg₂ (· + ·) c_zero (Finset.sum_congr rfl fun n _ => congrArg x (funext fun a => Fin.ext (by fin_cases a <;> rfl)))).trans (zero_add _)
theorem reduce_one (x : FVec Ideal S1x1024 .f32) (l : Fin 1024) :
    Host.reduceAdd x (constant (F := Ideal) S_ .f32 0x00000000#32) reducesTo_S1x1024_S1024_d0 h_S_ (ix1 l) = x (ix2 0 l) := by
  simp only [Host.reduceAdd, Ideal.hostReduceAdd_def]
  rw [Ideal.hostReduceAdd_single reducesTo_S1x1024_S1024_d0 (by decide)]
  refine (congrArg₂ (· + ·) c_zero (Fin.sum_univ_one _)).trans ((zero_add _).trans (congrArg x (funext fun a => Fin.ext (by fin_cases a <;> rfl))))
theorem sum_mat {f : ℕ → ℕ → EReal} {c d : FVec Ideal S_ .f32} (hc : c = constant (F := Ideal) S_ .f32 0x00000000#32) (hd : d = constant (F := Ideal) S_ .f32 0x00000000#32) :
    broadcastInDim S1x1024 ![1] bcast_S1024_S1x1024_1 (Host.reduceAdd (shapeCast S1x1024 (Host.reduceAdd (mat (φ := .f32) 8192 1024 f) c reducesTo_S8192x1024_S1024_d0 h_S_) shapeCasts_S1024_S1x1024)
      d reducesTo_S1x1024_S1024_d0 h_S_) = mat (φ := .f32) 1 1024 fun _ l => ∑ n ∈ Finset.range 8192, f n l := by
  subst hc hd
  refine eq_mat fun i l => ?_
  refine Eq.trans ?_ ((reduce_rows (mat (φ := .f32) 8192 1024 f) l).trans ((Finset.sum_congr rfl fun n _ => rfl).trans (Fin.sum_univ_eq_sum_range (fun n => f n l.val) 8192)))
  generalize Host.reduceAdd (mat (φ := .f32) 8192 1024 f) (constant (F := Ideal) S_ .f32 0x00000000#32) reducesTo_S8192x1024_S1024_d0 h_S_ = z
  refine Eq.trans ?_ ((reduce_one (shapeCast S1x1024 z shapeCasts_S1024_S1x1024) l).trans ?_)
  · generalize Host.reduceAdd (shapeCast S1x1024 z shapeCasts_S1024_S1x1024) (constant (F := Ideal) S_ .f32 0x00000000#32) reducesTo_S1x1024_S1024_d0 h_S_ = u
    pointwise
  · pointwise
theorem v70_mat : val_main_v70 (F := Ideal) x0 x2 = mat (φ := .f32) 8 1024 (dwG x0 x2 8192) := by
  have s2 : val_main_v39 (F := Ideal) x0 x2 = mat (φ := .f32) 1 1024 fun _ l => ∑ n ∈ Finset.range 8192, ey x0 x2 n l * q8 x0 (n + (6 + 2)) l := by
    unfold val_main_v39 val_main_v37 val_main_v36 val_main_v35 val_main_v34 val_main_v24
    rw [tap, v30_mat, mulf_mat]
    exact sum_mat rfl rfl
  have s1 : val_main_v49 (F := Ideal) x0 x2 = mat (φ := .f32) 1 1024 fun _ l => ∑ n ∈ Finset.range 8192, ey x0 x2 n l * q8 x0 (n + (6 + 1)) l := by
    unfold val_main_v49 val_main_v46 val_main_v45 val_main_v44 val_main_v43 val_main_v17
    rw [tap, v30_mat, mulf_mat]
    exact sum_mat rfl rfl
  have s0 : val_main_v60 (F := Ideal) x0 x2 = mat (φ := .f32) 1 1024 fun _ l => ∑ n ∈ Finset.range 8192, ey x0 x2 n l * q8 x0 (n + (6 + 0)) l := by
    unfold val_main_v60 val_main_v57 val_main_v56 val_main_v55 val_main_v54 val_main_v9
    rw [tap, v30_mat, mulf_mat]
    exact sum_mat rfl rfl
  unfold val_main_v70 val_main_v62 val_main_v51 val_main_v40 val_main_v50 val_main_v61
  rw [s0, s1, s2, pad_mat (lo := 2) (hi := 0) (n := 1) (N := 3) (m := 1024) (val_main_cst_5 (F := Ideal)) (fun _ => c_zero) pads_S1x1024_S3x1024_200_000 h_S_, pad_mat (lo := 1) (hi := 1) (n := 1) (N := 3) (m := 1024) (val_main_cst_9 (F := Ideal)) (fun _ => c_zero) pads_S1x1024_S3x1024_110_000 h_S_, pad_mat (lo := 0) (hi := 2) (n := 1) (N := 3) (m := 1024) (val_main_cst_13 (F := Ideal)) (fun _ => c_zero) pads_S1x1024_S3x1024_020_000 h_S_, addf_mat, addf_mat,
    show val_main_v69 (F := Ideal) = mat (φ := .f32) 5 1024 fun _ _ => 0 from zeros _, concat_mat _ (by decide)]
  refine mat_ext fun i hi j hj => ?_
  unfold dwG
  by_cases h : i < 3
  · rw [if_pos h, if_pos h]
    rcases (by omega : i = 0 ∨ i = 1 ∨ i = 2) with rfl | rfl | rfl <;> simp
  · rw [if_neg h, if_neg h]
end Cert.ConvBwdRefIdeal.Outcome
end
-- ==== Proof.ConvBwdValue.lean ====
/- The short convolution's backward call (`ConvBwd`): the arrays it leaves, and the claims. -/
module

public import proofs.«01_k».proof.Defs
public import proofs.«01_k».proof.Proof.ConvBwdRun
public import proofs.«01_k».proof.Proof.ConvBwdRef
public import proofs.«01_k».proof.Proof.Gen.ConvBwd.Frame
@[expose] public section
set_option maxRecDepth 16384
noncomputable section
open Idealize.ShloMosaic Idealize.ShloMosaic.TcCoe Idealize.SL.Sem
open Idealize.ShloMosaic.Pipeline (Dat)

namespace Cert.ConvBwdIdeal.Outcome
open Cert.ConvBwdIdeal Cert.ConvBwdIdeal.Gen Cert.Conv
variable (m : (ℓ : Loc nD τ sig) → Buf (Elt Ideal) ℓ) (c : Dev nD)
/-- The arguments: the three parts, the weights, the cotangent. -/
abbrev a0 : S8192x3072.Idx → EReal := m ((c : Thread nD τ).loc main_arg0)
abbrev a1 : S3x1024.Idx → EReal := m ((c : Thread nD τ).loc main_arg1)
abbrev a2 : S8192x1024.Idx → EReal := m ((c : Thread nD τ).loc main_arg2)

/-- Where the blocks lie. -/
theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] := (by decide +kernel : ∀ t : Fin grid0.N, win0_1.index t = ![32 * t.val - 1, 0])
theorem idx2 : ∀ t : Fin cfg0.N, win0_2.index t = ![min (32 * (t.val + 1)) 1023, 0] := (by decide +kernel : ∀ t : Fin grid0.N, win0_2.index t = ![min (32 * (t.val + 1)) 1023, 0])
theorem idx3 : ∀ t : Fin cfg0.N, win0_3.index t = ![t.val, 0] := (by decide +kernel : ∀ t : Fin grid0.N, win0_3.index t = ![t.val, 0])
theorem idx4 : ∀ t : Fin cfg0.N, win0_4.index t = ![min (32 * (t.val + 1)) 1023, 0] := (by decide +kernel : ∀ t : Fin grid0.N, win0_4.index t = ![min (32 * (t.val + 1)) 1023, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem t_lt (t : Fin cfg0.N) : t.val < 32 := by
  have := t.isLt; have hN : cfg0.N = 32 := N_0; omega
variable (t : Fin cfg0.N)
theorem row_lt (r : Fin 256) : t.val * 256 + r.val < 8192 := by
  have := t_lt t; omega

/-- The blocks' entries, as entries of the arguments. -/
theorem blk0 {r j : ℕ} (hr : r < 256) (hj : j < 3072) : at2 (iblk m c 0 t : S256x3072.Idx → EReal) r j = at2 (a0 m c) (256 * t.val + r) j := by
  have := t_lt t
  have he : (win0_0.blk t).view.emb (ix2 ⟨r, hr⟩ ⟨j, hj⟩) = ix2 ⟨256 * t.val + r, by omega⟩ ⟨j, hj⟩ := by blk_ext [idx0 t]
  rw [at2_of _ hr hj, at2_of (a0 m c) (by omega) hj]
  blk_simp [iblk]
  rw [he]
theorem blk1 {r j : ℕ} (hr : r < 8) (hj : j < 3072) (h : t.val ≠ 0) : at2 (iblk m c 1 t : S8x3072.Idx → EReal) r j = at2 (a0 m c) (256 * t.val + r - 8) j := by
  have := t_lt t
  have he : (win0_1.blk t).view.emb (ix2 ⟨r, hr⟩ ⟨j, hj⟩) = ix2 ⟨256 * t.val + r - 8, by omega⟩ ⟨j, hj⟩ := by blk_ext [idx1 t]
  rw [at2_of _ hr hj, at2_of (a0 m c) (by omega) hj]
  blk_simp [iblk]
  rw [he]
theorem blk2 {r j : ℕ} (hr : r < 8) (hj : j < 3072) (h : t.val ≠ 31) : at2 (iblk m c 2 t : S8x3072.Idx → EReal) r j = at2 (a0 m c) (256 * t.val + (256 + r)) j := by
  have := t_lt t
  have he : (win0_2.blk t).view.emb (ix2 ⟨r, hr⟩ ⟨j, hj⟩) = ix2 ⟨256 * t.val + (256 + r), by omega⟩ ⟨j, hj⟩ := by blk_ext [idx2 t]
  rw [at2_of _ hr hj, at2_of (a0 m c) (by omega) hj]
  blk_simp [iblk]
  rw [he]
theorem blk3 {r j : ℕ} (hr : r < 256) (hj : j < 1024) : at2 (iblk m c 3 t : S256x1024.Idx → EReal) r j = at2 (a2 m c) (256 * t.val + r) j := by
  have := t_lt t
  have he : (win0_3.blk t).view.emb (ix2 ⟨r, hr⟩ ⟨j, hj⟩) = ix2 ⟨256 * t.val + r, by omega⟩ ⟨j, hj⟩ := by blk_ext [idx3 t]
  rw [at2_of _ hr hj, at2_of (a2 m c) (by omega) hj]
  blk_simp [iblk]
  rw [he]
theorem blk4 {r j : ℕ} (hr : r < 8) (hj : j < 1024) (h : t.val ≠ 31) : at2 (iblk m c 4 t : S8x1024.Idx → EReal) r j = at2 (a2 m c) (256 * t.val + (256 + r)) j := by
  have := t_lt t
  have he : (win0_4.blk t).view.emb (ix2 ⟨r, hr⟩ ⟨j, hj⟩) = ix2 ⟨256 * t.val + (256 + r), by omega⟩ ⟨j, hj⟩ := by blk_ext [idx4 t]
  rw [at2_of _ hr hj, at2_of (a2 m c) (by omega) hj]
  blk_simp [iblk]
  rw [he]
theorem blk5 {r j : ℕ} (hr : r < 3) (hj : j < 1024) : at2 (iblk m c 5 t : S3x1024.Idx → EReal) r j = at2 (a1 m c) r j := by
  have he : (win0_5.blk t).view.emb (ix2 ⟨r, hr⟩ ⟨j, hj⟩) = ix2 ⟨r, hr⟩ ⟨j, hj⟩ := by blk_ext [idx5 t]
  rw [at2_of _ hr hj, at2_of (a1 m c) hr hj]
  blk_simp [iblk]
  rw [he]

/-- The two scratch arrays hold the products of the block's rows and of the rows next to it. -/
theorem X_eq {s j : ℕ} (hs : s < 264) (hj : j < 1024) : at2 (Xt m c t) s j = q8 (a0 m c) (256 * t.val + s) j := by
  rw [at2_of _ hs hj]
  show extv _ _ _ s j = _
  unfold extv q8
  by_cases h : s < 8
  · rw [if_pos h]
    by_cases h0 : t.val = 0
    · rw [if_pos (by omega), gTop, if_pos h0, mul_zero]
    · rw [if_neg (by omega), gTop, if_neg h0, mul_one, blk1 m c t h (by omega) h0, blk1 m c t h (by omega) h0]
  · rw [if_neg h, if_neg (by omega), blk0 m c t (by omega) (by omega), blk0 m c t (by omega) (by omega), show 256 * t.val + s - 8 = 256 * t.val + (s - 8) from by omega]
theorem D_eq {s j : ℕ} (hs : s < 264) (hj : j < 1024) : at2 (Dt m c t) s j = ey (a0 m c) (a2 m c) (256 * t.val + s) j := by
  rw [at2_of _ hs hj]
  show dextv _ _ _ _ _ s j = _
  unfold dextv ey
  by_cases h : s < 256
  · rw [if_pos h, blk3 m c t h hj, blk0 m c t h (by omega)]
  · rw [if_neg h]
    by_cases h0 : t.val = 31
    · rw [gBot, if_pos h0, mul_zero]
      unfold at2
      rw [dif_neg (by omega), zero_mul]
    · rw [gBot, if_neg h0, mul_one, blk4 m c t (by omega) hj h0, blk2 m c t (by omega) (by omega) h0, show 256 + (s - 256) = s from by omega]

/-- The first result's rows, -/
theorem dp_eq {r j : ℕ} (hr : r < 256) (hj : j < 3072) : dpv (iblk m c 0 t) (iblk m c 3 t) (iblk m c 5 t) (Xt m c t) (Dt m c t) r j = dpG (a0 m c) (a1 m c) (a2 m c) (256 * t.val + r) j := by
  unfold dpv dpG
  by_cases h1 : j < 1024
  · rw [if_pos h1, if_pos h1, blk3 m c t hr h1]
    unfold cq cqG
    rw [X_eq m c t (by omega) h1, X_eq m c t (by omega) h1, X_eq m c t (by omega) h1, blk5 m c t (by omega) h1, blk5 m c t (by omega) h1, blk5 m c t (by omega) h1]
    rfl
  · rw [if_neg h1, if_neg h1]
    unfold dq dqG
    by_cases h2 : j < 2048
    · rw [if_pos h2, if_pos h2, blk0 m c t hr (by omega), D_eq m c t (by omega) (by omega), D_eq m c t (by omega) (by omega), D_eq m c t (by omega) (by omega), blk5 m c t (by omega) (by omega), blk5 m c t (by omega) (by omega), blk5 m c t (by omega) (by omega)]
      rfl
    · rw [if_neg h2, if_neg h2, blk0 m c t hr (by omega), D_eq m c t (by omega) (by omega), D_eq m c t (by omega) (by omega), D_eq m c t (by omega) (by omega), blk5 m c t (by omega) (by omega), blk5 m c t (by omega) (by omega), blk5 m c t (by omega) (by omega)]
      rfl
theorem out6 : (outsAt0 m c t.val t.isLt).1 = dpb (iblk m c 0 t) (iblk m c 3 t) (iblk m c 5 t) (Xt m c t) (Dt m c t) := by
  by_cases h : t.val % 32 = 0
  · exact out6_A m c t h
  · exact out6_B m c t h
/-- and the weights' gradient so far. -/
theorem dw_step (T : ℕ) (hT : T = 256 * t.val) {O : S8x1024.Idx → EReal} (hO : ∀ k < 8, ∀ l < 1024, at2 O k l = dwG (a0 m c) (a2 m c) T k l) {k l : ℕ} (hk : k < 8) (hl : l < 1024) :
    dwv O (Xt m c t) (Dt m c t) k l = dwG (a0 m c) (a2 m c) (T + 256) k l := by
  subst hT
  unfold dwv
  rw [hO k hk l hl]
  unfold dwG
  by_cases h : k < 3
  · rw [if_pos h, if_pos h, if_pos h, Finset.sum_range_add]
    refine congrArg _ (Finset.sum_congr rfl fun τ hτ => ?_)
    have := Finset.mem_range.1 hτ
    rw [D_eq m c t (by omega) hl, X_eq m c t (by omega) hl, Nat.add_assoc]
  · rw [if_neg h, if_neg h, if_neg h]
theorem out7 : ∀ (n : ℕ) (hn : n < cfg0.N), ∀ k < 8, ∀ l < 1024, at2 ((outsAt0 m c n hn).2 : S8x1024.Idx → EReal) k l = dwG (a0 m c) (a2 m c) (256 * n + 256) k l := by
  intro n
  induction n with
  | zero =>
    intro hn k hk l hl
    rw [out7_A m c ⟨0, hn⟩ rfl, at2_of _ hk hl]
    refine dw_step m c ⟨0, hn⟩ 0 rfl (fun k hk l hl => ?_) hk hl
    rw [at2_of _ hk hl]
    unfold dwG
    rw [Finset.range_zero, Finset.sum_empty, ite_self]
  | succ n ih =>
    intro hn k hk l hl
    have : n + 1 < 32 := t_lt ⟨n + 1, hn⟩
    rw [out7_B m c ⟨n + 1, hn⟩ (show ¬ (n + 1) % 32 = 0 by omega), at2_of _ hk hl]
    exact dw_step m c ⟨n + 1, hn⟩ (256 * n + 256) rfl (ih (by omega)) hk hl

/-- The two arrays after the last grid point. -/
theorem final6 : (dats m 0 c).arrAt 6 cfg0.N = mat (φ := .bf16) 8192 3072 (dpG (a0 m c) (a1 m c) (a2 m c)) := by
  refine (dats m 0 c).arrAt_eq_of_covers 6 _ (by decide +kernel) fun t hf y => ?_
  blk_simp
  rw [after0_6]
  obtain ⟨r, l, rfl⟩ : ∃ (r : Fin 256) (l : Fin 3072), y = ix2 r l := ⟨y 0, y 1, eq_ix2 y⟩
  have he : ((View.whole main_v0_0).slice (win0_6.rect t)).emb (ix2 r l) = ix2 ⟨t.val * 256 + r.val, row_lt t r⟩ l := by blk_ext [idx6 t]
  rw [he, out6]
  refine (dp_eq m c t r.isLt l.isLt).trans ?_
  rw [Nat.mul_comm 256]
  rfl
theorem final7 : (dats m 0 c).arrAt 7 cfg0.N = mat (φ := .f32) 8 1024 (dwG (a0 m c) (a2 m c) 8192) := by
  refine (dats m 0 c).arrAt_eq_of_covers 7 _ (by decide +kernel) fun t hf y => ?_
  blk_simp
  rw [after0_7]
  obtain ⟨r, l, rfl⟩ : ∃ (r : Fin 8) (l : Fin 1024), y = ix2 r l := ⟨y 0, y 1, eq_ix2 y⟩
  have he : ((View.whole main_v0_1).slice (win0_7.rect t)).emb (ix2 r l) = ix2 r l := by blk_ext [idx7 t]
  have ht : t.val + 1 = 32 := (by decide +kernel : ∀ t : Fin grid0.N, win0_7.flush t = true → t.val + 1 = 32) t hf
  rw [he]
  refine (at2_ix _ r l).symm.trans ((out7 m c t.val t.isLt r.val r.isLt l.val l.isLt).trans ?_)
  rw [show 256 * t.val + 256 = 8192 from by omega]
  rfl

/-- The run, read. -/
theorem run (m : (ℓ : Loc nD τ sig) → Buf (Elt Ideal) ℓ) (ρ) :
    θ_run defs (onTc (τ := τ) (main (F := Ideal))) ⟨m, fun _ => 0, ρ⟩ fun r => ∀ c : Dev nD,
      r.2.mem ((c : Thread nD τ).loc main_v0_0) = mat (φ := .bf16) 8192 3072 (dpG (a0 m c) (a1 m c) (a2 m c))
      ∧ r.2.mem ((c : Thread nD τ).loc main_v0_1) = mat (φ := .f32) 8 1024 (dwG (a0 m c) (a2 m c) 8192)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 6).trans (final6 m c), ((h.1 c).1 7).trans (final7 m c), h.2 c⟩) (θ_run_and (run_main m ρ) (unchanged m ρ))
end Cert.ConvBwdIdeal.Outcome

namespace Cert.Proof.ConvBwdClaims

/-- Every execution of the kernel as compiled terminates, keeps its arguments and leaves every semaphore at zero. -/
theorem frame_k : Cert.quiescent_ConvBwd := fun m ρ _ => Cert.ConvBwd.Gen.frame m ρ
/-- The same of the kernel read over the extended reals, -/
theorem frame_ki : Cert.quiescent_ConvBwdIdeal := fun m ρ _ => Cert.ConvBwdIdeal.Gen.frame m ρ
/-- and of the reference. -/
theorem frame_ri : Cert.quiescent_ConvBwdRefIdeal := fun m ρ _ =>
  (θ_run Cert.ConvBwdRefIdeal.defs _ _).mono
    (fun r h => ⟨fun c => (h c).2.2, Idealize.ShloMosaic.sem_eq_zero_of_no_sems (by decide) r.2⟩)
    (Cert.ConvBwdRefIdeal.Value.run (F := Ideal) m ρ)
/-- Reading the kernel over the extended reals rewrote nothing. -/
theorem preserves : Cert.preserves_ConvBwd_ConvBwdIdeal := trivial

/-- Over the extended reals the kernel's two results are the reference's, whatever the arguments. -/
theorem algebraic : Cert.algebraic_ConvBwdIdeal_ConvBwdRefIdeal := fun m ρ m' ρ' _ hag =>
  ⟨_, _, Cert.ConvBwdIdeal.Outcome.run m ρ,
    (θ_run Cert.ConvBwdRefIdeal.defs _ _).mono
      (fun _ h c => ⟨(h c).1.trans ((Cert.ConvBwdRefIdeal.Read.val_main_v68_eq m' c).trans (by rw [Cert.ConvBwdRefIdeal.Outcome.v68_mat, (hag c).1, (hag c).2.1, (hag c).2.2])),
        (h c).2.1.trans ((Cert.ConvBwdRefIdeal.Read.val_main_v70_eq _ _).trans (by rw [Cert.ConvBwdRefIdeal.Outcome.v70_mat, (hag c).1, (hag c).2.2])), (h c).2.2⟩)
      (Cert.ConvBwdRefIdeal.Value.run (F := Ideal) m' ρ')⟩

end Cert.Proof.ConvBwdClaims

end
-- ==== Proof.NormFwdValue.lean ====
/- The norm's forward call (`NormFwd`): the rows it leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
@[expose] public section
set_option maxRecDepth 16384
noncomputable section
open Idealize.ShloMosaic Idealize.ShloMosaic.TcCoe Idealize.SL.Sem
open Idealize.ShloMosaic.Pipeline (Dat)

namespace Cert.NormFwdIdeal.Outcome
open Cert.NormFwdIdeal Cert.NormFwdIdeal.Gen
variable (m : (ℓ : Loc nD τ sig) → Buf (Elt Ideal) ℓ) (c : Dev nD) (t : Fin cfg0.N)

/-- A row over the root of its mean square, scaled. -/
def nrm (x : Fin 1024 → EReal) (g : EReal) (l : Fin 1024) : EReal :=
  x l * Ideal.rsqrt (Ideal.div (∑ k : Fin 1024, x k * x k) (Ideal.ofBits .f32 0x44800000#32) + Ideal.ofBits .f32 0x358637BD#32) * g
theorem pay1_apply (x : Vec Ideal S512x1024 .f32) (g : Vec Ideal S1x1024 .f32) (r : Fin 512) (l : Fin 1024) :
    k0_pay1 (F := Ideal) x g (ix2 r l) = nrm (fun k => x (ix2 r k)) (g (ix2 0 l)) l := by
  unfold nrm
  pointwise [k0_pay1]

/-- The arguments, and where the blocks lie. -/
abbrev a0 : S8192x1024.Idx → EReal := m ((c : Thread nD τ).loc main_arg0)
abbrev a1 : S1024.Idx → EReal := m ((c : Thread nD τ).loc main_arg1)
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem row_lt (r : Fin 512) : t.val * 512 + r.val < 8192 := by
  have := t.isLt; have hN : cfg0.N = 16 := N_0; omega
theorem iblk0_apply (r : Fin 512) (k : Fin 1024) : (iblk m c 0 t : Vec Ideal S512x1024 .f32) (ix2 r k) = a0 m c (ix2 ⟨t.val * 512 + r.val, row_lt t r⟩ k) := by
  have he : (win0_0.blk t).view.emb (ix2 r k) = ix2 ⟨t.val * 512 + r.val, row_lt t r⟩ k := by blk_ext [idx0 t]
  blk_simp [iblk]
  rw [he]
  exact congrFun (V_main_arg0 m c) _
theorem iblk1_apply (k : Fin 1024) : (iblk m c 1 t : Vec Ideal S1x1024 .f32) (ix2 0 k) = a1 m c (ix1 k) := by
  have hV : @Eq (S1x1024.Idx → EReal) (V m c main_v0) (broadcastInDim S1x1024 ![1] bcast_S1024_S1x1024_1 (m ((c : Thread nD τ).loc main_arg1))) := by
    simp only [V, hostOps0]; after_results
  have he : (win0_1.blk t).view.emb (ix2 0 k) = ix2 0 k := by blk_ext [idx1 t]
  blk_simp [iblk]
  rw [he]
  refine (congrFun hV _).trans ?_
  pointwise

/-- The array after the last grid point. -/
def rows (x : S8192x1024.Idx → EReal) (g : S1024.Idx → EReal) : S8192x1024.Idx → EReal := fun i => nrm (fun k => x (ix2 (i 0) k)) (g (ix1 (i 1))) (i 1)
theorem after2 (r : Fin 512) (l : Fin 1024) : (out0_2 (F := Ideal) (iblk m c 0 t) (iblk m c 1 t)) (ix2 r l) = rows (a0 m c) (a1 m c) (ix2 ⟨t.val * 512 + r.val, row_lt t r⟩ l) := by
  refine Eq.trans (b := k0_pay1 (F := Ideal) (iblk m c 0 t) (iblk m c 1 t) (ix2 r l)) ?_ ?_
  · frame_out
  · rw [pay1_apply]
    simp only [iblk0_apply, iblk1_apply]
    rfl
theorem final2 : (dats m 0 c).arrAt 2 cfg0.N = rows (a0 m c) (a1 m c) := by
  refine (dats m 0 c).arrAt_eq_of_covers 2 _ (by decide +kernel) fun t hf y => ?_
  blk_simp
  rw [after0_2]
  obtain ⟨r, l, rfl⟩ : ∃ (r : Fin 512) (l : Fin 1024), y = ix2 r l := ⟨y 0, y 1, eq_ix2 y⟩
  refine (after2 m c t r l).trans ?_
  congr 1
  blk_ext [idx2 t]

/-- The run, read. -/
theorem run (ρ) : θ_run defs (onTc (τ := τ) (main (F := Ideal))) ⟨m, fun _ => 0, ρ⟩ fun r => ∀ c : Dev nD,
      r.2.mem ((c : Thread nD τ).loc main_v1) = rows (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)
end Cert.NormFwdIdeal.Outcome

namespace Cert.NormFwdRefIdeal.Outcome
open Cert.NormFwdRefIdeal Cert.NormFwdRefIdeal.Read
open Cert.NormFwdIdeal.Outcome (nrm rows)
variable (x0 : S8192x1024.Idx → EReal) (x1 : S1024.Idx → EReal)

/-- The reference's rows: the mean square, its root, the scale. -/
theorem v6_apply (r : Fin 8192) : (val_main_v6 (F := Ideal) x0 : S8192x1.Idx → EReal) (ix2 r 0)
    = Ideal.div (∑ k : Fin 1024, x0 (ix2 r k) * x0 (ix2 r k)) (Ideal.ofBits .f32 0x44800000#32) + Ideal.ofBits .f32 0x358637BD#32 := by
  pointwise [val_main_v6, val_main_v5, val_main_cst_1, val_main_v4, val_main_v3, val_main_cst_0, val_main_v2, val_main_v1, val_main_cst, val_main_v0]
theorem v13_apply : (val_main_v13 (F := Ideal) x0 x1 : S8192x1024.Idx → EReal) = rows x0 x1 := by
  funext i
  obtain ⟨r, l, rfl⟩ : ∃ (r : Fin 8192) (l : Fin 1024), i = ix2 r l := ⟨i 0, i 1, eq_ix2 i⟩
  show _ = nrm (fun k => x0 (ix2 r k)) (x1 (ix1 l)) l
  unfold nrm
  rw [← v6_apply]
  pointwise [val_main_v13, val_main_v12, val_main_v11, val_main_v10, val_main_v9, val_main_v8, val_main_v7]
end Cert.NormFwdRefIdeal.Outcome

namespace Cert.Proof.NormFwdClaims

/-- Every execution of the kernel as compiled terminates, keeps its arguments and leaves every semaphore at zero. -/
theorem frame_k : Cert.quiescent_NormFwd := fun m ρ _ => Cert.NormFwd.Gen.frame m ρ
/-- The same of the kernel read over the extended reals, -/
theorem frame_ki : Cert.quiescent_NormFwdIdeal := fun m ρ _ => Cert.NormFwdIdeal.Gen.frame m ρ
/-- and of the reference. -/
theorem frame_ri : Cert.quiescent_NormFwdRefIdeal := fun m ρ _ =>
  (θ_run Cert.NormFwdRefIdeal.defs _ _).mono
    (fun r h => ⟨fun c => (h c).2, Idealize.ShloMosaic.sem_eq_zero_of_no_sems (by decide) r.2⟩)
    (Cert.NormFwdRefIdeal.Value.run (F := Ideal) m ρ)
/-- Reading the kernel over the extended reals rewrote nothing. -/
theorem preserves : Cert.preserves_NormFwd_NormFwdIdeal := trivial

/-- Over the extended reals the kernel's rows are the reference's, whatever the arguments. -/
theorem algebraic : Cert.algebraic_NormFwdIdeal_NormFwdRefIdeal := fun m ρ m' ρ' _ hag =>
  ⟨fun c => Cert.NormFwdIdeal.Outcome.rows (Cert.NormFwdIdeal.Outcome.a0 m c) (Cert.NormFwdIdeal.Outcome.a1 m c), Cert.NormFwdIdeal.Outcome.run m ρ,
    (θ_run Cert.NormFwdRefIdeal.defs _ _).mono
      (fun _ h c => ⟨(h c).1.trans (by
        rw [Cert.NormFwdRefIdeal.Read.val_main_v13_eq, (hag c).1, (hag c).2]
        exact Cert.NormFwdRefIdeal.Outcome.v13_apply _ _), (h c).2⟩)
      (Cert.NormFwdRefIdeal.Value.run (F := Ideal) m' ρ')⟩

end Cert.Proof.NormFwdClaims

end
-- ==== Proof.ConvFwdValue.lean ====
/- The short convolution's forward call (`ConvFwd`): the rows it leaves, in the terms of its backward call's pieces; the reference, and the claims. -/
module

public import proofs.«01_k».proof.Defs
public import proofs.«01_k».proof.Proof.ConvBwdRef
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.ConvFwdRefIdeal.Read
@[expose] public section
set_option maxRecDepth 16384
noncomputable section
open Idealize.ShloMosaic Idealize.ShloMosaic.TcCoe Idealize.SL.Sem
open Idealize.ShloMosaic.Pipeline (Dat)

namespace Cert.ConvFwdIdeal.Outcome
open Cert.ConvFwdIdeal Cert.ConvFwdIdeal.Gen Cert.Conv
variable (m : (ℓ : Loc nD τ sig) → Buf (Elt Ideal) ℓ) (c : Dev nD)
/-- The arguments: the three parts and the weights. -/
abbrev a0 : S8192x3072.Idx → EReal := m ((c : Thread nD τ).loc main_arg0)
abbrev a1 : S3x1024.Idx → EReal := m ((c : Thread nD τ).loc main_arg1)

/-- Where the blocks lie. -/
theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] := (by decide +kernel : ∀ t : Fin grid0.N, win0_1.index t = ![32 * t.val - 1, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem t_lt (t : Fin cfg0.N) : t.val < 32 := by
  have := t.isLt; have hN : cfg0.N = 32 := N_0; omega
variable (t : Fin cfg0.N)
theorem row_lt (r : Fin 256) : t.val * 256 + r.val < 8192 := by
  have := t_lt t; omega
/-- The blocks' entries, as entries of the arguments. -/
theorem blk0 {r j : ℕ} (hr : r < 256) (hj : j < 3072) : at2 (iblk m c 0 t : S256x3072.Idx → EReal) r j = at2 (a0 m c) (256 * t.val + r) j := by
  have := t_lt t
  have he : (win0_0.blk t).view.emb (ix2 ⟨r, hr⟩ ⟨j, hj⟩) = ix2 ⟨256 * t.val + r, by omega⟩ ⟨j, hj⟩ := by blk_ext [idx0 t]
  rw [at2_of _ hr hj, at2_of (a0 m c) (by omega) hj]
  blk_simp [iblk]
  rw [he]
theorem blk1 {r j : ℕ} (hr : r < 8) (hj : j < 3072) (h : t.val ≠ 0) : at2 (iblk m c 1 t : S8x3072.Idx → EReal) r j = at2 (a0 m c) (256 * t.val + r - 8) j := by
  have := t_lt t
  have he : (win0_1.blk t).view.emb (ix2 ⟨r, hr⟩ ⟨j, hj⟩) = ix2 ⟨256 * t.val + r - 8, by omega⟩ ⟨j, hj⟩ := by blk_ext [idx1 t]
  rw [at2_of _ hr hj, at2_of (a0 m c) (by omega) hj]
  blk_simp [iblk]
  rw [he]
theorem blk2 {r j : ℕ} (hr : r < 3) (hj : j < 1024) : at2 (iblk m c 2 t : S3x1024.Idx → EReal) r j = at2 (a1 m c) r j := by
  have he : (win0_2.blk t).view.emb (ix2 ⟨r, hr⟩ ⟨j, hj⟩) = ix2 ⟨r, hr⟩ ⟨j, hj⟩ := by blk_ext [idx2 t]
  rw [at2_of _ hr hj, at2_of (a1 m c) hr hj]
  blk_simp [iblk]
  rw [he]

/-- The scratch array holds the products of the block's rows and of the eight rows above. -/
theorem c_zero : (Scalar.ofBits .f32 0x00000000#32 : Ideal .f32) = (0 : EReal) := Ideal.ofBits_zero_f32
theorem pay2_apply (a b : Vec Ideal S8x1024 .f32) (i : Fin 8) (j : Fin 1024) : k0_pay2 (F := Ideal) (grid0.coords t) a b (ix2 i j) = a (ix2 i j) * b (ix2 i j) * (if t.val = 0 then 0 else 1) := by
  have h : ∀ t : Fin grid0.N, Scalar.cmpi .eq (BitVec.ofNat 32 (grid0.coords t 0).val) 0#32 = if t.val = 0 then 1#1 else 0#1 := by decide +kernel
  have e : (Scalar.select (Scalar.cmpi .eq (BitVec.ofNat 32 (grid0.coords t 0).val) 0#32) (Scalar.ofBits .f32 0x00000000#32 : Ideal .f32) (Scalar.ofBits .f32 0x3F800000#32)) = if t.val = 0 then (0 : EReal) else 1 := by
    rw [h t, c_zero, show (Scalar.ofBits .f32 0x3F800000#32 : Ideal .f32) = (1 : EReal) from Ideal.ofBits_one_f32]
    split <;> rfl
  rw [← e]
  unfold k0_pay2
  pointwise
theorem pay3_apply (a b : Vec Ideal S256x1024 .f32) (i : Fin 256) (j : Fin 1024) : k0_pay3 (F := Ideal) a b (ix2 i j) = a (ix2 i j) * b (ix2 i j) := by
  unfold k0_pay3
  pointwise
theorem pay1_apply (w0 w1 w2 : Vec Ideal S1x1024 .f32) (x0 x1 x2 p : Vec Ideal S256x1024 .f32) (i : Fin 256) (j : Fin 1024) :
    k0_pay1 (F := Ideal) (k0_pay4 (F := Ideal) w0 x0 w1 x1) w2 x2 p (ix2 i j)
      = p (ix2 i j) * (((0 + w0 (ix2 (0 : Fin 1) j) * x0 (ix2 i j)) + w1 (ix2 (0 : Fin 1) j) * x1 (ix2 i j)) + w2 (ix2 (0 : Fin 1) j) * x2 (ix2 i j)) := by
  unfold k0_pay1 k0_pay4
  pointwise [c_zero]
def X : S264x1024.Idx → EReal := fun y => q8 (a0 m c) (256 * t.val + (y 0).val) (y 1).val
theorem X_eq {s j : ℕ} (hs : s < 264) (hj : j < 1024) : at2 (X m c t) s j = q8 (a0 m c) (256 * t.val + s) j := at2_of _ hs hj
theorem X_canon (i1 i2 i3 i4 i5 i6) :
    View.canon (Val := Elt Ideal) (s := S264x1024) (e := .f32)
      [⟨Rect.unit ![8, 0] ![256, 1024] i1, k0_pay3 (F := Ideal) (View.ld (Val := Elt Ideal) (e' := .f32) (iblk m c 0 t) (Rect.unit (s := S256x3072) ![0, 1024] ![256, 1024] i2)) (View.ld (Val := Elt Ideal) (e' := .f32) (iblk m c 0 t) (Rect.unit (s := S256x3072) ![0, 2048] ![256, 1024] i3))⟩,
       ⟨Rect.unit ![0, 0] ![8, 1024] i4, k0_pay2 (F := Ideal) (grid0.coords t) (View.ld (Val := Elt Ideal) (e' := .f32) (iblk m c 1 t) (Rect.unit (s := S8x3072) ![0, 1024] ![8, 1024] i5)) (View.ld (Val := Elt Ideal) (e' := .f32) (iblk m c 1 t) (Rect.unit (s := S8x3072) ![0, 2048] ![8, 1024] i6))⟩] = X m c t := by
  refine canon_all (Val := Elt Ideal) (s := S264x1024) (e := .f32) (X m c t) _ (fun y => ?_) ⟨fun x => ?_, fun x => ?_, trivial⟩
  · rcases Nat.lt_or_ge (y 0).val 8 with h | h
    · exact ⟨_, List.mem_cons_of_mem _ List.mem_cons_self, mem_rows i4 y (Nat.zero_le _) (by omega)⟩
    · exact ⟨_, List.mem_cons_self, mem_rows i1 y h (by have := (y 0).isLt; change (y 0).val < 264 at this; omega)⟩
  · obtain ⟨i, j, rfl⟩ : ∃ (i : Fin 256) (j : Fin 1024), x = ix2 i j := ⟨x 0, x 1, eq_ix2 x⟩
    rw [emb_ix i1 i j (by omega) (by omega)]
    refine (pay3_apply _ _ i j).trans ?_
    show _ = q8 (a0 m c) (256 * t.val + (8 + i.val)) (0 + j.val)
    unfold q8
    rw [if_neg (by omega), show 256 * t.val + (8 + i.val) - 8 = 256 * t.val + i.val from by omega, Nat.zero_add]
    refine congrArg₂ (· * ·) ((ld_at2 (iblk m c 0 t) i2 i j).trans ?_) ((ld_at2 (iblk m c 0 t) i3 i j).trans ?_)
    all_goals rw [Nat.zero_add, blk0 m c t i.isLt (by omega)]
  · obtain ⟨i, j, rfl⟩ : ∃ (i : Fin 8) (j : Fin 1024), x = ix2 i j := ⟨x 0, x 1, eq_ix2 x⟩
    rw [emb_ix i4 i j (by omega) (by omega)]
    refine (pay2_apply t _ _ i j).trans ?_
    show _ = q8 (a0 m c) (256 * t.val + (0 + i.val)) (0 + j.val)
    unfold q8
    rw [Nat.zero_add, Nat.zero_add]
    by_cases h0 : t.val = 0
    · rw [if_pos h0, mul_zero, if_pos (by omega)]
    · rw [if_neg h0, mul_one, if_neg (by omega)]
      refine congrArg₂ (· * ·) ((ld_at2 (iblk m c 1 t) i5 i j).trans ?_) ((ld_at2 (iblk m c 1 t) i6 i j).trans ?_)
      all_goals rw [Nat.zero_add, blk1 m c t i.isLt (by omega) h0]

/-- The array after the last grid point. -/
def yG (P : Mat 8192 3072) (W : Mat 3 1024) (n j : ℕ) : EReal := at2 P n j * cqG P W n j
theorem after3 (r : Fin 256) (l : Fin 1024) : (outsAt0 m c t : S256x1024.Idx → EReal) (ix2 r l) = yG (a0 m c) (a1 m c) (256 * t.val + r.val) l.val := by
  unfold outsAt0
  frame_open
  frame_out
  simp only [cov_ld]
  repeat rw [X_canon]
  refine (pay1_apply _ _ _ _ _ _ _ r l).trans ?_
  have hl := l.isLt
  have hr := r.isLt
  have hw := fun k (hk : k < 3) (h) => (ld_at2 (iblk m c 2 t : S3x1024.Idx → EReal) (a := k) (b := 0) (m' := 1) (n' := 1024) h 0 l).trans
    (show at2 (iblk m c 2 t : S3x1024.Idx → EReal) (k + 0) (0 + l.val) = at2 (a1 m c) k l.val by rw [Nat.zero_add, Nat.add_zero, blk2 m c t hk hl])
  have hx := fun k (hk : k < 9) (h) => (ld_at2 (X m c t) (a := k) (b := 0) (m' := 256) (n' := 1024) h r l).trans
    (show at2 (X m c t) (k + r.val) (0 + l.val) = q8 (a0 m c) (256 * t.val + r.val + k) l.val by
      rw [Nat.zero_add, X_eq m c t (by omega) hl, show 256 * t.val + (k + r.val) = 256 * t.val + r.val + k from by omega])
  unfold yG cqG
  refine congrArg₂ (· * ·) ((ld_at2 (iblk m c 0 t) _ r l).trans ?_) (congrArg₂ (· + ·) (congrArg₂ (· + ·) (congrArg (0 + ·) ?_) ?_) ?_)
  · rw [Nat.zero_add, Nat.zero_add, blk0 m c t hr (by omega)]
  · exact congrArg₂ (· * ·) (hw 0 (by decide) _) (hx 6 (by decide) _)
  · exact congrArg₂ (· * ·) (hw 1 (by decide) _) (hx 7 (by decide) _)
  · exact congrArg₂ (· * ·) (hw 2 (by decide) _) (hx 8 (by decide) _)
theorem final3 : (dats m 0 c).arrAt 3 cfg0.N = mat (φ := .bf16) 8192 1024 (yG (a0 m c) (a1 m c)) := by
  refine (dats m 0 c).arrAt_eq_of_covers 3 _ (by decide +kernel) fun t hf y => ?_
  blk_simp
  rw [after0_3]
  obtain ⟨r, l, rfl⟩ : ∃ (r : Fin 256) (l : Fin 1024), y = ix2 r l := ⟨y 0, y 1, eq_ix2 y⟩
  have he : ((View.whole main_v0).slice (win0_3.rect t)).emb (ix2 r l) = ix2 ⟨t.val * 256 + r.val, row_lt t r⟩ l := by blk_ext [idx3 t]
  rw [he]
  refine (after3 m c t r l).trans ?_
  rw [Nat.mul_comm 256]
  rfl

/-- The run, read. -/
theorem run (ρ) : θ_run defs (onTc (τ := τ) (main (F := Ideal))) ⟨m, fun _ => 0, ρ⟩ fun r => ∀ c : Dev nD,
      r.2.mem ((c : Thread nD τ).loc main_v0) = mat (φ := .bf16) 8192 1024 (yG (a0 m c) (a1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 3).trans (final3 m c), h.2 c⟩) (θ_run_and (run_main m ρ) (unchanged m ρ))
end Cert.ConvFwdIdeal.Outcome

namespace Cert.ConvFwdRefIdeal.Outcome
open Cert.ConvFwdRefIdeal Cert.ConvFwdRefIdeal.Read Cert.Conv
open Cert.ConvFwdIdeal.Outcome (yG)
variable (x0 : FVec Ideal S8192x3072 .f32) (x1 : FVec Ideal S3x1024 .f32)

/-- The reference's convolution is the one its backward call's reference computes on the way. -/
theorem v27_eq : val_main_v27 (F := Ideal) x0 x1 = Cert.ConvBwdRefIdeal.Read.val_main_v28 (F := Ideal) x0 x1 := rfl
theorem v0_eq : val_main_v0 (F := Ideal) x0 = Cert.ConvBwdRefIdeal.Read.val_main_v0 (F := Ideal) x0 := rfl
theorem v29_mat : val_main_v29 (F := Ideal) x0 x1 = mat (φ := .bf16) 8192 1024 (yG x0 x1) := by
  have e : val_main_v28 (F := Ideal) x0 x1 = mat (φ := .f32) 8192 1024 (yG x0 x1) := by
    unfold val_main_v28
    rw [v0_eq, v27_eq, Cert.ConvBwdRefIdeal.Outcome.part0, Cert.ConvBwdRefIdeal.Outcome.v28_mat]
    rfl
  unfold val_main_v29
  rw [e]
  rfl
end Cert.ConvFwdRefIdeal.Outcome

namespace Cert.Proof.ConvFwdClaims

/-- Every execution of the kernel as compiled terminates, keeps its arguments and leaves every semaphore at zero. -/
theorem frame_k : Cert.quiescent_ConvFwd := fun m ρ _ => Cert.ConvFwd.Gen.frame m ρ
/-- The same of the kernel read over the extended reals, -/
theorem frame_ki : Cert.quiescent_ConvFwdIdeal := fun m ρ _ => Cert.ConvFwdIdeal.Gen.frame m ρ
/-- and of the reference. -/
theorem frame_ri : Cert.quiescent_ConvFwdRefIdeal := fun m ρ _ =>
  (θ_run Cert.ConvFwdRefIdeal.defs _ _).mono
    (fun r h => ⟨fun c => (h c).2, Idealize.ShloMosaic.sem_eq_zero_of_no_sems (by decide) r.2⟩)
    (Cert.ConvFwdRefIdeal.Value.run (F := Ideal) m ρ)
/-- Reading the kernel over the extended reals rewrote nothing. -/
theorem preserves : Cert.preserves_ConvFwd_ConvFwdIdeal := trivial

/-- Over the extended reals the kernel's rows are the reference's, whatever the arguments. -/
theorem algebraic : Cert.algebraic_ConvFwdIdeal_ConvFwdRefIdeal := fun m ρ m' ρ' _ hag =>
  ⟨_, Cert.ConvFwdIdeal.Outcome.run m ρ,
    (θ_run Cert.ConvFwdRefIdeal.defs _ _).mono
      (fun _ h c => ⟨(h c).1.trans ((Cert.ConvFwdRefIdeal.Read.val_main_v29_eq _ _).trans (by rw [Cert.ConvFwdRefIdeal.Outcome.v29_mat, (hag c).1, (hag c).2])), (h c).2⟩)
      (Cert.ConvFwdRefIdeal.Value.run (F := Ideal) m' ρ')⟩

end Cert.Proof.ConvFwdClaims

end
-- ==== Proof.MlpUpValue.lean ====
/- The MLP's first product with its squared rectifier (`MlpUp`): the two arrays the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.MlpUp.Frame
public import proofs.«01_k».proof.Proof.Gen.MlpUpIdeal.Value
public import proofs.«01_k».proof.Proof.Gen.MlpUpRefIdeal.Run
public import proofs.«01_k».proof.Proof.Gen.MlpUpRefIdeal.Read
@[expose] public section
set_option maxRecDepth 16384
noncomputable section
open Idealize.ShloMosaic Idealize.ShloMosaic.TcCoe Idealize.SL.Sem
open Idealize.ShloMosaic.Pipeline (Dat)

namespace Cert.MlpUpIdeal.Outcome
open Cert.MlpUpIdeal Cert.MlpUpIdeal.Gen
variable (m : (ℓ : Loc nD τ sig) → Buf (Elt Ideal) ℓ) (c : Dev nD) (t : Fin cfg0.N)

/-- An entry of the product, the product, and its squared rectifier. -/
def dotRow (x : Fin 1024 → EReal) (w : S1x1024x4096.Idx → EReal) (l : Fin 4096) : EReal := ∑ k : Fin 1024, x k * w (ix3 0 k l)
def act (x : S8192x1024.Idx → EReal) (w : S1x1024x4096.Idx → EReal) : S8192x4096.Idx → EReal := fun i => dotRow (fun k => x (ix2 (i 0) k)) w (i 1)
def sqr (x : S8192x1024.Idx → EReal) (w : S1x1024x4096.Idx → EReal) : S8192x4096.Idx → EReal := fun i => max (act x w i) 0 * max (act x w i) 0
theorem pay1_apply (x : Vec Ideal S256x1024 .bf16) (w : Vec Ideal S1x1024x4096 .bf16) (r : Fin 256) (l : Fin 4096) :
    k0_pay1 (F := Ideal) x w (ix2 r l) = dotRow (fun k => x (ix2 r k)) w l := by
  unfold dotRow
  pointwise [k0_pay1]
theorem pay3_apply (x : Vec Ideal S256x1024 .bf16) (w : Vec Ideal S1x1024x4096 .bf16) (r : Fin 256) (l : Fin 4096) :
    k0_pay3 (F := Ideal) x w (ix2 r l) = max (k0_pay1 (F := Ideal) x w (ix2 r l)) 0 * max (k0_pay1 (F := Ideal) x w (ix2 r l)) 0 := by
  unfold k0_pay3
  generalize k0_pay1 (F := Ideal) x w = y
  pointwise

/-- The arguments, and where the blocks lie. -/
abbrev a0 : S8192x1024.Idx → EReal := m ((c : Thread nD τ).loc main_arg0)
abbrev a1 : S1x1024x4096.Idx → EReal := m ((c : Thread nD τ).loc main_arg1)
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem row_lt (r : Fin 256) : t.val * 256 + r.val < 8192 := by
  have := t.isLt; have hN : cfg0.N = 32 := N_0; omega
theorem iblk0_apply (r : Fin 256) (k : Fin 1024) : (iblk m c 0 t : Vec Ideal S256x1024 .bf16) (ix2 r k) = a0 m c (ix2 ⟨t.val * 256 + r.val, row_lt t r⟩ k) := by
  have hV : @Eq (S8192x1024.Idx → EReal) (V m c main_v0) (truncf (F := Ideal) (s := S8192x1024) (φ := .f32) .bf16 (m ((c : Thread nD τ).loc main_arg0)) bitsLt_bf16_f32) := by
    simp only [V, hostOps0]; after_results
  have he : (win0_0.blk t).view.emb (ix2 r k) = ix2 ⟨t.val * 256 + r.val, row_lt t r⟩ k := by blk_ext [idx0 t]
  blk_simp [iblk]
  rw [he]
  exact congrFun hV _
theorem iblk1_apply (k : Fin 1024) (l : Fin 4096) : (iblk m c 1 t : Vec Ideal S1x1024x4096 .bf16) (ix3 0 k l) = a1 m c (ix3 0 k l) := by
  have hV : @Eq (S1x1024x4096.Idx → EReal) (V m c main_v1) (truncf (F := Ideal) (s := S1x1024x4096) (φ := .f32) .bf16 (m ((c : Thread nD τ).loc main_arg1)) bitsLt_bf16_f32) := by
    simp only [V, hostOps0]; after_results
  have he : (win0_1.blk t).view.emb (ix3 0 k l) = ix3 0 k l := by blk_ext [idx1 t]
  blk_simp [iblk]
  rw [he]
  exact congrFun hV _
theorem prod_apply (r : Fin 256) (l : Fin 4096) : k0_pay1 (F := Ideal) (iblk m c 0 t) (iblk m c 1 t) (ix2 r l) = act (a0 m c) (a1 m c) (ix2 ⟨t.val * 256 + r.val, row_lt t r⟩ l) := by
  rw [pay1_apply]
  unfold act dotRow
  simp only [iblk0_apply, iblk1_apply]
  rfl

/-- The arrays after the last grid point. -/
theorem after2 (r : Fin 256) (l : Fin 4096) : (out0_2 (F := Ideal) (iblk m c 0 t) (iblk m c 1 t)) (ix2 r l) = act (a0 m c) (a1 m c) (ix2 ⟨t.val * 256 + r.val, row_lt t r⟩ l) := by
  refine Eq.trans (b := k0_pay2 (F := Ideal) (iblk m c 0 t) (iblk m c 1 t) (ix2 r l)) ?_ (prod_apply m c t r l)
  frame_out
theorem after3 (r : Fin 256) (l : Fin 4096) : (out0_3 (F := Ideal) (iblk m c 0 t) (iblk m c 1 t)) (ix2 r l) = sqr (a0 m c) (a1 m c) (ix2 ⟨t.val * 256 + r.val, row_lt t r⟩ l) := by
  refine Eq.trans (b := k0_pay3 (F := Ideal) (iblk m c 0 t) (iblk m c 1 t) (ix2 r l)) ?_ ?_
  · frame_out
  · rw [pay3_apply, prod_apply]
    rfl
theorem final2 : (dats m 0 c).arrAt 2 cfg0.N = act (a0 m c) (a1 m c) := by
  refine (dats m 0 c).arrAt_eq_of_covers 2 _ (by decide +kernel) fun t hf y => ?_
  blk_simp
  rw [after0_2]
  obtain ⟨r, l, rfl⟩ : ∃ (r : Fin 256) (l : Fin 4096), y = ix2 r l := ⟨y 0, y 1, eq_ix2 y⟩
  refine (after2 m c t r l).trans ?_
  congr 1
  blk_ext [idx2 t]
theorem final3 : (dats m 0 c).arrAt 3 cfg0.N = sqr (a0 m c) (a1 m c) := by
  refine (dats m 0 c).arrAt_eq_of_covers 3 _ (by decide +kernel) fun t hf y => ?_
  blk_simp
  rw [after0_3]
  obtain ⟨r, l, rfl⟩ : ∃ (r : Fin 256) (l : Fin 4096), y = ix2 r l := ⟨y 0, y 1, eq_ix2 y⟩
  refine (after3 m c t r l).trans ?_
  congr 1
  blk_ext [idx3 t]

/-- The run, read. -/
theorem run (ρ) : θ_run defs (onTc (τ := τ) (main (F := Ideal))) ⟨m, fun _ => 0, ρ⟩ fun r => ∀ c : Dev nD,
      r.2.mem ((c : Thread nD τ).loc main_v2_0) = act (a0 m c) (a1 m c)
      ∧ r.2.mem ((c : Thread nD τ).loc main_v2_1) = sqr (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)
end Cert.MlpUpIdeal.Outcome

namespace Cert.MlpUpRefIdeal.Outcome
open Cert.MlpUpRefIdeal Cert.MlpUpRefIdeal.Read
open Cert.MlpUpIdeal.Outcome (dotRow act sqr)
variable (x0 : S8192x1024.Idx → EReal) (x1 : S1x1024x4096.Idx → EReal)

/-- The reference's product and its squared rectifier. -/
theorem v1_eq : (val_main_v1 (F := Ideal) x0 x1 : S8192x4096.Idx → EReal) = act x0 x1 := by
  funext i
  obtain ⟨r, l, rfl⟩ : ∃ (r : Fin 8192) (l : Fin 4096), i = ix2 r l := ⟨i 0, i 1, eq_ix2 i⟩
  show _ = ∑ k : Fin 1024, x0 (ix2 r k) * x1 (ix3 0 k l)
  pointwise [val_main_v1, val_main_v0]
theorem v5_eq : (val_main_v5 (F := Ideal) x0 x1 : S8192x4096.Idx → EReal) = sqr x0 x1 := by
  funext i
  unfold sqr
  rw [← v1_eq]
  simp only [val_main_v5_apply, val_main_v4_apply, val_main_v3_apply, val_main_call0_v0_apply, val_main_call0_cst_apply]
  show max _ (Ideal.ofBits .f32 0#32) * max _ (Ideal.ofBits .f32 0#32) = _
  rw [Ideal.ofBits_zero_f32]
end Cert.MlpUpRefIdeal.Outcome

namespace Cert.Proof.MlpUpClaims

/-- Every execution of the kernel as compiled terminates, keeps its arguments and leaves every semaphore at zero. -/
theorem frame_k : Cert.quiescent_MlpUp := fun m ρ _ => Cert.MlpUp.Gen.frame m ρ
/-- The same of the kernel read over the extended reals, -/
theorem frame_ki : Cert.quiescent_MlpUpIdeal := fun m ρ _ => Cert.MlpUpIdeal.Gen.frame m ρ
/-- and of the reference. -/
theorem frame_ri : Cert.quiescent_MlpUpRefIdeal := fun m ρ _ =>
  (θ_run Cert.MlpUpRefIdeal.defs _ _).mono
    (fun r h => ⟨fun c => (h c).2.2, Idealize.ShloMosaic.sem_eq_zero_of_no_sems (by decide) r.2⟩)
    (Cert.MlpUpRefIdeal.Value.run (F := Ideal) m ρ)
/-- Reading the kernel over the extended reals rewrote nothing. -/
theorem preserves : Cert.preserves_MlpUp_MlpUpIdeal := trivial

/-- Over the extended reals the kernel's arrays are the reference's, whatever the arguments. -/
theorem algebraic : Cert.algebraic_MlpUpIdeal_MlpUpRefIdeal := fun m ρ m' ρ' _ hag =>
  ⟨_, _, Cert.MlpUpIdeal.Outcome.run m ρ,
    (θ_run Cert.MlpUpRefIdeal.defs _ _).mono
      (fun _ h c => ⟨(h c).1.trans (by
        rw [Cert.MlpUpRefIdeal.Read.val_main_v2_eq, (hag c).1, (hag c).2]
        exact Cert.MlpUpRefIdeal.Outcome.v1_eq _ _),
        (h c).2.1.trans (by
        rw [Cert.MlpUpRefIdeal.Read.val_main_v5_eq, (hag c).1, (hag c).2]
        exact Cert.MlpUpRefIdeal.Outcome.v5_eq _ _), (h c).2.2⟩)
      (Cert.MlpUpRefIdeal.Value.run (F := Ideal) m' ρ')⟩

end Cert.Proof.MlpUpClaims

end
-- ==== Proof.MlpOutValue.lean ====
/- The MLP's second product with the residual and the next layer's norm (`MlpOut`): the two arrays the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.MlpOut.Frame
public import proofs.«01_k».proof.Proof.Gen.MlpOutIdeal.Value
public import proofs.«01_k».proof.Proof.Gen.MlpOutRefIdeal.Run
public import proofs.«01_k».proof.Proof.Gen.MlpOutRefIdeal.Read
@[expose] public section
set_option maxRecDepth 16384
noncomputable section
open Idealize.ShloMosaic Idealize.ShloMosaic.TcCoe Idealize.SL.Sem
open Idealize.ShloMosaic.Pipeline (Dat)

namespace Cert.MlpOutIdeal.Outcome
open Cert.MlpOutIdeal Cert.MlpOutIdeal.Gen
variable (m : (ℓ : Loc nD τ sig) → Buf (Elt Ideal) ℓ) (c : Dev nD) (t : Fin cfg0.N)

/-- A row of the residual plus a product's row, and a row over the root of its mean square, scaled. -/
def addRow (a : Fin 4096 → EReal) (w : S1x4096x1024.Idx → EReal) (x : Fin 1024 → EReal) (l : Fin 1024) : EReal := x l + ∑ k : Fin 4096, a k * w (ix3 0 k l)
def nrm (x : Fin 1024 → EReal) (g : EReal) (l : Fin 1024) : EReal :=
  x l * Ideal.rsqrt (Ideal.div (∑ k : Fin 1024, x k * x k) (Ideal.ofBits .f32 0x44800000#32) + Ideal.ofBits .f32 0x358637BD#32) * g
theorem pay1_apply (a : Vec Ideal S512x4096 .bf16) (w : Vec Ideal S1x4096x1024 .bf16) (x : Vec Ideal S512x1024 .f32) (r : Fin 512) (l : Fin 1024) :
    k0_pay1 (F := Ideal) a w x (ix2 r l) = addRow (fun k => a (ix2 r k)) w (fun k => x (ix2 r k)) l := by
  unfold addRow
  pointwise [k0_pay1]
theorem pay2_apply (a : Vec Ideal S512x4096 .bf16) (w : Vec Ideal S1x4096x1024 .bf16) (x : Vec Ideal S512x1024 .f32) (g : Vec Ideal S1x1024 .f32) (r : Fin 512) (l : Fin 1024) :
    k0_pay2 (F := Ideal) a w x g (ix2 r l) = nrm (fun k => k0_pay1 (F := Ideal) a w x (ix2 r k)) (g (ix2 0 l)) l := by
  unfold k0_pay2 nrm
  generalize k0_pay1 (F := Ideal) a w x = y
  pointwise

/-- The arguments, and where the blocks lie. -/
abbrev a0 : S8192x4096.Idx → EReal := m ((c : Thread nD τ).loc main_arg0)
abbrev a1 : S1x4096x1024.Idx → EReal := m ((c : Thread nD τ).loc main_arg1)
abbrev a2 : S8192x1024.Idx → EReal := m ((c : Thread nD τ).loc main_arg2)
abbrev a3 : S1024.Idx → EReal := m ((c : Thread nD τ).loc main_arg3)
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem row_lt (r : Fin 512) : t.val * 512 + r.val < 8192 := by
  have := t.isLt; have hN : cfg0.N = 16 := N_0; omega
theorem iblk0_apply (r : Fin 512) (k : Fin 4096) : (iblk m c 0 t : Vec Ideal S512x4096 .bf16) (ix2 r k) = a0 m c (ix2 ⟨t.val * 512 + r.val, row_lt t r⟩ k) := by
  have hV : @Eq (S8192x4096.Idx → EReal) (V m c main_v0) (truncf (F := Ideal) (s := S8192x4096) (φ := .f32) .bf16 (m ((c : Thread nD τ).loc main_arg0)) bitsLt_bf16_f32) := by
    simp only [V, hostOps0]; after_results
  have he : (win0_0.blk t).view.emb (ix2 r k) = ix2 ⟨t.val * 512 + r.val, row_lt t r⟩ k := by blk_ext [idx0 t]
  blk_simp [iblk]
  rw [he]
  exact congrFun hV _
theorem iblk1_apply (k : Fin 4096) (l : Fin 1024) : (iblk m c 1 t : Vec Ideal S1x4096x1024 .bf16) (ix3 0 k l) = a1 m c (ix3 0 k l) := by
  have hV : @Eq (S1x4096x1024.Idx → EReal) (V m c main_v1) (truncf (F := Ideal) (s := S1x4096x1024) (φ := .f32) .bf16 (m ((c : Thread nD τ).loc main_arg1)) bitsLt_bf16_f32) := by
    simp only [V, hostOps0]; after_results
  have he : (win0_1.blk t).view.emb (ix3 0 k l) = ix3 0 k l := by blk_ext [idx1 t]
  blk_simp [iblk]
  rw [he]
  exact congrFun hV _
theorem iblk2_apply (r : Fin 512) (k : Fin 1024) : (iblk m c 2 t : Vec Ideal S512x1024 .f32) (ix2 r k) = a2 m c (ix2 ⟨t.val * 512 + r.val, row_lt t r⟩ k) := by
  have he : (win0_2.blk t).view.emb (ix2 r k) = ix2 ⟨t.val * 512 + r.val, row_lt t r⟩ k := by blk_ext [idx2 t]
  blk_simp [iblk]
  rw [he]
  exact congrFun (V_main_arg2 m c) _
theorem iblk3_apply (k : Fin 1024) : (iblk m c 3 t : Vec Ideal S1x1024 .f32) (ix2 0 k) = a3 m c (ix1 k) := by
  have hV : @Eq (S1x1024.Idx → EReal) (V m c main_v2) (broadcastInDim S1x1024 ![1] bcast_S1024_S1x1024_1 (m ((c : Thread nD τ).loc main_arg3))) := by
    simp only [V, hostOps0]; after_results
  have he : (win0_3.blk t).view.emb (ix2 0 k) = ix2 0 k := by blk_ext [idx3 t]
  blk_simp [iblk]
  rw [he]
  refine (congrFun hV _).trans ?_
  pointwise

/-- The new residual, and its norm. -/
def res (a : S8192x4096.Idx → EReal) (w : S1x4096x1024.Idx → EReal) (x : S8192x1024.Idx → EReal) : S8192x1024.Idx → EReal :=
  fun i => addRow (fun k => a (ix2 (i 0) k)) w (fun k => x (ix2 (i 0) k)) (i 1)
def rows (x : S8192x1024.Idx → EReal) (g : S1024.Idx → EReal) : S8192x1024.Idx → EReal := fun i => nrm (fun k => x (ix2 (i 0) k)) (g (ix1 (i 1))) (i 1)
theorem prod_apply (r : Fin 512) (l : Fin 1024) : k0_pay1 (F := Ideal) (iblk m c 0 t) (iblk m c 1 t) (iblk m c 2 t) (ix2 r l) = res (a0 m c) (a1 m c) (a2 m c) (ix2 ⟨t.val * 512 + r.val, row_lt t r⟩ l) := by
  rw [pay1_apply]
  unfold res addRow
  simp only [iblk0_apply, iblk1_apply, iblk2_apply]
  rfl

/-- The arrays after the last grid point. -/
theorem after4 (r : Fin 512) (l : Fin 1024) : (out0_4 (F := Ideal) (iblk m c 0 t) (iblk m c 1 t) (iblk m c 2 t) (iblk m c 3 t)) (ix2 r l) = res (a0 m c) (a1 m c) (a2 m c) (ix2 ⟨t.val * 512 + r.val, row_lt t r⟩ l) := by
  refine Eq.trans (b := k0_pay1 (F := Ideal) (iblk m c 0 t) (iblk m c 1 t) (iblk m c 2 t) (ix2 r l)) ?_ (prod_apply m c t r l)
  frame_out
theorem after5 (r : Fin 512) (l : Fin 1024) : (out0_5 (F := Ideal) (iblk m c 0 t) (iblk m c 1 t) (iblk m c 2 t) (iblk m c 3 t)) (ix2 r l) = rows (res (a0 m c) (a1 m c) (a2 m c)) (a3 m c) (ix2 ⟨t.val * 512 + r.val, row_lt t r⟩ l) := by
  refine Eq.trans (b := k0_pay2 (F := Ideal) (iblk m c 0 t) (iblk m c 1 t) (iblk m c 2 t) (iblk m c 3 t) (ix2 r l)) ?_ ?_
  · frame_out
  · rw [pay2_apply]
    simp only [prod_apply, iblk3_apply]
    rfl
theorem final4 : (dats m 0 c).arrAt 4 cfg0.N = res (a0 m c) (a1 m c) (a2 m c) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  refine (after4 m c t r l).trans ?_
  congr 1
  blk_ext [idx4 t]
theorem final5 : (dats m 0 c).arrAt 5 cfg0.N = rows (res (a0 m c) (a1 m c) (a2 m c)) (a3 m c) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (after5 m c t r l).trans ?_
  congr 1
  blk_ext [idx5 t]

/-- The run, read. -/
theorem run (ρ) : θ_run defs (onTc (τ := τ) (main (F := Ideal))) ⟨m, fun _ => 0, ρ⟩ fun r => ∀ c : Dev nD,
      r.2.mem ((c : Thread nD τ).loc main_v3_0) = res (a0 m c) (a1 m c) (a2 m c)
      ∧ r.2.mem ((c : Thread nD τ).loc main_v3_1) = rows (res (a0 m c) (a1 m c) (a2 m c)) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)
end Cert.MlpOutIdeal.Outcome

namespace Cert.MlpOutRefIdeal.Outcome
open Cert.MlpOutRefIdeal Cert.MlpOutRefIdeal.Read
open Cert.MlpOutIdeal.Outcome (addRow nrm res rows)
variable (x0 : S8192x4096.Idx → EReal) (x1 : S1x4096x1024.Idx → EReal) (x2 : S8192x1024.Idx → EReal) (x3 : S1024.Idx → EReal)

/-- The reference's residual, its mean square and its norm. -/
theorem v2_eq : (val_main_v2 (F := Ideal) x0 x1 x2 : S8192x1024.Idx → EReal) = res x0 x1 x2 := by
  funext i
  obtain ⟨r, l, rfl⟩ : ∃ (r : Fin 8192) (l : Fin 1024), i = ix2 r l := ⟨i 0, i 1, eq_ix2 i⟩
  show _ = x2 (ix2 r l) + ∑ k : Fin 4096, x0 (ix2 r k) * x1 (ix3 0 k l)
  pointwise [val_main_v2, val_main_v1, val_main_v0]
theorem v9_apply (r : Fin 8192) : (val_main_v9 (F := Ideal) x0 x1 x2 : S8192x1.Idx → EReal) (ix2 r 0)
    = Ideal.div (∑ k : Fin 1024, res x0 x1 x2 (ix2 r k) * res x0 x1 x2 (ix2 r k)) (Ideal.ofBits .f32 0x44800000#32) + Ideal.ofBits .f32 0x358637BD#32 := by
  rw [← v2_eq]
  unfold val_main_v9 val_main_v7 val_main_v5 val_main_v4 val_main_v3
  generalize val_main_v2 (F := Ideal) x0 x1 x2 = y
  pointwise [val_main_v8, val_main_cst_1, val_main_v6, val_main_cst_0, val_main_cst]
theorem v16_eq : (val_main_v16 (F := Ideal) x0 x1 x2 x3 : S8192x1024.Idx → EReal) = rows (res x0 x1 x2) x3 := by
  funext i
  obtain ⟨r, l, rfl⟩ : ∃ (r : Fin 8192) (l : Fin 1024), i = ix2 r l := ⟨i 0, i 1, eq_ix2 i⟩
  show _ = nrm (fun k => res x0 x1 x2 (ix2 r k)) (x3 (ix1 l)) l
  unfold nrm
  rw [← v9_apply, ← v2_eq]
  unfold val_main_v16 val_main_v15 val_main_v12 val_main_v11 val_main_v10
  generalize val_main_v2 (F := Ideal) x0 x1 x2 = y
  generalize val_main_v9 (F := Ideal) x0 x1 x2 = z
  pointwise [val_main_v14, val_main_v13]
end Cert.MlpOutRefIdeal.Outcome

namespace Cert.Proof.MlpOutClaims

/-- Every execution of the kernel as compiled terminates, keeps its arguments and leaves every semaphore at zero. -/
theorem frame_k : Cert.quiescent_MlpOut := fun m ρ _ => Cert.MlpOut.Gen.frame m ρ
/-- The same of the kernel read over the extended reals, -/
theorem frame_ki : Cert.quiescent_MlpOutIdeal := fun m ρ _ => Cert.MlpOutIdeal.Gen.frame m ρ
/-- and of the reference. -/
theorem frame_ri : Cert.quiescent_MlpOutRefIdeal := fun m ρ _ =>
  (θ_run Cert.MlpOutRefIdeal.defs _ _).mono
    (fun r h => ⟨fun c => (h c).2.2, Idealize.ShloMosaic.sem_eq_zero_of_no_sems (by decide) r.2⟩)
    (Cert.MlpOutRefIdeal.Value.run (F := Ideal) m ρ)
/-- Reading the kernel over the extended reals rewrote nothing. -/
theorem preserves : Cert.preserves_MlpOut_MlpOutIdeal := trivial

/-- Over the extended reals the kernel's arrays are the reference's, whatever the arguments. -/
theorem algebraic : Cert.algebraic_MlpOutIdeal_MlpOutRefIdeal := fun m ρ m' ρ' _ hag =>
  ⟨_, _, Cert.MlpOutIdeal.Outcome.run m ρ,
    (θ_run Cert.MlpOutRefIdeal.defs _ _).mono
      (fun _ h c => ⟨(h c).1.trans (by
        rw [Cert.MlpOutRefIdeal.Read.val_main_v2_eq, (hag c).1, (hag c).2.1, (hag c).2.2.1]
        exact Cert.MlpOutRefIdeal.Outcome.v2_eq _ _ _),
        (h c).2.1.trans (by
        rw [Cert.MlpOutRefIdeal.Read.val_main_v16_eq, (hag c).1, (hag c).2.1, (hag c).2.2.1, (hag c).2.2.2]
        exact Cert.MlpOutRefIdeal.Outcome.v16_eq _ _ _ _), (h c).2.2⟩)
      (Cert.MlpOutRefIdeal.Value.run (F := Ideal) m' ρ')⟩

end Cert.Proof.MlpOutClaims

end
-- ==== Proof.InProjValue.lean ====
/- The plain product of the forward pass (`InProj`, `_mm_nn`): the array the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
@[expose] public section
set_option maxRecDepth 16384
noncomputable section
open Idealize.ShloMosaic Idealize.ShloMosaic.TcCoe Idealize.SL.Sem
open Idealize.ShloMosaic.Pipeline (Dat)

namespace Cert.InProjIdeal.Outcome
open Cert.InProjIdeal Cert.InProjIdeal.Gen
variable (m : (ℓ : Loc nD τ sig) → Buf (Elt Ideal) ℓ) (c : Dev nD) (t : Fin cfg0.N)

/-- The product. -/
def prod (x : S8192x1024.Idx → EReal) (w : S1x1024x3072.Idx → EReal) : S8192x3072.Idx → EReal := fun i => ∑ k : Fin 1024, x (ix2 (i 0) k) * w (ix3 0 k (i 1))
theorem pay1_apply (x : Vec Ideal S256x1024 .bf16) (w : Vec Ideal S1x1024x3072 .bf16) (r : Fin 256) (l : Fin 3072) :
    k0_pay1 (F := Ideal) x w (ix2 r l) = ∑ k : Fin 1024, x (ix2 r k) * w (ix3 0 k l) := by
  pointwise [k0_pay1]

/-- The arguments, and where the blocks lie. -/
abbrev a0 : S8192x1024.Idx → EReal := m ((c : Thread nD τ).loc main_arg0)
abbrev a1 : S1x1024x3072.Idx → EReal := m ((c : Thread nD τ).loc main_arg1)
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem row_lt (r : Fin 256) : t.val * 256 + r.val < 8192 := by
  have := t.isLt; have hN : cfg0.N = 32 := N_0; omega
theorem iblk0_apply (r : Fin 256) (k : Fin 1024) : (iblk m c 0 t : Vec Ideal S256x1024 .bf16) (ix2 r k) = a0 m c (ix2 ⟨t.val * 256 + r.val, row_lt t r⟩ k) := by
  have hV : @Eq (S8192x1024.Idx → EReal) (V m c main_v0) (truncf (F := Ideal) (s := S8192x1024) (φ := .f32) .bf16 (m ((c : Thread nD τ).loc main_arg0)) bitsLt_bf16_f32) := by
    simp only [V, hostOps0]; after_results
  have he : (win0_0.blk t).view.emb (ix2 r k) = ix2 ⟨t.val * 256 + r.val, row_lt t r⟩ k := by blk_ext [idx0 t]
  blk_simp [iblk]
  rw [he]
  exact congrFun hV _
theorem iblk1_apply (k : Fin 1024) (l : Fin 3072) : (iblk m c 1 t : Vec Ideal S1x1024x3072 .bf16) (ix3 0 k l) = a1 m c (ix3 0 k l) := by
  have hV : @Eq (S1x1024x3072.Idx → EReal) (V m c main_v1) (truncf (F := Ideal) (s := S1x1024x3072) (φ := .f32) .bf16 (m ((c : Thread nD τ).loc main_arg1)) bitsLt_bf16_f32) := by
    simp only [V, hostOps0]; after_results
  have he : (win0_1.blk t).view.emb (ix3 0 k l) = ix3 0 k l := by blk_ext [idx1 t]
  blk_simp [iblk]
  rw [he]
  exact congrFun hV _

/-- The array after the last grid point. -/
theorem after2 (r : Fin 256) (l : Fin 3072) : (out0_2 (F := Ideal) (iblk m c 0 t) (iblk m c 1 t)) (ix2 r l) = prod (a0 m c) (a1 m c) (ix2 ⟨t.val * 256 + r.val, row_lt t r⟩ l) := by
  refine Eq.trans (b := k0_pay1 (F := Ideal) (iblk m c 0 t) (iblk m c 1 t) (ix2 r l)) ?_ ?_
  · frame_out
  · rw [pay1_apply]
    simp only [iblk0_apply, iblk1_apply]
    rfl
theorem final2 : (dats m 0 c).arrAt 2 cfg0.N = prod (a0 m c) (a1 m c) := by
  refine (dats m 0 c).arrAt_eq_of_covers 2 _ (by decide +kernel) fun t hf y => ?_
  blk_simp
  rw [after0_2]
  obtain ⟨r, l, rfl⟩ : ∃ (r : Fin 256) (l : Fin 3072), y = ix2 r l := ⟨y 0, y 1, eq_ix2 y⟩
  refine (after2 m c t r l).trans ?_
  congr 1
  blk_ext [idx2 t]

/-- The run, read. -/
theorem run (ρ) : θ_run defs (onTc (τ := τ) (main (F := Ideal))) ⟨m, fun _ => 0, ρ⟩ fun r => ∀ c : Dev nD,
      r.2.mem ((c : Thread nD τ).loc main_v2) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)
end Cert.InProjIdeal.Outcome

namespace Cert.InProjRefIdeal.Outcome
open Cert.InProjRefIdeal Cert.InProjRefIdeal.Read
open Cert.InProjIdeal.Outcome (prod)
variable (x0 : S8192x1024.Idx → EReal) (x1 : S1x1024x3072.Idx → EReal)

/-- The reference's product. -/
theorem v1_eq : (val_main_v1 (F := Ideal) x0 x1 : S8192x3072.Idx → EReal) = prod x0 x1 := by
  funext i
  obtain ⟨r, l, rfl⟩ : ∃ (r : Fin 8192) (l : Fin 3072), i = ix2 r l := ⟨i 0, i 1, eq_ix2 i⟩
  show _ = ∑ k : Fin 1024, x0 (ix2 r k) * x1 (ix3 0 k l)
  pointwise [val_main_v1, val_main_v0]
end Cert.InProjRefIdeal.Outcome

namespace Cert.Proof.InProjClaims

/-- Every execution of the kernel as compiled terminates, keeps its arguments and leaves every semaphore at zero. -/
theorem frame_k : Cert.quiescent_InProj := fun m ρ _ => Cert.InProj.Gen.frame m ρ
/-- The same of the kernel read over the extended reals, -/
theorem frame_ki : Cert.quiescent_InProjIdeal := fun m ρ _ => Cert.InProjIdeal.Gen.frame m ρ
/-- and of the reference. -/
theorem frame_ri : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)
/-- Reading the kernel over the extended reals rewrote nothing. -/
theorem preserves : Cert.preserves_InProj_InProjIdeal := trivial

/-- Over the extended reals the kernel's product is the reference's, whatever the arguments. -/
theorem algebraic : Cert.algebraic_InProjIdeal_InProjRefIdeal := fun m ρ m' ρ' _ hag =>
  ⟨_, Cert.InProjIdeal.Outcome.run m ρ,
    (θ_run Cert.InProjRefIdeal.defs _ _).mono
      (fun _ h c => ⟨(h c).1.trans (by
        rw [Cert.InProjRefIdeal.Read.val_main_v1_eq, (hag c).1, (hag c).2]
        exact Cert.InProjRefIdeal.Outcome.v1_eq _ _), (h c).2⟩)
      (Cert.InProjRefIdeal.Value.run (F := Ideal) m' ρ')⟩

end Cert.Proof.InProjClaims

end
-- ==== Proof.OutBwdValue.lean ====
/- The plain product with a transposed weight (`OutBwd`, `_mm_nt`): the array the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.OutBwd.Frame
public import proofs.«01_k».proof.Proof.Gen.OutBwdIdeal.Value
public import proofs.«01_k».proof.Proof.Gen.OutBwdRefIdeal.Run
public import proofs.«01_k».proof.Proof.Gen.OutBwdRefIdeal.Read
@[expose] public section
set_option maxRecDepth 16384
noncomputable section
open Idealize.ShloMosaic Idealize.ShloMosaic.TcCoe Idealize.SL.Sem
open Idealize.ShloMosaic.Pipeline (Dat)

namespace Cert.OutBwdIdeal.Outcome
open Cert.OutBwdIdeal Cert.OutBwdIdeal.Gen
variable (m : (ℓ : Loc nD τ sig) → Buf (Elt Ideal) ℓ) (c : Dev nD) (t : Fin cfg0.N)

/-- The product. -/
def prod (x : S8192x1024.Idx → EReal) (w : S1x1280x1024.Idx → EReal) : S8192x1280.Idx → EReal := fun i => ∑ k : Fin 1024, x (ix2 (i 0) k) * w (ix3 0 (i 1) k)
theorem pay1_apply (x : Vec Ideal S1024x1024 .bf16) (w : Vec Ideal S1x1280x1024 .bf16) (r : Fin 1024) (l : Fin 1280) :
    k0_pay1 (F := Ideal) x w (ix2 r l) = ∑ k : Fin 1024, x (ix2 r k) * w (ix3 0 l k) := by
  pointwise [k0_pay1]

/-- The arguments, and where the blocks lie. -/
abbrev a0 : S8192x1024.Idx → EReal := m ((c : Thread nD τ).loc main_arg0)
abbrev a1 : S1x1280x1024.Idx → EReal := m ((c : Thread nD τ).loc main_arg1)
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem row_lt (r : Fin 1024) : t.val * 1024 + r.val < 8192 := by
  have := t.isLt; have hN : cfg0.N = 8 := N_0; omega
theorem iblk0_apply (r : Fin 1024) (k : Fin 1024) : (iblk m c 0 t : Vec Ideal S1024x1024 .bf16) (ix2 r k) = a0 m c (ix2 ⟨t.val * 1024 + r.val, row_lt t r⟩ k) := by
  have hV : @Eq (S8192x1024.Idx → EReal) (V m c main_v0) (truncf (F := Ideal) (s := S8192x1024) (φ := .f32) .bf16 (m ((c : Thread nD τ).loc main_arg0)) bitsLt_bf16_f32) := by
    simp only [V, hostOps0]; after_results
  have he : (win0_0.blk t).view.emb (ix2 r k) = ix2 ⟨t.val * 1024 + r.val, row_lt t r⟩ k := by blk_ext [idx0 t]
  blk_simp [iblk]
  rw [he]
  exact congrFun hV _
theorem iblk1_apply (k : Fin 1024) (l : Fin 1280) : (iblk m c 1 t : Vec Ideal S1x1280x1024 .bf16) (ix3 0 l k) = a1 m c (ix3 0 l k) := by
  have hV : @Eq (S1x1280x1024.Idx → EReal) (V m c main_v1) (truncf (F := Ideal) (s := S1x1280x1024) (φ := .f32) .bf16 (m ((c : Thread nD τ).loc main_arg1)) bitsLt_bf16_f32) := by
    simp only [V, hostOps0]; after_results
  have he : (win0_1.blk t).view.emb (ix3 0 l k) = ix3 0 l k := by blk_ext [idx1 t]
  blk_simp [iblk]
  rw [he]
  exact congrFun hV _

/-- The array after the last grid point. -/
theorem after2 (r : Fin 1024) (l : Fin 1280) : (out0_2 (F := Ideal) (iblk m c 0 t) (iblk m c 1 t)) (ix2 r l) = prod (a0 m c) (a1 m c) (ix2 ⟨t.val * 1024 + r.val, row_lt t r⟩ l) := by
  refine Eq.trans (b := k0_pay1 (F := Ideal) (iblk m c 0 t) (iblk m c 1 t) (ix2 r l)) ?_ ?_
  · frame_out
  · rw [pay1_apply]
    simp only [iblk0_apply, iblk1_apply]
    rfl
theorem final2 : (dats m 0 c).arrAt 2 cfg0.N = prod (a0 m c) (a1 m c) := by
  refine (dats m 0 c).arrAt_eq_of_covers 2 _ (by decide +kernel) fun t hf y => ?_
  blk_simp
  rw [after0_2]
  obtain ⟨r, l, rfl⟩ : ∃ (r : Fin 1024) (l : Fin 1280), y = ix2 r l := ⟨y 0, y 1, eq_ix2 y⟩
  refine (after2 m c t r l).trans ?_
  congr 1
  blk_ext [idx2 t]

/-- The run, read. -/
theorem run (ρ) : θ_run defs (onTc (τ := τ) (main (F := Ideal))) ⟨m, fun _ => 0, ρ⟩ fun r => ∀ c : Dev nD,
      r.2.mem ((c : Thread nD τ).loc main_v2) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)
end Cert.OutBwdIdeal.Outcome

namespace Cert.OutBwdRefIdeal.Outcome
open Cert.OutBwdRefIdeal Cert.OutBwdRefIdeal.Read
open Cert.OutBwdIdeal.Outcome (prod)
variable (x0 : S8192x1024.Idx → EReal) (x1 : S1x1280x1024.Idx → EReal)

/-- The reference's product. -/
theorem v3_eq : (val_main_v3 (F := Ideal) x0 x1 : S8192x1280.Idx → EReal) = prod x0 x1 := by
  funext i
  obtain ⟨r, l, rfl⟩ : ∃ (r : Fin 8192) (l : Fin 1280), i = ix2 r l := ⟨i 0, i 1, eq_ix2 i⟩
  show _ = ∑ k : Fin 1024, x0 (ix2 r k) * x1 (ix3 0 l k)
  pointwise [val_main_v3, val_main_v1]
end Cert.OutBwdRefIdeal.Outcome

namespace Cert.Proof.OutBwdClaims

/-- Every execution of the kernel as compiled terminates, keeps its arguments and leaves every semaphore at zero. -/
theorem frame_k : Cert.quiescent_OutBwd := fun m ρ _ => Cert.OutBwd.Gen.frame m ρ
/-- The same of the kernel read over the extended reals, -/
theorem frame_ki : Cert.quiescent_OutBwdIdeal := fun m ρ _ => Cert.OutBwdIdeal.Gen.frame m ρ
/-- and of the reference. -/
theorem frame_ri : Cert.quiescent_OutBwdRefIdeal := fun m ρ _ =>
  (θ_run Cert.OutBwdRefIdeal.defs _ _).mono
    (fun r h => ⟨fun c => (h c).2, Idealize.ShloMosaic.sem_eq_zero_of_no_sems (by decide) r.2⟩)
    (Cert.OutBwdRefIdeal.Value.run (F := Ideal) m ρ)
/-- Reading the kernel over the extended reals rewrote nothing. -/
theorem preserves : Cert.preserves_OutBwd_OutBwdIdeal := trivial

/-- Over the extended reals the kernel's product is the reference's, whatever the arguments. -/
theorem algebraic : Cert.algebraic_OutBwdIdeal_OutBwdRefIdeal := fun m ρ m' ρ' _ hag =>
  ⟨_, Cert.OutBwdIdeal.Outcome.run m ρ,
    (θ_run Cert.OutBwdRefIdeal.defs _ _).mono
      (fun _ h c => ⟨(h c).1.trans (by
        rw [Cert.OutBwdRefIdeal.Read.val_main_v3_eq, (hag c).1, (hag c).2]
        exact Cert.OutBwdRefIdeal.Outcome.v3_eq _ _), (h c).2⟩)
      (Cert.OutBwdRefIdeal.Value.run (F := Ideal) m' ρ')⟩

end Cert.Proof.OutBwdClaims

end
-- ==== Proof.WGradValue.lean ====
/- The plain product for a weight's gradient (`WGrad`, `_mm_tn`), summed over four tiles of rows: the arrays the call leaves, the reference's, and the claims. -/
module

public import proofs.«01_k».proof.Defs
public import proofs.«01_k».proof.Proof.At2
public import Idealize.ShloMosaic.Lib.KernelVsHost
public import Idealize.ShloMosaic.Lib.Pipeline.ValueKit
public import Idealize.ShloMosaic.Lib.Pipeline.ReadBack
public import proofs.«01_k».proof.Proof.Gen.WGrad.Frame
public import proofs.«01_k».proof.Proof.Gen.WGradIdeal.Frame
public import proofs.«01_k».proof.Proof.Gen.WGradRefIdeal.Run
public import proofs.«01_k».proof.Proof.Gen.WGradRefIdeal.Read
@[expose] public section
set_option maxRecDepth 16384
noncomputable section
open Idealize.ShloMosaic Idealize.ShloMosaic.TcCoe Idealize.SL.Sem
open Idealize.ShloMosaic.Pipeline (Dat)

namespace Cert.WGradIdeal.Outcome
open Cert.WGradIdeal Cert.WGradIdeal.Gen
open Cert.Conv (at2 at2_of)
variable (m : (ℓ : Loc nD τ sig) → Buf (Elt Ideal) ℓ) (c : Dev nD)

/-- The tiles the body stores, read at an index. -/
theorem pay1_apply (x y : Vec Ideal S2048x1024 .bf16) (k l : Fin 1024) : k0_pay1 (F := Ideal) x y (ix2 k l) = ∑ r : Fin 2048, x (ix2 r k) * y (ix2 r l) := by
  pointwise [k0_pay1]
theorem pay2_apply (x y : Vec Ideal S2048x1024 .bf16) (k l : Fin 1024) : k0_pay2 (F := Ideal) x y (ix3 0 k l) = ∑ r : Fin 2048, x (ix2 r k) * y (ix2 r l) := by
  rw [← pay1_apply]
  unfold k0_pay2
  generalize k0_pay1 (F := Ideal) x y = z
  pointwise
theorem pay3_apply (x y : Vec Ideal S2048x1024 .bf16) (p : Vec Ideal S1x1024x1024 .f32) (k l : Fin 1024) :
    k0_pay3 (F := Ideal) x y p (ix3 0 k l) = p (ix3 0 k l) + ∑ r : Fin 2048, x (ix2 r k) * y (ix2 r l) := by
  rw [← pay1_apply]
  unfold k0_pay3
  generalize k0_pay1 (F := Ideal) x y = z
  pointwise
theorem pay4_apply (p : Vec Ideal S1x1024x1024 .f32) (k l : Fin 1024) : k0_pay4 (F := Ideal) p (ix3 0 k l) = p (ix3 0 k l) := by
  pointwise [k0_pay4]

/-- The arguments, and where the blocks lie: the grid walks the rows' four tiles for each of the four tiles of columns. -/
abbrev a0 : S8192x1024.Idx → EReal := m ((c : Thread nD τ).loc main_arg0)
abbrev a1 : S8192x4096.Idx → EReal := m ((c : Thread nD τ).loc main_arg1)
theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val % 4, t.val / 4] := (by decide +kernel : ∀ t : Fin grid0.N, win0_1.index t = ![t.val % 4, t.val / 4])
theorem idx2 : ∀ t : Fin cfg0.N, win0_2.index t = ![0, 0, t.val / 4] := (by decide +kernel : ∀ t : Fin grid0.N, win0_2.index t = ![0, 0, t.val / 4])
theorem idx3 : ∀ t : Fin cfg0.N, win0_3.index t = ![0, 0, t.val / 4] := (by decide +kernel : ∀ t : Fin grid0.N, win0_3.index t = ![0, 0, t.val / 4])
theorem t_lt (t : Fin cfg0.N) : t.val < 16 := by
  have := t.isLt; have hN : cfg0.N = 16 := N_0; omega
theorem col_lt (t : Fin cfg0.N) (l : Fin 1024) : t.val / 4 * 1024 + l.val < 4096 := by
  have := t_lt t; omega
theorem blk0 (t : Fin cfg0.N) (r : Fin 2048) (k : Fin 1024) : (iblk m c 0 t : Vec Ideal S2048x1024 .bf16) (ix2 r k) = at2 (a0 m c) (2048 * (t.val % 4) + r.val) k.val := by
  have hV : @Eq (S8192x1024.Idx → EReal) (V m c main_v0) (truncf (F := Ideal) (s := S8192x1024) (φ := .f32) .bf16 (m ((c : Thread nD τ).loc main_arg0)) bitsLt_bf16_f32) := by
    simp only [V, hostOps0]; after_results
  have hr : 2048 * (t.val % 4) + r.val < 8192 := by omega
  have he : (win0_0.blk t).view.emb (ix2 r k) = ix2 ⟨2048 * (t.val % 4) + r.val, hr⟩ k := by blk_ext [idx0 t]
  rw [at2_of _ hr k.isLt]
  blk_simp [iblk]
  rw [he]
  exact congrFun hV _
theorem blk1 (t : Fin cfg0.N) (r : Fin 2048) (l : Fin 1024) : (iblk m c 1 t : Vec Ideal S2048x1024 .bf16) (ix2 r l) = at2 (a1 m c) (2048 * (t.val % 4) + r.val) (t.val / 4 * 1024 + l.val) := by
  have hV : @Eq (S8192x4096.Idx → EReal) (V m c main_v1) (truncf (F := Ideal) (s := S8192x4096) (φ := .f32) .bf16 (m ((c : Thread nD τ).loc main_arg1)) bitsLt_bf16_f32) := by
    simp only [V, hostOps0]; after_results
  have hr : 2048 * (t.val % 4) + r.val < 8192 := by omega
  have hl := col_lt t l
  have he : (win0_1.blk t).view.emb (ix2 r l) = ix2 ⟨2048 * (t.val % 4) + r.val, hr⟩ ⟨t.val / 4 * 1024 + l.val, hl⟩ := by blk_ext [idx1 t]
  rw [at2_of _ hr hl]
  blk_simp [iblk]
  rw [he]
  exact congrFun hV _

/-- The product's sum over the first `n` rows, and a tile of rows more. -/
def part (h : S8192x1024.Idx → EReal) (dy : S8192x4096.Idx → EReal) (n k l : ℕ) : EReal := ∑ p ∈ Finset.range n, at2 h p k * at2 dy p l
theorem part_tile (h : S8192x1024.Idx → EReal) (dy : S8192x4096.Idx → EReal) (q k l : ℕ) :
    part h dy (2048 * (q + 1)) k l = part h dy (2048 * q) k l + ∑ r : Fin 2048, at2 h (2048 * q + r.val) k * at2 dy (2048 * q + r.val) l := by
  unfold part
  rw [Nat.mul_add, Nat.mul_one, Finset.sum_range_add]
  rw [Finset.sum_range (n := 2048)]
/-- After a grid point the first output's block holds the sum over the rows walked so far. -/
theorem acc2 : ∀ (n : ℕ) (hn : n < cfg0.N) (k l : Fin 1024), (outsAt0 m c n hn).1 (ix3 0 k l) = part (a0 m c) (a1 m c) (2048 * (n % 4 + 1)) k.val (n / 4 * 1024 + l.val) := by
  intro n
  induction n with
  | zero =>
    intro hn k l
    rw [outsAt0_A m c ⟨0, hn⟩ (Nat.zero_mod 4) (by dsimp only; omega) (by dsimp only; omega)]
    frame_out
    rw [pay2_apply, part_tile]
    simp only [blk0, blk1]
    simp [part]
  | succ n ih =>
    intro hn k l
    have hN : cfg0.N = 16 := N_0
    rw [part_tile]
    by_cases h0 : (n + 1) % 4 = 0
    · rw [outsAt0_A m c ⟨n + 1, hn⟩ h0 (by dsimp only; omega) (by dsimp only; omega)]
      frame_out
      rw [pay2_apply]
      simp only [blk0, blk1]
      rw [h0]
      simp [part]
    · have e := ih (by omega) k l
      rw [show n % 4 + 1 = (n + 1) % 4 from by omega, show n / 4 = (n + 1) / 4 from by omega] at e
      rw [← e]
      by_cases h3 : (n + 1) % 4 = 3
      · rw [outsAt0_C m c ⟨n + 1, hn⟩ h0 (by dsimp only; omega) h3]
        frame_out
        rw [pay3_apply]
        simp only [blk0, blk1]
        rfl
      · rw [outsAt0_B m c ⟨n + 1, hn⟩ h0 (by dsimp only; omega) h3]
        frame_out
        rw [pay3_apply]
        simp only [blk0, blk1]
        rfl
/-- At the last tile of rows the second output is the first. -/
theorem acc3 (t : Fin cfg0.N) (h3 : t.val % 4 = 3) (k l : Fin 1024) : (outsAt0 m c t.val t.isLt).2 (ix3 0 k l) = (outsAt0 m c t.val t.isLt).1 (ix3 0 k l) := by
  rw [outsAt0_C m c t (by omega) (by omega) h3]
  frame_out
  rw [pay4_apply]

/-- The product. -/
def dw (h : S8192x1024.Idx → EReal) (dy : S8192x4096.Idx → EReal) : S1x1024x4096.Idx → EReal := fun i => ∑ p : Fin 8192, h (ix2 p (i 1)) * dy (ix2 p (i 2))
theorem part_all (h : S8192x1024.Idx → EReal) (dy : S8192x4096.Idx → EReal) (k : Fin 1024) (l : Fin 4096) : part h dy 8192 k.val l.val = dw h dy (ix3 0 k l) := by
  unfold part
  rw [Finset.sum_range]
  refine Finset.sum_congr rfl fun p _ => ?_
  rw [at2_of _ p.isLt k.isLt, at2_of _ p.isLt l.isLt]
  rfl
theorem last (t : Fin cfg0.N) (h3 : t.val % 4 = 3) (k l : Fin 1024) : (outsAt0 m c t.val t.isLt).1 (ix3 0 k l) = dw (a0 m c) (a1 m c) (ix3 0 k ⟨t.val / 4 * 1024 + l.val, col_lt t l⟩) := by
  rw [acc2, h3, ← part_all]
theorem final2 : (dats m 0 c).arrAt 2 cfg0.N = dw (a0 m c) (a1 m c) := by
  refine (dats m 0 c).arrAt_eq_of_covers 2 _ (by decide +kernel) fun t hf y => ?_
  blk_simp
  rw [after0_2]
  obtain ⟨k, l, rfl⟩ : ∃ (k : Fin 1024) (l : Fin 1024), y = ix3 0 k l := ⟨y 1, y 2, (eq_ix3 y).trans (congrArg (ix3 · (y 1) (y 2)) (Subsingleton.elim (α := Fin 1) _ _))⟩
  refine (last m c t ((by decide +kernel : ∀ t : Fin grid0.N, win0_2.flush t = true → t.val % 4 = 3) t hf) k l).trans ?_
  congr 1
  blk_ext [idx2 t]
theorem final3 : (dats m 0 c).arrAt 3 cfg0.N = dw (a0 m c) (a1 m c) := by
  refine (dats m 0 c).arrAt_eq_of_covers 3 _ (by decide +kernel) fun t hf y => ?_
  blk_simp
  rw [after0_3]
  obtain ⟨k, l, rfl⟩ : ∃ (k : Fin 1024) (l : Fin 1024), y = ix3 0 k l := ⟨y 1, y 2, (eq_ix3 y).trans (congrArg (ix3 · (y 1) (y 2)) (Subsingleton.elim (α := Fin 1) _ _))⟩
  have h3 : t.val % 4 = 3 := (by decide +kernel : ∀ t : Fin grid0.N, win0_3.flush t = true → t.val % 4 = 3) t hf
  refine (acc3 m c t h3 k l).trans ((last m c t h3 k l).trans ?_)
  congr 1
  blk_ext [idx3 t]

/-- The run, read. -/
theorem run (ρ) : θ_run defs (onTc (τ := τ) (main (F := Ideal))) ⟨m, fun _ => 0, ρ⟩ fun r => ∀ c : Dev nD,
      (r.2.mem ((c : Thread nD τ).loc main_v2_0) = dw (a0 m c) (a1 m c) ∧ r.2.mem ((c : Thread nD τ).loc main_v2_1) = dw (a0 m c) (a1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨⟨((h.1 c).1 2).trans (final2 m c), ((h.1 c).1 3).trans (final3 m c)⟩, h.2 c⟩) (θ_run_and (run_main m ρ) (unchanged m ρ))
end Cert.WGradIdeal.Outcome

namespace Cert.WGradRefIdeal.Outcome
open Cert.WGradRefIdeal Cert.WGradRefIdeal.Read
open Cert.WGradIdeal.Outcome (dw)
variable (x0 : S8192x1024.Idx → EReal) (x1 : S8192x4096.Idx → EReal)

/-- The reference's product, with the factors the other way round, and its cast. -/
theorem v5_eq : (val_main_v5 (F := Ideal) x0 x1 : S1x1024x4096.Idx → EReal) = dw x0 x1 := by
  funext i
  rw [val_main_v5_apply, val_main_v4_apply, val_main_v3_apply]
  refine Finset.sum_congr rfl fun p _ => (mul_comm _ _).trans (congrArg₂ (· * ·) (congrArg x0 ?_) (congrArg x1 ?_))
  all_goals funext a; fin_cases a <;> rfl
theorem v6_eq : (val_main_v6 (F := Ideal) x0 x1 : S1x1024x4096.Idx → EReal) = dw x0 x1 := v5_eq x0 x1
end Cert.WGradRefIdeal.Outcome

namespace Cert.Proof.WGradClaims

/-- Every execution of the kernel as compiled terminates, keeps its arguments and leaves every semaphore at zero. -/
theorem frame_k : Cert.quiescent_WGrad := fun m ρ _ => Cert.WGrad.Gen.frame m ρ
/-- The same of the kernel read over the extended reals, -/
theorem frame_ki : Cert.quiescent_WGradIdeal := fun m ρ _ => Cert.WGradIdeal.Gen.frame m ρ
/-- and of the reference. -/
theorem frame_ri : Cert.quiescent_WGradRefIdeal := fun m ρ _ =>
  (θ_run Cert.WGradRefIdeal.defs _ _).mono
    (fun r h => ⟨fun c => (h c).2.2, Idealize.ShloMosaic.sem_eq_zero_of_no_sems (by decide) r.2⟩)
    (Cert.WGradRefIdeal.Value.run (F := Ideal) m ρ)
/-- Reading the kernel over the extended reals rewrote nothing. -/
theorem preserves : Cert.preserves_WGrad_WGradIdeal := trivial

/-- Over the extended reals the kernel's products are the reference's, whatever the arguments. -/
theorem algebraic : Cert.algebraic_WGradIdeal_WGradRefIdeal := fun m ρ m' ρ' _ hag =>
  ⟨_, _, (θ_run Cert.WGradIdeal.defs _ _).mono (fun _ h c => ⟨(h c).1.1, (h c).1.2, (h c).2⟩) (Cert.WGradIdeal.Outcome.run m ρ),
    (θ_run Cert.WGradRefIdeal.defs _ _).mono
      (fun _ h c => ⟨(h c).1.trans (by
        rw [Cert.WGradRefIdeal.Read.val_main_v5_eq, (hag c).1, (hag c).2]
        exact Cert.WGradRefIdeal.Outcome.v5_eq _ _), (h c).2.1.trans (by
        rw [Cert.WGradRefIdeal.Read.val_main_v6_eq, (hag c).1, (hag c).2]
        exact Cert.WGradRefIdeal.Outcome.v6_eq _ _), (h c).2.2⟩)
      (Cert.WGradRefIdeal.Value.run (F := Ideal) m' ρ')⟩

end Cert.Proof.WGradClaims

end
-- ==== Proof.AdamValue.lean ====
/- The optimiser's step (`Adam`): the update and the two moments the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
@[expose] public section
set_option maxRecDepth 16384
noncomputable section
open Idealize.ShloMosaic Idealize.ShloMosaic.TcCoe Idealize.SL.Sem
open Idealize.ShloMosaic.Pipeline (Dat)

namespace Cert.AdamIdeal.Outcome
open Cert.AdamIdeal Cert.AdamIdeal.Gen
variable (m : (ℓ : Loc nD τ sig) → Buf (Elt Ideal) ℓ) (c : Dev nD) (t : Fin cfg0.N)

/-- The moments and the update of one element; the two corrections of the bias are factors. -/
def mNew (g x : EReal) : EReal := Ideal.ofBits .f32 0x3F666666#32 * x + Ideal.ofBits .f32 0x3DCCCCCD#32 * g
def vNew (g x : EReal) : EReal := Ideal.ofBits .f32 0x3F7FBE77#32 * x + Ideal.ofBits .f32 0x3A83126F#32 * (g * g)
def delta (g w x y : EReal) : EReal :=
  Ideal.ofBits .f32 0xBA83126F#32 * (Ideal.div (mNew g x * ((8388608 / 5463681 : ℝ) : EReal)) (Ideal.sqrt (vNew g y * ((268435456 / 2672307 : ℝ) : EReal)) + Ideal.ofBits .f32 0x322BCC77#32)
    + Ideal.ofBits .f32 0x3C23D70A#32 * w)
theorem pay2_apply (g x : Vec Ideal S512x1024 .f32) (r : Fin 512) (l : Fin 1024) : k0_pay2 (F := Ideal) g x (ix2 r l) = mNew (g (ix2 r l)) (x (ix2 r l)) := by
  unfold mNew
  pointwise [k0_pay2, k0_pay1]
theorem pay3_apply (g y : Vec Ideal S512x1024 .f32) (r : Fin 512) (l : Fin 1024) : k0_pay3 (F := Ideal) g y (ix2 r l) = vNew (g (ix2 r l)) (y (ix2 r l)) := by
  unfold vNew
  pointwise [k0_pay3, k0_pay1]
theorem pay4_apply (g w x y : Vec Ideal S512x1024 .f32) (r : Fin 512) (l : Fin 1024) :
    k0_pay4 (F := Ideal) g x y w (ix2 r l) = delta (g (ix2 r l)) (w (ix2 r l)) (x (ix2 r l)) (y (ix2 r l)) := by
  have e1 : (Named.named κ "adam_c1" 0x3FC48605#32 : Ideal .f32) = ((8388608 / 5463681 : ℝ) : EReal) := rfl
  have e2 : (Named.named κ "adam_c2" 0x42C8E6D3#32 : Ideal .f32) = ((268435456 / 2672307 : ℝ) : EReal) := rfl
  unfold delta k0_pay4
  rw [← pay2_apply, ← pay3_apply, ← e1, ← e2]
  generalize k0_pay2 (F := Ideal) g x = a
  generalize k0_pay3 (F := Ideal) g y = b
  pointwise

/-- The arguments' rows, and where the blocks lie. -/
def flat (x : S4x1024x1024.Idx → EReal) : S4096x1024.Idx → EReal := shapeCast (s := S4x1024x1024) (α := EReal) S4096x1024 x shapeCasts_S4x1024x1024_S4096x1024
abbrev a0 : S4x1024x1024.Idx → EReal := m ((c : Thread nD τ).loc main_arg0)
abbrev a1 : S4x1024x1024.Idx → EReal := m ((c : Thread nD τ).loc main_arg1)
abbrev a2 : S4x1024x1024.Idx → EReal := m ((c : Thread nD τ).loc main_arg2)
abbrev a3 : S4x1024x1024.Idx → EReal := m ((c : Thread nD τ).loc main_arg3)
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem row_lt (r : Fin 512) : t.val * 512 + r.val < 4096 := by
  have := t.isLt; have hN : cfg0.N = 8 := N_0; omega
theorem iblk0_apply (r : Fin 512) (k : Fin 1024) : (iblk m c 0 t : Vec Ideal S512x1024 .f32) (ix2 r k) = flat (a0 m c) (ix2 ⟨t.val * 512 + r.val, row_lt t r⟩ k) := by
  have hV : @Eq (S4096x1024.Idx → EReal) (V m c main_v0) (flat (a0 m c)) := by
    simp only [V, hostOps0]; after_results; rfl
  have he : (win0_0.blk t).view.emb (ix2 r k) = ix2 ⟨t.val * 512 + r.val, row_lt t r⟩ k := by blk_ext [idx0 t]
  blk_simp [iblk]
  rw [he]
  exact congrFun hV _
theorem iblk1_apply (r : Fin 512) (k : Fin 1024) : (iblk m c 1 t : Vec Ideal S512x1024 .f32) (ix2 r k) = flat (a1 m c) (ix2 ⟨t.val * 512 + r.val, row_lt t r⟩ k) := by
  have hV : @Eq (S4096x1024.Idx → EReal) (V m c main_v1) (flat (a1 m c)) := by
    simp only [V, hostOps0]; after_results; rfl
  have he : (win0_1.blk t).view.emb (ix2 r k) = ix2 ⟨t.val * 512 + r.val, row_lt t r⟩ k := by blk_ext [idx1 t]
  blk_simp [iblk]
  rw [he]
  exact congrFun hV _
theorem iblk2_apply (r : Fin 512) (k : Fin 1024) : (iblk m c 2 t : Vec Ideal S512x1024 .f32) (ix2 r k) = flat (a2 m c) (ix2 ⟨t.val * 512 + r.val, row_lt t r⟩ k) := by
  have hV : @Eq (S4096x1024.Idx → EReal) (V m c main_v2) (flat (a2 m c)) := by
    simp only [V, hostOps0]; after_results; rfl
  have he : (win0_2.blk t).view.emb (ix2 r k) = ix2 ⟨t.val * 512 + r.val, row_lt t r⟩ k := by blk_ext [idx2 t]
  blk_simp [iblk]
  rw [he]
  exact congrFun hV _
theorem iblk3_apply (r : Fin 512) (k : Fin 1024) : (iblk m c 3 t : Vec Ideal S512x1024 .f32) (ix2 r k) = flat (a3 m c) (ix2 ⟨t.val * 512 + r.val, row_lt t r⟩ k) := by
  have hV : @Eq (S4096x1024.Idx → EReal) (V m c main_v3) (flat (a3 m c)) := by
    simp only [V, hostOps0]; after_results; rfl
  have he : (win0_3.blk t).view.emb (ix2 r k) = ix2 ⟨t.val * 512 + r.val, row_lt t r⟩ k := by blk_ext [idx3 t]
  blk_simp [iblk]
  rw [he]
  exact congrFun hV _

/-- The arrays after the last grid point. -/
def mRows (g x : S4x1024x1024.Idx → EReal) : S4096x1024.Idx → EReal := fun i => mNew (flat g i) (flat x i)
def vRows (g x : S4x1024x1024.Idx → EReal) : S4096x1024.Idx → EReal := fun i => vNew (flat g i) (flat x i)
def dRows (g w x y : S4x1024x1024.Idx → EReal) : S4096x1024.Idx → EReal := fun i => delta (flat g i) (flat w i) (flat x i) (flat y i)
theorem after4 (r : Fin 512) (l : Fin 1024) : (out0_4 (F := Ideal) (iblk m c 0 t) (iblk m c 1 t) (iblk m c 2 t) (iblk m c 3 t)) (ix2 r l) = dRows (a0 m c) (a1 m c) (a2 m c) (a3 m c) (ix2 ⟨t.val * 512 + r.val, row_lt t r⟩ l) := by
  refine Eq.trans (b := k0_pay4 (F := Ideal) (iblk m c 0 t) (iblk m c 2 t) (iblk m c 3 t) (iblk m c 1 t) (ix2 r l)) ?_ ?_
  · frame_out
  · rw [pay4_apply]
    simp only [iblk0_apply, iblk1_apply, iblk2_apply, iblk3_apply]
    rfl
theorem final4 : (dats m 0 c).arrAt 4 cfg0.N = dRows (a0 m c) (a1 m c) (a2 m c) (a3 m c) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  refine (after4 m c t r l).trans ?_
  congr 1
  blk_ext [idx4 t]
theorem after5 (r : Fin 512) (l : Fin 1024) : (out0_5 (F := Ideal) (iblk m c 0 t) (iblk m c 1 t) (iblk m c 2 t) (iblk m c 3 t)) (ix2 r l) = mRows (a0 m c) (a2 m c) (ix2 ⟨t.val * 512 + r.val, row_lt t r⟩ l) := by
  refine Eq.trans (b := k0_pay2 (F := Ideal) (iblk m c 0 t) (iblk m c 2 t) (ix2 r l)) ?_ ?_
  · frame_out
  · rw [pay2_apply]
    simp only [iblk0_apply, iblk1_apply, iblk2_apply, iblk3_apply]
    rfl
theorem final5 : (dats m 0 c).arrAt 5 cfg0.N = mRows (a0 m c) (a2 m c) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  refine (after5 m c t r l).trans ?_
  congr 1
  blk_ext [idx5 t]
theorem after6 (r : Fin 512) (l : Fin 1024) : (out0_6 (F := Ideal) (iblk m c 0 t) (iblk m c 1 t) (iblk m c 2 t) (iblk m c 3 t)) (ix2 r l) = vRows (a0 m c) (a3 m c) (ix2 ⟨t.val * 512 + r.val, row_lt t r⟩ l) := by
  refine Eq.trans (b := k0_pay3 (F := Ideal) (iblk m c 0 t) (iblk m c 3 t) (ix2 r l)) ?_ ?_
  · frame_out
  · rw [pay3_apply]
    simp only [iblk0_apply, iblk1_apply, iblk2_apply, iblk3_apply]
    rfl
theorem final6 : (dats m 0 c).arrAt 6 cfg0.N = vRows (a0 m c) (a3 m c) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  refine (after6 m c t r l).trans ?_
  congr 1
  blk_ext [idx6 t]

/-- The run, read. -/
theorem run (ρ) : θ_run defs (onTc (τ := τ) (main (F := Ideal))) ⟨m, fun _ => 0, ρ⟩ fun r => ∀ c : Dev nD,
      r.2.mem ((c : Thread nD τ).loc main_v4_0) = dRows (a0 m c) (a1 m c) (a2 m c) (a3 m c)
      ∧ r.2.mem ((c : Thread nD τ).loc main_v4_1) = mRows (a0 m c) (a2 m c)
      ∧ r.2.mem ((c : Thread nD τ).loc main_v4_2) = vRows (a0 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (Value.run_blocks m ρ)
end Cert.AdamIdeal.Outcome

namespace Cert.AdamRefIdeal.Outcome
open Cert.AdamRefIdeal Cert.AdamRefIdeal.Read
open Cert.AdamIdeal.Outcome (mNew vNew delta flat mRows vRows dRows)
variable (x0 x1 x2 x3 : S4x1024x1024.Idx → EReal)

/-- The reference divides by the corrections: a quotient by a real is the product with its inverse. -/
theorem c_one : (Ideal.ofBits .f32 0x3F26BD02#32 : EReal) = ((5463681 / 8388608 : ℝ) : EReal) := by
  simp [Ideal.ofBits, Ideal.ieee]; rw [← EReal.coe_mul]; norm_num
theorem c_two : (Ideal.ofBits .f32 0x3C231ACC#32 : EReal) = ((2672307 / 268435456 : ℝ) : EReal) := by
  simp [Ideal.ofBits, Ideal.ieee]; rw [← EReal.coe_mul]; norm_num
theorem div_one (x : EReal) : Ideal.div x (Ideal.ofBits .f32 0x3F26BD02#32) = x * ((8388608 / 5463681 : ℝ) : EReal) := by
  rw [c_one, Ideal.div_coe (by norm_num)]
  norm_num
theorem div_two (x : EReal) : Ideal.div x (Ideal.ofBits .f32 0x3C231ACC#32) = x * ((268435456 / 2672307 : ℝ) : EReal) := by
  rw [c_two, Ideal.div_coe (by norm_num)]
  norm_num

/-- The reference's moments and update, element by element, -/
theorem v4_at (i : S4x1024x1024.Idx) : (val_main_v4 (F := Ideal) x0 x2 i : EReal) = mNew (x0 i) (x2 i) := by
  simp only [val_main_v4_apply, val_main_v3_apply, val_main_v2_apply, val_main_cst_0_apply, val_main_v1_apply, val_main_v0_apply, val_main_cst_apply]
  rfl
theorem v10_at (i : S4x1024x1024.Idx) : (val_main_v10 (F := Ideal) x0 x3 i : EReal) = vNew (x0 i) (x3 i) := by
  simp only [val_main_v10_apply, val_main_v9_apply, val_main_v8_apply, val_main_cst_2_apply, val_main_v7_apply, val_main_v6_apply, val_main_v5_apply, val_main_cst_1_apply]
  rfl
theorem v23_at (i : S4x1024x1024.Idx) : (val_main_v23 (F := Ideal) x0 x1 x2 x3 i : EReal) = delta (x0 i) (x1 i) (x2 i) (x3 i) := by
  unfold delta
  rw [← div_one, ← div_two, ← v4_at, ← v10_at]
  simp only [val_main_v23_apply, val_main_v22_apply, val_main_cst_7_apply, val_main_v21_apply, val_main_v20_apply, val_main_v19_apply, val_main_cst_6_apply, val_main_v18_apply,
    val_main_v17_apply, val_main_v16_apply, val_main_cst_5_apply, val_main_v15_apply, val_main_v14_apply, val_main_v13_apply, val_main_cst_4_apply, val_main_v12_apply, val_main_v11_apply, val_main_cst_3_apply]
  rfl
/-- and as the rows that the call leaves. -/
theorem v24_eq : (val_main_v24 (F := Ideal) x0 x1 x2 x3 : S4096x1024.Idx → EReal) = dRows x0 x1 x2 x3 := funext fun _ => v23_at x0 x1 x2 x3 _
theorem v25_eq : (val_main_v25 (F := Ideal) x0 x2 : S4096x1024.Idx → EReal) = mRows x0 x2 := funext fun _ => v4_at x0 x2 _
theorem v26_eq : (val_main_v26 (F := Ideal) x0 x3 : S4096x1024.Idx → EReal) = vRows x0 x3 := funext fun _ => v10_at x0 x3 _
end Cert.AdamRefIdeal.Outcome

namespace Cert.Proof.AdamClaims

/-- Every execution of the kernel as compiled terminates, keeps its arguments and leaves every semaphore at zero. -/
theorem frame_k : Cert.quiescent_Adam := fun m ρ _ => Cert.Adam.Gen.frame m ρ
/-- The same of the kernel read over the extended reals, -/
theorem frame_ki : Cert.quiescent_AdamIdeal := fun m ρ _ => Cert.AdamIdeal.Gen.frame m ρ
/-- and of the reference. -/
theorem frame_ri : Cert.quiescent_AdamRefIdeal := fun m ρ _ =>
  (θ_run Cert.AdamRefIdeal.defs _ _).mono
    (fun r h => ⟨fun c => (h c).2.2.2, Idealize.ShloMosaic.sem_eq_zero_of_no_sems (by decide) r.2⟩)
    (Cert.AdamRefIdeal.Value.run (F := Ideal) m ρ)
/-- Each named constant is the one that the kernel's literal rounds. -/
theorem preserves : Cert.preserves_Adam_AdamIdeal :=
  ⟨IdealRules.named_const.statement Cert.AdamIdeal.κ "adam_c1" .f32 0x3FC48605#32 _ rfl, IdealRules.named_const.statement Cert.AdamIdeal.κ "adam_c2" .f32 0x42C8E6D3#32 _ rfl⟩

/-- Over the extended reals the kernel's arrays are the reference's, whatever the arguments. -/
theorem algebraic : Cert.algebraic_AdamIdeal_AdamRefIdeal := fun m ρ m' ρ' _ hag =>
  ⟨_, _, _, Cert.AdamIdeal.Outcome.run m ρ,
    (θ_run Cert.AdamRefIdeal.defs _ _).mono
      (fun _ h c => ⟨(h c).1.trans (by
        rw [Cert.AdamRefIdeal.Read.val_main_v24_eq, (hag c).1, (hag c).2.1, (hag c).2.2.1, (hag c).2.2.2]
        exact Cert.AdamRefIdeal.Outcome.v24_eq _ _ _ _),
        (h c).2.1.trans (by
        rw [Cert.AdamRefIdeal.Read.val_main_v25_eq, (hag c).1, (hag c).2.2.1]
        exact Cert.AdamRefIdeal.Outcome.v25_eq _ _),
        (h c).2.2.1.trans (by
        rw [Cert.AdamRefIdeal.Read.val_main_v26_eq, (hag c).1, (hag c).2.2.2]
        exact Cert.AdamRefIdeal.Outcome.v26_eq _ _), (h c).2.2.2⟩)
      (Cert.AdamRefIdeal.Value.run (F := Ideal) m' ρ')⟩

end Cert.Proof.AdamClaims

end
-- ==== Proof.FinalSumValue.lean ====
/- The sum of the gathered shards (`FinalSum`): what the call leaves, the reference's, and the claims. -/
module

public import proofs.«01_k».proof.Defs
public import Idealize.ShloMosaic.Lib.KernelVsHost
public import Idealize.ShloMosaic.Lib.Pipeline.ValueKit
public import Idealize.ShloMosaic.Lib.Pipeline.ValueKit.Partial
public import Idealize.ShloMosaic.Lib.Pipeline.ReadBack
public import Idealize.ShloMosaic.Lib.WordCmp
public import proofs.«01_k».proof.Proof.Gen.FinalSum.Frame
public import proofs.«01_k».proof.Proof.Gen.FinalSumIdeal.Frame
public import proofs.«01_k».proof.Proof.Gen.FinalSumRefIdeal.Run
public import proofs.«01_k».proof.Proof.Gen.FinalSumRefIdeal.Read
public import proofs.«01_k».proof.Proof.Gen.Pre_final_sum_placed
@[expose] public section
set_option maxRecDepth 16384
noncomputable section
open Idealize.ShloMosaic Idealize.ShloMosaic.TcCoe Idealize.SL.Sem
open Idealize.ShloMosaic.WordCmp
open Idealize.ShloMosaic.Pipeline (Dat)

namespace Cert.FinalSum.Place

/-- The two words of the place: the column of devices and the half of its rows. -/
def words (a : Fin 4) (b : Fin 2) : (⟨1, ![2]⟩ : Shape).Idx → BitVec 32 := fun x => if (x 0).val = 0 then BitVec.ofNat 32 a.val else BitVec.ofNat 32 b.val
/-- The precondition says that the table holds such words. -/
theorem words_of_pre {F : FTy → Type} [FloatOps F] (x0 : FVec F Pre_final_sum_placed.S1x1024x4096 .f32) (x1 : FVec F Pre_final_sum_placed.S7x512x1024 .bf16) (x2 : FVec F Pre_final_sum_placed.S4x2x512x1024 .f32)
    (x3 : (⟨1, ![2]⟩ : Shape).Idx → BitVec 32) (h : Pre_final_sum_placed.fn x0 x1 x2 x3 = fun _ => 1#1) : ∃ a b, x3 = words a b := by
  have e (x : (⟨1, ![2]⟩ : Shape).Idx) : IntOp.andi (IntOp.cmpi .sge (x3 x) 0#32) (IntOp.cmpi .slt (x3 x) (Pre_final_sum_placed.lit0 ((⟨1, ![2]⟩ : Shape).rowMajor x))) = 1#1 := congrFun h x
  have e0 := e (ix1 (0 : Fin 2))
  have e1 := e (ix1 (1 : Fin 2))
  have l0 : Pre_final_sum_placed.lit0 ((⟨1, ![2]⟩ : Shape).rowMajor (ix1 (0 : Fin 2))) = BitVec.ofNat 32 4 := by decide
  have l1 : Pre_final_sum_placed.lit0 ((⟨1, ![2]⟩ : Shape).rowMajor (ix1 (1 : Fin 2))) = BitVec.ofNat 32 2 := by decide
  rw [l0, andi_sge_zero_slt_ofNat (by norm_num), ofBool_decide_eq_one_iff] at e0
  rw [l1, andi_sge_zero_slt_ofNat (by norm_num), ofBool_decide_eq_one_iff] at e1
  refine ⟨⟨_, e0⟩, ⟨_, e1⟩, funext fun x => ?_⟩
  obtain ⟨p, rfl⟩ : ∃ p : Fin 2, x = ix1 p := ⟨x 0, eq_ix1 x⟩
  unfold words
  fin_cases p
  · exact (BitVec.eq_of_toNat_eq (by simp))
  · exact (BitVec.eq_of_toNat_eq (by simp))
end Cert.FinalSum.Place

namespace Cert.FinalSum.Outcome
open Cert.FinalSum Cert.FinalSum.Gen
set_option backward.proofsInPublic true in
/-- The table's contents at given words. -/
def pf (a : Fin 4) (b : Fin 2) : pre0.Contents (Elt Bits) := fun | ⟨0, _⟩ => Place.words a b | ⟨_ + 1, h⟩ => absurd h (by simp)
theorem ok_pf : ∀ a b, ok0 (F := Bits) (pf a b) := by decide
theorem ok_of_pre (m : (ℓ : Loc nD τ sig) → Buf (Elt Bits) ℓ) (h : Cert.Pre_FinalSum m) : Ok (F := Bits) m := by
  obtain ⟨a, b, e⟩ := Place.words_of_pre _ _ _ _ (h 0)
  have : tbl m = pf a b := by
    funext j
    match j with
    | ⟨0, _⟩ => exact (V_main_arg3 m 0).trans e
  unfold Ok
  rw [this]
  exact ok_pf a b
end Cert.FinalSum.Outcome

namespace Cert.FinalSumIdeal.Outcome
open Cert.FinalSumIdeal Cert.FinalSumIdeal.Gen
open Cert.FinalSum (Place.words Place.words_of_pre)
set_option backward.proofsInPublic true in
/-- The table's contents at given words, over the extended reals. -/
def pf (a : Fin 4) (b : Fin 2) : pre0.Contents (Elt Ideal) := fun | ⟨0, _⟩ => Place.words a b | ⟨_ + 1, h⟩ => absurd h (by simp)
theorem ok_pf : ∀ a b, ok0 (F := Ideal) (pf a b) := by decide
theorem tbl_eq (m : (ℓ : Loc nD τ sig) → Buf (Elt Ideal) ℓ) (a : Fin 4) (b : Fin 2) (e : @Eq (S2.Idx → BitVec 32) (m (((0 : Dev nD) : Thread nD τ).loc main_arg3)) (Place.words a b)) : tbl m = pf a b := by
  funext j
  match j with
  | ⟨0, _⟩ => exact (V_main_arg3 m 0).trans e
theorem ok_of_words (m : (ℓ : Loc nD τ sig) → Buf (Elt Ideal) ℓ) (a : Fin 4) (b : Fin 2) (e : @Eq (S2.Idx → BitVec 32) (m (((0 : Dev nD) : Thread nD τ).loc main_arg3)) (Place.words a b)) : Ok (F := Ideal) m := by
  unfold Ok
  rw [tbl_eq m a b e]
  exact ok_pf a b
/-- Where the gradient's block and the result's lie. -/
theorem at0 : ∀ (a : Fin 4) (b : Fin 2) (i : grid0.Coords), cc0_transform_0 inb_S2_S1_1 numel1_S1 inb_S2_S1_0 (pf a b) i = ![0, b.val, a.val] := by decide
theorem at1 : ∀ i : grid0.Coords, cc0_transform_1 i = ![0, 0, 0] := by decide
theorem at2 : ∀ (a : Fin 4) (b : Fin 2) (i : grid0.Coords), cc0_transform_3 inb_S2_S1_1 numel1_S1 (pf a b) i = ![0, b.val, 0, 0] := by decide

variable (m : (ℓ : Loc nD τ sig) → Buf (Elt Ideal) ℓ) (hO : Ok m) (c : Dev nD) (t : Fin (cfgM m hO).N) (a : Fin 4) (b : Fin 2)
theorem idx0 (e : tbl m = pf a b) : ((cfgM m hO).win 0).index t = ![0, b.val, a.val] := by
  show cc0_transform_0 inb_S2_S1_1 numel1_S1 inb_S2_S1_0 (tbl m) (grid0.coords t) = _
  rw [e]; exact at0 a b _
theorem idx1 : ((cfgM m hO).win 1).index t = ![0, 0, 0] := at1 (grid0.coords t)
theorem idx2 (e : tbl m = pf a b) : ((cfgM m hO).win 2).index t = ![0, b.val, 0, 0] := by
  show cc0_transform_3 inb_S2_S1_1 numel1_S1 (tbl m) (grid0.coords t) = _
  rw [e]; exact at2 a b _

abbrev a0 : S1x1024x4096.Idx → EReal := m ((c : Thread nD τ).loc main_arg0)
abbrev a1 : S7x512x1024.Idx → EReal := m ((c : Thread nD τ).loc main_arg1)
abbrev a2 : S4x2x512x1024.Idx → EReal := m ((c : Thread nD τ).loc main_arg2)
theorem row_lt (b : Fin 2) (r : Fin 512) : b.val * 512 + r.val < 1024 := by omega
theorem col_lt (a : Fin 4) (l : Fin 1024) : a.val * 1024 + l.val < 4096 := by omega
theorem iblk0_apply (e : tbl m = pf a b) (r : Fin 512) (l : Fin 1024) :
    (iblk m hO c 0 t : Vec Ideal S1x512x1024 .f32) (ix3 0 r l) = a0 m c (ix3 0 ⟨b.val * 512 + r.val, row_lt b r⟩ ⟨a.val * 1024 + l.val, col_lt a l⟩) := by
  have he : (((cfgM m hO).win 0).blk t).view.emb (ix3 0 r l) = ix3 0 ⟨b.val * 512 + r.val, row_lt b r⟩ ⟨a.val * 1024 + l.val, col_lt a l⟩ := by blk_ext [idx0 m hO t a b e]
  blk_simp [iblk]
  exact (congrArg (V m c main_arg0) he).trans (congrFun (V_main_arg0 m c) _)
theorem iblk1_apply (k : Fin 7) (r : Fin 512) (l : Fin 1024) :
    (iblk m hO c 1 t : Vec Ideal S7x512x1024 .bf16) (ix3 k r l) = a1 m c (ix3 k r l) := by
  have he : (((cfgM m hO).win 1).blk t).view.emb (ix3 k r l) = ix3 k r l := by blk_ext [idx1 m hO t]
  blk_simp [iblk]
  exact (congrArg (V m c main_arg1) he).trans (congrFun (V_main_arg1 m c) _)

/-- The shard's sum: the device's own part and the seven that came. -/
def total (g : S1x1024x4096.Idx → EReal) (x : S7x512x1024.Idx → EReal) (a : Fin 4) (b : Fin 2) (r : Fin 512) (l : Fin 1024) : EReal :=
  g (ix3 0 ⟨b.val * 512 + r.val, row_lt b r⟩ ⟨a.val * 1024 + l.val, col_lt a l⟩) + ∑ k : Fin 7, x (ix3 k r l)
/-- The array with the sum in its place. -/
def placed (g : S1x1024x4096.Idx → EReal) (x : S7x512x1024.Idx → EReal) (y : S4x2x512x1024.Idx → EReal) (a : Fin 4) (b : Fin 2) : S4x2x512x1024.Idx → EReal :=
  fun i => if (i 0).val = 0 ∧ (i 1).val = b.val then total g x a b (i 2) (i 3) else y i
/-- The block the body stores. -/
def stored (x : Vec Ideal S1x512x1024 .f32) (y : Vec Ideal S7x512x1024 .bf16) : Vec Ideal S1x1x512x1024 .f32 :=
  k0_pay1 (F := Ideal) (k0_pay2 x (View.ld y (Rect.unit ![6, 0, 0] ![1, 512, 1024] inb_S7x512x1024_S1x512x1024_6_0_0))
    (View.ld y (Rect.unit ![2, 0, 0] ![1, 512, 1024] inb_S7x512x1024_S1x512x1024_2_0_0)) (View.ld y (Rect.unit ![3, 0, 0] ![1, 512, 1024] inb_S7x512x1024_S1x512x1024_3_0_0))
    (View.ld y (Rect.unit ![0, 0, 0] ![1, 512, 1024] inb_S7x512x1024_S1x512x1024_0_0_0)) (View.ld y (Rect.unit ![1, 0, 0] ![1, 512, 1024] inb_S7x512x1024_S1x512x1024_1_0_0))
    (View.ld y (Rect.unit ![4, 0, 0] ![1, 512, 1024] inb_S7x512x1024_S1x512x1024_4_0_0)) (View.ld y (Rect.unit ![5, 0, 0] ![1, 512, 1024] inb_S7x512x1024_S1x512x1024_5_0_0)))
theorem ld_row (y : Vec Ideal S7x512x1024 .bf16) (r : Fin 512) (l : Fin 1024) (k : ℕ) (hk : k < 7) (h) :
    (View.ld y (Rect.unit ![k, 0, 0] ![1, 512, 1024] h) : Vec Ideal S1x512x1024 .bf16) (ix3 0 r l) = y (ix3 ⟨k, hk⟩ r l) :=
  View.ld_unit_apply_of y _ _ _ _ _ fun a => by
    match a with
    | ⟨0, _⟩ => rfl
    | ⟨1, _⟩ => exact (Nat.zero_add _).symm
    | ⟨2, _⟩ => exact (Nat.zero_add _).symm
theorem pay_apply (x : Vec Ideal S1x512x1024 .f32) (y0 y1 y2 y3 y4 y5 y6 : Vec Ideal S1x512x1024 .bf16) (r : Fin 512) (l : Fin 1024) :
    k0_pay1 (F := Ideal) (k0_pay2 x y6 y2 y3 y0 y1 y4 y5) (ix4 0 0 r l) =
      ((x (ix3 0 r l) + y6 (ix3 0 r l)) + (y2 (ix3 0 r l) + y3 (ix3 0 r l))) + ((y0 (ix3 0 r l) + y1 (ix3 0 r l)) + (y4 (ix3 0 r l) + y5 (ix3 0 r l))) := by
  pointwise [k0_pay1, k0_pay2]
theorem stored_apply (x : Vec Ideal S1x512x1024 .f32) (y : Vec Ideal S7x512x1024 .bf16) (r : Fin 512) (l : Fin 1024) :
    stored x y (ix4 0 0 r l) = x (ix3 0 r l) + ∑ k : Fin 7, y (ix3 k r l) := by
  unfold stored
  refine (pay_apply _ _ _ _ _ _ _ _ r l).trans ?_
  rw [ld_row y r l 0 (by decide), ld_row y r l 1 (by decide), ld_row y r l 2 (by decide), ld_row y r l 3 (by decide), ld_row y r l 4 (by decide), ld_row y r l 5 (by decide), ld_row y r l 6 (by decide)]
  rw [Fin.sum_univ_seven]
  show _ = x (ix3 0 r l) + (y (ix3 ⟨0, by decide⟩ r l) + y (ix3 ⟨1, by decide⟩ r l) + y (ix3 ⟨2, by decide⟩ r l) + y (ix3 ⟨3, by decide⟩ r l) + y (ix3 ⟨4, by decide⟩ r l) + y (ix3 ⟨5, by decide⟩ r l) + y (ix3 ⟨6, by decide⟩ r l) : EReal)
  abel
theorem after2 (e : tbl m = pf a b) (r : Fin 512) (l : Fin 1024) : outsAt0 m hO c t (ix4 0 0 r l) = total (a0 m c) (a1 m c) a b r l := by
  have h0 : View.read (Elt Ideal) (ms0_0 m hO t).view ((hs0_0 m hO t).unread (iblk m hO c 0 t)) = (iblk m hO c 0 t : Vec Ideal S1x512x1024 .f32) := Memref.IsWhole.read_unread _ _
  have h1 : View.read (Elt Ideal) (ms0_1 m hO t).view ((hs0_1 m hO t).unread (iblk m hO c 1 t)) = (iblk m hO c 1 t : Vec Ideal S7x512x1024 .bf16) := Memref.IsWhole.read_unread _ _
  unfold outsAt0
  frame_out
  refine (congrFun (congrArg₂ stored h0 h1) _).trans ((stored_apply _ _ r l).trans ?_)
  unfold total
  exact congrArg₂ (· + ·) (iblk0_apply m hO c t a b e r l) (Finset.sum_congr rfl fun k _ => iblk1_apply m hO c t k r l)
theorem size2 : ∀ a : Fin 4, 0 < S1x1x512x1024.size a := by decide
theorem flush2 (e : tbl m = pf a b) : ((cfgM m hO).win 2).flush t = true := by
  show Pipeline.Window.flushOf grid0 true (cc0_transform_3 inb_S2_S1_1 numel1_S1 (tbl m)) t = true
  rw [e]
  exact (by decide : ∀ (a : Fin 4) (b : Fin 2) (t : Fin grid0.N), Pipeline.Window.flushOf grid0 true (cc0_transform_3 (F := Ideal) inb_S2_S1_1 numel1_S1 (pf a b)) t = true) a b t
theorem covers2 (e : tbl m = pf a b) : ((cfgM m hO).win 2).CoversWhere (fun β : Fin 4 → ℕ => β 0 = 0 ∧ β 1 = b.val) := by
  refine ⟨size2, fun t _ => ⟨?_, fun x => Or.inl rfl⟩, fun β hβ => ⟨(⟨0, by decide⟩ : Fin grid0.N), ?_, flush2 m hO _ a b e⟩⟩
  · rw [idx2 m hO t a b e]; exact ⟨rfl, rfl⟩
  · rw [idx2 m hO _ a b e]
    have h2 : (β (2 : Fin 4)).val < 1 := lt_of_lt_of_eq (β (2 : Fin 4)).isLt (show ((512 : ℕ) + 512 - 1) / 512 = 1 from by norm_num)
    have h3 : (β (3 : Fin 4)).val < 1 := lt_of_lt_of_eq (β (3 : Fin 4)).isLt (show ((1024 : ℕ) + 1024 - 1) / 1024 = 1 from by norm_num)
    intro x
    match x with
    | ⟨0, _⟩ => exact hβ.1.symm
    | ⟨1, _⟩ => exact hβ.2.symm
    | ⟨2, _⟩ => exact (Nat.lt_one_iff.mp h2).symm
    | ⟨3, _⟩ => exact (Nat.lt_one_iff.mp h3).symm
theorem V_v0 : @Eq (S4x2x512x1024.Idx → EReal) (V m c main_v0) (m ((c : Thread nD τ).loc main_arg2)) := by
  simp only [V, hostOps0]; after_results
  rfl
theorem keep2 (j : S4x2x512x1024.Idx) (h : ¬((j 0).val = 0 ∧ (j 1).val = b.val)) : V m c main_v0 j = placed (a0 m c) (a1 m c) (a2 m c) a b j := by
  unfold placed
  rw [if_neg h]
  exact congrFun (V_v0 m c) j
theorem emb2 (e : tbl m = pf a b) (r : Fin 512) (l : Fin 1024) : (((cfgM m hO).win 2).blk t).view.emb (ix4 0 0 r l) = ix4 0 b r l := by blk_ext [idx2 m hO t a b e]
theorem placed_at (g : S1x1024x4096.Idx → EReal) (x : S7x512x1024.Idx → EReal) (y : S4x2x512x1024.Idx → EReal) (r : Fin 512) (l : Fin 1024) :
    placed g x y a b (ix4 0 b r l) = total g x a b r l := if_pos ⟨rfl, rfl⟩
theorem written2 (e : tbl m = pf a b) (y : S1x1x512x1024.Idx) :
    outsAt0 m hO c t y = placed (a0 m c) (a1 m c) (a2 m c) a b ((((cfgM m hO).win 2).blk t).view.emb y) := by
  obtain ⟨r, l, rfl⟩ : ∃ (r : Fin 512) (l : Fin 1024), y = ix4 0 0 r l := ⟨y 2, y 3, (eq_ix4 y).trans (congrArg₂ (ix4 · · (y 2) (y 3)) (Subsingleton.elim (α := Fin 1) _ _) (Subsingleton.elim (α := Fin 1) _ _))⟩
  exact (after2 m hO c t a b e r l).trans ((placed_at a b _ _ _ r l).symm.trans (congrArg (placed (a0 m c) (a1 m c) (a2 m c) a b) (emb2 m hO t a b e r l)).symm)
theorem final2 (e : tbl m = pf a b) : (dats m hO 0 c).arrAt 2 (cfgM m hO).N = placed (a0 m c) (a1 m c) (a2 m c) a b := by
  refine (dats m hO 0 c).arrAt_eq_of_coversWhere_of_agree 2 _ (fun β => β (0 : Fin 4) = 0 ∧ β (1 : Fin 4) = b.val) (covers2 m hO a b e) (fun t hf y => ?_) (fun j hj => ?_)
  · blk_simp
    rw [after0_2]
    refine Eq.trans ?_ (written2 m hO c t a b e y)
    rfl
  · rw [A_eq]
    exact keep2 m c a b j fun h => hj ⟨(Nat.div_one _).trans h.1, (Nat.div_one _).trans h.2⟩

/-- The run, read. -/
theorem run (hO : Ok m) (a : Fin 4) (b : Fin 2) (hpl : tbl m = pf a b) (ρ) : θ_run defs (onTc (τ := τ) (main (F := Ideal))) ⟨m, fun _ => 0, ρ⟩ fun r => ∀ c : Dev nD,
      r.2.mem ((c : Thread nD τ).loc main_v0) = placed (a0 m c) (a1 m c) (a2 m c) a b
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 2).trans (final2 m hO c a b hpl), h.2 c⟩) (θ_run_and (run_main m ρ hO) (unchanged m ρ hO))
end Cert.FinalSumIdeal.Outcome

namespace Cert.FinalSumRefIdeal.Outcome
open Cert.FinalSumRefIdeal Cert.FinalSumRefIdeal.Read
open Cert.FinalSumIdeal.Outcome (total placed row_lt col_lt)
open Cert.FinalSum (Place.words)

/-- The two masks: the device's own block in the gradient, and its place in the result. -/
theorem own_mask : ∀ (a : Fin 4) (b : Fin 2) (q : Fin 2) (p : Fin 4), (val_main_v15 (F := Ideal) (Place.words a b) (ix4 q 0 p 0) : BitVec 1) = BitVec.ofBool (decide (q = b ∧ p = a)) := by decide +kernel
theorem place_mask : ∀ (a : Fin 4) (b : Fin 2) (p : Fin 4) (q : Fin 2), (val_main_v31 (F := Ideal) (Place.words a b) (ix4 p q 0 0) : BitVec 1) = BitVec.ofBool (decide (p.val = 0 ∧ q = b)) := by decide +kernel
theorem zero_bits : (FloatOps.ofBits (F := Ideal) .f32 0x00000000#32 : EReal) = 0 := by pointwise

variable (x0 : S1x1024x4096.Idx → EReal) (x1 : S7x512x1024.Idx → EReal) (x2 : S4x2x512x1024.Idx → EReal) (a : Fin 4) (b : Fin 2)
theorem v16_eq (q : Fin 2) (r : Fin 512) (p : Fin 4) (l : Fin 1024) : (val_main_v16 (F := Ideal) x0 (Place.words a b) (ix4 q r p l) : EReal)
    = if q = b ∧ p = a then x0 (ix3 0 ⟨b.val * 512 + r.val, row_lt b r⟩ ⟨a.val * 1024 + l.val, col_lt a l⟩) else 0 := by
  have hm : (val_main_call0_v1 (F := Ideal) (Place.words a b) (ix4 q r p l) : BitVec 1) = BitVec.ofBool (decide (q = b ∧ p = a)) :=
    (val_main_call0_v1_apply _ _).trans ((congrArg (val_main_v15 (F := Ideal) (Place.words a b)) (funext fun x => by fin_cases x <;> rfl)).trans (own_mask a b q p))
  rw [val_main_v16_apply, hm]
  by_cases h : q = b ∧ p = a
  · obtain ⟨rfl, rfl⟩ := h
    rw [val_main_v0_apply]
    simp only [and_self, if_true, decide_true]
    refine congrArg x0 (funext fun x => Fin.ext ?_)
    match x with
    | ⟨0, _⟩ => rfl
    | ⟨1, _⟩ => show (((q.val * 512 + r.val) * 4 + p.val) * 1024 + l.val) / 4096 % 1024 = q.val * 512 + r.val; omega
    | ⟨2, _⟩ => show (((q.val * 512 + r.val) * 4 + p.val) * 1024 + l.val) % 4096 = p.val * 1024 + l.val; omega
  · rw [if_neg h, decide_eq_false h]
    exact zero_bits
theorem v18_eq (r : Fin 512) (l : Fin 1024) : (val_main_v18 (F := Ideal) x0 (Place.words a b) (ix2 r l) : EReal)
    = x0 (ix3 0 ⟨b.val * 512 + r.val, row_lt b r⟩ ⟨a.val * 1024 + l.val, col_lt a l⟩) := by
  have h17 (q : Fin 2) : (val_main_v17 (F := Ideal) x0 (Place.words a b) (ix3 q r l) : EReal)
      = if q = b then x0 (ix3 0 ⟨b.val * 512 + r.val, row_lt b r⟩ ⟨a.val * 1024 + l.val, col_lt a l⟩) else 0 := by
    refine (val_main_v17_apply x0 _ _).trans ((congrArg₂ (· + ·) zero_bits (Finset.sum_congr rfl fun p _ =>
      (congrArg (val_main_v16 (F := Ideal) x0 (Place.words a b)) (funext fun x => by fin_cases x <;> rfl)).trans (v16_eq x0 a b q r p l))).trans ?_)
    rw [zero_add]
    by_cases h : q = b
    · simp [h]
    · simp [h]
  refine (val_main_v18_apply x0 _ _).trans ((congrArg₂ (· + ·) zero_bits (Finset.sum_congr rfl fun q _ =>
    (congrArg (val_main_v17 (F := Ideal) x0 (Place.words a b)) (funext fun x => by fin_cases x <;> rfl)).trans (h17 q))).trans ?_)
  rw [zero_add]
  simp
theorem v34_eq (r : Fin 512) (l : Fin 1024) : (val_main_v34 (F := Ideal) x1 (ix2 r l) : EReal) = ∑ k : Fin 7, x1 (ix3 k r l) := by
  refine (val_main_v34_apply x1 _).trans ((congrArg₂ (· + ·) zero_bits (Finset.sum_congr rfl fun k _ =>
    (congrArg x1 (funext fun x => by fin_cases x <;> rfl) : _ = x1 (ix3 k r l)))).trans (zero_add _))
theorem v37_eq : (val_main_v37 (F := Ideal) x0 x1 x2 (Place.words a b) : S4x2x512x1024.Idx → EReal) = placed x0 x1 x2 a b := by
  funext i
  obtain ⟨p, q, r, l, rfl⟩ : ∃ (p : Fin 4) (q : Fin 2) (r : Fin 512) (l : Fin 1024), i = ix4 p q r l := ⟨i 0, i 1, i 2, i 3, eq_ix4 i⟩
  have hm : (val_main_call1_v0 (F := Ideal) (Place.words a b) (ix4 p q r l) : BitVec 1) = BitVec.ofBool (decide (p.val = 0 ∧ q = b)) :=
    (val_main_call1_v0_apply _ _).trans ((congrArg (val_main_v31 (F := Ideal) (Place.words a b)) (funext fun x => by fin_cases x <;> rfl)).trans (place_mask a b p q))
  rw [val_main_v37_apply, hm]
  by_cases h : p.val = 0 ∧ q = b
  · rw [decide_eq_true h]
    refine Eq.trans ?_ (if_pos ⟨h.1, congrArg Fin.val h.2⟩).symm
    show val_main_call1_v1 (F := Ideal) x0 x1 (Place.words a b) (ix4 p q r l) = _
    rw [val_main_call1_v1_apply, val_main_v36_apply, val_main_v32_apply, val_main_v35_apply]
    refine congrArg₂ (· + ·) ((congrArg (val_main_v18 (F := Ideal) x0 (Place.words a b)) ?_).trans (v18_eq x0 a b r l)) ((congrArg (val_main_v34 (F := Ideal) x1) ?_).trans (v34_eq x1 r l))
    all_goals funext x; fin_cases x <;> rfl
  · rw [decide_eq_false h]
    exact (if_neg fun h' => h ⟨h'.1, Fin.ext h'.2⟩).symm
end Cert.FinalSumRefIdeal.Outcome

namespace Cert.Proof.FinalSumClaims

/-- Every execution of the kernel as compiled, with a place inside the array, terminates, keeps its arguments and leaves every semaphore at zero. -/
theorem frame_k : Cert.quiescent_FinalSum := fun m ρ h => Cert.FinalSum.Gen.frame m ρ (Cert.FinalSum.Outcome.ok_of_pre m h)
theorem place_ki (m) (h : Cert.Pre_FinalSumIdeal m) : ∃ a b, m (((0 : Dev Cert.FinalSumIdeal.nD) : Thread Cert.FinalSumIdeal.nD Cert.FinalSumIdeal.τ).loc Cert.FinalSumIdeal.main_arg3) = Cert.FinalSum.Place.words a b :=
  Cert.FinalSum.Place.words_of_pre _ _ _ _ (h 0)
/-- The same of the kernel read over the extended reals, -/
theorem frame_ki : Cert.quiescent_FinalSumIdeal := fun m ρ h => by
  obtain ⟨a, b, e⟩ := place_ki m h
  exact Cert.FinalSumIdeal.Gen.frame m ρ (Cert.FinalSumIdeal.Outcome.ok_of_words m a b e)
/-- and of the reference, wherever the place. -/
theorem frame_ri : Cert.quiescent_FinalSumRefIdeal := fun m ρ _ =>
  (θ_run Cert.FinalSumRefIdeal.defs _ _).mono
    (fun r h => ⟨fun c => (h c).2, Idealize.ShloMosaic.sem_eq_zero_of_no_sems (by decide) r.2⟩)
    (Cert.FinalSumRefIdeal.Value.run (F := Ideal) m ρ)
theorem frame_ri_pre : Cert.quiescent_FinalSumRefIdeal_pre_final_sum_placed := fun m ρ _ =>
  (θ_run Cert.FinalSumRefIdeal.defs _ _).mono
    (fun r h => ⟨fun c => (h c).2, Idealize.ShloMosaic.sem_eq_zero_of_no_sems (by decide) r.2⟩)
    (Cert.FinalSumRefIdeal.Value.run (F := Ideal) m ρ)
/-- Reading the kernel over the extended reals rewrote nothing. -/
theorem preserves : Cert.preserves_FinalSum_FinalSumIdeal := trivial

/-- Over the extended reals the kernel's array is the reference's. -/
theorem algebraic : Cert.algebraic_FinalSumIdeal_FinalSumRefIdeal := fun m ρ m' ρ' h hag => by
  obtain ⟨a, b, e⟩ := place_ki m h
  have e' (c : Dev Cert.FinalSumIdeal.nD) : m ((c : Thread Cert.FinalSumIdeal.nD Cert.FinalSumIdeal.τ).loc Cert.FinalSumIdeal.main_arg3) = Cert.FinalSum.Place.words a b := by
    rw [Subsingleton.elim c 0]; exact e
  exact ⟨_, Cert.FinalSumIdeal.Outcome.run m (Cert.FinalSumIdeal.Outcome.ok_of_words m a b e) a b (Cert.FinalSumIdeal.Outcome.tbl_eq m a b e) ρ,
    (θ_run Cert.FinalSumRefIdeal.defs _ _).mono
      (fun _ h c => ⟨(h c).1.trans (by
        rw [Cert.FinalSumRefIdeal.Read.val_main_v37_eq, (hag c).1, (hag c).2.1, (hag c).2.2.1, (hag c).2.2.2, e' c]
        exact Cert.FinalSumRefIdeal.Outcome.v37_eq _ _ _ a b), (h c).2⟩)
      (Cert.FinalSumRefIdeal.Value.run (F := Ideal) m' ρ')⟩

end Cert.Proof.FinalSumClaims

end
-- ==== Proof.MlpLastValue.lean ====
/- The last layer's second product of the MLP with the residual (`MlpLast`): the array the call leaves, the reference's, and the claims. -/
module

public import proofs.«01_k».proof.Defs
public import Idealize.ShloMosaic.Lib.KernelVsHost
public import Idealize.ShloMosaic.Lib.Pipeline.ValueKit
public import Idealize.ShloMosaic.Lib.Pipeline.ReadBack
public import proofs.«01_k».proof.Proof.Gen.MlpLast.Frame
public import proofs.«01_k».proof.Proof.Gen.MlpLastIdeal.Value
public import proofs.«01_k».proof.Proof.Gen.MlpLastRefIdeal.Run
public import proofs.«01_k».proof.Proof.Gen.MlpLastRefIdeal.Read
@[expose] public section
set_option maxRecDepth 16384
noncomputable section
open Idealize.ShloMosaic Idealize.ShloMosaic.TcCoe Idealize.SL.Sem
open Idealize.ShloMosaic.Pipeline (Dat)

namespace Cert.MlpLastIdeal.Outcome
open Cert.MlpLastIdeal Cert.MlpLastIdeal.Gen
variable (m : (ℓ : Loc nD τ sig) → Buf (Elt Ideal) ℓ) (c : Dev nD) (t : Fin cfg0.N)

/-- A row of the residual plus a product's row. -/
def addRow (a : Fin 4096 → EReal) (w : S1x4096x1024.Idx → EReal) (x : Fin 1024 → EReal) (l : Fin 1024) : EReal := x l + ∑ k : Fin 4096, a k * w (ix3 0 k l)
theorem pay1_apply (a : Vec Ideal S512x4096 .bf16) (w : Vec Ideal S1x4096x1024 .bf16) (x : Vec Ideal S512x1024 .f32) (r : Fin 512) (l : Fin 1024) :
    k0_pay1 (F := Ideal) a w x (ix2 r l) = addRow (fun k => a (ix2 r k)) w (fun k => x (ix2 r k)) l := by
  unfold addRow
  pointwise [k0_pay1]

/-- The arguments, and where the blocks lie. -/
abbrev a0 : S8192x4096.Idx → EReal := m ((c : Thread nD τ).loc main_arg0)
abbrev a1 : S1x4096x1024.Idx → EReal := m ((c : Thread nD τ).loc main_arg1)
abbrev a2 : S8192x1024.Idx → EReal := m ((c : Thread nD τ).loc main_arg2)
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem row_lt (r : Fin 512) : t.val * 512 + r.val < 8192 := by
  have := t.isLt; have hN : cfg0.N = 16 := N_0; omega
theorem iblk0_apply (r : Fin 512) (k : Fin 4096) : (iblk m c 0 t : Vec Ideal S512x4096 .bf16) (ix2 r k) = a0 m c (ix2 ⟨t.val * 512 + r.val, row_lt t r⟩ k) := by
  have hV : @Eq (S8192x4096.Idx → EReal) (V m c main_v0) (truncf (F := Ideal) (s := S8192x4096) (φ := .f32) .bf16 (m ((c : Thread nD τ).loc main_arg0)) bitsLt_bf16_f32) := by
    simp only [V, hostOps0]; after_results
  have he : (win0_0.blk t).view.emb (ix2 r k) = ix2 ⟨t.val * 512 + r.val, row_lt t r⟩ k := by blk_ext [idx0 t]
  blk_simp [iblk]
  rw [he]
  exact congrFun hV _
theorem iblk1_apply (k : Fin 4096) (l : Fin 1024) : (iblk m c 1 t : Vec Ideal S1x4096x1024 .bf16) (ix3 0 k l) = a1 m c (ix3 0 k l) := by
  have hV : @Eq (S1x4096x1024.Idx → EReal) (V m c main_v1) (truncf (F := Ideal) (s := S1x4096x1024) (φ := .f32) .bf16 (m ((c : Thread nD τ).loc main_arg1)) bitsLt_bf16_f32) := by
    simp only [V, hostOps0]; after_results
  have he : (win0_1.blk t).view.emb (ix3 0 k l) = ix3 0 k l := by blk_ext [idx1 t]
  blk_simp [iblk]
  rw [he]
  exact congrFun hV _
theorem iblk2_apply (r : Fin 512) (k : Fin 1024) : (iblk m c 2 t : Vec Ideal S512x1024 .f32) (ix2 r k) = a2 m c (ix2 ⟨t.val * 512 + r.val, row_lt t r⟩ k) := by
  have he : (win0_2.blk t).view.emb (ix2 r k) = ix2 ⟨t.val * 512 + r.val, row_lt t r⟩ k := by blk_ext [idx2 t]
  blk_simp [iblk]
  rw [he]
  exact congrFun (V_main_arg2 m c) _

/-- The new residual. -/
def res (a : S8192x4096.Idx → EReal) (w : S1x4096x1024.Idx → EReal) (x : S8192x1024.Idx → EReal) : S8192x1024.Idx → EReal :=
  fun i => addRow (fun k => a (ix2 (i 0) k)) w (fun k => x (ix2 (i 0) k)) (i 1)
theorem prod_apply (r : Fin 512) (l : Fin 1024) : k0_pay1 (F := Ideal) (iblk m c 0 t) (iblk m c 1 t) (iblk m c 2 t) (ix2 r l) = res (a0 m c) (a1 m c) (a2 m c) (ix2 ⟨t.val * 512 + r.val, row_lt t r⟩ l) := by
  rw [pay1_apply]
  unfold res addRow
  simp only [iblk0_apply, iblk1_apply, iblk2_apply]
  rfl

/-- The array after the last grid point. -/
theorem after3 (r : Fin 512) (l : Fin 1024) : (out0_3 (F := Ideal) (iblk m c 0 t) (iblk m c 1 t) (iblk m c 2 t)) (ix2 r l) = res (a0 m c) (a1 m c) (a2 m c) (ix2 ⟨t.val * 512 + r.val, row_lt t r⟩ l) := by
  refine Eq.trans (b := k0_pay1 (F := Ideal) (iblk m c 0 t) (iblk m c 1 t) (iblk m c 2 t) (ix2 r l)) ?_ (prod_apply m c t r l)
  frame_out
theorem final3 : (dats m 0 c).arrAt 3 cfg0.N = res (a0 m c) (a1 m c) (a2 m c) := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, eq_ix2 y⟩
  refine (after3 m c t r l).trans ?_
  congr 1
  blk_ext [idx3 t]

/-- The run, read. -/
theorem run (ρ) : θ_run defs (onTc (τ := τ) (main (F := Ideal))) ⟨m, fun _ => 0, ρ⟩ fun r => ∀ c : Dev nD,
      r.2.mem ((c : Thread nD τ).loc main_v2) = res (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)
end Cert.MlpLastIdeal.Outcome

namespace Cert.MlpLastRefIdeal.Outcome
open Cert.MlpLastRefIdeal Cert.MlpLastRefIdeal.Read
open Cert.MlpLastIdeal.Outcome (addRow res)
variable (x0 : S8192x4096.Idx → EReal) (x1 : S1x4096x1024.Idx → EReal) (x2 : S8192x1024.Idx → EReal)

/-- The reference's residual. -/
theorem v2_eq : (val_main_v2 (F := Ideal) x0 x1 x2 : S8192x1024.Idx → EReal) = res x0 x1 x2 := by
  funext i
  obtain ⟨r, l, rfl⟩ : ∃ (r : Fin 8192) (l : Fin 1024), i = ix2 r l := ⟨i 0, i 1, eq_ix2 i⟩
  show _ = x2 (ix2 r l) + ∑ k : Fin 4096, x0 (ix2 r k) * x1 (ix3 0 k l)
  pointwise [val_main_v2, val_main_v1, val_main_v0]
end Cert.MlpLastRefIdeal.Outcome

namespace Cert.Proof.MlpLastClaims

/-- Every execution of the kernel as compiled terminates, keeps its arguments and leaves every semaphore at zero. -/
theorem frame_k : Cert.quiescent_MlpLast := fun m ρ _ => Cert.MlpLast.Gen.frame m ρ
/-- The same of the kernel read over the extended reals, -/
theorem frame_ki : Cert.quiescent_MlpLastIdeal := fun m ρ _ => Cert.MlpLastIdeal.Gen.frame m ρ
/-- and of the reference. -/
theorem frame_ri : Cert.quiescent_MlpLastRefIdeal := fun m ρ _ =>
  (θ_run Cert.MlpLastRefIdeal.defs _ _).mono
    (fun r h => ⟨fun c => (h c).2, Idealize.ShloMosaic.sem_eq_zero_of_no_sems (by decide) r.2⟩)
    (Cert.MlpLastRefIdeal.Value.run (F := Ideal) m ρ)
/-- Reading the kernel over the extended reals rewrote nothing. -/
theorem preserves : Cert.preserves_MlpLast_MlpLastIdeal := trivial

/-- Over the extended reals the kernel's array is the reference's, whatever the arguments. -/
theorem algebraic : Cert.algebraic_MlpLastIdeal_MlpLastRefIdeal := fun m ρ m' ρ' _ hag =>
  ⟨_, Cert.MlpLastIdeal.Outcome.run m ρ,
    (θ_run Cert.MlpLastRefIdeal.defs _ _).mono
      (fun _ h c => ⟨(h c).1.trans (by
        rw [Cert.MlpLastRefIdeal.Read.val_main_v2_eq, (hag c).1, (hag c).2.1, (hag c).2.2]
        exact Cert.MlpLastRefIdeal.Outcome.v2_eq _ _ _), (h c).2⟩)
      (Cert.MlpLastRefIdeal.Value.run (F := Ideal) m' ρ')⟩

end Cert.Proof.MlpLastClaims

end
-- ==== Proof.lean ====
module

public import proofs.«01_k».proof.Proof.MlpDownValue
public import proofs.«01_k».proof.Proof.NormBwdValue
public import proofs.«01_k».proof.Proof.LossHeadValue
public import proofs.«01_k».proof.Proof.SguBwdValue
public import proofs.«01_k».proof.Proof.SguFwdValue
public import proofs.«01_k».proof.Proof.LruFwdValue
public import proofs.«01_k».proof.Proof.ConvBwdValue
public import proofs.«01_k».proof.Proof.NormFwdValue
public import proofs.«01_k».proof.Proof.ConvFwdValue
public import proofs.«01_k».proof.Proof.MlpUpValue
public import proofs.«01_k».proof.Proof.MlpOutValue
public import proofs.«01_k».proof.Proof.InProjValue
public import proofs.«01_k».proof.Proof.OutBwdValue
public import proofs.«01_k».proof.Proof.WGradValue
public import proofs.«01_k».proof.Proof.AdamValue
public import proofs.«01_k».proof.Proof.FinalSumValue
public import proofs.«01_k».proof.Proof.MlpLastValue
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.SguBwdRefIdeal.Run
public import proofs.«01_k».proof.Proof.Gen.SguBwdRefIdeal.Read
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.LruFwdRefIdeal.Run
public import proofs.«01_k».proof.Proof.Gen.LruFwdRefIdeal.Read
public import proofs.«01_k».proof.Proof.Gen.ConvBwdRefIdeal.Run
public import proofs.«01_k».proof.Proof.Gen.ConvBwdRefIdeal.Read
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.ConvFwdRefIdeal.Run
public import proofs.«01_k».proof.Proof.Gen.ConvFwdRefIdeal.Read
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpOutIdeal.Value
public import proofs.«01_k».proof.Proof.Gen.MlpOutRefIdeal.Run
public import proofs.«01_k».proof.Proof.Gen.MlpOutRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.WGradRefIdeal.Run
public import proofs.«01_k».proof.Proof.Gen.WGradRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.FinalSumRefIdeal.Run
public import proofs.«01_k».proof.Proof.Gen.FinalSumRefIdeal.Read
public import proofs.«01_k».proof.Proof.Gen.MlpLastIdeal.Value
public import proofs.«01_k».proof.Proof.Gen.MlpLastRefIdeal.Run
public import proofs.«01_k».proof.Proof.Gen.MlpLastRefIdeal.Read
public import proofs.«01_k».proof.Defs

@[expose] public section

noncomputable section

namespace Cert.Proof

open Idealize.ShloMosaic Idealize.SL.Sem

/-- Every claim of the certificate. -/
theorem claim : Cert.Claim := ⟨
    Cert.MlpDown.Gen.facts,
    Cert.MlpDownIdeal.Gen.facts,
    Cert.MlpDownRefIdeal.Gen.facts,
    Cert.NormBwd.Gen.facts,
    Cert.NormBwdIdeal.Gen.facts,
    Cert.NormBwdRefIdeal.Gen.facts,
    Cert.LossHead.Gen.facts,
    Cert.LossHeadIdeal.Gen.facts,
    Cert.LossHeadRefIdeal.Gen.facts,
    Cert.SguBwd.Gen.facts,
    Cert.SguBwdIdeal.Gen.facts,
    Cert.SguBwdRefIdeal.Gen.facts,
    Cert.SguFwd.Gen.facts,
    Cert.SguFwdIdeal.Gen.facts,
    Cert.SguFwdRefIdeal.Gen.facts,
    Cert.LruFwd.Gen.facts,
    Cert.LruFwdIdeal.Gen.facts,
    Cert.LruFwdRefIdeal.Gen.facts,
    Cert.ConvBwd.Gen.facts,
    Cert.ConvBwdIdeal.Gen.facts,
    Cert.ConvBwdRefIdeal.Gen.facts,
    Cert.NormFwd.Gen.facts,
    Cert.NormFwdIdeal.Gen.facts,
    Cert.NormFwdRefIdeal.Gen.facts,
    Cert.ConvFwd.Gen.facts,
    Cert.ConvFwdIdeal.Gen.facts,
    Cert.ConvFwdRefIdeal.Gen.facts,
    Cert.MlpUp.Gen.facts,
    Cert.MlpUpIdeal.Gen.facts,
    Cert.MlpUpRefIdeal.Gen.facts,
    Cert.MlpOut.Gen.facts,
    Cert.MlpOutIdeal.Gen.facts,
    Cert.MlpOutRefIdeal.Gen.facts,
    Cert.InProj.Gen.facts,
    Cert.InProjIdeal.Gen.facts,
    Cert.InProjRefIdeal.Gen.facts,
    Cert.OutBwd.Gen.facts,
    Cert.OutBwdIdeal.Gen.facts,
    Cert.OutBwdRefIdeal.Gen.facts,
    Cert.WGrad.Gen.facts,
    Cert.WGradIdeal.Gen.facts,
    Cert.WGradRefIdeal.Gen.facts,
    Cert.Adam.Gen.facts,
    Cert.AdamIdeal.Gen.facts,
    Cert.AdamRefIdeal.Gen.facts,
    Cert.FinalSum.Gen.facts,
    Cert.FinalSumIdeal.Gen.facts,
    Cert.FinalSumRefIdeal.Gen.facts,
    Cert.MlpLast.Gen.facts,
    Cert.MlpLastIdeal.Gen.facts,
    Cert.MlpLastRefIdeal.Gen.facts,
    Cert.Pre_norm_bwd_finite.Gen.facts,
    Cert.Pre_loss_head_finite.Gen.facts,
    Cert.Pre_sgu_bwd_finite.Gen.facts,
    Cert.Pre_sgu_fwd_finite.Gen.facts,
    Cert.Pre_lru_fwd_finite.Gen.facts,
    Cert.Pre_final_sum_placed.Gen.facts,
    MlpDownClaims.frame_k,
    MlpDownClaims.frame_ki,
    MlpDownClaims.frame_ri,
    NormBwdClaims.frame_k,
    NormBwdClaims.frame_ki,
    NormBwdClaims.frame_ki_pre,
    NormBwdClaims.frame_ri,
    NormBwdClaims.frame_ri_pre,
    LossHeadClaims.frame_k,
    LossHeadClaims.frame_ki,
    LossHeadClaims.frame_ki_pre,
    LossHeadClaims.frame_ri,
    LossHeadClaims.frame_ri_pre,
    SguBwdClaims.frame_k,
    SguBwdClaims.frame_ki,
    SguBwdClaims.frame_ki_pre,
    SguBwdClaims.frame_ri,
    SguBwdClaims.frame_ri_pre,
    SguFwdClaims.frame_k,
    SguFwdClaims.frame_ki,
    SguFwdClaims.frame_ki_pre,
    SguFwdClaims.frame_ri,
    SguFwdClaims.frame_ri_pre,
    LruFwdClaims.frame_k,
    LruFwdClaims.frame_ki,
    LruFwdClaims.frame_ki_pre,
    LruFwdClaims.frame_ri,
    LruFwdClaims.frame_ri_pre,
    ConvBwdClaims.frame_k,
    ConvBwdClaims.frame_ki,
    ConvBwdClaims.frame_ri,
    NormFwdClaims.frame_k,
    NormFwdClaims.frame_ki,
    NormFwdClaims.frame_ri,
    ConvFwdClaims.frame_k,
    ConvFwdClaims.frame_ki,
    ConvFwdClaims.frame_ri,
    MlpUpClaims.frame_k,
    MlpUpClaims.frame_ki,
    MlpUpClaims.frame_ri,
    MlpOutClaims.frame_k,
    MlpOutClaims.frame_ki,
    MlpOutClaims.frame_ri,
    InProjClaims.frame_k,
    InProjClaims.frame_ki,
    InProjClaims.frame_ri,
    OutBwdClaims.frame_k,
    OutBwdClaims.frame_ki,
    OutBwdClaims.frame_ri,
    WGradClaims.frame_k,
    WGradClaims.frame_ki,
    WGradClaims.frame_ri,
    AdamClaims.frame_k,
    AdamClaims.frame_ki,
    AdamClaims.frame_ri,
    FinalSumClaims.frame_k,
    FinalSumClaims.frame_ki,
    FinalSumClaims.frame_ri,
    FinalSumClaims.frame_ri_pre,
    MlpLastClaims.frame_k,
    MlpLastClaims.frame_ki,
    MlpLastClaims.frame_ri,
    MlpDownClaims.preserves,
    MlpDownClaims.algebraic,
    NormBwdClaims.preserves,
    NormBwdClaims.algebraic,
    LossHeadClaims.preserves,
    LossHeadClaims.algebraic,
    SguBwdClaims.preserves,
    SguBwdClaims.algebraic,
    SguFwdClaims.preserves,
    SguFwdClaims.algebraic,
    LruFwdClaims.preserves,
    LruFwdClaims.algebraic,
    ConvBwdClaims.preserves,
    ConvBwdClaims.algebraic,
    NormFwdClaims.preserves,
    NormFwdClaims.algebraic,
    ConvFwdClaims.preserves,
    ConvFwdClaims.algebraic,
    MlpUpClaims.preserves,
    MlpUpClaims.algebraic,
    MlpOutClaims.preserves,
    MlpOutClaims.algebraic,
    InProjClaims.preserves,
    InProjClaims.algebraic,
    OutBwdClaims.preserves,
    OutBwdClaims.algebraic,
    WGradClaims.preserves,
    WGradClaims.algebraic,
    AdamClaims.preserves,
    AdamClaims.algebraic,
    FinalSumClaims.preserves,
    FinalSumClaims.algebraic,
    MlpLastClaims.preserves,
    MlpLastClaims.algebraic⟩

end Cert.Proof

end
